-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v103_0)) (v1 : (c : Dev Cert.KernelIdeal.nD) → Buf (Elt Ideal) ((c.tc : Thread Cert.KernelIdeal.nD Cert.KernelIdeal.τ).loc Cert.KernelIdeal.main_v103_1)) (v2 : (c : Dev Cert.KernelIdeal.nD) → Buf (Elt Ideal) ((c.tc : Thread Cert.KernelIdeal.nD Cert.KernelIdeal.τ).loc Cert.KernelIdeal.main_v103_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_0) = v0 c
          ∧ r.2.mem ((c.tc : Thread Cert.KernelIdeal.nD Cert.KernelIdeal.τ).loc Cert.KernelIdeal.main_v103_1) = v1 c
          ∧ r.2.mem ((c.tc : Thread Cert.KernelIdeal.nD Cert.KernelIdeal.τ).loc Cert.KernelIdeal.main_v103_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v26_0)) (v1 : (c : Dev Cert.Kernel7Ideal.nD) → Buf (Elt Ideal) ((c.tc : Thread Cert.Kernel7Ideal.nD Cert.Kernel7Ideal.τ).loc Cert.Kernel7Ideal.main_v26_1)) (v2 : (c : Dev Cert.Kernel7Ideal.nD) → Buf (Elt Ideal) ((c.tc : Thread Cert.Kernel7Ideal.nD Cert.Kernel7Ideal.τ).loc Cert.Kernel7Ideal.main_v26_2)) (v3 : (c : Dev Cert.Kernel7Ideal.nD) → Buf (Elt Ideal) ((c.tc : Thread Cert.Kernel7Ideal.nD Cert.Kernel7Ideal.τ).loc Cert.Kernel7Ideal.main_v26_3)) (v4 : (c : Dev Cert.Kernel7Ideal.nD) → Buf (Elt Ideal) ((c.tc : Thread Cert.Kernel7Ideal.nD Cert.Kernel7Ideal.τ).loc Cert.Kernel7Ideal.main_v26_4)) (v5 : (c : Dev Cert.Kernel7Ideal.nD) → Buf (Elt Ideal) ((c.tc : Thread Cert.Kernel7Ideal.nD Cert.Kernel7Ideal.τ).loc Cert.Kernel7Ideal.main_v26_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26_0) = v0 c
          ∧ r.2.mem ((c.tc : Thread Cert.Kernel7Ideal.nD Cert.Kernel7Ideal.τ).loc Cert.Kernel7Ideal.main_v26_1) = v1 c
          ∧ r.2.mem ((c.tc : Thread Cert.Kernel7Ideal.nD Cert.Kernel7Ideal.τ).loc Cert.Kernel7Ideal.main_v26_2) = v2 c
          ∧ r.2.mem ((c.tc : Thread Cert.Kernel7Ideal.nD Cert.Kernel7Ideal.τ).loc Cert.Kernel7Ideal.main_v26_3) = v3 c
          ∧ r.2.mem ((c.tc : Thread Cert.Kernel7Ideal.nD Cert.Kernel7Ideal.τ).loc Cert.Kernel7Ideal.main_v26_4) = v4 c
          ∧ r.2.mem ((c.tc : Thread Cert.Kernel7Ideal.nD Cert.Kernel7Ideal.τ).loc Cert.Kernel7Ideal.main_v26_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v59) = v0 c
          ∧ r.2.mem ((c.tc : Thread Cert.Reference7Ideal.nD Cert.Reference7Ideal.τ).loc Cert.Reference7Ideal.main_v60) = v1 c
          ∧ r.2.mem ((c.tc : Thread Cert.Reference7Ideal.nD Cert.Reference7Ideal.τ).loc Cert.Reference7Ideal.main_v37) = v2 c
          ∧ r.2.mem ((c.tc : Thread Cert.Reference7Ideal.nD Cert.Reference7Ideal.τ).loc Cert.Reference7Ideal.main_v61) = v3 c
          ∧ r.2.mem ((c.tc : Thread Cert.Reference7Ideal.nD Cert.Reference7Ideal.τ).loc Cert.Reference7Ideal.main_v34) = v4 c
          ∧ r.2.mem ((c.tc : Thread Cert.Reference7Ideal.nD Cert.Reference7Ideal.τ).loc Cert.Reference7Ideal.main_v62) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)) (v6 : (c : Dev Cert.Kernel8Ideal.nD) → Buf (Elt Ideal) ((c.tc : Thread Cert.Kernel8Ideal.nD Cert.Kernel8Ideal.τ).loc Cert.Kernel8Ideal.main_v2_6)) (v7 : (c : Dev Cert.Kernel8Ideal.nD) → Buf (Elt Ideal) ((c.tc : Thread Cert.Kernel8Ideal.nD Cert.Kernel8Ideal.τ).loc Cert.Kernel8Ideal.main_v2_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_v2_6) = v6 c
          ∧ r.2.mem ((c.tc : Thread Cert.Kernel8Ideal.nD Cert.Kernel8Ideal.τ).loc Cert.Kernel8Ideal.main_v2_7) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v115) = v0 c
          ∧ r.2.mem ((c.tc : Thread Cert.Reference8Ideal.nD Cert.Reference8Ideal.τ).loc Cert.Reference8Ideal.main_v84) = v1 c
          ∧ r.2.mem ((c.tc : Thread Cert.Reference8Ideal.nD Cert.Reference8Ideal.τ).loc Cert.Reference8Ideal.main_v113) = v2 c
          ∧ r.2.mem ((c.tc : Thread Cert.Reference8Ideal.nD Cert.Reference8Ideal.τ).loc Cert.Reference8Ideal.main_v114) = v3 c
          ∧ r.2.mem ((c.tc : Thread Cert.Reference8Ideal.nD Cert.Reference8Ideal.τ).loc Cert.Reference8Ideal.main_v91) = v4 c
          ∧ r.2.mem ((c.tc : Thread Cert.Reference8Ideal.nD Cert.Reference8Ideal.τ).loc Cert.Reference8Ideal.main_v116) = v5 c
          ∧ r.2.mem ((c.tc : Thread Cert.Reference8Ideal.nD Cert.Reference8Ideal.τ).loc Cert.Reference8Ideal.main_v88) = v6 c
          ∧ r.2.mem ((c.tc : Thread Cert.Reference8Ideal.nD Cert.Reference8Ideal.τ).loc Cert.Reference8Ideal.main_v117) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S8192x4x64 : Shape := ⟨3, ![8192, 4, 64]⟩
abbrev S8192x4 : Shape := ⟨2, ![8192, 4]⟩
abbrev S_ : Shape := ⟨0, ![]⟩

class Facts : Prop where
  bcast_S_S8192x4x64 : S_.BroadcastsInDim S8192x4x64 (![] : Fin 0 → Fin S8192x4x64.rank)
  natLt_1_32 : 1 < 32
  reducesTo_S8192x4x64_S_d0_1_2 : S8192x4x64.ReducesTo [0, 1, 2] S_
  h_S_ : 0 < S_.numel
  bcast_S_S8192x4 : S_.BroadcastsInDim S8192x4 (![] : Fin 0 → Fin S8192x4.rank)
  reducesTo_S8192x4_S_d0_1 : S8192x4.ReducesTo [0, 1] S_

variable [Facts]

def fn_part1 {F : FTy → Type} [FloatOps F] (main_arg4 : FVec F S8192x4 .f32) (main_v10 : IVec S_ 32) (main_v15 : IVec S_ 32) (main_v16 : FVec F S8192x4x64 .f32) (main_cst_4 : FVec F S_ .f32) : IVec S_ 1 :=
  let main_v17 : FVec F S8192x4x64 .f32 := broadcastInDim S8192x4x64 ![] bcast_S_S8192x4x64 main_cst_4
  let main_v18 : IVec S8192x4x64 1 := cmpf .olt main_v16 main_v17
  let main_v19 : IVec S8192x4x64 32 := (extui 32 · natLt_1_32) main_v18
  let main_c_5 : IVec S_ 32 := constantI S_ 32 2147483647#32
  let main_v20 : IVec S_ 32 := (fun x v => Host.reduce IntOp.minsi x v reducesTo_S8192x4x64_S_d0_1_2 h_S_) main_v19 main_c_5
  let main_v21 : IVec S_ 32 := minsi main_v15 main_v20
  let main_v22 : IVec S_ 32 := minsi main_v10 main_v21
  let main_v23 : FVec F S8192x4 .f32 := Host.absf main_arg4
  let main_cst_6 : FVec F S_ .f32 := constant S_ .f32 0x7F800000#32
  let main_v24 : FVec F S8192x4 .f32 := broadcastInDim S8192x4 ![] bcast_S_S8192x4 main_cst_6
  let main_v25 : IVec S8192x4 1 := cmpf .olt main_v23 main_v24
  let main_v26 : IVec S8192x4 32 := (extui 32 · natLt_1_32) main_v25
  let main_c_7 : IVec S_ 32 := constantI S_ 32 2147483647#32
  let main_v27 : IVec S_ 32 := (fun x v => Host.reduce IntOp.minsi x v reducesTo_S8192x4_S_d0_1 h_S_) main_v26 main_c_7
  let main_v28 : IVec S_ 32 := minsi main_v22 main_v27
  let main_c_8 : IVec S_ 32 := constantI S_ 32 1#32
  let main_v29 : IVec S_ 1 := cmpi .eq main_v28 main_c_8
  main_v29

def fn {F : FTy → Type} [FloatOps F] (main_arg0 : FVec F S8192x4x64 .f32) (main_arg1 : FVec F S8192x4x64 .f32) (main_arg2 : FVec F S8192x4x64 .f32) (main_arg3 : FVec F S8192x4x64 .f32) (main_arg4 : FVec F S8192x4 .f32) : IVec S_ 1 :=
  let main_v0 : FVec F S8192x4x64 .f32 := Host.absf main_arg0
  let main_cst : FVec F S_ .f32 := constant S_ .f32 0x7F800000#32
  let main_v1 : FVec F S8192x4x64 .f32 := broadcastInDim S8192x4x64 ![] bcast_S_S8192x4x64 main_cst
  let main_v2 : IVec S8192x4x64 1 := cmpf .olt main_v0 main_v1
  let main_v3 : IVec S8192x4x64 32 := (extui 32 · natLt_1_32) main_v2
  let main_c : IVec S_ 32 := constantI S_ 32 2147483647#32
  let main_v4 : IVec S_ 32 := (fun x v => Host.reduce IntOp.minsi x v reducesTo_S8192x4x64_S_d0_1_2 h_S_) main_v3 main_c
  let main_v5 : FVec F S8192x4x64 .f32 := Host.absf main_arg1
  let main_cst_0 : FVec F S_ .f32 := constant S_ .f32 0x7F800000#32
  let main_v6 : FVec F S8192x4x64 .f32 := broadcastInDim S8192x4x64 ![] bcast_S_S8192x4x64 main_cst_0
  let main_v7 : IVec S8192x4x64 1 := cmpf .olt main_v5 main_v6
  let main_v8 : IVec S8192x4x64 32 := (extui 32 · natLt_1_32) main_v7
  let main_c_1 : IVec S_ 32 := constantI S_ 32 2147483647#32
  let main_v9 : IVec S_ 32 := (fun x v => Host.reduce IntOp.minsi x v reducesTo_S8192x4x64_S_d0_1_2 h_S_) main_v8 main_c_1
  let main_v10 : IVec S_ 32 := minsi main_v4 main_v9
  let main_v11 : FVec F S8192x4x64 .f32 := Host.absf main_arg2
  let main_cst_2 : FVec F S_ .f32 := constant S_ .f32 0x7F800000#32
  let main_v12 : FVec F S8192x4x64 .f32 := broadcastInDim S8192x4x64 ![] bcast_S_S8192x4x64 main_cst_2
  let main_v13 : IVec S8192x4x64 1 := cmpf .olt main_v11 main_v12
  let main_v14 : IVec S8192x4x64 32 := (extui 32 · natLt_1_32) main_v13
  let main_c_3 : IVec S_ 32 := constantI S_ 32 2147483647#32
  let main_v15 : IVec S_ 32 := (fun x v => Host.reduce IntOp.minsi x v reducesTo_S8192x4x64_S_d0_1_2 h_S_) main_v14 main_c_3
  let main_v16 : FVec F S8192x4x64 .f32 := Host.absf main_arg3
  let main_cst_4 : FVec F S_ .f32 := constant S_ .f32 0x7F800000#32
  fn_part1 (F := F) main_arg4 main_v10 main_v15 main_v16 main_cst_4
-- ==== Pre_finite2.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  natLt_1_32 : 1 < 32
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v10 : IVec S_ 32) (main_v15 : IVec S_ 32) (main_v16 : FVec F S1024x4096 .f32) (main_cst_4 : FVec F S_ .f32) : IVec S_ 1 :=
  let main_v17 : FVec F S1024x4096 .f32 := broadcastInDim S1024x4096 ![] bcast_S_S1024x4096 main_cst_4
  let main_v18 : IVec S1024x4096 1 := cmpf .olt main_v16 main_v17
  let main_v19 : IVec S1024x4096 32 := (extui 32 · natLt_1_32) main_v18
  let main_c_5 : IVec S_ 32 := constantI S_ 32 2147483647#32
  let main_v20 : IVec S_ 32 := (fun x v => Host.reduce IntOp.minsi x v reducesTo_S1024x4096_S_d0_1 h_S_) main_v19 main_c_5
  let main_v21 : IVec S_ 32 := minsi main_v15 main_v20
  let main_v22 : IVec S_ 32 := minsi main_v10 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_v26 : IVec S4096x1024 32 := (extui 32 · natLt_1_32) main_v25
  let main_c_7 : IVec S_ 32 := constantI S_ 32 2147483647#32
  let main_v27 : IVec S_ 32 := (fun x v => Host.reduce IntOp.minsi x v reducesTo_S4096x1024_S_d0_1 h_S_) main_v26 main_c_7
  let main_v28 : IVec S_ 32 := minsi main_v22 main_v27
  let main_c_8 : IVec S_ 32 := constantI S_ 32 1#32
  let main_v29 : IVec S_ 1 := cmpi .eq main_v28 main_c_8
  main_v29

def fn {F : FTy → Type} [FloatOps F] (main_arg0 : FVec F S8192x1024 .f32) (main_arg1 : FVec F S8192x1024 .f32) (main_arg2 : FVec F S1x1024 .f32) (main_arg3 : FVec F S1024x4096 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : IVec S8192x1024 32 := (extui 32 · natLt_1_32) main_v2
  let main_c : IVec S_ 32 := constantI S_ 32 2147483647#32
  let main_v4 : IVec S_ 32 := (fun x v => Host.reduce IntOp.minsi x v reducesTo_S8192x1024_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : IVec S8192x1024 32 := (extui 32 · natLt_1_32) main_v7
  let main_c_1 : IVec S_ 32 := constantI S_ 32 2147483647#32
  let main_v9 : IVec S_ 32 := (fun x v => Host.reduce IntOp.minsi x v reducesTo_S8192x1024_S_d0_1 h_S_) main_v8 main_c_1
  let main_v10 : IVec S_ 32 := minsi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : IVec S1x1024 32 := (extui 32 · natLt_1_32) main_v13
  let main_c_3 : IVec S_ 32 := constantI S_ 32 2147483647#32
  let main_v15 : IVec S_ 32 := (fun x v => Host.reduce IntOp.minsi x v reducesTo_S1x1024_S_d0_1 h_S_) main_v14 main_c_3
  let main_v16 : FVec F S1024x4096 .f32 := Host.absf main_arg3
  let main_cst_4 : FVec F S_ .f32 := constant S_ .f32 0x7F800000#32
  fn_part1 (F := F) main_arg4 main_v10 main_v15 main_v16 main_cst_4
-- ==== Pre_finite7.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  natLt_1_32 : 1 < 32
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_v34 : IVec S_ 32) (main_c_10 : IVec S_ 32) : IVec S_ 1 :=
  let main_v35 : IVec S_ 1 := cmpi .eq main_v34 main_c_10
  main_v35

def fn_part1 {F : FTy → Type} [FloatOps F] (main_arg4 : FVec F S8192x256 .f32) (main_arg5 : FVec F S256x1024 .f32) (main_v10 : IVec S_ 32) (main_v15 : IVec S_ 32) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_v19 : IVec S1024x1024 32 := (extui 32 · natLt_1_32) main_v18
  let main_c_5 : IVec S_ 32 := constantI S_ 32 2147483647#32
  let main_v20 : IVec S_ 32 := (fun x v => Host.reduce IntOp.minsi x v reducesTo_S1024x1024_S_d0_1 h_S_) main_v19 main_c_5
  let main_v21 : IVec S_ 32 := minsi main_v15 main_v20
  let main_v22 : IVec S_ 32 := minsi main_v10 main_v21
  let main_v23 : FVec F S8192x256 .f32 := Host.absf main_arg4
  let main_cst_6 : FVec F S_ .f32 := constant S_ .f32 0x7F800000#32
  let main_v24 : FVec F S8192x256 .f32 := broadcastInDim S8192x256 ![] bcast_S_S8192x256 main_cst_6
  let main_v25 : IVec S8192x256 1 := cmpf .olt main_v23 main_v24
  let main_v26 : IVec S8192x256 32 := (extui 32 · natLt_1_32) main_v25
  let main_c_7 : IVec S_ 32 := constantI S_ 32 2147483647#32
  let main_v27 : IVec S_ 32 := (fun x v => Host.reduce IntOp.minsi x v reducesTo_S8192x256_S_d0_1 h_S_) main_v26 main_c_7
  let main_v28 : FVec F S256x1024 .f32 := Host.absf main_arg5
  let main_cst_8 : FVec F S_ .f32 := constant S_ .f32 0x7F800000#32
  let main_v29 : FVec F S256x1024 .f32 := broadcastInDim S256x1024 ![] bcast_S_S256x1024 main_cst_8
  let main_v30 : IVec S256x1024 1 := cmpf .olt main_v28 main_v29
  let main_v31 : IVec S256x1024 32 := (extui 32 · natLt_1_32) main_v30
  let main_c_9 : IVec S_ 32 := constantI S_ 32 2147483647#32
  let main_v32 : IVec S_ 32 := (fun x v => Host.reduce IntOp.minsi x v reducesTo_S256x1024_S_d0_1 h_S_) main_v31 main_c_9
  let main_v33 : IVec S_ 32 := minsi main_v27 main_v32
  let main_v34 : IVec S_ 32 := minsi main_v22 main_v33
  let main_c_10 : IVec S_ 32 := constantI S_ 32 1#32
  fn_part2 (F := F) main_v34 main_c_10

def fn {F : FTy → Type} [FloatOps F] (main_arg0 : FVec F S8192x1024 .f32) (main_arg1 : FVec F S8192x1024 .f32) (main_arg2 : FVec F S1x1024 .f32) (main_arg3 : FVec F S1024x1024 .f32) (main_arg4 : FVec F S8192x256 .f32) (main_arg5 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : IVec S8192x1024 32 := (extui 32 · natLt_1_32) main_v2
  let main_c : IVec S_ 32 := constantI S_ 32 2147483647#32
  let main_v4 : IVec S_ 32 := (fun x v => Host.reduce IntOp.minsi x v reducesTo_S8192x1024_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : IVec S8192x1024 32 := (extui 32 · natLt_1_32) main_v7
  let main_c_1 : IVec S_ 32 := constantI S_ 32 2147483647#32
  let main_v9 : IVec S_ 32 := (fun x v => Host.reduce IntOp.minsi x v reducesTo_S8192x1024_S_d0_1 h_S_) main_v8 main_c_1
  let main_v10 : IVec S_ 32 := minsi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : IVec S1x1024 32 := (extui 32 · natLt_1_32) main_v13
  let main_c_3 : IVec S_ 32 := constantI S_ 32 2147483647#32
  let main_v15 : IVec S_ 32 := (fun x v => Host.reduce IntOp.minsi x v reducesTo_S1x1024_S_d0_1 h_S_) main_v14 main_c_3
  let main_v16 : FVec F S1024x1024 .f32 := Host.absf main_arg3
  let main_cst_4 : FVec F S_ .f32 := constant S_ .f32 0x7F800000#32
  fn_part1 (F := F) main_arg4 main_arg5 main_v10 main_v15 main_v16 main_cst_4
-- ==== Pre_finite8.lean ====
abbrev S8192x1024 : Shape := ⟨2, ![8192, 1024]⟩
abbrev S1x1024 : Shape := ⟨2, ![1, 1024]⟩
abbrev S1024x1024 : Shape := ⟨2, ![1024, 1024]⟩
abbrev S2x8192x256 : Shape := ⟨3, ![2, 8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  natLt_1_32 : 1 < 32
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x8192x256 : S_.BroadcastsInDim S2x8192x256 (![] : Fin 0 → Fin S2x8192x256.rank)
  reducesTo_S2x8192x256_S_d0_1_2 : S2x8192x256.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_v22 : IVec S_ 32) (main_v33 : IVec S_ 32) (main_v34 : FVec F S8192x1024 .f32) (main_cst_10 : FVec F S_ .f32) : IVec S_ 1 :=
  let main_v35 : FVec F S8192x1024 .f32 := broadcastInDim S8192x1024 ![] bcast_S_S8192x1024 main_cst_10
  let main_v36 : IVec S8192x1024 1 := cmpf .olt main_v34 main_v35
  let main_v37 : IVec S8192x1024 32 := (extui 32 · natLt_1_32) main_v36
  let main_c_11 : IVec S_ 32 := constantI S_ 32 2147483647#32
  let main_v38 : IVec S_ 32 := (fun x v => Host.reduce IntOp.minsi x v reducesTo_S8192x1024_S_d0_1 h_S_) main_v37 main_c_11
  let main_v39 : IVec S_ 32 := minsi main_v33 main_v38
  let main_v40 : IVec S_ 32 := minsi main_v22 main_v39
  let main_c_12 : IVec S_ 32 := constantI S_ 32 1#32
  let main_v41 : IVec S_ 1 := cmpi .eq main_v40 main_c_12
  main_v41

def fn_part1 {F : FTy → Type} [FloatOps F] (main_arg4 : FVec F S256x1024 .f32) (main_arg5 : FVec F S1x1024 .f32) (main_arg6 : FVec F S8192x1024 .f32) (main_v10 : IVec S_ 32) (main_v15 : IVec S_ 32) (main_v16 : FVec F S2x8192x256 .f32) (main_cst_4 : FVec F S_ .f32) : IVec S_ 1 :=
  let main_v17 : FVec F S2x8192x256 .f32 := broadcastInDim S2x8192x256 ![] bcast_S_S2x8192x256 main_cst_4
  let main_v18 : IVec S2x8192x256 1 := cmpf .olt main_v16 main_v17
  let main_v19 : IVec S2x8192x256 32 := (extui 32 · natLt_1_32) main_v18
  let main_c_5 : IVec S_ 32 := constantI S_ 32 2147483647#32
  let main_v20 : IVec S_ 32 := (fun x v => Host.reduce IntOp.minsi x v reducesTo_S2x8192x256_S_d0_1_2 h_S_) main_v19 main_c_5
  let main_v21 : IVec S_ 32 := minsi main_v15 main_v20
  let main_v22 : IVec S_ 32 := minsi main_v10 main_v21
  let main_v23 : FVec F S256x1024 .f32 := Host.absf main_arg4
  let main_cst_6 : FVec F S_ .f32 := constant S_ .f32 0x7F800000#32
  let main_v24 : FVec F S256x1024 .f32 := broadcastInDim S256x1024 ![] bcast_S_S256x1024 main_cst_6
  let main_v25 : IVec S256x1024 1 := cmpf .olt main_v23 main_v24
  let main_v26 : IVec S256x1024 32 := (extui 32 · natLt_1_32) main_v25
  let main_c_7 : IVec S_ 32 := constantI S_ 32 2147483647#32
  let main_v27 : IVec S_ 32 := (fun x v => Host.reduce IntOp.minsi x v reducesTo_S256x1024_S_d0_1 h_S_) main_v26 main_c_7
  let main_v28 : FVec F S1x1024 .f32 := Host.absf main_arg5
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  let main_v31 : IVec S1x1024 32 := (extui 32 · natLt_1_32) main_v30
  let main_c_9 : IVec S_ 32 := constantI S_ 32 2147483647#32
  let main_v32 : IVec S_ 32 := (fun x v => Host.reduce IntOp.minsi x v reducesTo_S1x1024_S_d0_1 h_S_) main_v31 main_c_9
  let main_v33 : IVec S_ 32 := minsi main_v27 main_v32
  let main_v34 : FVec F S8192x1024 .f32 := Host.absf main_arg6
  let main_cst_10 : FVec F S_ .f32 := constant S_ .f32 0x7F800000#32
  fn_part2 (F := F) main_v22 main_v33 main_v34 main_cst_10

def fn {F : FTy → Type} [FloatOps F] (main_arg0 : FVec F S8192x1024 .f32) (main_arg1 : FVec F S1x1024 .f32) (main_arg2 : FVec F S1024x1024 .f32) (main_arg3 : FVec F S2x8192x256 .f32) (main_arg4 : FVec F S256x1024 .f32) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : IVec S8192x1024 32 := (extui 32 · natLt_1_32) main_v2
  let main_c : IVec S_ 32 := constantI S_ 32 2147483647#32
  let main_v4 : IVec S_ 32 := (fun x v => Host.reduce IntOp.minsi x v reducesTo_S8192x1024_S_d0_1 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_v8 : IVec S1x1024 32 := (extui 32 · natLt_1_32) main_v7
  let main_c_1 : IVec S_ 32 := constantI S_ 32 2147483647#32
  let main_v9 : IVec S_ 32 := (fun x v => Host.reduce IntOp.minsi x v reducesTo_S1x1024_S_d0_1 h_S_) main_v8 main_c_1
  let main_v10 : IVec S_ 32 := minsi main_v4 main_v9
  let main_v11 : FVec F S1024x1024 .f32 := Host.absf main_arg2
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : IVec S1024x1024 32 := (extui 32 · natLt_1_32) main_v13
  let main_c_3 : IVec S_ 32 := constantI S_ 32 2147483647#32
  let main_v15 : IVec S_ 32 := (fun x v => Host.reduce IntOp.minsi x v reducesTo_S1024x1024_S_d0_1 h_S_) main_v14 main_c_3
  let main_v16 : FVec F S2x8192x256 .f32 := Host.absf main_arg3
  let main_cst_4 : FVec F S_ .f32 := constant S_ .f32 0x7F800000#32
  fn_part1 (F := F) main_arg4 main_arg5 main_arg6 main_v10 main_v15 main_v16 main_cst_4
-- ==== Kernel.lean ====
abbrev S8192x4x64 : Shape := ⟨3, ![8192, 4, 64]⟩
abbrev S8192x4 : Shape := ⟨2, ![8192, 4]⟩
abbrev S512x16x4x64 : Shape := ⟨4, ![512, 16, 4, 64]⟩
abbrev S16x512x4x64 : Shape := ⟨4, ![16, 512, 4, 64]⟩
abbrev S16x4x128x4x64 : Shape := ⟨5, ![16, 4, 128, 4, 64]⟩
abbrev S_ : Shape := ⟨0, ![]⟩
abbrev S16x1x128x4x64 : Shape := ⟨5, ![16, 1, 128, 4, 64]⟩
abbrev S16x3x128x4x64 : Shape := ⟨5, ![16, 3, 128, 4, 64]⟩
abbrev S16x4x256x4x64 : Shape := ⟨5, ![16, 4, 256, 4, 64]⟩
abbrev S16x4x4x128x256 : Shape := ⟨5, ![16, 4, 4, 128, 256]⟩
abbrev S4 : Shape := ⟨1, ![4]⟩
abbrev S4x1 : Shape := ⟨2, ![4, 1]⟩
abbrev S128 : Shape := ⟨1, ![128]⟩
abbrev S1x128 : Shape := ⟨2, ![1, 128]⟩
abbrev S4x128 : Shape := ⟨2, ![4, 128]⟩
abbrev S256 : Shape := ⟨1, ![256]⟩
abbrev S1x256 : Shape := ⟨2, ![1, 256]⟩
abbrev S4x256 : Shape := ⟨2, ![4, 256]⟩
abbrev S4x128x1 : Shape := ⟨3, ![4, 128, 1]⟩
abbrev S4x1x256 : Shape := ⟨3, ![4, 1, 256]⟩
abbrev S4x128x256 : Shape := ⟨3, ![4, 128, 256]⟩
abbrev S1x4x1x128x256 : Shape := ⟨5, ![1, 4, 1, 128, 256]⟩
abbrev S16x4x4x128 : Shape := ⟨4, ![16, 4, 4, 128]⟩
abbrev S16x4x4x128x1 : Shape := ⟨5, ![16, 4, 4, 128, 1]⟩
abbrev S16x4x4x64x128 : Shape := ⟨5, ![16, 4, 4, 64, 128]⟩
abbrev S16x4x128x4 : Shape := ⟨4, ![16, 4, 128, 4]⟩
abbrev S16x512x4 : Shape := ⟨3, ![16, 512, 4]⟩
abbrev S512x16x4 : Shape := ⟨3, ![512, 16, 4]⟩
abbrev S512x16x256 : Shape := ⟨3, ![512, 16, 256]⟩
abbrev S16x512x256 : Shape := ⟨3, ![16, 512, 256]⟩
abbrev S8192x4x1 : Shape := ⟨3, ![8192, 4, 1]⟩
abbrev S2x512x256 : Shape := ⟨3, ![2, 512, 256]⟩
abbrev S2x128x256 : Shape := ⟨3, ![2, 128, 256]⟩
abbrev S512x256 : Shape := ⟨2, ![512, 256]⟩
abbrev S128x256 : Shape := ⟨2, ![128, 256]⟩
abbrev S1x128x256 : Shape := ⟨3, ![1, 128, 256]⟩
abbrev S256x256 : Shape := ⟨2, ![256, 256]⟩
abbrev S128x1 : Shape := ⟨2, ![128, 1]⟩
abbrev S512x1 : Shape := ⟨2, ![512, 1]⟩

abbrev nBuf : Space → Nat
  | .hbm => 128
  | .vmem => 24
  | .smem => 0
  | _ => 0

abbrev bufTy : (tb : Table) → Fin (tcTables nBuf tb) → BufTy
  | .hbm, ⟨0, _⟩ => ⟨S8192x4x64, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S512x16x4x64, .f32⟩
  | .hbm, ⟨6, _⟩ => ⟨S16x512x4x64, .f32⟩
  | .hbm, ⟨7, _⟩ => ⟨S16x4x128x4x64, .f32⟩
  | .hbm, ⟨8, _⟩ => ⟨S512x16x4x64, .f32⟩
  | .hbm, ⟨9, _⟩ => ⟨S16x512x4x64, .f32⟩
  | .hbm, ⟨10, _⟩ => ⟨S16x4x128x4x64, .f32⟩
  | .hbm, ⟨11, _⟩ => ⟨S_, .f32⟩
  | .hbm, ⟨12, _⟩ => ⟨S16x1x128x4x64, .f32⟩
  | .hbm, ⟨13, _⟩ => ⟨S16x3x128x4x64, .f32⟩
  | .hbm, ⟨14, _⟩ => ⟨S16x4x128x4x64, .f32⟩
  | .hbm, ⟨15, _⟩ => ⟨S16x4x256x4x64, .f32⟩
  | .hbm, ⟨16, _⟩ => ⟨S512x16x4x64, .f32⟩
  | .hbm, ⟨17, _⟩ => ⟨S16x512x4x64, .f32⟩
  | .hbm, ⟨18, _⟩ => ⟨S16x4x128x4x64, .f32⟩
  | .hbm, ⟨19, _⟩ => ⟨S_, .f32⟩
  | .hbm, ⟨20, _⟩ => ⟨S16x1x128x4x64, .f32⟩
  | .hbm, ⟨21, _⟩ => ⟨S16x3x128x4x64, .f32⟩
  | .hbm, ⟨22, _⟩ => ⟨S16x4x128x4x64, .f32⟩
  | .hbm, ⟨23, _⟩ => ⟨S16x4x256x4x64, .f32⟩
  | .hbm, ⟨24, _⟩ => ⟨S16x4x4x128x256, .f32⟩
  | .hbm, ⟨25, _⟩ => ⟨S_, .f32⟩
  | .hbm, ⟨26, _⟩ => ⟨S16x4x4x128x256, .f32⟩
  | .hbm, ⟨27, _⟩ => ⟨S16x4x4x128x256, .f32⟩
  | .hbm, ⟨28, _⟩ => ⟨S4, .i32⟩
  | .hbm, ⟨29, _⟩ => ⟨S4x1, .i32⟩
  | .hbm, ⟨30, _⟩ => ⟨S_, .i32⟩
  | .hbm, ⟨31, _⟩ => ⟨S4x1, .i32⟩
  | .hbm, ⟨32, _⟩ => ⟨S4x1, .i32⟩
  | .hbm, ⟨33, _⟩ => ⟨S128, .i32⟩
  | .hbm, ⟨34, _⟩ => ⟨S1x128, .i32⟩
  | .hbm, ⟨35, _⟩ => ⟨S4x128, .i32⟩
  | .hbm, ⟨36, _⟩ => ⟨S4x128, .i32⟩
  | .hbm, ⟨37, _⟩ => ⟨S4x128, .i32⟩
  | .hbm, ⟨38, _⟩ => ⟨S4, .i32⟩
  | .hbm, ⟨39, _⟩ => ⟨S4x1, .i32⟩
  | .hbm, ⟨40, _⟩ => ⟨S_, .i32⟩
  | .hbm, ⟨41, _⟩ => ⟨S4x1, .i32⟩
  | .hbm, ⟨42, _⟩ => ⟨S4x1, .i32⟩
  | .hbm, ⟨43, _⟩ => ⟨S_, .i32⟩
  | .hbm, ⟨44, _⟩ => ⟨S4x1, .i32⟩
  | .hbm, ⟨45, _⟩ => ⟨S4x1, .i32⟩
  | .hbm, ⟨46, _⟩ => ⟨S256, .i32⟩
  | .hbm, ⟨47, _⟩ => ⟨S1x256, .i32⟩
  | .hbm, ⟨48, _⟩ => ⟨S4x256, .i32⟩
  | .hbm, ⟨49, _⟩ => ⟨S4x256, .i32⟩
  | .hbm, ⟨50, _⟩ => ⟨S4x256, .i32⟩
  | .hbm, ⟨51, _⟩ => ⟨S4x128x1, .i32⟩
  | .hbm, ⟨52, _⟩ => ⟨S4x1x256, .i32⟩
  | .hbm, ⟨53, _⟩ => ⟨S4x128x256, .i32⟩
  | .hbm, ⟨54, _⟩ => ⟨S4x128x256, .i32⟩
  | .hbm, ⟨55, _⟩ => ⟨S4x128x256, .i32⟩
  | .hbm, ⟨56, _⟩ => ⟨S_, .i32⟩
  | .hbm, ⟨57, _⟩ => ⟨S4x128x256, .i32⟩
  | .hbm, ⟨58, _⟩ => ⟨S4x128x256, .i1⟩
  | .hbm, ⟨59, _⟩ => ⟨S_, .i32⟩
  | .hbm, ⟨60, _⟩ => ⟨S4x128x256, .i32⟩
  | .hbm, ⟨61, _⟩ => ⟨S4x128x256, .i1⟩
  | .hbm, ⟨62, _⟩ => ⟨S4x128x256, .i1⟩
  | .hbm, ⟨63, _⟩ => ⟨S4x1x256, .i32⟩
  | .hbm, ⟨64, _⟩ => ⟨S_, .i32⟩
  | .hbm, ⟨65, _⟩ => ⟨S4x1x256, .i32⟩
  | .hbm, ⟨66, _⟩ => ⟨S4x1x256, .i1⟩
  | .hbm, ⟨67, _⟩ => ⟨S4x128x256, .i1⟩
  | .hbm, ⟨68, _⟩ => ⟨S4x128x256, .i1⟩
  | .hbm, ⟨69, _⟩ => ⟨S1x4x1x128x256, .i1⟩
  | .hbm, ⟨70, _⟩ => ⟨S_, .f32⟩
  | .hbm, ⟨71, _⟩ => ⟨S_, .f32⟩
  | .hbm, ⟨72, _⟩ => ⟨S16x4x4x128x256, .i1⟩
  | .hbm, ⟨73, _⟩ => ⟨S16x4x4x128x256, .f32⟩
  | .hbm, ⟨74, _⟩ => ⟨S16x4x4x128x256, .f32⟩
  | .hbm, ⟨75, _⟩ => ⟨S_, .f32⟩
  | .hbm, ⟨76, _⟩ => ⟨S16x4x4x128, .f32⟩
  | .hbm, ⟨77, _⟩ => ⟨S16x4x4x128x1, .f32⟩
  | .hbm, ⟨78, _⟩ => ⟨S16x4x4x128x256, .f32⟩
  | .hbm, ⟨79, _⟩ => ⟨S16x4x4x128x256, .f32⟩
  | .hbm, ⟨80, _⟩ => ⟨S16x4x4x128x256, .f32⟩
  | .hbm, ⟨81, _⟩ => ⟨S_, .f32⟩
  | .hbm, ⟨82, _⟩ => ⟨S16x4x4x128, .f32⟩
  | .hbm, ⟨83, _⟩ => ⟨S16x4x4x128x1, .f32⟩
  | .hbm, ⟨84, _⟩ => ⟨S16x4x4x128x256, .f32⟩
  | .hbm, ⟨85, _⟩ => ⟨S16x4x4x128x256, .f32⟩
  | .hbm, ⟨86, _⟩ => ⟨S16x4x4x64x128, .f32⟩
  | .hbm, ⟨87, _⟩ => ⟨S16x4x128x4x64, .f32⟩
  | .hbm, ⟨88, _⟩ => ⟨S16x4x4x128x1, .f32⟩
  | .hbm, ⟨89, _⟩ => ⟨S16x4x4x128x1, .f32⟩
  | .hbm, ⟨90, _⟩ => ⟨S16x4x4x128, .f32⟩
  | .hbm, ⟨91, _⟩ => ⟨S16x512x4x64, .f32⟩
  | .hbm, ⟨92, _⟩ => ⟨S512x16x4x64, .f32⟩
  | .hbm, ⟨93, _⟩ => ⟨S8192x4x64, .f32⟩
  | .hbm, ⟨94, _⟩ => ⟨S16x4x128x4, .f32⟩
  | .hbm, ⟨95, _⟩ => ⟨S16x512x4, .f32⟩
  | .hbm, ⟨96, _⟩ => ⟨S512x16x4, .f32⟩
  | .hbm, ⟨97, _⟩ => ⟨S8192x4, .f32⟩
  | .hbm, ⟨98, _⟩ => ⟨S8192x4x64, .f32⟩
  | .hbm, ⟨99, _⟩ => ⟨S_, .f32⟩
  | .hbm, ⟨100, _⟩ => ⟨S8192x4, .f32⟩
  | .hbm, ⟨101, _⟩ => ⟨S8192x4, .f32⟩
  | .hbm, ⟨102, _⟩ => ⟨S_, .f32⟩
  | .hbm, ⟨103, _⟩ => ⟨S8192x4x64, .f32⟩
  | .hbm, ⟨104, _⟩ => ⟨S8192x4x64, .f32⟩
  | .hbm, ⟨105, _⟩ => ⟨S512x16x256, .f32⟩
  | .hbm, ⟨106, _⟩ => ⟨S16x512x256, .f32⟩
  | .hbm, ⟨107, _⟩ => ⟨S16x512x256, .bf16⟩
  | .hbm, ⟨108, _⟩ => ⟨S512x16x256, .f32⟩
  | .hbm, ⟨109, _⟩ => ⟨S16x512x256, .f32⟩
  | .hbm, ⟨110, _⟩ => ⟨S16x512x256, .bf16⟩
  | .hbm, ⟨111, _⟩ => ⟨S512x16x256, .f32⟩
  | .hbm, ⟨112, _⟩ => ⟨S16x512x256, .f32⟩
  | .hbm, ⟨113, _⟩ => ⟨S16x512x256, .bf16⟩
  | .hbm, ⟨114, _⟩ => ⟨S512x16x256, .f32⟩
  | .hbm, ⟨115, _⟩ => ⟨S16x512x256, .f32⟩
  | .hbm, ⟨116, _⟩ => ⟨S16x512x256, .bf16⟩
  | .hbm, ⟨117, _⟩ => ⟨S8192x4x1, .f32⟩
  | .hbm, ⟨118, _⟩ => ⟨S8192x4x64, .f32⟩
  | .hbm, ⟨119, _⟩ => ⟨S512x16x256, .f32⟩
  | .hbm, ⟨120, _⟩ => ⟨S16x512x256, .f32⟩
  | .hbm, ⟨121, _⟩ => ⟨S8192x4x1, .f32⟩
  | .hbm, ⟨122, _⟩ => ⟨S8192x4x64, .f32⟩
  | .hbm, ⟨123, _⟩ => ⟨S512x16x256, .f32⟩
  | .hbm, ⟨124, _⟩ => ⟨S16x512x256, .f32⟩
  | .hbm, ⟨125, _⟩ => ⟨S16x512x256, .bf16⟩
  | .hbm, ⟨126, _⟩ => ⟨S16x512x256, .bf16⟩
  | .hbm, ⟨127, _⟩ => ⟨S16x512x256, .bf16⟩
  | .local _ .vmem, ⟨0, _⟩ => ⟨S2x512x256, .bf16⟩
  | .local _ .vmem, ⟨1, _⟩ => ⟨S2x512x256, .bf16⟩
  | .local _ .vmem, ⟨2, _⟩ => ⟨S2x128x256, .bf16⟩
  | .local _ .vmem, ⟨3, _⟩ => ⟨S2x128x256, .bf16⟩
  | .local _ .vmem, ⟨4, _⟩ => ⟨S2x512x256, .bf16⟩
  | .local _ .vmem, ⟨5, _⟩ => ⟨S2x512x256, .bf16⟩
  | .local _ .vmem, ⟨6, _⟩ => ⟨S2x128x256, .bf16⟩
  | .local _ .vmem, ⟨7, _⟩ => ⟨S2x128x256, .bf16⟩
  | .local _ .vmem, ⟨8, _⟩ => ⟨S2x512x256, .bf16⟩
  | .local _ .vmem, ⟨9, _⟩ => ⟨S2x512x256, .bf16⟩
  | .local _ .vmem, ⟨10, _⟩ => ⟨S2x512x256, .bf16⟩
  | .local _ .vmem, ⟨11, _⟩ => ⟨S2x512x256, .bf16⟩
  | .local _ .vmem, ⟨12, _⟩ => ⟨S2x512x256, .f32⟩
  | .local _ .vmem, ⟨13, _⟩ => ⟨S2x512x256, .f32⟩
  | .local _ .vmem, ⟨14, _⟩ => ⟨S2x512x256, .f32⟩
  | .local _ .vmem, ⟨15, _⟩ => ⟨S2x512x256, .f32⟩
  | .local _ .vmem, ⟨16, _⟩ => ⟨S2x512x256, .bf16⟩
  | .local _ .vmem, ⟨17, _⟩ => ⟨S2x512x256, .bf16⟩
  | .local _ .vmem, ⟨18, _⟩ => ⟨S2x512x256, .bf16⟩
  | .local _ .vmem, ⟨19, _⟩ => ⟨S2x512x256, .bf16⟩
  | .local _ .vmem, ⟨20, _⟩ => ⟨S2x512x256, .bf16⟩
  | .local _ .vmem, ⟨21, _⟩ => ⟨S2x512x256, .bf16⟩
  | .local _ .vmem, ⟨22, _⟩ => ⟨S512x256, .f32⟩
  | .local _ .vmem, ⟨23, _⟩ => ⟨S512x256, .f32⟩
  | _, _ => ⟨S8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103_0 : Ref sig .tc := ⟨.hbm, 125, rfl⟩
abbrev main_v103_1 : Ref sig .tc := ⟨.hbm, 126, rfl⟩
abbrev main_v103_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x4x64 : Shape := ⟨3, ![8192, 4, 64]⟩
abbrev S8192x4 : Shape := ⟨2, ![8192, 4]⟩
abbrev S512x16x4x64 : Shape := ⟨4, ![512, 16, 4, 64]⟩
abbrev S16x512x4x64 : Shape := ⟨4, ![16, 512, 4, 64]⟩
abbrev S16x4x128x4x64 : Shape := ⟨5, ![16, 4, 128, 4, 64]⟩
abbrev S_ : Shape := ⟨0, ![]⟩
abbrev S16x1x128x4x64 : Shape := ⟨5, ![16, 1, 128, 4, 64]⟩
abbrev S16x3x128x4x64 : Shape := ⟨5, ![16, 3, 128, 4, 64]⟩
abbrev S16x4x256x4x64 : Shape := ⟨5, ![16, 4, 256, 4, 64]⟩
abbrev S16x4x4x128x256 : Shape := ⟨5, ![16, 4, 4, 128, 256]⟩
abbrev S4 : Shape := ⟨1, ![4]⟩
abbrev S4x1 : Shape := ⟨2, ![4, 1]⟩
abbrev S128 : Shape := ⟨1, ![128]⟩
abbrev S1x128 : Shape := ⟨2, ![1, 128]⟩
abbrev S4x128 : Shape := ⟨2, ![4, 128]⟩
abbrev S256 : Shape := ⟨1, ![256]⟩
abbrev S1x256 : Shape := ⟨2, ![1, 256]⟩
abbrev S4x256 : Shape := ⟨2, ![4, 256]⟩
abbrev S4x128x1 : Shape := ⟨3, ![4, 128, 1]⟩
abbrev S4x1x256 : Shape := ⟨3, ![4, 1, 256]⟩
abbrev S4x128x256 : Shape := ⟨3, ![4, 128, 256]⟩
abbrev S1x4x1x128x256 : Shape := ⟨5, ![1, 4, 1, 128, 256]⟩
abbrev S16x4x4x128 : Shape := ⟨4, ![16, 4, 4, 128]⟩
abbrev S16x4x4x128x1 : Shape := ⟨5, ![16, 4, 4, 128, 1]⟩
abbrev S16x4x4x64x128 : Shape := ⟨5, ![16, 4, 4, 64, 128]⟩
abbrev S16x4x128x4 : Shape := ⟨4, ![16, 4, 128, 4]⟩
abbrev S16x512x4 : Shape := ⟨3, ![16, 512, 4]⟩
abbrev S512x16x4 : Shape := ⟨3, ![512, 16, 4]⟩
abbrev S16x4x4x64x256 : Shape := ⟨5, ![16, 4, 4, 64, 256]⟩
abbrev S16x4x4x256x64 : Shape := ⟨5, ![16, 4, 4, 256, 64]⟩
abbrev S16x4x4x128x64 : Shape := ⟨5, ![16, 4, 4, 128, 64]⟩
abbrev S512x16x256 : Shape := ⟨3, ![512, 16, 256]⟩
abbrev S16x512x256 : Shape := ⟨3, ![16, 512, 256]⟩

abbrev nBuf : Space → Nat
  | .hbm => 198
  | .vmem => 0
  | .smem => 0
  | _ => 0

abbrev hbmTy0_0 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4, .f32⟩
  | 5 => ⟨S512x16x4x64, .f32⟩
  | 6 => ⟨S16x512x4x64, .f32⟩
  | 7 => ⟨S16x4x128x4x64, .f32⟩
  | 8 => ⟨S512x16x4x64, .f32⟩
  | 9 => ⟨S16x512x4x64, .f32⟩
  | 10 => ⟨S16x4x128x4x64, .f32⟩
  | 11 => ⟨S_, .f32⟩
  | 12 => ⟨S16x1x128x4x64, .f32⟩
  | 13 => ⟨S16x3x128x4x64, .f32⟩
  | 14 => ⟨S16x4x128x4x64, .f32⟩
  | 15 => ⟨S_, .f32⟩
  | 16 => ⟨S16x1x128x4x64, .f32⟩
  | 17 => ⟨S16x4x256x4x64, .f32⟩
  | 18 => ⟨S512x16x4x64, .f32⟩
  | 19 => ⟨S16x512x4x64, .f32⟩
  | 20 => ⟨S16x4x128x4x64, .f32⟩
  | 21 => ⟨S_, .f32⟩
  | 22 => ⟨S16x1x128x4x64, .f32⟩
  | 23 => ⟨S16x3x128x4x64, .f32⟩
  | 24 => ⟨S16x4x128x4x64, .f32⟩
  | 25 => ⟨S_, .f32⟩
  | 26 => ⟨S16x1x128x4x64, .f32⟩
  | 27 => ⟨S16x4x256x4x64, .f32⟩
  | 28 => ⟨S16x4x4x128x256, .f32⟩
  | 29 => ⟨S_, .f32⟩
  | 30 => ⟨S16x4x4x128x256, .f32⟩
  | 31 => ⟨S16x4x4x128x256, .f32⟩
  | 32 => ⟨S4, .i32⟩
  | 33 => ⟨S4x1, .i32⟩
  | 34 => ⟨S_, .i32⟩
  | 35 => ⟨S4x1, .i32⟩
  | 36 => ⟨S4x1, .i32⟩
  | 37 => ⟨S128, .i32⟩
  | 38 => ⟨S1x128, .i32⟩
  | 39 => ⟨S4x128, .i32⟩
  | 40 => ⟨S4x128, .i32⟩
  | 41 => ⟨S4x128, .i32⟩
  | 42 => ⟨S4, .i32⟩
  | 43 => ⟨S4x1, .i32⟩
  | 44 => ⟨S_, .i32⟩
  | 45 => ⟨S4x1, .i32⟩
  | 46 => ⟨S4x1, .i32⟩
  | 47 => ⟨S_, .i32⟩
  | 48 => ⟨S4x1, .i32⟩
  | 49 => ⟨S4x1, .i32⟩
  | 50 => ⟨S256, .i32⟩
  | 51 => ⟨S1x256, .i32⟩
  | 52 => ⟨S4x256, .i32⟩
  | 53 => ⟨S4x256, .i32⟩
  | 54 => ⟨S4x256, .i32⟩
  | 55 => ⟨S4x128x1, .i32⟩
  | 56 => ⟨S4x1x256, .i32⟩
  | 57 => ⟨S4x128x256, .i32⟩
  | 58 => ⟨S4x128x256, .i32⟩
  | 59 => ⟨S4x128x256, .i32⟩
  | 60 => ⟨S_, .i32⟩
  | 61 => ⟨S4x128x256, .i32⟩
  | 62 => ⟨S4x128x256, .i1⟩
  | 63 => ⟨S_, .i32⟩
  | 64 => ⟨S4x128x256, .i32⟩
  | 65 => ⟨S4x128x256, .i1⟩
  | 66 => ⟨S4x128x256, .i1⟩
  | 67 => ⟨S4x1x256, .i32⟩
  | 68 => ⟨S_, .i32⟩
  | 69 => ⟨S4x1x256, .i32⟩
  | 70 => ⟨S4x1x256, .i1⟩
  | 71 => ⟨S4x128x256, .i1⟩
  | 72 => ⟨S4x128x256, .i1⟩
  | 73 => ⟨S1x4x1x128x256, .i1⟩
  | 74 => ⟨S_, .f32⟩
  | 75 => ⟨S_, .f32⟩
  | 76 => ⟨S16x4x4x128x256, .i1⟩
  | 77 => ⟨S16x4x4x128x256, .f32⟩
  | 78 => ⟨S16x4x4x128x256, .f32⟩
  | 79 => ⟨S_, .f32⟩
  | 80 => ⟨S16x4x4x128x256, .f32⟩
  | 81 => ⟨S_, .f32⟩
  | 82 => ⟨S16x4x4x128, .f32⟩
  | 83 => ⟨S16x4x4x128x1, .f32⟩
  | 84 => ⟨S16x4x4x128x256, .f32⟩
  | 85 => ⟨S16x4x4x128x256, .i1⟩
  | 86 => ⟨S16x4x4x128x256, .f32⟩
  | 87 => ⟨S_, .f32⟩
  | 88 => ⟨S16x4x4x128, .f32⟩
  | 89 => ⟨S16x4x4x128x1, .f32⟩
  | 90 => ⟨S16x4x4x128x256, .f32⟩
  | 91 => ⟨S16x4x4x128x256, .f32⟩
  | 92 => ⟨S16x4x4x128x256, .f32⟩
  | 93 => ⟨S_, .f32⟩
  | 94 => ⟨S16x4x4x128, .f32⟩
  | 95 => ⟨S16x4x4x128x1, .f32⟩
  | 96 => ⟨S16x4x4x128x256, .f32⟩
  | 97 => ⟨S16x4x4x128x256, .f32⟩
  | 98 => ⟨S16x4x4x128x1, .f32⟩
  | 99 => ⟨S_, .f32⟩
  | 100 => ⟨S16x4x4x128x1, .f32⟩
  | 101 => ⟨S16x4x4x128x1, .f32⟩
  | 102 => ⟨S16x4x4x64x128, .f32⟩
  | 103 => ⟨S16x4x128x4x64, .f32⟩
  | 104 => ⟨S16x4x4x128x1, .f32⟩
  | 105 => ⟨S16x4x4x128x1, .f32⟩
  | 106 => ⟨S16x4x4x128, .f32⟩
  | 107 => ⟨S16x512x4x64, .f32⟩
  | 108 => ⟨S512x16x4x64, .f32⟩
  | 109 => ⟨S8192x4x64, .f32⟩
  | 110 => ⟨S16x4x128x4, .f32⟩
  | 111 => ⟨S16x512x4, .f32⟩
  | 112 => ⟨S512x16x4, .f32⟩
  | 113 => ⟨S8192x4, .f32⟩
  | 114 => ⟨S512x16x4, .f32⟩
  | 115 => ⟨S16x512x4, .f32⟩
  | 116 => ⟨S16x4x128x4, .f32⟩
  | 117 => ⟨S16x4x4x128, .f32⟩
  | 118 => ⟨S512x16x4x64, .f32⟩
  | 119 => ⟨S16x512x4x64, .f32⟩
  | 120 => ⟨S16x4x128x4x64, .f32⟩
  | 121 => ⟨S16x4x4x128x1, .f32⟩
  | 122 => ⟨S16x4x4x128x1, .f32⟩
  | 123 => ⟨S16x4x4x64x128, .f32⟩
  | 124 => ⟨S16x4x4x128x256, .f32⟩
  | 125 => ⟨S16x4x4x64x256, .f32⟩
  | 126 => ⟨S16x4x256x4x64, .f32⟩
  | 127 => ⟨S16x4x4x128x256, .f32⟩
  | _ => ⟨S8192x4x64, .f32⟩

abbrev hbmTy0_1 (i : Nat) : BufTy := match i % 128 with
  | 0 => ⟨S16x4x4x128x256, .f32⟩
  | 1 => ⟨S16x4x4x128x256, .f32⟩
  | 2 => ⟨S_, .f32⟩
  | 3 => ⟨S16x4x4x128, .f32⟩
  | 4 => ⟨S16x4x4x128x1, .f32⟩
  | 5 => ⟨S16x4x4x128x1, .f32⟩
  | 6 => ⟨S16x4x4x128x1, .f32⟩
  | 7 => ⟨S16x4x4x128x256, .f32⟩
  | 8 => ⟨S16x4x4x128x256, .f32⟩
  | 9 => ⟨S_, .f32⟩
  | 10 => ⟨S16x4x4x128, .f32⟩
  | 11 => ⟨S16x4x4x128x256, .f32⟩
  | 12 => ⟨S16x4x4x128x256, .f32⟩
  | 13 => ⟨S16x4x4x128x256, .f32⟩
  | 14 => ⟨S16x4x4x128x256, .f32⟩
  | 15 => ⟨S_, .f32⟩
  | 16 => ⟨S16x4x4x128, .f32⟩
  | 17 => ⟨S16x4x4x128x1, .f32⟩
  | 18 => ⟨S16x4x4x128x1, .f32⟩
  | 19 => ⟨S_, .f32⟩
  | 20 => ⟨S16x4x4x128, .f32⟩
  | 21 => ⟨S16x4x4x128, .f32⟩
  | 22 => ⟨S16x4x4x128x256, .f32⟩
  | 23 => ⟨S16x4x4x128x256, .f32⟩
  | 24 => ⟨S16x4x4x128x256, .f32⟩
  | 25 => ⟨S_, .f32⟩
  | 26 => ⟨S16x4x4x128x256, .f32⟩
  | 27 => ⟨S16x4x4x128x256, .f32⟩
  | 28 => ⟨S_, .f32⟩
  | 29 => ⟨S16x4x4x128x256, .f32⟩
  | 30 => ⟨S16x4x4x128x256, .f32⟩
  | 31 => ⟨S16x4x4x256x64, .f32⟩
  | 32 => ⟨S16x4x256x4x64, .f32⟩
  | 33 => ⟨S16x4x4x128x64, .f32⟩
  | 34 => ⟨S16x4x128x4x64, .f32⟩
  | 35 => ⟨S16x4x128x4x64, .f32⟩
  | 36 => ⟨S16x4x128x4x64, .f32⟩
  | 37 => ⟨S16x1x128x4x64, .f32⟩
  | 38 => ⟨S16x3x128x4x64, .f32⟩
  | 39 => ⟨S_, .f32⟩
  | 40 => ⟨S16x4x128x4x64, .f32⟩
  | 41 => ⟨S16x4x128x4x64, .f32⟩
  | 42 => ⟨S16x512x4x64, .f32⟩
  | 43 => ⟨S512x16x4x64, .f32⟩
  | 44 => ⟨S8192x4x64, .f32⟩
  | 45 => ⟨S16x4x128x4x64, .f32⟩
  | 46 => ⟨S16x4x128x4x64, .f32⟩
  | 47 => ⟨S16x1x128x4x64, .f32⟩
  | 48 => ⟨S16x3x128x4x64, .f32⟩
  | 49 => ⟨S_, .f32⟩
  | 50 => ⟨S16x4x128x4x64, .f32⟩
  | 51 => ⟨S16x4x128x4x64, .f32⟩
  | 52 => ⟨S16x512x4x64, .f32⟩
  | 53 => ⟨S512x16x4x64, .f32⟩
  | 54 => ⟨S8192x4x64, .f32⟩
  | 55 => ⟨S16x512x4x64, .f32⟩
  | 56 => ⟨S512x16x4x64, .f32⟩
  | 57 => ⟨S8192x4x64, .f32⟩
  | 58 => ⟨S_, .f32⟩
  | 59 => ⟨S8192x4x64, .f32⟩
  | 60 => ⟨S8192x4x64, .f32⟩
  | 61 => ⟨S512x16x256, .f32⟩
  | 62 => ⟨S16x512x256, .f32⟩
  | 63 => ⟨S16x512x256, .bf16⟩
  | 64 => ⟨S512x16x256, .f32⟩
  | 65 => ⟨S16x512x256, .f32⟩
  | 66 => ⟨S16x512x256, .bf16⟩
  | 67 => ⟨S512x16x256, .f32⟩
  | 68 => ⟨S16x512x256, .f32⟩
  | 69 => ⟨S16x512x256, .bf16⟩
  | _ => ⟨S8192x4x64, .f32⟩

abbrev hbmTy (i : Nat) : BufTy := match i / 128 with
  | 0 => hbmTy0_0 i
  | 1 => hbmTy0_1 i
  | _ => ⟨S8192x4x64, .f32⟩

abbrev bufTy : (tb : Table) → Fin (tcTables nBuf tb) → BufTy
  | .hbm, ⟨i, _⟩ => hbmTy i
  | _, _ => ⟨S8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_call0_v0 : Ref sig .tc := ⟨.hbm, 75, rfl⟩
abbrev main_v58_1 : Ref sig .tc := ⟨.hbm, 76, rfl⟩
abbrev main_call0_v2 : Ref sig .tc := ⟨.hbm, 77, rfl⟩
abbrev main_v58_0 : Ref sig .tc := ⟨.hbm, 78, rfl⟩
abbrev main_call0_cst : Ref sig .tc := ⟨.hbm, 79, rfl⟩
abbrev main_v58_2 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_15 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_16 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_17 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_call1_cst : Ref sig .tc := ⟨.hbm, 153, rfl⟩
abbrev main_call1_v0 : Ref sig .tc := ⟨.hbm, 154, rfl⟩
abbrev main_v123 : Ref sig .tc := ⟨.hbm, 155, rfl⟩
abbrev main_cst_18 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_19 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_20 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S1024x8x512, .f32⟩
  | .hbm, ⟨27, _⟩ => ⟨S8x1024x512, .f32⟩
  | .hbm, ⟨28, _⟩ => ⟨S8x512x1024, .f32⟩
  | .hbm, ⟨29, _⟩ => ⟨S8192x4096, .bf16⟩
  | .hbm, ⟨30, _⟩ => ⟨S8x1024x512, .bf16⟩
  | .hbm, ⟨31, _⟩ => ⟨S8x512x1024, .bf16⟩
  | .hbm, ⟨32, _⟩ => ⟨S8192x1024, .f32⟩
  | .hbm, ⟨33, _⟩ => ⟨S8192x4096, .bf16⟩
  | .hbm, ⟨34, _⟩ => ⟨S1x1024, .f32⟩
  | .hbm, ⟨35, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S8x512x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x4096, .bf16⟩
  | .hbm, ⟨73, _⟩ => ⟨S1x1024, .f32⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S2x512x1024 : Shape := ⟨3, ![2, 512, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x512x1024, .f32⟩
  | .hbm, ⟨7, _⟩ => ⟨S8x1024x512, .bf16⟩
  | .hbm, ⟨8, _⟩ => ⟨S8x512x1024, .bf16⟩
  | .hbm, ⟨9, _⟩ => ⟨S8192x1024, .f32⟩
  | .hbm, ⟨10, _⟩ => ⟨S8192x1024, .bf16⟩
  | .hbm, ⟨11, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .f32⟩
  | .hbm, ⟨3, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | .local _ .vmem, ⟨6, _⟩ => ⟨S2x1024x512, .bf16⟩
  | .local _ .vmem, ⟨7, _⟩ => ⟨S2x1024x512, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2560 : Shape := ⟨2, ![8192, 2560]⟩
abbrev S8192x1024 : Shape := ⟨2, ![8192, 1024]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .f32⟩
  | .hbm, ⟨3, _⟩ => ⟨S2560x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .bf16⟩
  | .local _ .vmem, ⟨7, _⟩ => ⟨S1280x1024, .bf16⟩
  | .local _ .vmem, ⟨8, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2560 : Shape := ⟨2, ![8192, 2560]⟩
abbrev S8192x1024 : Shape := ⟨2, ![8192, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .f32⟩
  | .hbm, ⟨11, _⟩ => ⟨S2560x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩

abbrev nBuf : Space → Nat
  | .hbm => 43
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x256, .bf16⟩
  | .hbm, ⟨34, _⟩ => ⟨S256x1024, .bf16⟩
  | .hbm, ⟨35, _⟩ => ⟨S1024x1024, .bf16⟩
  | .hbm, ⟨36, _⟩ => ⟨S8192x1024, .bf16⟩
  | .hbm, ⟨37, _⟩ => ⟨S8192x1024, .f32⟩
  | .hbm, ⟨38, _⟩ => ⟨S1x1024, .f32⟩
  | .hbm, ⟨39, _⟩ => ⟨S1024x1024, .f32⟩
  | .hbm, ⟨40, _⟩ => ⟨S1024x1024, .bf16⟩
  | .hbm, ⟨41, _⟩ => ⟨S256x1024, .f32⟩
  | .hbm, ⟨42, _⟩ => ⟨S256x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .bf16⟩
  | .local _ .vmem, ⟨18, _⟩ => ⟨S256x1024, .f32⟩
  | .local _ .vmem, ⟨19, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev main_v26_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_40 : BitVec 32 := 0#32
  let v70 : BitVec 1 := Scalar.cmpi .ne v69 c0_i32_40
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x256, .f32⟩
  | .hbm, ⟨47, _⟩ => ⟨S256x1024, .f32⟩
  | .hbm, ⟨48, _⟩ => ⟨S8192x1024, .f32⟩
  | .hbm, ⟨49, _⟩ => ⟨S1024x1024, .f32⟩
  | .hbm, ⟨50, _⟩ => ⟨S1024x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1024x1024, .bf16⟩
  | .hbm, ⟨80, _⟩ => ⟨S256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x1024 : Shape := ⟨2, ![1024, 1024]⟩
abbrev S2x8192x256 : Shape := ⟨3, ![2, 8192, 256]⟩
abbrev S256x1024 : Shape := ⟨2, ![256, 1024]⟩
abbrev S1x128 : Shape := ⟨2, ![1, 128]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S2x8192x256, .f32⟩
  | .hbm, ⟨4, _⟩ => ⟨S256x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S256x1024, .bf16⟩
  | .hbm, ⟨9, _⟩ => ⟨S1x128, .f32⟩
  | .hbm, ⟨10, _⟩ => ⟨S1x1024, .f32⟩
  | .hbm, ⟨11, _⟩ => ⟨S8192x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S256x1024, .f32⟩
  | .hbm, ⟨16, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .f32⟩
  | .local _ .vmem, ⟨5, _⟩ => ⟨S1x512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .bf16⟩
  | .local _ .vmem, ⟨17, _⟩ => ⟨S256x1024, .f32⟩
  | .local _ .vmem, ⟨18, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v125 : BitVec 1 := Scalar.cmpi .eq arg0 c15_i32
  let v126 : BitVec 32 := Scalar.extui v125
  let c0_i32_62 : BitVec 32 := 0#32
  let v127 : BitVec 1 := Scalar.cmpi .ne v126 c0_i32_62
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S8192x1024 : Shape := ⟨2, ![8192, 1024]⟩
abbrev S1x1024 : Shape := ⟨2, ![1, 1024]⟩
abbrev S1024x1024 : Shape := ⟨2, ![1024, 1024]⟩
abbrev S2x8192x256 : Shape := ⟨3, ![2, 8192, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x8192x256 : Shape := ⟨3, ![1, 8192, 256]⟩
abbrev S8192x256 : Shape := ⟨2, ![8192, 256]⟩
abbrev S1024x256 : Shape := ⟨2, ![1024, 256]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S1x1024, .f32⟩
  | 2 => ⟨S1024x1024, .f32⟩
  | 3 => ⟨S2x8192x256, .f32⟩
  | 4 => ⟨S256x1024, .f32⟩
  | 5 => ⟨S1x1024, .f32⟩
  | 6 => ⟨S8192x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S1x8192x256, .f32⟩
  | 42 => ⟨S8192x256, .f32⟩
  | 43 => ⟨S8192x1024, .f32⟩
  | 44 => ⟨S8192x1024, .f32⟩
  | 45 => ⟨S8192x1024, .f32⟩
  | 46 => ⟨S1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S_, .f32⟩
  | 97 => ⟨S1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S8192x1024, .f32⟩
  | 117 => ⟨S8192x1024, .f32⟩
  | 118 => ⟨S1024x256, .f32⟩
  | 119 => ⟨S256x1024, .f32⟩
  | 120 => ⟨S8192x1024, .f32⟩
  | 121 => ⟨S1024x1024, .f32⟩
  | 122 => ⟨S1024x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S8192x1024, .f32⟩
  | 5 => ⟨S_, .f32⟩
  | 6 => ⟨S8192, .f32⟩
  | 7 => ⟨S8192x1, .f32⟩
  | 8 => ⟨S8192x1024, .f32⟩
  | 9 => ⟨S8192x1024, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S1x128, .f32⟩
  | 24 => ⟨S1024x1024, .bf16⟩
  | 25 => ⟨S256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_cst_15 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_19 : Ref sig .tc := ⟨.hbm, 96, rfl⟩
abbrev main_v69 : Ref sig .tc := ⟨.hbm, 97, rfl⟩
abbrev main_v70 : Ref sig .tc := ⟨.hbm, 98, rfl⟩
abbrev main_cst_20 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_21 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_24 : Ref sig .tc := ⟨.hbm, 130, rfl⟩
abbrev main_v98 : Ref sig .tc := ⟨.hbm, 131, rfl⟩
abbrev main_v99 : Ref sig .tc := ⟨.hbm, 132, rfl⟩
abbrev main_cst_25 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_26 : Ref sig .tc := ⟨.hbm, 140, rfl⟩
abbrev main_v106 : Ref sig .tc := ⟨.hbm, 141, rfl⟩
abbrev main_v107 : Ref sig .tc := ⟨.hbm, 142, rfl⟩
abbrev main_cst_27 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩

abbrev nD : Nat := 1
abbrev τ : Topo := Topo.v7x

variable {F : FTy → Type} [FloatOps F]
-- ==== Proof.Host.lean ====
/-
  The host operations before the call, read: what each array handed to the call holds, over the launch contents.
  The lines that recompute the forward pass are the reference's own stages.
-/
module

public import proofs.«01_k».proof.Proof.Gen.KernelIdeal.Frame.Runs
public import proofs.«01_k».proof.Proof.Gen.ReferenceIdeal.Read
public import Idealize.ShloMosaic.Lib.StableHlo.RunRead

@[expose] public section

noncomputable section

namespace Cert.KernelIdeal.Host

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]

/-- Tokens by head and coordinate, laid out by residue, row and lane. -/
def lay (x : FVec F S8192x4x64 .f32) : FVec F S16x512x256 .f32 :=
  transpose S16x512x256 [1, 0, 2] (shapeCast S512x16x256 x shapeCasts_S8192x4x64_S512x16x256) transposes_S512x16x256_S16x512x256_1_0_2

/-- The same, narrowed. -/
def layLow (x : FVec F S8192x4x64 .f32) : FVec F S16x512x256 .bf16 := truncf .bf16 (lay x) bitsLt_bf16_f32

/-- A value of each token and head spread over the head's coordinates. -/
def spread (x : FVec F S8192x4 .f32) : FVec F S8192x4x64 .f32 :=
  broadcastInDim S8192x4x64 ![0, 1, 2] bcast_S8192x4x1_S8192x4x64_0_1_2 (broadcastInDim S8192x4x1 ![0, 1] bcast_S8192x4_S8192x4x1_0_1 x)

/-- The queries scaled. -/
def scaled (x : FVec F S8192x4x64 .f32) : FVec F S8192x4x64 .f32 :=
  mulf x (broadcastInDim S8192x4x64 ![] bcast_S_S8192x4x64 (constant S_ .f32 0x3E000000#32))

/-- Each token's and head's correction: the output against its gradient, less the log-sum's gradient. -/
def corr (o g : FVec F S8192x4x64 .f32) (dl : FVec F S8192x4 .f32) : FVec F S8192x4 .f32 :=
  subf (Host.reduceAdd (mulf g o) (constant S_ .f32 0x00000000#32) reducesTo_S8192x4x64_S8192x4_d2 h_S_) dl

section Lines

variable (V0 W : Valuation τ sig (Elt F))

set_option maxRecDepth 8192 in
set_option maxHeartbeats 4000000 in
/-- The scaled scores. -/
theorem line0_v19 : after Gen.hostOps0 V0 (no_index (Proc.devRef .tc main_v19)) = Cert.ReferenceIdeal.Read.val_main_v21 (F := F) (V0 (Proc.devRef .tc main_arg0)) (V0 (Proc.devRef .tc main_arg1)) := by
  simp only [Gen.hostOps0]
  after_results_simp
  all_goals rfl

set_option maxRecDepth 8192 in
set_option maxHeartbeats 4000000 in
/-- The windows of values. -/
theorem line0_v16 : after Gen.hostOps0 V0 (no_index (Proc.devRef .tc main_v16)) = Cert.ReferenceIdeal.Read.val_main_v18 (F := F) (V0 (Proc.devRef .tc main_arg2)) := by
  simp only [Gen.hostOps0]
  after_results_simp
  all_goals rfl

set_option maxRecDepth 8192 in
set_option maxHeartbeats 4000000 in
/-- The mask of the keys in sight. -/
theorem line0_v55 : after Gen.hostOps0 V0 (no_index (Proc.devRef .tc main_v55)) = Cert.ReferenceIdeal.Read.val_main_v57 (F := F) := by
  simp only [Gen.hostOps0]
  after_results_simp
  all_goals rfl

set_option maxRecDepth 8192 in
set_option maxHeartbeats 4000000 in
/-- Minus infinity. -/
theorem line0_cst_7 : after Gen.hostOps0 V0 (no_index (Proc.devRef .tc main_cst_7)) = Cert.ReferenceIdeal.Read.val_main_cst_9 (F := F) := by
  simp only [Gen.hostOps0]
  after_results_simp
  all_goals rfl

set_option maxRecDepth 8192 in
set_option maxHeartbeats 4000000 in
/-- The line leaves this array as it was. -/
theorem line0_keep_main_arg0 : after Gen.hostOps0 W (no_index (Proc.devRef .tc main_arg0)) = W (Proc.devRef .tc main_arg0) := by
  simp only [Gen.hostOps0]
  after_results_simp

set_option maxRecDepth 8192 in
set_option maxHeartbeats 4000000 in
/-- The line leaves this array as it was. -/
theorem line0_keep_main_arg1 : after Gen.hostOps0 W (no_index (Proc.devRef .tc main_arg1)) = W (Proc.devRef .tc main_arg1) := by
  simp only [Gen.hostOps0]
  after_results_simp

set_option maxRecDepth 8192 in
set_option maxHeartbeats 4000000 in
/-- The line leaves this array as it was. -/
theorem line0_keep_main_arg2 : after Gen.hostOps0 W (no_index (Proc.devRef .tc main_arg2)) = W (Proc.devRef .tc main_arg2) := by
  simp only [Gen.hostOps0]
  after_results_simp

set_option maxRecDepth 8192 in
set_option maxHeartbeats 4000000 in
/-- The line leaves this array as it was. -/
theorem line0_keep_main_arg3 : after Gen.hostOps0 W (no_index (Proc.devRef .tc main_arg3)) = W (Proc.devRef .tc main_arg3) := by
  simp only [Gen.hostOps0]
  after_results_simp

set_option maxRecDepth 8192 in
set_option maxHeartbeats 4000000 in
/-- The line leaves this array as it was. -/
theorem line0_keep_main_arg4 : after Gen.hostOps0 W (no_index (Proc.devRef .tc main_arg4)) = W (Proc.devRef .tc main_arg4) := by
  simp only [Gen.hostOps0]
  after_results_simp

set_option maxRecDepth 8192 in
set_option maxHeartbeats 4000000 in
/-- The line leaves this array as it was. -/
theorem line1_keep_main_arg0 : after Gen.hostOps0_1 W (no_index (Proc.devRef .tc main_arg0)) = W (Proc.devRef .tc main_arg0) := by
  simp only [Gen.hostOps0_1]
  after_results_simp

set_option maxRecDepth 8192 in
set_option maxHeartbeats 4000000 in
/-- The line leaves this array as it was. -/
theorem line1_keep_main_arg1 : after Gen.hostOps0_1 W (no_index (Proc.devRef .tc main_arg1)) = W (Proc.devRef .tc main_arg1) := by
  simp only [Gen.hostOps0_1]
  after_results_simp

set_option maxRecDepth 8192 in
set_option maxHeartbeats 4000000 in
/-- The line leaves this array as it was. -/
theorem line1_keep_main_arg2 : after Gen.hostOps0_1 W (no_index (Proc.devRef .tc main_arg2)) = W (Proc.devRef .tc main_arg2) := by
  simp only [Gen.hostOps0_1]
  after_results_simp

set_option maxRecDepth 8192 in
set_option maxHeartbeats 4000000 in
/-- The line leaves this array as it was. -/
theorem line1_keep_main_arg3 : after Gen.hostOps0_1 W (no_index (Proc.devRef .tc main_arg3)) = W (Proc.devRef .tc main_arg3) := by
  simp only [Gen.hostOps0_1]
  after_results_simp

set_option maxRecDepth 8192 in
set_option maxHeartbeats 4000000 in
/-- The line leaves this array as it was. -/
theorem line1_keep_main_arg4 : after Gen.hostOps0_1 W (no_index (Proc.devRef .tc main_arg4)) = W (Proc.devRef .tc main_arg4) := by
  simp only [Gen.hostOps0_1]
  after_results_simp

set_option maxRecDepth 8192 in
set_option maxHeartbeats 4000000 in
/-- The line leaves this array as it was. -/
theorem line1_keep_main_v16 : after Gen.hostOps0_1 W (no_index (Proc.devRef .tc main_v16)) = W (Proc.devRef .tc main_v16) := by
  simp only [Gen.hostOps0_1]
  after_results_simp

/-- The masked scores. -/
theorem line1_v56 (x0 x1 : FVec F S8192x4x64 .f32)
    (h19 : W (Proc.devRef .tc main_v19) = Cert.ReferenceIdeal.Read.val_main_v21 (F := F) x0 x1) (h55 : W (Proc.devRef .tc main_v55) = Cert.ReferenceIdeal.Read.val_main_v57 (F := F))
    (hc : W (Proc.devRef .tc main_cst_7) = Cert.ReferenceIdeal.Read.val_main_cst_9 (F := F)) :
    after Gen.hostOps0_1 W (no_index (Proc.devRef .tc main_v56)) = Cert.ReferenceIdeal.Read.val_main_v58_0 (F := F) x0 x1 := by
  simp only [Gen.hostOps0_1]
  after_results_simp
  simp only [h19, h55, hc]
  rfl

set_option maxRecDepth 8192 in
set_option maxHeartbeats 4000000 in
/-- The queries, scaled, as the call is given them. -/
theorem line2_v85 : after Gen.hostOps0_2 W (no_index (Proc.devRef .tc main_v85)) = layLow (scaled (W (Proc.devRef .tc main_arg0))) := by
  simp only [Gen.hostOps0_2]
  after_results_simp
  all_goals rfl

set_option maxRecDepth 8192 in
set_option maxHeartbeats 4000000 in
/-- The keys, as the call is given them. -/
theorem line2_v88 : after Gen.hostOps0_2 W (no_index (Proc.devRef .tc main_v88)) = layLow (W (Proc.devRef .tc main_arg1)) := by
  simp only [Gen.hostOps0_2]
  after_results_simp
  all_goals rfl

set_option maxRecDepth 8192 in
set_option maxHeartbeats 4000000 in
/-- The values, as the call is given them. -/
theorem line2_v91 : after Gen.hostOps0_2 W (no_index (Proc.devRef .tc main_v91)) = layLow (W (Proc.devRef .tc main_arg2)) := by
  simp only [Gen.hostOps0_2]
  after_results_simp
  all_goals rfl

set_option maxRecDepth 8192 in
set_option maxHeartbeats 4000000 in
/-- The output's gradients, as the call is given them. -/
theorem line2_v94 : after Gen.hostOps0_2 W (no_index (Proc.devRef .tc main_v94)) = layLow (W (Proc.devRef .tc main_arg3)) := by
  simp only [Gen.hostOps0_2]
  after_results_simp
  all_goals rfl

set_option maxRecDepth 8192 in
set_option maxHeartbeats 4000000 in
/-- The log-sums, as the call is given them. -/
theorem line2_v98 (x0 x1 : FVec F S8192x4x64 .f32) (h56 : W (Proc.devRef .tc main_v56) = Cert.ReferenceIdeal.Read.val_main_v58_0 (F := F) x0 x1) :
    after Gen.hostOps0_2 W (no_index (Proc.devRef .tc main_v98)) = lay (spread (Cert.ReferenceIdeal.Read.val_main_v87 (F := F) x0 x1)) := by
  simp only [Gen.hostOps0_2]
  after_results_simp
  simp only [h56]
  rfl

set_option maxRecDepth 8192 in
set_option maxHeartbeats 4000000 in
/-- The corrections, as the call is given them. -/
theorem line2_v102 (x0 x1 x2 : FVec F S8192x4x64 .f32) (h56 : W (Proc.devRef .tc main_v56) = Cert.ReferenceIdeal.Read.val_main_v58_0 (F := F) x0 x1)
    (h16 : W (Proc.devRef .tc main_v16) = Cert.ReferenceIdeal.Read.val_main_v18 (F := F) x2) :
    after Gen.hostOps0_2 W (no_index (Proc.devRef .tc main_v102))
      = lay (spread (corr (Cert.ReferenceIdeal.Read.val_main_v83 (F := F) x0 x1 x2) (W (Proc.devRef .tc main_arg3)) (W (Proc.devRef .tc main_arg4)))) := by
  simp only [Gen.hostOps0_2]
  after_results_simp
  simp only [h56, h16]
  rfl

end Lines

variable (m : (ℓ : Loc nD τ sig) → Buf (Elt F) ℓ) (c : Dev nD)

/-- The queries, scaled, over the launch contents. -/
theorem V_v85 : Gen.V m c main_v85 = layLow (scaled (m ((c : Thread nD τ).loc main_arg0))) := by
  show after (List.flatten [Gen.hostOps0, Gen.hostOps0_1, Gen.hostOps0_2]) (fun b => m (c, b)) (Proc.devRef .tc main_v85) = _
  rw [List.flatten_cons, List.flatten_cons, List.flatten_cons, List.flatten_nil, List.append_nil, after_append, after_append]
  rw [line2_v85, line1_keep_main_arg0, line0_keep_main_arg0]

/-- The keys, over the launch contents. -/
theorem V_v88 : Gen.V m c main_v88 = layLow (m ((c : Thread nD τ).loc main_arg1)) := by
  show after (List.flatten [Gen.hostOps0, Gen.hostOps0_1, Gen.hostOps0_2]) (fun b => m (c, b)) (Proc.devRef .tc main_v88) = _
  rw [List.flatten_cons, List.flatten_cons, List.flatten_cons, List.flatten_nil, List.append_nil, after_append, after_append]
  rw [line2_v88, line1_keep_main_arg1, line0_keep_main_arg1]

/-- The values, over the launch contents. -/
theorem V_v91 : Gen.V m c main_v91 = layLow (m ((c : Thread nD τ).loc main_arg2)) := by
  show after (List.flatten [Gen.hostOps0, Gen.hostOps0_1, Gen.hostOps0_2]) (fun b => m (c, b)) (Proc.devRef .tc main_v91) = _
  rw [List.flatten_cons, List.flatten_cons, List.flatten_cons, List.flatten_nil, List.append_nil, after_append, after_append]
  rw [line2_v91, line1_keep_main_arg2, line0_keep_main_arg2]

/-- The output's gradients, over the launch contents. -/
theorem V_v94 : Gen.V m c main_v94 = layLow (m ((c : Thread nD τ).loc main_arg3)) := by
  show after (List.flatten [Gen.hostOps0, Gen.hostOps0_1, Gen.hostOps0_2]) (fun b => m (c, b)) (Proc.devRef .tc main_v94) = _
  rw [List.flatten_cons, List.flatten_cons, List.flatten_cons, List.flatten_nil, List.append_nil, after_append, after_append]
  rw [line2_v94, line1_keep_main_arg3, line0_keep_main_arg3]

/-- The masked scores once the second line has run. -/
theorem line1_full (V0 : Valuation τ sig (Elt F)) : after Gen.hostOps0_1 (after Gen.hostOps0 V0) (Proc.devRef .tc main_v56) = Cert.ReferenceIdeal.Read.val_main_v58_0 (F := F) (V0 (Proc.devRef .tc main_arg0)) (V0 (Proc.devRef .tc main_arg1)) :=
  line1_v56 _ _ _ (line0_v19 V0) (line0_v55 V0) (line0_cst_7 V0)

/-- The log-sums, over the launch contents. -/
theorem V_v98 : Gen.V m c main_v98 = lay (spread (Cert.ReferenceIdeal.Read.val_main_v87 (F := F) (m ((c : Thread nD τ).loc main_arg0)) (m ((c : Thread nD τ).loc main_arg1)))) := by
  show after (List.flatten [Gen.hostOps0, Gen.hostOps0_1, Gen.hostOps0_2]) (fun b => m (c, b)) (Proc.devRef .tc main_v98) = _
  rw [List.flatten_cons, List.flatten_cons, List.flatten_cons, List.flatten_nil, List.append_nil, after_append, after_append]
  rw [line2_v98 _ _ _ (line1_full _)]

/-- The corrections, over the launch contents. -/
theorem V_v102 : Gen.V m c main_v102
    = lay (spread (corr (Cert.ReferenceIdeal.Read.val_main_v83 (F := F) (m ((c : Thread nD τ).loc main_arg0)) (m ((c : Thread nD τ).loc main_arg1)) (m ((c : Thread nD τ).loc main_arg2))) (m ((c : Thread nD τ).loc main_arg3)) (m ((c : Thread nD τ).loc main_arg4)))) := by
  show after (List.flatten [Gen.hostOps0, Gen.hostOps0_1, Gen.hostOps0_2]) (fun b => m (c, b)) (Proc.devRef .tc main_v102) = _
  rw [List.flatten_cons, List.flatten_cons, List.flatten_cons, List.flatten_nil, List.append_nil, after_append, after_append]
  rw [line2_v102 _ _ _ _ (line1_full _) ((line1_keep_main_v16 _).trans (line0_v16 _)), line1_keep_main_arg3, line0_keep_main_arg3,
    line1_keep_main_arg4, line0_keep_main_arg4]

end Cert.KernelIdeal.Host

end
-- ==== Proof.Block.lean ====
/-
  What one grid point of the kernel leaves in its three output buffers, written as one uniform block
  computation: the body is the same attention-block gradient for each of two residues and each of four
  query blocks, and the three lists of stores are read here as that one computation at eight places.
-/
module

public import proofs.«01_k».proof.Proof.Gen.KernelIdeal.Frame
public import Idealize.ShloMosaic.Lib.Pipeline.Value
public import Idealize.ShloMosaic.Lib.Tactic

@[expose] public section

noncomputable section

namespace Cert.KernelIdeal.Block

open Idealize.ShloMosaic Idealize.ShloMosaic.TcCoe Idealize.SL.Sem
open Cert.KernelIdeal Cert.KernelIdeal.Gen

variable {F : FTy → Type} [FloatOps F] [Named F]

/-- The lane mask of the first head. -/
abbrev mk0 : IVec S128x256 1 := k0_pay2
/-- The lane mask of the second head. -/
abbrev mk1 : IVec S128x256 1 := k0_pay6 k0_pay3 k0_pay4 k0_pay5
/-- The lane indices. -/
abbrev lanes : IVec S128x256 32 := iota .tc S128x256 32 [1] iota_S128x256_d1_w32
/-- The lane mask of the third head. -/
abbrev mk2 : IVec S128x256 1 := k0_pay7 lanes
/-- The lane mask of the fourth head. -/
abbrev mk3 : IVec S128x256 1 :=
  k0_pay10 lanes 64#32 (k0_pay8 lanes) (k0_pay9 lanes) (Scalar.extui (Scalar.cmpi .sgt 64#32 0#32))

/-- Rows `128 q … 128 q + 127` of residue `r`'s rows of a staged block. -/
abbrev rows {e : EltTy} (x : Vec F S2x512x256 e) (r : Fin 2) (q : Fin 4) : Vec F S1x128x256 e :=
  View.ld x (Rect.unit (s := S2x512x256) ![r.val, q.val * 128, 0] S1x128x256.size
    (by intro a; fin_cases a <;> simp [S1x128x256, S2x512x256] <;> omega))

/-- Residue `r`'s rows of the staged block that precedes the first one. -/
abbrev first {e : EltTy} (x : Vec F S2x128x256 e) (r : Fin 2) : Vec F S1x128x256 e :=
  View.ld x (Rect.unit (s := S2x128x256) ![r.val, 0, 0] S1x128x256.size
    (by intro a; fin_cases a <;> simp [S1x128x256, S2x128x256] <;> omega))

/-- The 128 rows before query block `q`. -/
def before {e : EltTy} (xp : Vec F S2x128x256 e) (x : Vec F S2x512x256 e) (r : Fin 2) : Fin 4 → Vec F S1x128x256 e
  | 0 => first xp r
  | 1 => rows x r 0
  | 2 => rows x r 1
  | 3 => rows x r 2

/-- The additive mask of query block `q`: the first block also hides the keys before the sequence. -/
def bias (w : BitVec 32) : Fin 4 → FVec F S512x256 .f32
  | 0 => k0_pay12 w
  | 1 => k0_pay11
  | 2 => k0_pay11
  | 3 => k0_pay11

/-- The 256 key rows seen by block `q`. -/
abbrev keys (x1 : Vec F S2x128x256 .bf16) (x2 : Vec F S2x512x256 .bf16) (r : Fin 2) (q : Fin 4) :
    FVec F S256x256 .bf16 :=
  k0_pay13 (before x1 x2 r q) (rows x2 r q)

/-- The stacked probabilities of block `q`. -/
abbrev prob (w : BitVec 32) (x0 : Vec F S2x512x256 .bf16) (x1 : Vec F S2x128x256 .bf16)
    (x2 : Vec F S2x512x256 .bf16) (x6 : Vec F S2x512x256 .f32) (r : Fin 2) (q : Fin 4) : FVec F S512x256 .f32 :=
  k0_pay16 mk0 mk1 mk2 mk3 (bias w q) (keys x1 x2 r q) (rows x0 r q) (rows x6 r q)

/-- The stacked products of the output's gradient with the value rows. -/
abbrev prodV (x3 : Vec F S2x128x256 .bf16) (x4 x5 : Vec F S2x512x256 .bf16) (r : Fin 2) (q : Fin 4) :
    FVec F S512x256 .f32 :=
  k0_pay17 mk0 mk1 mk2 mk3 (before x3 x4 r q) (rows x4 r q) (rows x5 r q)

/-- Block `q` of the query gradient. -/
def dq (w : BitVec 32) (x0 : Vec F S2x512x256 .bf16) (x1 : Vec F S2x128x256 .bf16)
    (x2 : Vec F S2x512x256 .bf16) (x3 : Vec F S2x128x256 .bf16) (x4 x5 : Vec F S2x512x256 .bf16)
    (x6 x7 : Vec F S2x512x256 .f32) (r : Fin 2) (q : Fin 4) : FVec F S1x128x256 .bf16 :=
  k0_pay20 mk0 mk1 mk2 mk3 (keys x1 x2 r q) (prob w x0 x1 x2 x6 r q) (prodV x3 x4 x5 r q)
    (k0_pay18 (rows x7 r q))

/-- Block `q`'s contribution to the gradient of its 256 key rows. -/
def dkPart (w : BitVec 32) (x0 : Vec F S2x512x256 .bf16) (x1 : Vec F S2x128x256 .bf16)
    (x2 : Vec F S2x512x256 .bf16) (x3 : Vec F S2x128x256 .bf16) (x4 x5 : Vec F S2x512x256 .bf16)
    (x6 x7 : Vec F S2x512x256 .f32) (r : Fin 2) (q : Fin 4) : FVec F S256x256 .f32 :=
  k0_pay21 (k0_pay14 mk0 mk1 mk2 mk3 (rows x0 r q)) (prob w x0 x1 x2 x6 r q) (prodV x3 x4 x5 r q)
    (k0_pay18 (rows x7 r q))

/-- Block `q`'s contribution to the gradient of its 256 value rows. -/
def dvPart (w : BitVec 32) (x0 : Vec F S2x512x256 .bf16) (x1 : Vec F S2x128x256 .bf16)
    (x2 x5 : Vec F S2x512x256 .bf16) (x6 : Vec F S2x512x256 .f32) (r : Fin 2) (q : Fin 4) : FVec F S256x256 .f32 :=
  k0_pay22 (k0_pay15 mk0 mk1 mk2 mk3 (rows x5 r q)) (prob w x0 x1 x2 x6 r q)

/-- A gradient block from the contributions of all query blocks: a block's own rows, and the rows the next
    block contributed to it. -/
def join (p : Fin 4 → FVec F S256x256 .f32) : Fin 4 → FVec F S1x128x256 .bf16
  | 0 => k0_pay55 (p 0) (p 1)
  | 1 => k0_pay55 (p 1) (p 2)
  | 2 => k0_pay55 (p 2) (p 3)
  | 3 => k0_pay58 (p 3)

/-- The stores of one output, last first. -/
def stores (f : Fin 2 → Fin 4 → FVec F S1x128x256 .bf16) : List (View.Piece (Elt F) S2x512x256 .bf16) :=
  [⟨Rect.unit (s := S2x512x256) ![1, 384, 0] S1x128x256.size inb_S2x512x256_S1x128x256_1_384_0, f 1 3⟩,
   ⟨Rect.unit (s := S2x512x256) ![1, 256, 0] S1x128x256.size inb_S2x512x256_S1x128x256_1_256_0, f 1 2⟩,
   ⟨Rect.unit (s := S2x512x256) ![1, 128, 0] S1x128x256.size inb_S2x512x256_S1x128x256_1_128_0, f 1 1⟩,
   ⟨Rect.unit (s := S2x512x256) ![1, 0, 0] S1x128x256.size inb_S2x512x256_S1x128x256_1_0_0, f 1 0⟩,
   ⟨Rect.unit (s := S2x512x256) ![0, 384, 0] S1x128x256.size inb_S2x512x256_S1x128x256_0_384_0, f 0 3⟩,
   ⟨Rect.unit (s := S2x512x256) ![0, 256, 0] S1x128x256.size inb_S2x512x256_S1x128x256_0_256_0, f 0 2⟩,
   ⟨Rect.unit (s := S2x512x256) ![0, 128, 0] S1x128x256.size inb_S2x512x256_S1x128x256_0_128_0, f 0 1⟩,
   ⟨Rect.unit (s := S2x512x256) ![0, 0, 0] S1x128x256.size inb_S2x512x256_S1x128x256_0_0_0, f 0 0⟩]

section

variable (c : Dev nD) (i : grid0.Coords) (arg2 : Memref sig .tc .vmem S2x512x256 .bf16) (harg2 : arg2.IsWhole) (arg3 : Memref sig .tc .vmem S2x128x256 .bf16) (harg3 : arg3.IsWhole) (arg4 : Memref sig .tc .vmem S2x512x256 .bf16) (harg4 : arg4.IsWhole) (arg5 : Memref sig .tc .vmem S2x128x256 .bf16) (harg5 : arg5.IsWhole) (arg6 : Memref sig .tc .vmem S2x512x256 .bf16) (harg6 : arg6.IsWhole) (arg7 : Memref sig .tc .vmem S2x512x256 .bf16) (harg7 : arg7.IsWhole) (arg8 : Memref sig .tc .vmem S2x512x256 .f32) (harg8 : arg8.IsWhole) (arg9 : Memref sig .tc .vmem S2x512x256 .f32) (harg9 : arg9.IsWhole) (arg10 : Memref sig .tc .vmem S2x512x256 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S512x256 .f32) (harg13 : arg13.IsWhole) (arg14 : Memref sig .tc .vmem S512x256 .f32) (harg14 : arg14.IsWhole)
    (x0 : Vec F S2x512x256 .bf16) (x1 : Vec F S2x128x256 .bf16) (x2 : Vec F S2x512x256 .bf16) (x3 : Vec F S2x128x256 .bf16) (x4 : Vec F S2x512x256 .bf16) (x5 : Vec F S2x512x256 .bf16) (x6 : Vec F S2x512x256 .f32) (x7 : Vec F S2x512x256 .f32)

/-- The query gradient's buffer after a grid point is the eight stores of the uniform block. -/
theorem out8_eq : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
    = View.canon (stores (dq (BitVec.ofNat 32 (i 1).val) x0 x1 x2 x3 x4 x5 x6 x7)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- The key gradient's buffer after a grid point is the eight stores of the uniform block. -/
theorem out9_eq : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
    = View.canon (stores (fun r => join (dkPart (BitVec.ofNat 32 (i 1).val) x0 x1 x2 x3 x4 x5 x6 x7 r))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

/-- The value gradient's buffer after a grid point is the eight stores of the uniform block. -/
theorem out10_eq : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
    = View.canon (stores (fun r => join (dvPart (BitVec.ofNat 32 (i 1).val) x0 x1 x2 x5 x6 r))) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

end

end Cert.KernelIdeal.Block

end
-- ==== Proof.BlockRead.lean ====
/-
  The uniform block of the kernel read at one element over the extended reals: its masked and stacked
  operands collapse, head by head, to plain sums over the 64 features of a head, the 256 keys of a window
  and the 128 queries of a block.
-/
module

public import proofs.«01_k».proof.Proof.Block
public import Idealize.ShloMosaic.PureOps.Ideal.Laws
public import Idealize.ShloMosaic.Lib.ValueIdx

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen

/-- Row `a` of head `h` in the four stacked copies. -/
abbrev stk (h : Fin 4) (a : Fin 128) : Fin 512 := ⟨h.val * 128 + a.val, by omega⟩
/-- Feature `d` of head `h` among the 256 lanes. -/
abbrev lane (h : Fin 4) (d : Fin 64) : Fin 256 := ⟨h.val * 64 + d.val, by omega⟩
/-- The head a lane belongs to. -/
abbrev headOf (l : Fin 256) : Fin 4 := ⟨l.val / 64, by omega⟩

/-- A sum over the stacked rows, head by head. -/
theorem sum_stk {M : Type*} [AddCommMonoid M] (f : Fin 512 → M) :
    ∑ R, f R = ∑ h : Fin 4, ∑ a : Fin 128, f (stk h a) := by
  rw [← Equiv.sum_comp (finProdFinEquiv (m := 4) (n := 128)) f, Fintype.sum_prod_type]
  refine Finset.sum_congr rfl fun h _ => Finset.sum_congr rfl fun a _ => congrArg f (Fin.ext ?_)
  simp [finProdFinEquiv]; omega

/-- A sum over the lanes, head by head. -/
theorem sum_lane {M : Type*} [AddCommMonoid M] (f : Fin 256 → M) :
    ∑ l, f l = ∑ h : Fin 4, ∑ d : Fin 64, f (lane h d) := by
  rw [← Equiv.sum_comp (finProdFinEquiv (m := 4) (n := 64)) f, Fintype.sum_prod_type]
  refine Finset.sum_congr rfl fun h _ => Finset.sum_congr rfl fun a _ => congrArg f (Fin.ext ?_)
  simp [finProdFinEquiv]; omega

/-- The four lane masks by head. -/
def mk : Fin 4 → IVec S128x256 1
  | 0 => mk0 | 1 => mk1 | 2 => mk2 | 3 => mk3

/-- A head's mask is set exactly on its lanes. -/
theorem mk_apply (h : Fin 4) (a : Fin 128) (l : Fin 256) :
    mk h (ix2 a l) = if headOf l = h then 1#1 else 0#1 := by
  have e : mk h (ix2 a l) = mk h (ix2 (0 : Fin 128) l) := by fin_cases h <;> rfl
  rw [e]; clear e a
  revert h l
  decide +kernel

/-- Four stacked blocks read at a row of one of them. -/
theorem cat4_apply {α : Type} {n : Nat} (x : Fin 4 → (⟨2, ![128, n]⟩ : Shape).Idx → α)
    (hc : Shape.Concatenates [(⟨2, ![128, n]⟩ : Shape), ⟨2, ![128, n]⟩, ⟨2, ![128, n]⟩, ⟨2, ![128, n]⟩] ⟨2, ![512, n]⟩ 0)
    (h : Fin 4) (a : Fin 128) (l : Fin n) :
    concatenate (⟨2, ![512, n]⟩ : Shape) 0 [⟨_, x 0⟩, ⟨_, x 1⟩, ⟨_, x 2⟩, ⟨_, x 3⟩] hc (ix2 (stk h a) l) = x h (ix2 a l) := by
  have key : ∀ (k : Nat) (hk : k < 4) (y : (⟨2, ![128, n]⟩ : Shape).Idx → α)
      (hy : ([⟨_, x 0⟩, ⟨_, x 1⟩, ⟨_, x 2⟩, ⟨_, x 3⟩] : List ((s : Shape) × (s.Idx → α)))[k] = ⟨_, y⟩)
      (hp : ((([⟨_, x 0⟩, ⟨_, x 1⟩, ⟨_, x 2⟩, ⟨_, x 3⟩] : List ((s : Shape) × (s.Idx → α))).take k).map (·.1) |>.map
        fun s => if h : s.rank = 2 then s.size ((0 : Fin 2).cast h.symm) else 0).sum = k * 128)
      (hh : h.val = k),
      concatenate (⟨2, ![512, n]⟩ : Shape) 0 [⟨_, x 0⟩, ⟨_, x 1⟩, ⟨_, x 2⟩, ⟨_, x 3⟩] hc (ix2 (stk h a) l) = y (ix2 a l) := by
    intro k hk y hy hp hh
    refine concatenate_apply_piece (t := ⟨2, ![512, n]⟩) 0 [⟨_, x 0⟩, ⟨_, x 1⟩, ⟨_, x 2⟩, ⟨_, x 3⟩] hc (ix2 (stk h a) l) k hk ⟨2, ![128, n]⟩ y hy rfl (k * 128) hp (ix2 a l) ?_ ?_
    · intro b hb
      match b with
      | ⟨0, _⟩ => exact absurd rfl hb
      | ⟨1, _⟩ => rfl
    · show k * 128 + a.val = h.val * 128 + a.val
      rw [hh]
  fin_cases h
  · exact key 0 (by omega) _ rfl rfl rfl
  · exact key 1 (by omega) _ rfl rfl rfl
  · exact key 2 (by omega) _ rfl rfl rfl
  · exact key 3 (by omega) _ rfl rfl rfl

/-- A block without its leading unit axis. -/
theorem drop_apply {α : Type} (x : S1x128x256.Idx → α) (a : Fin 128) (l : Fin 256) :
    shapeCast S128x256 x shapeCasts_S1x128x256_S128x256 (ix2 a l) = x (ix3 (0 : Fin 1) a l) :=
  shapeCast_apply x _ _ _ (by
    rw [Shape.rowMajor_val_three, Shape.rowMajor_val_two]; show (0 * 128 + a.val) * 256 + l.val = a.val * 256 + l.val; omega)

/-- A block with a leading unit axis put on. -/
theorem lift_apply {α : Type} (x : S128x256.Idx → α) (a : Fin 128) (l : Fin 256) :
    shapeCast S1x128x256 x shapeCasts_S128x256_S1x128x256 (ix3 (0 : Fin 1) a l) = x (ix2 a l) :=
  shapeCast_apply x _ _ _ (by
    rw [Shape.rowMajor_val_three, Shape.rowMajor_val_two]; show a.val * 256 + l.val = (0 * 128 + a.val) * 256 + l.val; omega)

/-- The masked stack of a block: head `h`'s copy keeps head `h`'s lanes. -/
theorem stack_apply (x : Vec Ideal S1x128x256 .bf16) (h : Fin 4) (a : Fin 128) (l : Fin 256) :
    k0_pay14 (F := Ideal) mk0 mk1 mk2 mk3 x (ix2 (stk h a) l)
      = if headOf l = h then (x (ix3 (0 : Fin 1) a l) : EReal) else 0 := by
  have := cat4_apply (fun h => select (mk h) (shapeCast S128x256 x shapeCasts_S1x128x256_S128x256)
    (broadcast S128x256 (Scalar.ofBits (F := Ideal) .bf16 0x0000#16)))
    concatenates_S128x256_S128x256_S128x256_S128x256_S512x256_d0 h a l
  refine Eq.trans this ?_
  have hz : Scalar.ofBits (F := Ideal) .bf16 0x0000#16 = (0 : EReal) := by
    show Ideal.ofBits .bf16 0x0000#16 = 0
    simp [Ideal.ofBits, Ideal.ieee]
  show Scalar.select (mk h (ix2 a l)) (shapeCast S128x256 x shapeCasts_S1x128x256_S128x256 (ix2 a l)) (Scalar.ofBits (F := Ideal) .bf16 0x0000#16) = _
  rw [mk_apply, drop_apply, hz]
  split <;> rfl

/-- Two stacked blocks of rows read at a row. -/
theorem keys_apply (x y : Vec Ideal S1x128x256 .bf16) (j l : Fin 256) :
    k0_pay13 (F := Ideal) x y (ix2 j l)
      = if h : j.val < 128 then x (ix3 (0 : Fin 1) ⟨j.val, h⟩ l) else y (ix3 (0 : Fin 1) ⟨j.val - 128, by omega⟩ l) := by
  split
  · rename_i h
    refine (concatenate_pair_apply_left (t := S256x256) 0 _ _ concatenates_S128x256_S128x256_S256x256_d0 (ix2 j l) rfl (ix2 (⟨j.val, h⟩ : Fin 128) l) ?_).trans (drop_apply x _ _)
    intro b; match b with | ⟨0, _⟩ => rfl | ⟨1, _⟩ => rfl
  · rename_i h
    refine (concatenate_pair_apply_right (t := S256x256) 0 _ _ concatenates_S128x256_S128x256_S256x256_d0 (ix2 j l) rfl rfl (ix2 (⟨j.val - 128, by omega⟩ : Fin 128) l) ?_ ?_).trans (drop_apply y _ _)
    · intro b hb; match b with | ⟨0, _⟩ => exact absurd rfl hb | ⟨1, _⟩ => rfl
    · show j.val - 128 + 128 = j.val; omega

/-- A product of rows with rows over the lanes. -/
theorem dotNT_apply (x : FVec Ideal S512x256 .bf16) (y : FVec Ideal S256x256 .bf16) (R : Fin 512) (j : Fin 256) :
    FloatOps.matmul dot_S512x256_S256x256_S512x256_1_1_0_0_n_n none x y (constant S512x256 .f32 0x00000000#32) (ix2 R j)
      = ∑ l : Fin 256, (x (ix2 R l) : EReal) * y (ix2 j l) := by
  rw [Ideal.matmul_constant_zero_apply, ← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 R j) ((contrEquiv1 dot_S512x256_S256x256_S512x256_1_1_0_0_n_n 256 rfl rfl).symm k) = ix2 R k :=
    funext fun a => Fin.ext (by match a with | ⟨0, _⟩ => rfl | ⟨1, _⟩ => exact hk)
  have er : dot_S512x256_S256x256_S512x256_1_1_0_0_n_n.rhsIdx (ix2 R j) ((contrEquiv1 dot_S512x256_S256x256_S512x256_1_1_0_0_n_n 256 rfl rfl).symm k) = ix2 j k :=
    funext fun a => Fin.ext (by match a with | ⟨0, _⟩ => rfl | ⟨1, _⟩ => exact hk)
  rw [el, er]

/-- A product over the keys. -/
theorem dotNN_apply (x : FVec Ideal S128x256 .bf16) (y : FVec Ideal S256x256 .bf16) (a : Fin 128) (l : Fin 256) :
    FloatOps.matmul dot_S128x256_S256x256_S128x256_1_0_0_1_n_n none x y (constant S128x256 .f32 0x00000000#32) (ix2 a l)
      = ∑ j : Fin 256, (x (ix2 a j) : EReal) * y (ix2 j l) := by
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 a l) ((contrEquiv1 dot_S128x256_S256x256_S128x256_1_0_0_1_n_n 256 rfl rfl).symm k) = ix2 a k :=
    funext fun b => Fin.ext (by match b with | ⟨0, _⟩ => rfl | ⟨1, _⟩ => exact hk)
  have er : dot_S128x256_S256x256_S128x256_1_0_0_1_n_n.rhsIdx (ix2 a l) ((contrEquiv1 dot_S128x256_S256x256_S128x256_1_0_0_1_n_n 256 rfl rfl).symm k) = ix2 k l :=
    funext fun b => Fin.ext (by match b with | ⟨0, _⟩ => exact hk | ⟨1, _⟩ => rfl)
  rw [el, er]

/-- A product over the stacked rows. -/
theorem dotTN_apply (x y : FVec Ideal S512x256 .bf16) (j l : Fin 256) :
    FloatOps.matmul dot_S512x256_S512x256_S256x256_0_0_1_1_n_n none x y (constant S256x256 .f32 0x00000000#32) (ix2 j l)
      = ∑ h : Fin 4, ∑ a : Fin 128, (x (ix2 (stk h a) j) : EReal) * y (ix2 (stk h a) l) := by
  rw [Ideal.matmul_constant_zero_apply, ← Equiv.sum_comp (contrEquiv1 dot_S512x256_S512x256_S256x256_0_0_1_1_n_n 512 rfl rfl).symm, ← sum_stk (fun R => (x (ix2 R j) : EReal) * y (ix2 R l))]
  refine Finset.sum_congr rfl fun k _ => ?_
  have hk := contrEquiv1_symm_val dot_S512x256_S512x256_S256x256_0_0_1_1_n_n 512 rfl rfl k
  have el : dot_S512x256_S512x256_S256x256_0_0_1_1_n_n.lhsIdx (ix2 j l) ((contrEquiv1 dot_S512x256_S512x256_S256x256_0_0_1_1_n_n 512 rfl rfl).symm k) = ix2 k j :=
    funext fun b => Fin.ext (by match b with | ⟨0, _⟩ => exact hk | ⟨1, _⟩ => rfl)
  have er : dot_S512x256_S512x256_S256x256_0_0_1_1_n_n.rhsIdx (ix2 j l) ((contrEquiv1 dot_S512x256_S512x256_S256x256_0_0_1_1_n_n 512 rfl rfl).symm k) = ix2 k l :=
    funext fun b => Fin.ext (by match b with | ⟨0, _⟩ => exact hk | ⟨1, _⟩ => rfl)
  rw [el, er]

/-- A stacked masked block against key rows: the sum over one head's features. -/
theorem stackDot_apply (x : Vec Ideal S1x128x256 .bf16) (y : FVec Ideal S256x256 .bf16) (h : Fin 4) (a : Fin 128) (j : Fin 256) :
    FloatOps.matmul dot_S512x256_S256x256_S512x256_1_1_0_0_n_n none (k0_pay14 (F := Ideal) mk0 mk1 mk2 mk3 x) y
        (constant S512x256 .f32 0x00000000#32) (ix2 (stk h a) j)
      = ∑ d : Fin 64, (x (ix3 (0 : Fin 1) a (lane h d)) : EReal) * y (ix2 j (lane h d)) := by
  rw [dotNT_apply, sum_lane, Finset.sum_eq_single h]
  · refine Finset.sum_congr rfl fun d _ => ?_
    have e : headOf (lane h d) = h := Fin.ext (by show (h.val * 64 + d.val) / 64 = h.val; omega)
    rw [stack_apply, if_pos e]
  · intro g _ hg
    refine Finset.sum_eq_zero fun d _ => ?_
    have e : headOf (lane g d) = g := Fin.ext (by show (g.val * 64 + d.val) / 64 = g.val; omega)
    rw [stack_apply, e, if_neg hg, zero_mul]
  · intro hh; exact absurd (Finset.mem_univ h) hh

/-- Column `64 h` of a block, stacked by head and spread over the keys. -/
theorem col_apply (x : Vec Ideal S1x128x256 .f32) (h : Fin 4) (a : Fin 128) (j : Fin 256) :
    k0_pay18 (F := Ideal) x (ix2 (stk h a) j) = x (ix3 (0 : Fin 1) a (lane h 0)) := by
  unfold k0_pay18
  refine (broadcastTo_apply _ broadcasts_S512x1_S512x256 (ix2 (stk h a) j) (ix2 (stk h a) (0 : Fin 1)) ?_).trans ?_
  · intro b; match b with | ⟨0, _⟩ => rfl | ⟨1, _⟩ => rfl
  have key : ∀ (o : Nat) (ho : o + 1 ≤ 256) (hs : S128x256.Slices ![0, o] S128x1),
      extractStridedSlice S128x1 ![0, o] (shapeCast S128x256 x shapeCasts_S1x128x256_S128x256) hs (ix2 a (0 : Fin 1))
        = x (ix3 (0 : Fin 1) a (⟨o, by omega⟩ : Fin 256)) := by
    intro o ho hs
    refine (extractStridedSlice_apply _ _ hs (ix2 a (0 : Fin 1)) (ix2 a (⟨o, by omega⟩ : Fin 256)) ?_).trans (drop_apply x _ _)
    intro b; match b with | ⟨0, _⟩ => (show a.val = 0 + a.val; omega) | ⟨1, _⟩ => rfl
  refine (cat4_apply (n := 1) (fun h => match h with
    | 0 => extractStridedSlice S128x1 ![0, 0] (shapeCast S128x256 x shapeCasts_S1x128x256_S128x256) slices_S128x256_o0_0_S128x1
    | 1 => extractStridedSlice S128x1 ![0, 64] (shapeCast S128x256 x shapeCasts_S1x128x256_S128x256) slices_S128x256_o0_64_S128x1
    | 2 => extractStridedSlice S128x1 ![0, 128] (shapeCast S128x256 x shapeCasts_S1x128x256_S128x256) slices_S128x256_o0_128_S128x1
    | 3 => extractStridedSlice S128x1 ![0, 192] (shapeCast S128x256 x shapeCasts_S1x128x256_S128x256) slices_S128x256_o0_192_S128x1)
    concatenates_S128x1_S128x1_S128x1_S128x1_S512x1_d0 h a 0).trans ?_
  fin_cases h <;> exact key _ (by omega) _

end Cert.KernelIdeal.Block

end
-- ==== Proof.Attn.lean ====
/-
  The mathematics of windowed attention's gradient on one residue and one head, over the reals: scores,
  masked softmax, the gradient of the scores, and the identities that turn the reference's differentiated
  softmax and the kernel's recomputed probabilities into one formula.
-/
module

public import Mathlib.Analysis.SpecialFunctions.Log.Basic
public import Mathlib.Data.EReal.Operations
public import Mathlib.Algebra.BigOperators.Field

@[expose] public section

noncomputable section

open scoped BigOperators

namespace Cert.Attn

/-- A sum of reals read as extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Query `a` of block `n` sees key `j` of the window made of the block before and the block itself. -/
def Sees (n : Fin 4) (a : Fin 128) (j : Fin 256) : Prop :=
  a.val ≤ j.val ∧ j.val ≤ a.val + 128 ∧ (n.val = 0 → 128 ≤ j.val)

instance (n : Fin 4) (a : Fin 128) (j : Fin 256) : Decidable (Sees n a j) := by unfold Sees; infer_instance

/-- A query sees its own key. -/
theorem sees_self (n : Fin 4) (a : Fin 128) : Sees n a ⟨a.val + 128, by omega⟩ :=
  ⟨by simp, by simp, fun _ => by simp⟩

/-- The rows of a window: the block before (nothing before the first), then the block itself. -/
def win (K : Fin 4 → Fin 128 → Fin 64 → ℝ) (n : Fin 4) (j : Fin 256) (d : Fin 64) : ℝ :=
  if h : j.val < 128 then (if n.val = 0 then 0 else K ⟨n.val - 1, by omega⟩ ⟨j.val, h⟩ d)
  else K n ⟨j.val - 128, by omega⟩ d

/-- The scaled score of a query against a key of its window. -/
def score (Q K : Fin 4 → Fin 128 → Fin 64 → ℝ) (n : Fin 4) (a : Fin 128) (j : Fin 256) : ℝ :=
  (1 / 8) * ∑ d, Q n a d * win K n j d

/-! ## One row -/

section Row
variable (s : Fin 256 → ℝ) (v : Fin 256 → Prop) [DecidablePred v]

/-- The unnormalised weight of a key, against a shift `M`. -/
def wt (M : ℝ) (j : Fin 256) : ℝ := if v j then Real.exp (s j - M) else 0

/-- The sum of a row's weights. -/
def tot (M : ℝ) : ℝ := ∑ j, wt s v M j

/-- The probability of a key: the shift does not matter, so it is taken to be zero. -/
def prob (j : Fin 256) : ℝ := wt s v 0 j / tot s v 0

variable {v}

/-- No weight is negative. -/
theorem wt_nonneg (M : ℝ) (j : Fin 256) : 0 ≤ wt s v M j := by
  unfold wt; split
  · exact (Real.exp_pos _).le
  · exact le_refl _

/-- The weights of a query that sees some key have a positive sum. -/
theorem tot_pos (hv : ∃ j, v j) (M : ℝ) : 0 < tot s v M := by
  obtain ⟨j, hj⟩ := hv
  refine Finset.sum_pos' (fun i _ => wt_nonneg s M i) ⟨j, Finset.mem_univ j, ?_⟩
  unfold wt; rw [if_pos hj]; exact Real.exp_pos _

/-- Shifting the scores multiplies every weight by the same factor. -/
theorem wt_shift (M : ℝ) (j : Fin 256) : wt s v M j = Real.exp (-M) * wt s v 0 j := by
  unfold wt
  split
  · rw [← Real.exp_add]; congr 1; ring
  · rw [mul_zero]

/-- A shift takes one factor out of the weights' sum. -/
theorem tot_shift (M : ℝ) : tot s v M = Real.exp (-M) * tot s v 0 := by
  unfold tot; rw [Finset.mul_sum]; exact Finset.sum_congr rfl fun j _ => wt_shift s M j

/-- A softmax against any shift is the probability. -/
theorem wt_div_tot (M : ℝ) (j : Fin 256) : wt s v M j / tot s v M = prob s v j := by
  rw [wt_shift s M j, tot_shift s M, prob, mul_div_mul_left _ _ (Real.exp_pos _).ne']

/-- The exponential of a score less the log of the weights' sum is the probability. -/
theorem exp_sub_lse (hv : ∃ j, v j) (M : ℝ) (j : Fin 256) :
    (if v j then Real.exp (s j - (M + Real.log (tot s v M))) else 0) = prob s v j := by
  rw [← wt_div_tot s M j]
  unfold wt
  split
  · rw [← sub_sub, Real.exp_sub, Real.exp_log (tot_pos s hv M)]
  · rw [zero_div]

/-- A key that is not seen has no probability. -/
theorem prob_of_not (j : Fin 256) (h : ¬ v j) : prob s v j = 0 := by
  unfold prob wt; rw [if_neg h, zero_div]

/-- The probabilities of a query add up to one. -/
theorem sum_prob (hv : ∃ j, v j) : ∑ j, prob s v j = 1 := by
  unfold prob; rw [← Finset.sum_div]; exact div_self (tot_pos s hv 0).ne'

/-- The gradient of the scores, from the products `p` of the output's gradient with the values and the
    gradient `g` of the row's log-sum. -/
def dscore (v : Fin 256 → Prop) [DecidablePred v] (p : Fin 256 → ℝ) (g : ℝ) (j : Fin 256) : ℝ :=
  prob s v j * (p j - (∑ i, prob s v i * p i - g))

/-- No gradient flows into the score of a key that is not seen. -/
theorem dscore_of_not (p : Fin 256 → ℝ) (g : ℝ) (j : Fin 256) (h : ¬ v j) : dscore s v p g j = 0 := by
  unfold dscore; rw [prob_of_not s j h, zero_mul]

/-- The differentiated softmax: what flows back into a score through the quotient, the sum and the logarithm. -/
theorem dscore_eq (hv : ∃ j, v j) (p : Fin 256 → ℝ) (g M : ℝ) (j : Fin 256) :
    (p j / tot s v M + (g / tot s v M + -∑ i, p i * (1 / (tot s v M * tot s v M)) * wt s v M i)) * wt s v M j
      = dscore s v p g j := by
  have hL := (tot_pos s hv M).ne'
  have e1 : ∑ i, p i * (1 / (tot s v M * tot s v M)) * wt s v M i = (∑ i, prob s v i * p i) / tot s v M := by
    rw [Finset.sum_div]
    refine Finset.sum_congr rfl fun i _ => ?_
    rw [← wt_div_tot s M i]; field_simp
  rw [e1, dscore, ← wt_div_tot s M j]
  field_simp
  ring

/-- Nothing flows back into the row's maximum. -/
theorem add_sum_neg_dscore (hv : ∃ j, v j) (p : Fin 256 → ℝ) (g : ℝ) :
    g + ∑ j, -dscore s v p g j = 0 := by
  have e : ∑ j, dscore s v p g j = g := by
    have : ∀ j, dscore s v p g j = prob s v j * p j - prob s v j * (∑ i, prob s v i * p i - g) := fun j => by
      unfold dscore; ring
    rw [Finset.sum_congr rfl fun j _ => this j, Finset.sum_sub_distrib, ← Finset.sum_mul, sum_prob s hv]
    ring
  rw [Finset.sum_neg_distrib, e]; ring

end Row

/-! ## The gradients of one residue and head -/

section Grad
variable (Q K V G : Fin 4 → Fin 128 → Fin 64 → ℝ) (D : Fin 4 → Fin 128 → ℝ)

/-- The probabilities of a query. -/
def P (n : Fin 4) (a : Fin 128) (j : Fin 256) : ℝ := prob (score Q K n a) (Sees n a) j

/-- The output's gradient against a value row. -/
def gv (n : Fin 4) (a : Fin 128) (j : Fin 256) : ℝ := ∑ d, G n a d * win V n j d

/-- The gradient of a score. -/
def dS (n : Fin 4) (a : Fin 128) (j : Fin 256) : ℝ :=
  dscore (score Q K n a) (Sees n a) (gv V G n a) (D n a) j

/-- The gradient of the scaled query. -/
def gradQ (n : Fin 4) (a : Fin 128) (d : Fin 64) : ℝ := ∑ j, dS Q K V G D n a j * win K n j d

/-- A block's contribution to the gradient of its window's keys. -/
def partK (n : Fin 4) (j : Fin 256) (d : Fin 64) : ℝ := ∑ a, dS Q K V G D n a j * (1 / 8 * Q n a d)

/-- A block's contribution to the gradient of its window's values. -/
def partV (n : Fin 4) (j : Fin 256) (d : Fin 64) : ℝ := ∑ a, P Q K n a j * G n a d

/-- A row's gradient: its own block's contribution and the next block's. -/
def collect (p : Fin 4 → Fin 256 → Fin 64 → ℝ) (n : Fin 4) (b : Fin 128) (d : Fin 64) : ℝ :=
  p n ⟨b.val + 128, by omega⟩ d + (if h : n.val < 3 then p ⟨n.val + 1, by omega⟩ ⟨b.val, by omega⟩ d else 0)

/-- Every query sees some key: its own. -/
theorem exists_sees (n : Fin 4) (a : Fin 128) : ∃ j, Sees n a j := ⟨_, sees_self n a⟩

end Grad

end Cert.Attn

end
-- ==== Proof.BlockGrad.lean ====
/-
  The kernel's block on real inputs: when the staged blocks hold real queries, keys, values, output
  gradients, log-sums and row corrections, the block's outputs are the gradients of windowed attention.
-/
module

public import proofs.«01_k».proof.Proof.BlockRead
public import proofs.«01_k».proof.Proof.Attn
public import Idealize.ShloMosaic.PureOps.IdealRules

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen Cert.Attn

/-- A small natural number as a signed word. -/
theorem toInt_small (m : Nat) (h : m < 2 ^ 31) : (BitVec.ofNat 32 m).toInt = (m : Int) := by
  have e : (BitVec.ofNat 32 m).toNat = m := by rw [BitVec.toNat_ofNat]; omega
  rw [BitVec.toInt_eq_toNat_of_lt (by rw [e]; omega), e]

/-- Small words compare as their numbers. -/
theorem sle_small (m n : Nat) (hm : m < 2 ^ 31) (hn : n < 2 ^ 31) :
    (BitVec.ofNat 32 m).sle (BitVec.ofNat 32 n) = decide (m ≤ n) := by
  simp only [BitVec.sle, toInt_small m hm, toInt_small n hn]
  exact decide_eq_decide.mpr (by omega)

/-- Small words compare as the numbers they are. -/
theorem slt_small (m n : Nat) (hm : m < 2 ^ 31) (hn : n < 2 ^ 31) :
    (BitVec.ofNat 32 m).slt (BitVec.ofNat 32 n) = decide (m < n) := by
  simp only [BitVec.slt, toInt_small m hm, toInt_small n hn]
  exact decide_eq_decide.mpr (by omega)

/-- The additive mask of an inner block: zero inside the band of visible keys. -/
theorem inner_apply (h : Fin 4) (a : Fin 128) (j : Fin 256) :
    k0_pay11 (F := Ideal) (ix2 (stk h a) j) = if a.val ≤ j.val ∧ j.val ≤ a.val + 128 then (0 : EReal) else ⊥ := by
  have hw : BitVec.ofNat 32 (h.val * 128 + a.val) &&& 127#32 = BitVec.ofNat 32 a.val := by
    apply BitVec.eq_of_toNat_eq
    rw [BitVec.toNat_and, BitVec.toNat_ofNat, BitVec.toNat_ofNat, BitVec.toNat_ofNat]
    have : (127 % 2 ^ 32 : Nat) = 2 ^ 7 - 1 := by norm_num
    rw [this, Nat.and_two_pow_sub_one_eq_mod]
    omega
  have hm : Named.named (F := Ideal) κ "mask" (φ := .f32) 0xF149F2CA#32 = (⊥ : EReal) :=
    IdealRules.named_const.ideal_named_scalar _ _ _ _ rfl
  have h0 : Scalar.ofBits (F := Ideal) .f32 0x00000000#32 = (0 : EReal) := Ideal.ofBits_zero_f32
  have i0 : iota .tc S512x256 32 [0] iota_S512x256_d0_w32 (ix2 (stk h a) j) = BitVec.ofNat 32 (h.val * 128 + a.val) :=
    iota_single_apply _ _ _ _ _ _
  have i1 : iota .tc S512x256 32 [1] iota_S512x256_d1_w32 (ix2 (stk h a) j) = BitVec.ofNat 32 j.val :=
    iota_single_apply _ _ _ _ _ _
  show Scalar.select (IntOp.andi (IntOp.cmpi .sge (iota .tc S512x256 32 [1] iota_S512x256_d1_w32 (ix2 (stk h a) j))
        (iota .tc S512x256 32 [0] iota_S512x256_d0_w32 (ix2 (stk h a) j) &&& 127#32))
      (IntOp.cmpi .sle (iota .tc S512x256 32 [1] iota_S512x256_d1_w32 (ix2 (stk h a) j))
        ((iota .tc S512x256 32 [0] iota_S512x256_d0_w32 (ix2 (stk h a) j) &&& 127#32) + BitVec.ofNat 32 128)))
      (Scalar.ofBits (F := Ideal) .f32 0x00000000#32) (Named.named (F := Ideal) κ "mask" (φ := .f32) 0xF149F2CA#32) = _
  rw [i0, i1, hw, hm, h0, ← BitVec.ofNat_add]
  simp only [IntOp.cmpi, sle_small a.val j.val (by omega) (by omega), sle_small j.val (a.val + 128) (by omega) (by omega)]
  by_cases h1 : a.val ≤ j.val <;> by_cases h2 : j.val ≤ a.val + 128 <;> simp [h1, h2, IntOp.andi, Scalar.select]

/-- The additive mask of query block `q`: zero on the keys it sees. -/
theorem bias_apply (q h : Fin 4) (a : Fin 128) (j : Fin 256) :
    bias (F := Ideal) 0#32 q (ix2 (stk h a) j) = if Sees q a j then (0 : EReal) else ⊥ := by
  have inner : ∀ q : Fin 4, q.val ≠ 0 → k0_pay11 (F := Ideal) (ix2 (stk h a) j) = if Sees q a j then (0 : EReal) else ⊥ := by
    intro q hq
    rw [inner_apply]
    exact if_congr (by unfold Sees; constructor <;> intro H <;> refine ⟨H.1, ?_⟩ <;> first | exact ⟨H.2, fun e => absurd e hq⟩ | exact H.2.1) rfl rfl
  fin_cases q
  · have hm : Named.named (F := Ideal) κ "mask" (φ := .f32) 0xF149F2CA#32 = (⊥ : EReal) :=
      IdealRules.named_const.ideal_named_scalar _ _ _ _ rfl
    have i1 : iota .tc S512x256 32 [1] iota_S512x256_d1_w32 (ix2 (stk h a) j) = BitVec.ofNat 32 j.val :=
      iota_single_apply _ _ _ _ _ _
    show Scalar.select (IntOp.andi (IntOp.cmpi .slt (iota .tc S512x256 32 [1] iota_S512x256_d1_w32 (ix2 (stk h a) j))
        (BitVec.ofNat 32 128)) (Scalar.cmpi .eq (0#32) 0#32))
      (Named.named (F := Ideal) κ "mask" (φ := .f32) 0xF149F2CA#32) (k0_pay11 (F := Ideal) (ix2 (stk h a) j))
      = if Sees 0 a j then (0 : EReal) else ⊥
    rw [i1, hm, inner_apply]
    simp only [IntOp.cmpi, Scalar.cmpi, slt_small j.val 128 (by omega) (by omega)]
    by_cases h3 : j.val < 128
    · have : ¬ Sees 0 a j := fun H => absurd (H.2.2 rfl) (by omega)
      simp [h3, IntOp.andi, Scalar.select, this]
    · have : Sees 0 a j ↔ (a.val ≤ j.val ∧ j.val ≤ a.val + 128) := by
        unfold Sees; constructor
        · intro H; exact ⟨H.1, H.2.1⟩
        · intro H; exact ⟨H.1, H.2, fun _ => by omega⟩
      simp [h3, IntOp.andi, Scalar.select, this]
  · exact inner 1 (by decide)
  · exact inner 2 (by decide)
  · exact inner 3 (by decide)

/-- The window of rows the kernel stages: like `win`, with some staged rows `K1` before the first block. -/
def winK (K : Fin 4 → Fin 128 → Fin 64 → ℝ) (K1 : Fin 128 → Fin 64 → ℝ) (n : Fin 4) (j : Fin 256) (d : Fin 64) : ℝ :=
  if h : j.val < 128 then (if n.val = 0 then K1 ⟨j.val, h⟩ d else K ⟨n.val - 1, by omega⟩ ⟨j.val, h⟩ d)
  else K n ⟨j.val - 128, by omega⟩ d

/-- On a key that is seen the staged window is the window. -/
theorem winK_eq (K : Fin 4 → Fin 128 → Fin 64 → ℝ) (K1 : Fin 128 → Fin 64 → ℝ) (n : Fin 4) (a : Fin 128) (j : Fin 256)
    (d : Fin 64) (h : Sees n a j) : winK K K1 n j d = win K n j d := by
  unfold winK win
  split
  · rename_i hj
    have : n.val ≠ 0 := fun e => absurd (h.2.2 e) (by omega)
    rw [if_neg this, if_neg this]
  · rfl

/-- A row of the staged rows. -/
theorem rows_apply {e : EltTy} (x : Vec Ideal S2x512x256 e) (r : Fin 2) (q : Fin 4) (a : Fin 128) (l : Fin 256) :
    rows x r q (ix3 (0 : Fin 1) a l) = x (ix3 r (⟨q.val * 128 + a.val, by omega⟩ : Fin 512) l) :=
  congrArg x (funext fun b => Fin.ext (by
    match b with
    | ⟨0, _⟩ => show r.val + 1 * 0 = r.val; omega
    | ⟨1, _⟩ => show q.val * 128 + 1 * a.val = q.val * 128 + a.val; omega
    | ⟨2, _⟩ => show 0 + 1 * l.val = l.val; omega))

/-- The one block of an array read before its first block, as the body reads it. -/
theorem first_apply {e : EltTy} (x : Vec Ideal S2x128x256 e) (r : Fin 2) (a : Fin 128) (l : Fin 256) :
    first x r (ix3 (0 : Fin 1) a l) = x (ix3 r a l) :=
  congrArg x (funext fun b => Fin.ext (by
    match b with
    | ⟨0, _⟩ => show r.val + 1 * 0 = r.val; omega
    | ⟨1, _⟩ => show 0 + 1 * a.val = a.val; omega
    | ⟨2, _⟩ => show 0 + 1 * l.val = l.val; omega))

/-- The staged windows hold the window rows. -/
theorem window_apply (x1 : Vec Ideal S2x128x256 .bf16) (x2 : Vec Ideal S2x512x256 .bf16) (r : Fin 2)
    (K : Fin 4 → Fin 4 → Fin 128 → Fin 64 → ℝ) (K1 : Fin 4 → Fin 128 → Fin 64 → ℝ)
    (h1 : ∀ h a d, x1 (ix3 r a (lane h d)) = (K1 h a d : EReal))
    (h2 : ∀ h (q : Fin 4) (a : Fin 128) d, x2 (ix3 r (⟨q.val * 128 + a.val, by omega⟩ : Fin 512) (lane h d)) = (K h q a d : EReal))
    (q h : Fin 4) (j : Fin 256) (d : Fin 64) :
    keys (F := Ideal) x1 x2 r q (ix2 j (lane h d)) = (winK (K h) (K1 h) q j d : EReal) := by
  refine (keys_apply _ _ j (lane h d)).trans ?_
  unfold winK
  by_cases hj : j.val < 128
  · rw [dif_pos hj, dif_pos hj]
    fin_cases q
    · exact (first_apply x1 r _ _).trans (h1 _ _ _)
    · exact (rows_apply x2 r 0 _ _).trans (h2 _ _ _ _)
    · exact (rows_apply x2 r 1 _ _).trans (h2 _ _ _ _)
    · exact (rows_apply x2 r 2 _ _).trans (h2 _ _ _ _)
  · rw [dif_neg hj, dif_neg hj]
    exact (rows_apply x2 r q _ _).trans (h2 _ _ _ _)

/-- The product of a block of rows with the staged window, on reals. -/
theorem dot_apply (x : Vec Ideal S2x512x256 .bf16) (x1 : Vec Ideal S2x128x256 .bf16) (x2 : Vec Ideal S2x512x256 .bf16) (r : Fin 2)
    (A K : Fin 4 → Fin 4 → Fin 128 → Fin 64 → ℝ) (K1 : Fin 4 → Fin 128 → Fin 64 → ℝ)
    (h0 : ∀ h (q : Fin 4) (a : Fin 128) d, x (ix3 r (⟨q.val * 128 + a.val, by omega⟩ : Fin 512) (lane h d)) = (A h q a d : EReal))
    (h1 : ∀ h a d, x1 (ix3 r a (lane h d)) = (K1 h a d : EReal))
    (h2 : ∀ h (q : Fin 4) (a : Fin 128) d, x2 (ix3 r (⟨q.val * 128 + a.val, by omega⟩ : Fin 512) (lane h d)) = (K h q a d : EReal))
    (q h : Fin 4) (a : Fin 128) (j : Fin 256) :
    FloatOps.matmul dot_S512x256_S256x256_S512x256_1_1_0_0_n_n none (k0_pay14 (F := Ideal) mk0 mk1 mk2 mk3 (rows x r q))
        (keys (F := Ideal) x1 x2 r q) (constant S512x256 .f32 0x00000000#32) (ix2 (stk h a) j)
      = ((∑ d, A h q a d * winK (K h) (K1 h) q j d : ℝ) : EReal) := by
  rw [stackDot_apply, coe_sum]
  refine Finset.sum_congr rfl fun d _ => ?_
  rw [rows_apply, h0, window_apply x1 x2 r K K1 h1 h2, EReal.coe_mul]

section Real

variable (x0 : Vec Ideal S2x512x256 .bf16) (x1 : Vec Ideal S2x128x256 .bf16) (x2 : Vec Ideal S2x512x256 .bf16)
  (x3 : Vec Ideal S2x128x256 .bf16) (x4 x5 : Vec Ideal S2x512x256 .bf16) (x6 x7 : Vec Ideal S2x512x256 .f32) (r : Fin 2)
  (Q K V G : Fin 4 → Fin 4 → Fin 128 → Fin 64 → ℝ) (K1 V1 : Fin 4 → Fin 128 → Fin 64 → ℝ) (D M : Fin 4 → Fin 4 → Fin 128 → ℝ)

/-- The staged blocks of residue `r` hold the real arrays: the scaled queries, the keys and values with some
    rows before the first block, the output's gradient, each row's log-sum against a shift `M`, and each row's
    correction. -/
structure Staged : Prop where
  q : ∀ h (q : Fin 4) (a : Fin 128) d, x0 (ix3 r (⟨q.val * 128 + a.val, by omega⟩ : Fin 512) (lane h d)) = ((1 / 8 * Q h q a d : ℝ) : EReal)
  k1 : ∀ h a d, x1 (ix3 r a (lane h d)) = (K1 h a d : EReal)
  k : ∀ h (q : Fin 4) (a : Fin 128) d, x2 (ix3 r (⟨q.val * 128 + a.val, by omega⟩ : Fin 512) (lane h d)) = (K h q a d : EReal)
  v1 : ∀ h a d, x3 (ix3 r a (lane h d)) = (V1 h a d : EReal)
  v : ∀ h (q : Fin 4) (a : Fin 128) d, x4 (ix3 r (⟨q.val * 128 + a.val, by omega⟩ : Fin 512) (lane h d)) = (V h q a d : EReal)
  g : ∀ h (q : Fin 4) (a : Fin 128) d, x5 (ix3 r (⟨q.val * 128 + a.val, by omega⟩ : Fin 512) (lane h d)) = (G h q a d : EReal)
  lse : ∀ h (q : Fin 4) (a : Fin 128), x6 (ix3 r (⟨q.val * 128 + a.val, by omega⟩ : Fin 512) (lane h 0))
    = ((M h q a + Real.log (tot (score (Q h) (K h) q a) (Sees q a) (M h q a)) : ℝ) : EReal)
  corr : ∀ h (q : Fin 4) (a : Fin 128), x7 (ix3 r (⟨q.val * 128 + a.val, by omega⟩ : Fin 512) (lane h 0))
    = ((∑ j, P (Q h) (K h) q a j * gv (V h) (G h) q a j - D h q a : ℝ) : EReal)

variable {x0 x1 x2 x3 x4 x5 x6 x7 r Q K V G K1 V1 D M}
variable (st : Staged x0 x1 x2 x3 x4 x5 x6 x7 r Q K V G K1 V1 D M)
include st

/-- The recomputed probabilities are the softmax's. -/
theorem prob_apply (q h : Fin 4) (a : Fin 128) (j : Fin 256) :
    prob (F := Ideal) 0#32 x0 x1 x2 x6 r q (ix2 (stk h a) j) = (P (Q h) (K h) q a j : EReal) := by
  have hl : k0_pay18 (F := Ideal) (rows x6 r q) (ix2 (stk h a) j)
      = ((M h q a + Real.log (tot (score (Q h) (K h) q a) (Sees q a) (M h q a)) : ℝ) : EReal) := by
    rw [col_apply, rows_apply, st.lse]
  show Ideal.exp (FloatOps.matmul dot_S512x256_S256x256_S512x256_1_1_0_0_n_n none (k0_pay14 (F := Ideal) mk0 mk1 mk2 mk3 (rows x0 r q))
        (keys (F := Ideal) x1 x2 r q) (constant S512x256 .f32 0x00000000#32) (ix2 (stk h a) j) + bias (F := Ideal) 0#32 q (ix2 (stk h a) j)
      - k0_pay18 (F := Ideal) (rows x6 r q) (ix2 (stk h a) j)) = _
  rw [dot_apply x0 x1 x2 r (fun h q a d => 1 / 8 * Q h q a d) K K1 st.q st.k1 st.k, bias_apply, hl,
    Attn.P, ← exp_sub_lse _ (exists_sees q a) (M h q a)]
  by_cases hs : Sees q a j
  · have e : ∑ d, 1 / 8 * Q h q a d * winK (K h) (K1 h) q j d = score (Q h) (K h) q a j := by
      unfold score; rw [Finset.mul_sum]
      exact Finset.sum_congr rfl fun d _ => by rw [winK_eq (K h) (K1 h) q a j d hs, mul_assoc]
    rw [if_pos hs, if_pos hs, e, add_zero, ← EReal.coe_sub, Ideal.exp_coe]
  · rw [if_neg hs, if_neg hs, EReal.add_bot, EReal.bot_sub, Ideal.exp_bot, EReal.coe_zero]

/-- The gradient of the scores. -/
theorem ds_apply (q h : Fin 4) (a : Fin 128) (j : Fin 256) :
    k0_pay19 (F := Ideal) (prob 0#32 x0 x1 x2 x6 r q) (prodV x3 x4 x5 r q) (k0_pay18 (rows x7 r q)) (ix2 (stk h a) j)
      = (dS (Q h) (K h) (V h) (G h) (D h) q a j : EReal) := by
  have hl : k0_pay18 (F := Ideal) (rows x7 r q) (ix2 (stk h a) j)
      = ((∑ j, P (Q h) (K h) q a j * gv (V h) (G h) q a j - D h q a : ℝ) : EReal) := by
    rw [col_apply, rows_apply, st.corr]
  have hv : prodV (F := Ideal) x3 x4 x5 r q (ix2 (stk h a) j) = ((∑ d, G h q a d * winK (V h) (V1 h) q j d : ℝ) : EReal) :=
    dot_apply x5 x3 x4 r G V V1 st.g st.v1 st.v q h a j
  show prob (F := Ideal) 0#32 x0 x1 x2 x6 r q (ix2 (stk h a) j) * (prodV (F := Ideal) x3 x4 x5 r q (ix2 (stk h a) j)
      - k0_pay18 (F := Ideal) (rows x7 r q) (ix2 (stk h a) j)) = _
  rw [prob_apply st, hv, hl, ← EReal.coe_sub, ← EReal.coe_mul]
  congr 1
  by_cases hs : Sees q a j
  · have e : ∑ d, G h q a d * winK (V h) (V1 h) q j d = gv (V h) (G h) q a j :=
      Finset.sum_congr rfl fun d _ => by rw [winK_eq (V h) (V1 h) q a j d hs]
    rw [e]; rfl
  · rw [Attn.P, prob_of_not _ j hs, zero_mul, dS, dscore_of_not _ _ _ j hs]

/-- The query gradient of a block. -/
theorem dq_apply (q h : Fin 4) (a : Fin 128) (d : Fin 64) :
    dq (F := Ideal) 0#32 x0 x1 x2 x3 x4 x5 x6 x7 r q (ix3 (0 : Fin 1) a (lane h d))
      = (gradQ (Q h) (K h) (V h) (G h) (D h) q a d : EReal) := by
  have key : ∀ (g : Fin 4) (o : Nat) (ho : o = g.val * 128) (hs : S512x256.Slices ![o, 0] S128x256),
      FloatOps.matmul dot_S128x256_S256x256_S128x256_1_0_0_1_n_n none
        (extractStridedSlice S128x256 ![o, 0] (k0_pay19 (F := Ideal) (prob 0#32 x0 x1 x2 x6 r q) (prodV x3 x4 x5 r q) (k0_pay18 (rows x7 r q))) hs)
        (keys (F := Ideal) x1 x2 r q) (constant S128x256 .f32 0x00000000#32) (ix2 a (lane h d))
      = ((∑ j, dS (Q g) (K g) (V g) (G g) (D g) q a j * winK (K h) (K1 h) q j d : ℝ) : EReal) := by
    intro g o ho hs
    rw [dotNN_apply, coe_sum]
    refine Finset.sum_congr rfl fun j _ => ?_
    rw [extractStridedSlice_apply _ _ hs (ix2 a j) (ix2 (stk g a) j) (by
      intro b; match b with | ⟨0, _⟩ => (show g.val * 128 + a.val = o + a.val; rw [ho]) | ⟨1, _⟩ => (show j.val = 0 + j.val; omega)),
      ds_apply st, window_apply x1 x2 r K K1 st.k1 st.k, EReal.coe_mul]
  have fin : ((∑ j, dS (Q h) (K h) (V h) (G h) (D h) q a j * winK (K h) (K1 h) q j d : ℝ) : EReal)
      = (gradQ (Q h) (K h) (V h) (G h) (D h) q a d : EReal) := by
    congr 1
    refine Finset.sum_congr rfl fun j _ => ?_
    by_cases hs : Sees q a j
    · rw [winK_eq (K h) (K1 h) q a j d hs]
    · rw [dS, dscore_of_not _ _ _ j hs, zero_mul, zero_mul]
  unfold dq k0_pay20
  refine (lift_apply _ a (lane h d)).trans ?_
  have hh : headOf (lane h d) = h := Fin.ext (by show (h.val * 64 + d.val) / 64 = h.val; omega)
  have m0 : mk0 (ix2 a (lane h d)) = if h = 0 then 1#1 else 0#1 := (mk_apply 0 a (lane h d)).trans (by rw [hh])
  have m1 : mk1 (ix2 a (lane h d)) = if h = 1 then 1#1 else 0#1 := (mk_apply 1 a (lane h d)).trans (by rw [hh])
  have m2 : mk2 (ix2 a (lane h d)) = if h = 2 then 1#1 else 0#1 := (mk_apply 2 a (lane h d)).trans (by rw [hh])
  have m3 : mk3 (ix2 a (lane h d)) = if h = 3 then 1#1 else 0#1 := (mk_apply 3 a (lane h d)).trans (by rw [hh])
  refine Eq.trans ?_ fin
  rw [← key h (h.val * 128) rfl ⟨rfl, by intro b; fin_cases b <;> fin_cases h <;> decide⟩]
  simp only [truncf, select, m0, m1, m2, m3, Ideal.truncf_def]
  fin_cases h <;> rfl

/-- A block's contribution to the gradient of its window's keys. -/
theorem dkPart_apply (q h : Fin 4) (j : Fin 256) (d : Fin 64) :
    dkPart (F := Ideal) 0#32 x0 x1 x2 x3 x4 x5 x6 x7 r q (ix2 j (lane h d))
      = (partK (Q h) (K h) (V h) (G h) (D h) q j d : EReal) := by
  refine (dotTN_apply _ _ j (lane h d)).trans ?_
  have hh : headOf (lane h d) = h := Fin.ext (by show (h.val * 64 + d.val) / 64 = h.val; omega)
  rw [Finset.sum_eq_single h]
  · rw [partK, coe_sum]
    refine Finset.sum_congr rfl fun a _ => ?_
    rw [ds_apply st, stack_apply, if_pos hh, rows_apply, st.q, ← EReal.coe_mul]
  · intro g _ hg
    refine Finset.sum_eq_zero fun a _ => ?_
    rw [stack_apply, hh, if_neg (Ne.symm hg), mul_zero]
  · intro H; exact absurd (Finset.mem_univ h) H

/-- A block's contribution to the gradient of its window's values. -/
theorem dvPart_apply (q h : Fin 4) (j : Fin 256) (d : Fin 64) :
    dvPart (F := Ideal) 0#32 x0 x1 x2 x5 x6 r q (ix2 j (lane h d)) = (partV (Q h) (K h) (G h) q j d : EReal) := by
  refine (dotTN_apply _ _ j (lane h d)).trans ?_
  have hh : headOf (lane h d) = h := Fin.ext (by show (h.val * 64 + d.val) / 64 = h.val; omega)
  rw [Finset.sum_eq_single h]
  · rw [partV, coe_sum]
    refine Finset.sum_congr rfl fun a _ => ?_
    have hp : truncf .bf16 (prob (F := Ideal) 0#32 x0 x1 x2 x6 r q) bitsLt_bf16_f32 (ix2 (stk h a) j) = (P (Q h) (K h) q a j : EReal) :=
      prob_apply st q h a j
    have hs : k0_pay15 (F := Ideal) mk0 mk1 mk2 mk3 (rows x5 r q) (ix2 (stk h a) (lane h d)) = (G h q a d : EReal) :=
      (stack_apply (rows x5 r q) h a (lane h d)).trans (by rw [if_pos hh, rows_apply, st.g])
    rw [hp, hs, EReal.coe_mul]
  · intro g _ hg
    refine Finset.sum_eq_zero fun a _ => ?_
    have hs : k0_pay15 (F := Ideal) mk0 mk1 mk2 mk3 (rows x5 r q) (ix2 (stk g a) (lane h d)) = (0 : EReal) :=
      (stack_apply (rows x5 r q) g a (lane h d)).trans (by rw [hh, if_neg (Ne.symm hg)])
    rw [hs, mul_zero]
  · intro H; exact absurd (Finset.mem_univ h) H

omit st in
/-- The joined contributions at a row. -/
theorem join_apply (p : Fin 4 → FVec Ideal S256x256 .f32) (pr : Fin 4 → Fin 256 → Fin 64 → ℝ) (h : Fin 4)
    (hp : ∀ q j d, p q (ix2 j (lane h d)) = (pr q j d : EReal)) (q : Fin 4) (b : Fin 128) (d : Fin 64) :
    join (F := Ideal) p q (ix3 (0 : Fin 1) b (lane h d)) = (collect pr q b d : EReal) := by
  have lo : ∀ q, extractStridedSlice S128x256 ![128, 0] (p q) slices_S256x256_o128_0_S128x256 (ix2 b (lane h d))
      = (pr q ⟨b.val + 128, by omega⟩ d : EReal) := fun q =>
    (extractStridedSlice_apply _ _ _ (ix2 b (lane h d)) (ix2 (⟨b.val + 128, by omega⟩ : Fin 256) (lane h d)) (by
      intro c; match c with
        | ⟨0, _⟩ => (show b.val + 128 = 128 + b.val; omega)
        | ⟨1, _⟩ => (show h.val * 64 + d.val = 0 + (h.val * 64 + d.val); omega))).trans (hp _ _ _)
  have hi : ∀ q, extractStridedSlice S128x256 ![0, 0] (p q) slices_S256x256_o0_0_S128x256 (ix2 b (lane h d))
      = (pr q ⟨b.val, by omega⟩ d : EReal) := fun q =>
    (extractStridedSlice_apply _ _ _ (ix2 b (lane h d)) (ix2 (⟨b.val, by omega⟩ : Fin 256) (lane h d)) (by
      intro c; match c with
        | ⟨0, _⟩ => (show b.val = 0 + b.val; omega)
        | ⟨1, _⟩ => (show h.val * 64 + d.val = 0 + (h.val * 64 + d.val); omega))).trans (hp _ _ _)
  have pair : ∀ q q', k0_pay55 (F := Ideal) (p q) (p q') (ix3 (0 : Fin 1) b (lane h d))
      = ((pr q ⟨b.val + 128, by omega⟩ d + pr q' ⟨b.val, by omega⟩ d : ℝ) : EReal) := by
    intro q q'
    unfold k0_pay55
    refine (lift_apply _ b (lane h d)).trans ?_
    refine Eq.trans (congrArg₂ (fun x y : EReal => x + y) (lo q) (hi q')) ?_
    rw [EReal.coe_add]
  fin_cases q
  · exact pair 0 1
  · exact pair 1 2
  · exact pair 2 3
  · show k0_pay58 (F := Ideal) (p 3) (ix3 (0 : Fin 1) b (lane h d)) = _
    unfold k0_pay58
    refine (lift_apply _ b (lane h d)).trans ((lo 3).trans ?_)
    unfold collect
    congr 1
    simp

end Real

end Cert.KernelIdeal.Block

end
-- ==== Proof.Blocks.lean ====
/-
  Reading blocks: the stores of one output at an index, and each window's block of its array at an index.
-/
module

public import proofs.«01_k».proof.Proof.BlockGrad
public import proofs.«01_k».proof.Proof.Gen.KernelIdeal.Value
public import Idealize.ShloMosaic.Lib.Pipeline.ValueKit.Tiles

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen Cert.Attn

/-- The stores of one output read at a row of a residue: the block that holds the row. -/
theorem stores_apply (f : Fin 2 → Fin 4 → FVec Ideal S1x128x256 .bf16) (r : Fin 2) (q : Fin 4) (a : Fin 128) (l : Fin 256) :
    View.canon (stores f) (ix3 r (⟨q.val * 128 + a.val, by omega⟩ : Fin 512) l) = f r q (ix3 (0 : Fin 1) a l) := by
  have tile : ∀ (r' : Fin 2) (q' : Fin 4) (off : Fin 3 → Nat) (hoff : off = ![r'.val, q'.val * 128, 0]),
      View.TileAt (Val := Elt Ideal) (S := S2x512x256) (e := .bf16) (ix3 r (⟨q.val * 128 + a.val, by omega⟩ : Fin 512) l)
        off S1x128x256.size (f r' q') (f r q (ix3 (0 : Fin 1) a l)) := by
    intro r' q' off hoff x hx
    subst hoff
    have x0 : (x 0).val < 1 := (x 0).isLt
    have x1 : (x 1).val < 128 := (x 1).isLt
    have e0 : r.val = r'.val + (x 0).val := hx 0
    have e1 : q.val * 128 + a.val = q'.val * 128 + (x 1).val := hx 1
    have e2 : l.val = 0 + (x 2).val := hx 2
    have hr : r' = r := Fin.ext (by omega)
    have hq : q' = q := Fin.ext (by omega)
    subst hr; subst hq
    refine congrArg (f r' q') (funext fun b => Fin.ext ?_)
    match b with
    | ⟨0, _⟩ => show (x 0).val = 0; omega
    | ⟨1, _⟩ => show (x 1).val = a.val; omega
    | ⟨2, _⟩ => show (x 2).val = l.val; omega
  refine View.canon_eq_of_allAt _ _ _ (View.cover_of_tiled_head _ _ _ (by rfl) _) ?_
  unfold stores
  refine View.allAt_cons_unit _ _ _ _ _ (tile 1 3 _ rfl) ?_
  refine View.allAt_cons_unit _ _ _ _ _ (tile 1 2 _ rfl) ?_
  refine View.allAt_cons_unit _ _ _ _ _ (tile 1 1 _ rfl) ?_
  refine View.allAt_cons_unit _ _ _ _ _ (tile 1 0 _ rfl) ?_
  refine View.allAt_cons_unit _ _ _ _ _ (tile 0 3 _ rfl) ?_
  refine View.allAt_cons_unit _ _ _ _ _ (tile 0 2 _ rfl) ?_
  refine View.allAt_cons_unit _ _ _ _ _ (tile 0 1 _ rfl) ?_
  refine View.allAt_cons_unit _ _ _ _ _ (tile 0 0 _ rfl) ?_
  exact View.allAt_nil _ _

variable (m : (ℓ : Loc nD τ sig) → Buf (Elt Ideal) ℓ) (c : Dev nD)

/-- The residue that position `r` of grid point `t` holds. -/
abbrev res (t : Fin cfg0.N) (r : Fin 2) : Fin 16 :=
  ⟨2 * t.val + r.val, by have h : t.val < 8 := t.isLt; omega⟩

/-- The second grid coordinate is always zero. -/
theorem coord1 (t : Fin cfg0.N) : BitVec.ofNat 32 ((grid0.coords t) 1).val = 0#32 := by
  have h : ((grid0.coords t) 1).val < 1 := ((grid0.coords t) 1).isLt
  rw [show ((grid0.coords t) 1).val = 0 by omega]

/-- Window 0's block at a point is the point's residues of its array. -/
theorem read0_apply (X : main_v85.ty.shape.Idx → EReal) (t : Fin cfg0.N) (r : Fin 2) (s : Fin 512) (l : Fin 256) :
    ((cfg0.win 0).blk t).view.read (Elt Ideal) X (ix3 r s l) = X (ix3 (res t r) s l) := by
  have hi : ∀ t : Fin cfg0.N, win0_0.index t 0 = t.val ∧ win0_0.index t 1 = 0 ∧ win0_0.index t 2 = 0 := by decide +kernel
  rw [View.read_apply]
  refine congrArg X (funext fun b => Fin.ext ?_)
  match b with
  | ⟨0, _⟩ => show win0_0.index t 0 * 2 + 1 * r.val = 2 * t.val + r.val; rw [(hi t).1]; omega
  | ⟨1, _⟩ => show win0_0.index t 1 * 512 + 1 * s.val = s.val; rw [(hi t).2.1]; omega
  | ⟨2, _⟩ => show win0_0.index t 2 * 256 + 1 * l.val = l.val; rw [(hi t).2.2]; omega

/-- Window 1's block at a point is the point's residues of its array. -/
theorem read1_apply (X : main_v88.ty.shape.Idx → EReal) (t : Fin cfg0.N) (r : Fin 2) (s : Fin 128) (l : Fin 256) :
    ((cfg0.win 1).blk t).view.read (Elt Ideal) X (ix3 r s l) = X (ix3 (res t r) (⟨s.val, by omega⟩ : Fin 512) l) := by
  have hi : ∀ t : Fin cfg0.N, win0_1.index t 0 = t.val ∧ win0_1.index t 1 = 0 ∧ win0_1.index t 2 = 0 := by decide +kernel
  rw [View.read_apply]
  refine congrArg X (funext fun b => Fin.ext ?_)
  match b with
  | ⟨0, _⟩ => show win0_1.index t 0 * 2 + 1 * r.val = 2 * t.val + r.val; rw [(hi t).1]; omega
  | ⟨1, _⟩ => show win0_1.index t 1 * 128 + 1 * s.val = s.val; rw [(hi t).2.1]; omega
  | ⟨2, _⟩ => show win0_1.index t 2 * 256 + 1 * l.val = l.val; rw [(hi t).2.2]; omega

/-- Window 2's block at a point is the point's residues of its array. -/
theorem read2_apply (X : main_v88.ty.shape.Idx → EReal) (t : Fin cfg0.N) (r : Fin 2) (s : Fin 512) (l : Fin 256) :
    ((cfg0.win 2).blk t).view.read (Elt Ideal) X (ix3 r s l) = X (ix3 (res t r) s l) := by
  have hi : ∀ t : Fin cfg0.N, win0_2.index t 0 = t.val ∧ win0_2.index t 1 = 0 ∧ win0_2.index t 2 = 0 := by decide +kernel
  rw [View.read_apply]
  refine congrArg X (funext fun b => Fin.ext ?_)
  match b with
  | ⟨0, _⟩ => show win0_2.index t 0 * 2 + 1 * r.val = 2 * t.val + r.val; rw [(hi t).1]; omega
  | ⟨1, _⟩ => show win0_2.index t 1 * 512 + 1 * s.val = s.val; rw [(hi t).2.1]; omega
  | ⟨2, _⟩ => show win0_2.index t 2 * 256 + 1 * l.val = l.val; rw [(hi t).2.2]; omega

/-- Window 3's block at a point is the point's residues of its array. -/
theorem read3_apply (X : main_v91.ty.shape.Idx → EReal) (t : Fin cfg0.N) (r : Fin 2) (s : Fin 128) (l : Fin 256) :
    ((cfg0.win 3).blk t).view.read (Elt Ideal) X (ix3 r s l) = X (ix3 (res t r) (⟨s.val, by omega⟩ : Fin 512) l) := by
  have hi : ∀ t : Fin cfg0.N, win0_3.index t 0 = t.val ∧ win0_3.index t 1 = 0 ∧ win0_3.index t 2 = 0 := by decide +kernel
  rw [View.read_apply]
  refine congrArg X (funext fun b => Fin.ext ?_)
  match b with
  | ⟨0, _⟩ => show win0_3.index t 0 * 2 + 1 * r.val = 2 * t.val + r.val; rw [(hi t).1]; omega
  | ⟨1, _⟩ => show win0_3.index t 1 * 128 + 1 * s.val = s.val; rw [(hi t).2.1]; omega
  | ⟨2, _⟩ => show win0_3.index t 2 * 256 + 1 * l.val = l.val; rw [(hi t).2.2]; omega

/-- Window 4's block at a point is the point's residues of its array. -/
theorem read4_apply (X : main_v91.ty.shape.Idx → EReal) (t : Fin cfg0.N) (r : Fin 2) (s : Fin 512) (l : Fin 256) :
    ((cfg0.win 4).blk t).view.read (Elt Ideal) X (ix3 r s l) = X (ix3 (res t r) s l) := by
  have hi : ∀ t : Fin cfg0.N, win0_4.index t 0 = t.val ∧ win0_4.index t 1 = 0 ∧ win0_4.index t 2 = 0 := by decide +kernel
  rw [View.read_apply]
  refine congrArg X (funext fun b => Fin.ext ?_)
  match b with
  | ⟨0, _⟩ => show win0_4.index t 0 * 2 + 1 * r.val = 2 * t.val + r.val; rw [(hi t).1]; omega
  | ⟨1, _⟩ => show win0_4.index t 1 * 512 + 1 * s.val = s.val; rw [(hi t).2.1]; omega
  | ⟨2, _⟩ => show win0_4.index t 2 * 256 + 1 * l.val = l.val; rw [(hi t).2.2]; omega

/-- Window 5's block at a point is the point's residues of its array. -/
theorem read5_apply (X : main_v94.ty.shape.Idx → EReal) (t : Fin cfg0.N) (r : Fin 2) (s : Fin 512) (l : Fin 256) :
    ((cfg0.win 5).blk t).view.read (Elt Ideal) X (ix3 r s l) = X (ix3 (res t r) s l) := by
  have hi : ∀ t : Fin cfg0.N, win0_5.index t 0 = t.val ∧ win0_5.index t 1 = 0 ∧ win0_5.index t 2 = 0 := by decide +kernel
  rw [View.read_apply]
  refine congrArg X (funext fun b => Fin.ext ?_)
  match b with
  | ⟨0, _⟩ => show win0_5.index t 0 * 2 + 1 * r.val = 2 * t.val + r.val; rw [(hi t).1]; omega
  | ⟨1, _⟩ => show win0_5.index t 1 * 512 + 1 * s.val = s.val; rw [(hi t).2.1]; omega
  | ⟨2, _⟩ => show win0_5.index t 2 * 256 + 1 * l.val = l.val; rw [(hi t).2.2]; omega

/-- Window 6's block at a point is the point's residues of its array. -/
theorem read6_apply (X : main_v98.ty.shape.Idx → EReal) (t : Fin cfg0.N) (r : Fin 2) (s : Fin 512) (l : Fin 256) :
    ((cfg0.win 6).blk t).view.read (Elt Ideal) X (ix3 r s l) = X (ix3 (res t r) s l) := by
  have hi : ∀ t : Fin cfg0.N, win0_6.index t 0 = t.val ∧ win0_6.index t 1 = 0 ∧ win0_6.index t 2 = 0 := by decide +kernel
  rw [View.read_apply]
  refine congrArg X (funext fun b => Fin.ext ?_)
  match b with
  | ⟨0, _⟩ => show win0_6.index t 0 * 2 + 1 * r.val = 2 * t.val + r.val; rw [(hi t).1]; omega
  | ⟨1, _⟩ => show win0_6.index t 1 * 512 + 1 * s.val = s.val; rw [(hi t).2.1]; omega
  | ⟨2, _⟩ => show win0_6.index t 2 * 256 + 1 * l.val = l.val; rw [(hi t).2.2]; omega

/-- Window 7's block at a point is the point's residues of its array. -/
theorem read7_apply (X : main_v102.ty.shape.Idx → EReal) (t : Fin cfg0.N) (r : Fin 2) (s : Fin 512) (l : Fin 256) :
    ((cfg0.win 7).blk t).view.read (Elt Ideal) X (ix3 r s l) = X (ix3 (res t r) s l) := by
  have hi : ∀ t : Fin cfg0.N, win0_7.index t 0 = t.val ∧ win0_7.index t 1 = 0 ∧ win0_7.index t 2 = 0 := by decide +kernel
  rw [View.read_apply]
  refine congrArg X (funext fun b => Fin.ext ?_)
  match b with
  | ⟨0, _⟩ => show win0_7.index t 0 * 2 + 1 * r.val = 2 * t.val + r.val; rw [(hi t).1]; omega
  | ⟨1, _⟩ => show win0_7.index t 1 * 512 + 1 * s.val = s.val; rw [(hi t).2.1]; omega
  | ⟨2, _⟩ => show win0_7.index t 2 * 256 + 1 * l.val = l.val; rw [(hi t).2.2]; omega

/-- Window 8's block at a point is the point's residues of its array. -/
theorem read8_apply (X : main_v103_0.ty.shape.Idx → EReal) (t : Fin cfg0.N) (r : Fin 2) (s : Fin 512) (l : Fin 256) :
    ((cfg0.win 8).blk t).view.read (Elt Ideal) X (ix3 r s l) = X (ix3 (res t r) s l) := by
  have hi : ∀ t : Fin cfg0.N, win0_8.index t 0 = t.val ∧ win0_8.index t 1 = 0 ∧ win0_8.index t 2 = 0 := by decide +kernel
  rw [View.read_apply]
  refine congrArg X (funext fun b => Fin.ext ?_)
  match b with
  | ⟨0, _⟩ => show win0_8.index t 0 * 2 + 1 * r.val = 2 * t.val + r.val; rw [(hi t).1]; omega
  | ⟨1, _⟩ => show win0_8.index t 1 * 512 + 1 * s.val = s.val; rw [(hi t).2.1]; omega
  | ⟨2, _⟩ => show win0_8.index t 2 * 256 + 1 * l.val = l.val; rw [(hi t).2.2]; omega

/-- Window 9's block at a point is the point's residues of its array. -/
theorem read9_apply (X : main_v103_1.ty.shape.Idx → EReal) (t : Fin cfg0.N) (r : Fin 2) (s : Fin 512) (l : Fin 256) :
    ((cfg0.win 9).blk t).view.read (Elt Ideal) X (ix3 r s l) = X (ix3 (res t r) s l) := by
  have hi : ∀ t : Fin cfg0.N, win0_9.index t 0 = t.val ∧ win0_9.index t 1 = 0 ∧ win0_9.index t 2 = 0 := by decide +kernel
  rw [View.read_apply]
  refine congrArg X (funext fun b => Fin.ext ?_)
  match b with
  | ⟨0, _⟩ => show win0_9.index t 0 * 2 + 1 * r.val = 2 * t.val + r.val; rw [(hi t).1]; omega
  | ⟨1, _⟩ => show win0_9.index t 1 * 512 + 1 * s.val = s.val; rw [(hi t).2.1]; omega
  | ⟨2, _⟩ => show win0_9.index t 2 * 256 + 1 * l.val = l.val; rw [(hi t).2.2]; omega

/-- Window 10's block at a point is the point's residues of its array. -/
theorem read10_apply (X : main_v103_2.ty.shape.Idx → EReal) (t : Fin cfg0.N) (r : Fin 2) (s : Fin 512) (l : Fin 256) :
    ((cfg0.win 10).blk t).view.read (Elt Ideal) X (ix3 r s l) = X (ix3 (res t r) s l) := by
  have hi : ∀ t : Fin cfg0.N, win0_10.index t 0 = t.val ∧ win0_10.index t 1 = 0 ∧ win0_10.index t 2 = 0 := by decide +kernel
  rw [View.read_apply]
  refine congrArg X (funext fun b => Fin.ext ?_)
  match b with
  | ⟨0, _⟩ => show win0_10.index t 0 * 2 + 1 * r.val = 2 * t.val + r.val; rw [(hi t).1]; omega
  | ⟨1, _⟩ => show win0_10.index t 1 * 512 + 1 * s.val = s.val; rw [(hi t).2.1]; omega
  | ⟨2, _⟩ => show win0_10.index t 2 * 256 + 1 * l.val = l.val; rw [(hi t).2.2]; omega

end Cert.KernelIdeal.Block

end
-- ==== Proof.Result.lean ====
/-
  The kernel's three result arrays element by element: each residue's rows are what the grid point that
  holds the residue left for it, so on real inputs the arrays are the gradients of windowed attention.
-/
module

public import proofs.«01_k».proof.Proof.Blocks

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ) (c : Dev nD)

/-- Window 0's block of any contents of the host's buffers. -/
theorem stage0_apply (W : (b : Ref sig .tc) → Buf (Elt Ideal) ((c : Thread nD τ).loc b)) (t : Fin cfg0.N) (r : Fin 2) (s : Fin 512) (l : Fin 256) :
    ((cfg0.win 0).blk t).view.read (Elt Ideal) (W (Pipeline.arrRef spec0 0)) (ix3 r s l) = W main_v85 (ix3 (res t r) s l) :=
  read0_apply (W main_v85) t r s l

/-- What window 0 stages at a point is the point's residues of its array. -/
theorem iblk0_apply (t : Fin cfg0.N) (r : Fin 2) (s : Fin 512) (l : Fin 256) :
    iblk m c 0 t (ix3 r s l) = V m c main_v85 (ix3 (res t r) s l) :=
  stage0_apply c (V m c) t r s l

/-- Window 1's block of any contents of the host's buffers. -/
theorem stage1_apply (W : (b : Ref sig .tc) → Buf (Elt Ideal) ((c : Thread nD τ).loc b)) (t : Fin cfg0.N) (r : Fin 2) (s : Fin 128) (l : Fin 256) :
    ((cfg0.win 1).blk t).view.read (Elt Ideal) (W (Pipeline.arrRef spec0 1)) (ix3 r s l) = W main_v88 (ix3 (res t r) (⟨s.val, by omega⟩ : Fin 512) l) :=
  read1_apply (W main_v88) t r s l

/-- What window 1 stages at a point is the point's residues of its array. -/
theorem iblk1_apply (t : Fin cfg0.N) (r : Fin 2) (s : Fin 128) (l : Fin 256) :
    iblk m c 1 t (ix3 r s l) = V m c main_v88 (ix3 (res t r) (⟨s.val, by omega⟩ : Fin 512) l) :=
  stage1_apply c (V m c) t r s l

/-- Window 2's block of any contents of the host's buffers. -/
theorem stage2_apply (W : (b : Ref sig .tc) → Buf (Elt Ideal) ((c : Thread nD τ).loc b)) (t : Fin cfg0.N) (r : Fin 2) (s : Fin 512) (l : Fin 256) :
    ((cfg0.win 2).blk t).view.read (Elt Ideal) (W (Pipeline.arrRef spec0 2)) (ix3 r s l) = W main_v88 (ix3 (res t r) s l) :=
  read2_apply (W main_v88) t r s l

/-- What window 2 stages at a point is the point's residues of its array. -/
theorem iblk2_apply (t : Fin cfg0.N) (r : Fin 2) (s : Fin 512) (l : Fin 256) :
    iblk m c 2 t (ix3 r s l) = V m c main_v88 (ix3 (res t r) s l) :=
  stage2_apply c (V m c) t r s l

/-- Window 3's block of any contents of the host's buffers. -/
theorem stage3_apply (W : (b : Ref sig .tc) → Buf (Elt Ideal) ((c : Thread nD τ).loc b)) (t : Fin cfg0.N) (r : Fin 2) (s : Fin 128) (l : Fin 256) :
    ((cfg0.win 3).blk t).view.read (Elt Ideal) (W (Pipeline.arrRef spec0 3)) (ix3 r s l) = W main_v91 (ix3 (res t r) (⟨s.val, by omega⟩ : Fin 512) l) :=
  read3_apply (W main_v91) t r s l

/-- What window 3 stages at a point is the point's residues of its array. -/
theorem iblk3_apply (t : Fin cfg0.N) (r : Fin 2) (s : Fin 128) (l : Fin 256) :
    iblk m c 3 t (ix3 r s l) = V m c main_v91 (ix3 (res t r) (⟨s.val, by omega⟩ : Fin 512) l) :=
  stage3_apply c (V m c) t r s l

/-- Window 4's block of any contents of the host's buffers. -/
theorem stage4_apply (W : (b : Ref sig .tc) → Buf (Elt Ideal) ((c : Thread nD τ).loc b)) (t : Fin cfg0.N) (r : Fin 2) (s : Fin 512) (l : Fin 256) :
    ((cfg0.win 4).blk t).view.read (Elt Ideal) (W (Pipeline.arrRef spec0 4)) (ix3 r s l) = W main_v91 (ix3 (res t r) s l) :=
  read4_apply (W main_v91) t r s l

/-- What window 4 stages at a point is the point's residues of its array. -/
theorem iblk4_apply (t : Fin cfg0.N) (r : Fin 2) (s : Fin 512) (l : Fin 256) :
    iblk m c 4 t (ix3 r s l) = V m c main_v91 (ix3 (res t r) s l) :=
  stage4_apply c (V m c) t r s l

/-- Window 5's block of any contents of the host's buffers. -/
theorem stage5_apply (W : (b : Ref sig .tc) → Buf (Elt Ideal) ((c : Thread nD τ).loc b)) (t : Fin cfg0.N) (r : Fin 2) (s : Fin 512) (l : Fin 256) :
    ((cfg0.win 5).blk t).view.read (Elt Ideal) (W (Pipeline.arrRef spec0 5)) (ix3 r s l) = W main_v94 (ix3 (res t r) s l) :=
  read5_apply (W main_v94) t r s l

/-- What window 5 stages at a point is the point's residues of its array. -/
theorem iblk5_apply (t : Fin cfg0.N) (r : Fin 2) (s : Fin 512) (l : Fin 256) :
    iblk m c 5 t (ix3 r s l) = V m c main_v94 (ix3 (res t r) s l) :=
  stage5_apply c (V m c) t r s l

/-- Window 6's block of any contents of the host's buffers. -/
theorem stage6_apply (W : (b : Ref sig .tc) → Buf (Elt Ideal) ((c : Thread nD τ).loc b)) (t : Fin cfg0.N) (r : Fin 2) (s : Fin 512) (l : Fin 256) :
    ((cfg0.win 6).blk t).view.read (Elt Ideal) (W (Pipeline.arrRef spec0 6)) (ix3 r s l) = W main_v98 (ix3 (res t r) s l) :=
  read6_apply (W main_v98) t r s l

/-- What window 6 stages at a point is the point's residues of its array. -/
theorem iblk6_apply (t : Fin cfg0.N) (r : Fin 2) (s : Fin 512) (l : Fin 256) :
    iblk m c 6 t (ix3 r s l) = V m c main_v98 (ix3 (res t r) s l) :=
  stage6_apply c (V m c) t r s l

/-- Window 7's block of any contents of the host's buffers. -/
theorem stage7_apply (W : (b : Ref sig .tc) → Buf (Elt Ideal) ((c : Thread nD τ).loc b)) (t : Fin cfg0.N) (r : Fin 2) (s : Fin 512) (l : Fin 256) :
    ((cfg0.win 7).blk t).view.read (Elt Ideal) (W (Pipeline.arrRef spec0 7)) (ix3 r s l) = W main_v102 (ix3 (res t r) s l) :=
  read7_apply (W main_v102) t r s l

/-- What window 7 stages at a point is the point's residues of its array. -/
theorem iblk7_apply (t : Fin cfg0.N) (r : Fin 2) (s : Fin 512) (l : Fin 256) :
    iblk m c 7 t (ix3 r s l) = V m c main_v102 (ix3 (res t r) s l) :=
  stage7_apply c (V m c) t r s l

/-- A result array at a residue is what the residue's point left in the buffer. -/
theorem final8_apply (t : Fin cfg0.N) (r : Fin 2) (s : Fin 512) (l : Fin 256) :
    (dats m 0 c).arrAt 8 cfg0.N (ix3 (res t r) s l) = View.canon (stores (dq (BitVec.ofNat 32 ((grid0.coords t) 1).val) (iblk m c 0 t) (iblk m c 1 t) (iblk m c 2 t) (iblk m c 3 t) (iblk m c 4 t) (iblk m c 5 t) (iblk m c 6 t) (iblk m c 7 t))) (ix3 r s l) := by
  have hf : (cfg0.win 8).flush t = true := (by decide +kernel : ∀ t : Fin cfg0.N, (cfg0.win 8).flush t = true) t
  refine (read8_apply ((dats m 0 c).arrAt 8 cfg0.N) t r s l).symm.trans ?_
  rw [Value.blocks8 m c t hf, Value.flushed8_A m c t, out8_eq]
  rfl

/-- A result array at a residue is what the residue's point left in the buffer. -/
theorem final9_apply (t : Fin cfg0.N) (r : Fin 2) (s : Fin 512) (l : Fin 256) :
    (dats m 0 c).arrAt 9 cfg0.N (ix3 (res t r) s l) = View.canon (stores (fun r => join (dkPart (BitVec.ofNat 32 ((grid0.coords t) 1).val) (iblk m c 0 t) (iblk m c 1 t) (iblk m c 2 t) (iblk m c 3 t) (iblk m c 4 t) (iblk m c 5 t) (iblk m c 6 t) (iblk m c 7 t) r))) (ix3 r s l) := by
  have hf : (cfg0.win 9).flush t = true := (by decide +kernel : ∀ t : Fin cfg0.N, (cfg0.win 9).flush t = true) t
  refine (read9_apply ((dats m 0 c).arrAt 9 cfg0.N) t r s l).symm.trans ?_
  rw [Value.blocks9 m c t hf, Value.flushed9_A m c t, out9_eq]
  rfl

/-- A result array at a residue is what the residue's point left in the buffer. -/
theorem final10_apply (t : Fin cfg0.N) (r : Fin 2) (s : Fin 512) (l : Fin 256) :
    (dats m 0 c).arrAt 10 cfg0.N (ix3 (res t r) s l) = View.canon (stores (fun r => join (dvPart (BitVec.ofNat 32 ((grid0.coords t) 1).val) (iblk m c 0 t) (iblk m c 1 t) (iblk m c 2 t) (iblk m c 5 t) (iblk m c 6 t) r))) (ix3 r s l) := by
  have hf : (cfg0.win 10).flush t = true := (by decide +kernel : ∀ t : Fin cfg0.N, (cfg0.win 10).flush t = true) t
  refine (read10_apply ((dats m 0 c).arrAt 10 cfg0.N) t r s l).symm.trans ?_
  rw [Value.blocks10 m c t hf, Value.flushed10_A m c t, out10_eq]
  rfl

end Cert.KernelIdeal.Block

end
-- ==== Proof.Outcome.lean ====
/-
  On real inputs the kernel's three result arrays are the gradients of windowed attention.
-/
module

public import proofs.«01_k».proof.Proof.Result

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ) (c : Dev nD)

section Real

variable (Q K V G : Fin 16 → Fin 4 → Fin 4 → Fin 128 → Fin 64 → ℝ) (D M : Fin 16 → Fin 4 → Fin 4 → Fin 128 → ℝ)

/-- The arrays the call is given are real: the scaled queries, keys, values and output gradients by residue,
    block, row and head, each row's log-sum against a shift `M`, and each row's correction. -/
structure Given : Prop where
  q : ∀ ρ h (q : Fin 4) (a : Fin 128) d, Gen.V m c main_v85 (ix3 ρ (⟨q.val * 128 + a.val, by omega⟩ : Fin 512) (lane h d)) = ((1 / 8 * Q ρ h q a d : ℝ) : EReal)
  k : ∀ ρ h (q : Fin 4) (a : Fin 128) d, Gen.V m c main_v88 (ix3 ρ (⟨q.val * 128 + a.val, by omega⟩ : Fin 512) (lane h d)) = (K ρ h q a d : EReal)
  v : ∀ ρ h (q : Fin 4) (a : Fin 128) d, Gen.V m c main_v91 (ix3 ρ (⟨q.val * 128 + a.val, by omega⟩ : Fin 512) (lane h d)) = (V ρ h q a d : EReal)
  g : ∀ ρ h (q : Fin 4) (a : Fin 128) d, Gen.V m c main_v94 (ix3 ρ (⟨q.val * 128 + a.val, by omega⟩ : Fin 512) (lane h d)) = (G ρ h q a d : EReal)
  lse : ∀ ρ h (q : Fin 4) (a : Fin 128) d, Gen.V m c main_v98 (ix3 ρ (⟨q.val * 128 + a.val, by omega⟩ : Fin 512) (lane h d))
    = ((M ρ h q a + Real.log (tot (score (Q ρ h) (K ρ h) q a) (Sees q a) (M ρ h q a)) : ℝ) : EReal)
  corr : ∀ ρ h (q : Fin 4) (a : Fin 128) d, Gen.V m c main_v102 (ix3 ρ (⟨q.val * 128 + a.val, by omega⟩ : Fin 512) (lane h d))
    = ((∑ j, P (Q ρ h) (K ρ h) q a j * gv (V ρ h) (G ρ h) q a j - D ρ h q a : ℝ) : EReal)

variable {m c Q K V G D M}
variable (gi : Given m c Q K V G D M)
include gi

/-- What a point stages of the arrays, for one of its residues. -/
theorem staged (t : Fin cfg0.N) (r : Fin 2) :
    Staged (iblk m c 0 t) (iblk m c 1 t) (iblk m c 2 t) (iblk m c 3 t) (iblk m c 4 t) (iblk m c 5 t) (iblk m c 6 t) (iblk m c 7 t) r
      (Q (res t r)) (K (res t r)) (V (res t r)) (G (res t r)) (fun h a d => K (res t r) h 0 a d) (fun h a d => V (res t r) h 0 a d)
      (D (res t r)) (M (res t r)) where
  q h q a d := (iblk0_apply m c t r _ _).trans (gi.q _ h q a d)
  k1 h a d := (iblk1_apply m c t r _ _).trans ((congrArg (fun s => Gen.V m c main_v88 (ix3 (res t r) s (lane h d)))
    (Fin.ext (by show a.val = 0 * 128 + a.val; omega))).trans (gi.k _ h 0 a d))
  k h q a d := (iblk2_apply m c t r _ _).trans (gi.k _ h q a d)
  v1 h a d := (iblk3_apply m c t r _ _).trans ((congrArg (fun s => Gen.V m c main_v91 (ix3 (res t r) s (lane h d)))
    (Fin.ext (by show a.val = 0 * 128 + a.val; omega))).trans (gi.v _ h 0 a d))
  v h q a d := (iblk4_apply m c t r _ _).trans (gi.v _ h q a d)
  g h q a d := (iblk5_apply m c t r _ _).trans (gi.g _ h q a d)
  lse h q a := (iblk6_apply m c t r _ _).trans (gi.lse _ h q a 0)
  corr h q a := (iblk7_apply m c t r _ _).trans (gi.corr _ h q a 0)

omit gi in
/-- Every residue is held by a grid point. -/
theorem exists_res (ρ : Fin 16) : ∃ (t : Fin cfg0.N) (r : Fin 2), ρ = res t r :=
  ⟨⟨ρ.val / 2, by show ρ.val / 2 < 8; omega⟩, ⟨ρ.val % 2, by omega⟩, Fin.ext (by show ρ.val = 2 * (ρ.val / 2) + ρ.val % 2; omega)⟩

/-- The kernel's query gradient. -/
theorem resultQ (ρ : Fin 16) (h q : Fin 4) (a : Fin 128) (d : Fin 64) :
    (dats m 0 c).arrAt 8 cfg0.N (ix3 ρ (⟨q.val * 128 + a.val, by omega⟩ : Fin 512) (lane h d))
      = (gradQ (Q ρ h) (K ρ h) (V ρ h) (G ρ h) (D ρ h) q a d : EReal) := by
  obtain ⟨t, r, rfl⟩ := exists_res ρ
  rw [final8_apply, stores_apply, coord1]
  exact dq_apply (staged gi t r) q h a d

/-- The kernel's key gradient. -/
theorem resultK (ρ : Fin 16) (h q : Fin 4) (a : Fin 128) (d : Fin 64) :
    (dats m 0 c).arrAt 9 cfg0.N (ix3 ρ (⟨q.val * 128 + a.val, by omega⟩ : Fin 512) (lane h d))
      = (collect (partK (Q ρ h) (K ρ h) (V ρ h) (G ρ h) (D ρ h)) q a d : EReal) := by
  obtain ⟨t, r, rfl⟩ := exists_res ρ
  rw [final9_apply, stores_apply, coord1]
  exact join_apply _ _ h (fun q j d => dkPart_apply (staged gi t r) q h j d) q a d

/-- The kernel's value gradient. -/
theorem resultV (ρ : Fin 16) (h q : Fin 4) (a : Fin 128) (d : Fin 64) :
    (dats m 0 c).arrAt 10 cfg0.N (ix3 ρ (⟨q.val * 128 + a.val, by omega⟩ : Fin 512) (lane h d))
      = (collect (partV (Q ρ h) (K ρ h) (G ρ h)) q a d : EReal) := by
  obtain ⟨t, r, rfl⟩ := exists_res ρ
  rw [final10_apply, stores_apply, coord1]
  exact join_apply _ _ h (fun q j d => dvPart_apply (staged gi t r) q h j d) q a d

end Real

end Cert.KernelIdeal.Block

end
-- ==== Proof.RefRead.lean ====
/-
  The reference's forward stages read at an index: the layouts, the windows of keys and values, the mask and the
  masked scores, over real inputs.
-/
module

public import proofs.«01_k».proof.Proof.Gen.ReferenceIdeal.Read
public import proofs.«01_k».proof.Proof.Attn
public import Idealize.ShloMosaic.PureOps.Ideal.Laws
public import Idealize.ShloMosaic.Lib.Pipeline.Value
public import Idealize.ShloMosaic.Lib.ValueIdx

@[expose] public section

noncomputable section

open scoped BigOperators

namespace Cert.ReferenceIdeal.Row

open Idealize.ShloMosaic Idealize.ShloMosaic.TcCoe Idealize.SL.Sem Idealize.ShloMosaic.ValueIdx
open Cert.ReferenceIdeal Cert.ReferenceIdeal.Gen Cert.ReferenceIdeal.Read Cert.Attn

/-- Arrays of tokens by head and coordinate, and of tokens by head. -/
local notation "Tok" => FVec Ideal S8192x4x64 FTy.f32
local notation "TokH" => FVec Ideal S8192x4 FTy.f32

/-- The token at row `a` of block `n` of residue `ρ`. -/
abbrev tok (ρ : Fin 16) (n : Fin 4) (a : Fin 128) : Fin 8192 := ⟨(n.val * 128 + a.val) * 16 + ρ.val, by omega⟩

/-- A residue's row of a strided array. -/
abbrev row (n : Fin 4) (a : Fin 128) : Fin 512 := ⟨n.val * 128 + a.val, by omega⟩

/-! ## Layouts -/

/-- The strided, blocked tokens. -/
theorem blocks_apply (x : Tok) (ρ : Fin 16) (n : Fin 4) (a : Fin 128) (h : Fin 4) (d : Fin 64) :
    val_main_v2 (F := Ideal) x (ix5 ρ n a h d) = x (ix3 (tok ρ n a) h d) := by
  have e1 : val_main_v2 (F := Ideal) x (ix5 ρ n a h d) = val_main_v1 (F := Ideal) x (ix4 ρ (row n a) h d) := by
    refine (val_main_v2_apply (F := Ideal) x (ix5 ρ n a h d)).trans ?_
    refine congrArg (val_main_v1 (F := Ideal) x) (funext fun b => Fin.ext ?_)
    match b with
    | ⟨0, _⟩ => show ((((ρ.val * 4 + n.val) * 128 + a.val) * 4 + h.val) * 64 + d.val) / 131072 = ρ.val; omega
    | ⟨1, _⟩ => show ((((ρ.val * 4 + n.val) * 128 + a.val) * 4 + h.val) * 64 + d.val) / 256 % 512 = n.val * 128 + a.val; omega
    | ⟨2, _⟩ => show ((((ρ.val * 4 + n.val) * 128 + a.val) * 4 + h.val) * 64 + d.val) / 64 % 4 = h.val; omega
    | ⟨3, _⟩ => show ((((ρ.val * 4 + n.val) * 128 + a.val) * 4 + h.val) * 64 + d.val) % 64 = d.val; omega
  have e2 : val_main_v1 (F := Ideal) x (ix4 ρ (row n a) h d) = val_main_v0 (F := Ideal) x (ix4 (row n a) ρ h d) := by
    refine (val_main_v1_apply (F := Ideal) x (ix4 ρ (row n a) h d)).trans ?_
    refine congrArg (val_main_v0 (F := Ideal) x) (funext fun b => ?_)
    match b with | ⟨0, _⟩ => rfl | ⟨1, _⟩ => rfl | ⟨2, _⟩ => rfl | ⟨3, _⟩ => rfl
  have e3 : val_main_v0 (F := Ideal) x (ix4 (row n a) ρ h d) = x (ix3 (tok ρ n a) h d) := by
    refine (val_main_v0_apply (F := Ideal) x (ix4 (row n a) ρ h d)).trans ?_
    refine congrArg x (funext fun b => Fin.ext ?_)
    match b with
    | ⟨0, _⟩ => show ((((n.val * 128 + a.val) * 16 + ρ.val) * 4 + h.val) * 64 + d.val) / 256 = (n.val * 128 + a.val) * 16 + ρ.val; omega
    | ⟨1, _⟩ => show ((((n.val * 128 + a.val) * 16 + ρ.val) * 4 + h.val) * 64 + d.val) / 64 % 4 = h.val; omega
    | ⟨2, _⟩ => show ((((n.val * 128 + a.val) * 16 + ρ.val) * 4 + h.val) * 64 + d.val) % 64 = d.val; omega
  exact e1.trans (e2.trans e3)

/-- The strided, blocked values of each token and head. -/
theorem blocksH_apply (x : TokH) (ρ : Fin 16) (n : Fin 4) (h : Fin 4) (a : Fin 128) :
    val_main_v91 (F := Ideal) x (ix4 ρ n h a) = x (ix2 (tok ρ n a) h) := by
  have e0 : val_main_v91 (F := Ideal) x (ix4 ρ n h a) = val_main_v90 (F := Ideal) x (ix4 ρ n a h) := by
    refine (val_main_v91_apply (F := Ideal) x (ix4 ρ n h a)).trans ?_
    refine congrArg (val_main_v90 (F := Ideal) x) (funext fun b => ?_)
    match b with | ⟨0, _⟩ => rfl | ⟨1, _⟩ => rfl | ⟨2, _⟩ => rfl | ⟨3, _⟩ => rfl
  have e1 : val_main_v90 (F := Ideal) x (ix4 ρ n a h) = val_main_v89 (F := Ideal) x (ix3 ρ (row n a) h) := by
    refine (val_main_v90_apply (F := Ideal) x (ix4 ρ n a h)).trans ?_
    refine congrArg (val_main_v89 (F := Ideal) x) (funext fun b => Fin.ext ?_)
    match b with
    | ⟨0, _⟩ => show (((ρ.val * 4 + n.val) * 128 + a.val) * 4 + h.val) / 2048 = ρ.val; omega
    | ⟨1, _⟩ => show (((ρ.val * 4 + n.val) * 128 + a.val) * 4 + h.val) / 4 % 512 = n.val * 128 + a.val; omega
    | ⟨2, _⟩ => show (((ρ.val * 4 + n.val) * 128 + a.val) * 4 + h.val) % 4 = h.val; omega
  have e2 : val_main_v89 (F := Ideal) x (ix3 ρ (row n a) h) = val_main_v88 (F := Ideal) x (ix3 (row n a) ρ h) := by
    refine (val_main_v89_apply (F := Ideal) x (ix3 ρ (row n a) h)).trans ?_
    refine congrArg (val_main_v88 (F := Ideal) x) (funext fun b => ?_)
    match b with | ⟨0, _⟩ => rfl | ⟨1, _⟩ => rfl | ⟨2, _⟩ => rfl
  have e3 : val_main_v88 (F := Ideal) x (ix3 (row n a) ρ h) = x (ix2 (tok ρ n a) h) := by
    refine (val_main_v88_apply (F := Ideal) x (ix3 (row n a) ρ h)).trans ?_
    refine congrArg x (funext fun b => Fin.ext ?_)
    match b with
    | ⟨0, _⟩ => show (((n.val * 128 + a.val) * 16 + ρ.val) * 4 + h.val) / 4 = (n.val * 128 + a.val) * 16 + ρ.val; omega
    | ⟨1, _⟩ => show (((n.val * 128 + a.val) * 16 + ρ.val) * 4 + h.val) % 4 = h.val; omega
  exact e0.trans (e1.trans (e2.trans e3))

/-- A blocked array with each block's predecessor before it. -/
theorem before_apply (x : Tok) (ρ : Fin 16) (n : Fin 4) (a : Fin 128) (h : Fin 4) (d : Fin 64) :
    val_main_v8 (F := Ideal) x (ix5 ρ n a h d)
      = if hn : n.val = 0 then (0 : EReal) else val_main_v2 (F := Ideal) x (ix5 ρ (⟨n.val - 1, by omega⟩ : Fin 4) a h d) := by
  unfold val_main_v8
  split
  · next hn =>
    refine (concatenate_pair_apply_left (t := S16x4x128x4x64) 1 _ _ concatenates_S16x1x128x4x64_S16x3x128x4x64_S16x4x128x4x64_d1 (ix5 ρ n a h d) rfl
      (ix5 ρ (0 : Fin 1) a h d) (fun b => ?_)).trans ?_
    · match b with
      | ⟨0, _⟩ => rfl
      | ⟨1, _⟩ => exact hn.symm
      | ⟨2, _⟩ => rfl
      | ⟨3, _⟩ => rfl
      | ⟨4, _⟩ => rfl
    · rw [val_main_v6_apply, val_main_cst_apply]; exact Ideal.ofBits_zero_f32
  · next hn =>
    refine (concatenate_pair_apply_right (t := S16x4x128x4x64) 1 _ _ concatenates_S16x1x128x4x64_S16x3x128x4x64_S16x4x128x4x64_d1 (ix5 ρ n a h d) rfl rfl
      (ix5 ρ (⟨n.val - 1, by omega⟩ : Fin 3) a h d) (fun b hb => ?_) ?_).trans ?_
    · match b with
      | ⟨0, _⟩ => rfl
      | ⟨1, _⟩ => exact absurd rfl hb
      | ⟨2, _⟩ => rfl
      | ⟨3, _⟩ => rfl
      | ⟨4, _⟩ => rfl
    · show n.val - 1 + 1 = n.val; omega
    · refine (val_main_v7_apply (F := Ideal) x (ix5 ρ (⟨n.val - 1, by omega⟩ : Fin 3) a h d)).trans ?_
      refine congrArg (val_main_v2 (F := Ideal) x) (funext fun b => Fin.ext ?_)
      match b with
      | ⟨0, _⟩ => rfl
      | ⟨1, _⟩ => rfl
      | ⟨2, _⟩ => rfl
      | ⟨3, _⟩ => rfl
      | ⟨4, _⟩ => rfl

/-- The windows of a real array: `win`. -/
theorem window_apply (x : Tok) (K : Fin 16 → Fin 4 → Fin 4 → Fin 128 → Fin 64 → ℝ)
    (hx : ∀ ρ h n a d, x (ix3 (tok ρ n a) h d) = (K ρ h n a d : EReal))
    (ρ : Fin 16) (n : Fin 4) (j : Fin 256) (h : Fin 4) (d : Fin 64) :
    val_main_v10 (F := Ideal) x (ix5 ρ n j h d) = (win (K ρ h) n j d : EReal) := by
  unfold val_main_v10
  by_cases hj : j.val < 128
  · refine (concatenate_pair_apply_left (t := S16x4x256x4x64) 2 _ _ concatenates_S16x4x128x4x64_S16x4x128x4x64_S16x4x256x4x64_d2 (ix5 ρ n j h d) rfl
      (ix5 ρ n (⟨j.val, hj⟩ : Fin 128) h d) (fun b => ?_)).trans ?_
    · match b with
      | ⟨0, _⟩ => rfl
      | ⟨1, _⟩ => rfl
      | ⟨2, _⟩ => rfl
      | ⟨3, _⟩ => rfl
      | ⟨4, _⟩ => rfl
    · rw [before_apply]
      unfold win
      rw [dif_pos hj]
      split
      · next hn => rfl
      · next hn => rw [blocks_apply, hx]
  · refine (concatenate_pair_apply_right (t := S16x4x256x4x64) 2 _ _ concatenates_S16x4x128x4x64_S16x4x128x4x64_S16x4x256x4x64_d2 (ix5 ρ n j h d) rfl rfl
      (ix5 ρ n (⟨j.val - 128, by omega⟩ : Fin 128) h d) (fun b hb => ?_) ?_).trans ?_
    · match b with
      | ⟨0, _⟩ => rfl
      | ⟨1, _⟩ => rfl
      | ⟨2, _⟩ => exact absurd rfl hb
      | ⟨3, _⟩ => rfl
      | ⟨4, _⟩ => rfl
    · show j.val - 128 + 128 = j.val; omega
    · show val_main_v2 (F := Ideal) x _ = _
      unfold win
      rw [dif_neg hj, blocks_apply, hx]

/-! ## The mask -/

/-- A small integer's word is not negative exactly when the integer is not. -/
theorem sge_zero (z : Int) (h : -1024 ≤ z ∧ z ≤ 1024) : IntOp.cmpi .sge (BitVec.ofInt 32 z) 0#32 = if 0 ≤ z then 1#1 else 0#1 := by
  have e : (BitVec.ofInt 32 z).toInt = z := by rw [BitVec.toInt_ofInt]; exact Int.bmod_eq_of_le (by omega) (by omega)
  have h0 : (0#32 : BitVec 32).toInt = 0 := by decide
  simp only [IntOp.cmpi, BitVec.sle, e, h0]
  by_cases hz : 0 ≤ z <;> simp [hz]

/-- A small integer's word against a hundred and twenty-eight. -/
theorem sle_128 (z : Int) (h : -1024 ≤ z ∧ z ≤ 1024) : IntOp.cmpi .sle (BitVec.ofInt 32 z) 128#32 = if z ≤ 128 then 1#1 else 0#1 := by
  have e : (BitVec.ofInt 32 z).toInt = z := by rw [BitVec.toInt_ofInt]; exact Int.bmod_eq_of_le (by omega) (by omega)
  have h0 : (128#32 : BitVec 32).toInt = 128 := by decide
  simp only [IntOp.cmpi, BitVec.sle, e, h0]
  by_cases hz : z ≤ 128 <;> simp [hz]

/-- The difference of two integers' words. -/
theorem ofInt_sub (x y : Int) : BitVec.ofInt 32 (x - y) = BitVec.ofInt 32 x - BitVec.ofInt 32 y := by
  apply BitVec.eq_of_toInt_eq
  rw [BitVec.toInt_sub, BitVec.toInt_ofInt, BitVec.toInt_ofInt, BitVec.toInt_ofInt]
  rw [Int.bmod_sub_bmod, Int.sub_bmod_bmod]

/-- A key's position. -/
theorem keyPos_apply (n : Fin 4) (j : Fin 256) :
    val_main_v41 (F := Ideal) (ix2 n j) = BitVec.ofInt 32 ((n.val : Int) * 128 - 128 + j.val) := by
  rw [val_main_v41_apply, val_main_v39_apply, val_main_v40_apply, val_main_v38_apply, val_main_v36_apply, val_main_v34_apply,
    val_main_v32_apply, val_main_v33_apply, val_main_v35_apply, val_main_v31_apply, val_main_v37_apply]
  show (BitVec.ofNat 32 n.val * 128#32 - 128#32) + BitVec.ofNat 32 j.val = _
  rw [BitVec.ofInt_add, ofInt_sub, BitVec.ofInt_mul]
  rfl

/-- A query's distance from a key. -/
theorem dist_apply (n : Fin 4) (a : Fin 128) (j : Fin 256) :
    val_main_v46 (F := Ideal) (ix3 n a j) = BitVec.ofInt 32 ((a.val : Int) + 128 - j.val) := by
  have e1 : val_main_v44 (F := Ideal) (ix3 n a j) = BitVec.ofInt 32 ((n.val : Int) * 128 + a.val) := by
    rw [val_main_v44_apply, val_main_v42_apply, val_main_v30_apply, val_main_v28_apply, val_main_v29_apply, val_main_v27_apply,
      val_main_v25_apply, val_main_v23_apply, val_main_v24_apply, val_main_v22_apply, val_main_v26_apply]
    show BitVec.ofNat 32 n.val * 128#32 + BitVec.ofNat 32 a.val = _
    rw [BitVec.ofInt_add, BitVec.ofInt_mul]
    rfl
  have e2 : val_main_v45 (F := Ideal) (ix3 n a j) = BitVec.ofInt 32 ((n.val : Int) * 128 - 128 + j.val) := by
    rw [val_main_v45_apply, val_main_v43_apply]
    exact (congrArg (val_main_v41 (F := Ideal)) (funext fun b => by match b with | ⟨0, _⟩ => rfl | ⟨1, _⟩ => rfl)).trans (keyPos_apply n j)
  rw [val_main_v46_apply, e1, e2]
  show BitVec.ofInt 32 _ - BitVec.ofInt 32 _ = _
  rw [← ofInt_sub]
  congr 1
  omega

/-- The mask: one where the query sees the key. -/
theorem mask_apply (n : Fin 4) (a : Fin 128) (j : Fin 256) :
    val_main_v56 (F := Ideal) (ix3 n a j) = if Sees n a j then 1#1 else 0#1 := by
  have e1 : val_main_v48 (F := Ideal) (ix3 n a j) = if (0 : Int) ≤ (a.val : Int) + 128 - j.val then 1#1 else 0#1 := by
    rw [val_main_v48_apply, dist_apply]; exact sge_zero _ (by omega)
  have e2 : val_main_v50 (F := Ideal) (ix3 n a j) = if (a.val : Int) + 128 - j.val ≤ 128 then 1#1 else 0#1 := by
    rw [val_main_v50_apply, dist_apply]; exact sle_128 _ (by omega)
  have e3 : val_main_v55 (F := Ideal) (ix3 n a j) = if (0 : Int) ≤ (n.val : Int) * 128 - 128 + j.val then 1#1 else 0#1 := by
    rw [val_main_v55_apply, val_main_v54_apply, val_main_v52_apply]
    refine Eq.trans ?_ (sge_zero _ (by omega))
    exact congrArg (fun w => IntOp.cmpi .sge w 0#32) ((congrArg (val_main_v41 (F := Ideal))
      (funext fun b => by match b with | ⟨0, _⟩ => rfl | ⟨1, _⟩ => rfl)).trans (keyPos_apply n j))
  rw [val_main_v56_apply, val_main_v51_apply, e1, e2, e3]
  have hs : Sees n a j ↔ ((0 : Int) ≤ (a.val : Int) + 128 - j.val ∧ (a.val : Int) + 128 - j.val ≤ 128)
      ∧ (0 : Int) ≤ (n.val : Int) * 128 - 128 + j.val := by
    unfold Sees; omega
  have hand : ∀ (p q : Prop) [Decidable p] [Decidable q], IntOp.andi (if p then 1#1 else 0#1) (if q then 1#1 else 0#1)
      = if p ∧ q then (1#1 : BitVec 1) else 0#1 := fun p q _ _ => by by_cases hp : p <;> by_cases hq : q <;> simp [hp, hq, IntOp.andi]
  rw [hand, hand]
  exact if_congr hs.symm rfl rfl

/-- The mask spread over residues and heads. -/
theorem maskAll_apply (ρ : Fin 16) (n h : Fin 4) (a : Fin 128) (j : Fin 256) :
    val_main_v58_1 (F := Ideal) (ix5 ρ n h a j) = if Sees n a j then 1#1 else 0#1 := by
  rw [val_main_v58_1_apply, val_main_v57_apply]
  exact (congrArg (val_main_v56 (F := Ideal)) (funext fun b => by match b with | ⟨0, _⟩ => rfl | ⟨1, _⟩ => rfl | ⟨2, _⟩ => rfl)).trans (mask_apply n a j)

end Cert.ReferenceIdeal.Row

end
-- ==== Proof.RowMax.lean ====
/-
  The largest score a query sees, and the extended-real readings of a masked row: the maximum, the division by a
  real, the counts.
-/
module

public import proofs.«01_k».proof.Proof.Attn
public import Idealize.ShloMosaic.PureOps.Ideal.Laws

@[expose] public section

noncomputable section

open scoped BigOperators

namespace Cert.Attn

open Idealize.ShloMosaic

section Row
variable (s : Fin 256 → ℝ) (v : Fin 256 → Prop) [DecidablePred v]

/-- The largest seen score of a row. -/
def top : ℝ := if h : (Finset.univ.filter v).Nonempty then (Finset.univ.filter v).sup' h s else 0

variable {v}

/-- The largest score is the score of a seen key. -/
theorem top_attained (hv : ∃ j, v j) : ∃ j, v j ∧ top s v = s j := by
  obtain ⟨j, hj⟩ := hv
  have h : (Finset.univ.filter v).Nonempty := ⟨j, by simp [hj]⟩
  unfold top
  rw [dif_pos h]
  obtain ⟨i, hi, e⟩ := Finset.exists_mem_eq_sup' h s
  exact ⟨i, (Finset.mem_filter.mp hi).2, e⟩

/-- No seen score is larger. -/
theorem le_top (j : Fin 256) (hj : v j) : s j ≤ top s v := by
  have hm : j ∈ Finset.univ.filter v := by simp [hj]
  unfold top
  rw [dif_pos ⟨j, hm⟩]
  exact Finset.le_sup' s hm

/-- A masked row's maximum, from minus infinity. -/
theorem fold_max_masked (hv : ∃ j, v j) :
    (Finset.univ : Finset (Fin 256)).fold max (⊥ : EReal) (fun j => if v j then (s j : EReal) else ⊥) = (top s v : EReal) := by
  refine le_antisymm (Finset.fold_max_le _ |>.mpr ⟨bot_le, fun j _ => ?_⟩) ?_
  · by_cases hj : v j
    · rw [if_pos hj]; exact EReal.coe_le_coe_iff.mpr (le_top s j hj)
    · rw [if_neg hj]; exact bot_le
  · obtain ⟨j, hj, e⟩ := top_attained s hv
    refine (Finset.le_fold_max _).mpr (Or.inr ⟨j, Finset.mem_univ j, ?_⟩)
    rw [if_pos hj, e]

end Row

/-- A real divided by a real other than zero. -/
theorem div_real (x : ℝ) {y : ℝ} (h : y ≠ 0) : Ideal.div (x : EReal) (y : EReal) = ((x / y : ℝ) : EReal) := by
  rw [Ideal.div_coe h, ← EReal.coe_mul]; congr 1; rw [mul_one_div]

/-- Zero divided by a sum of zeros and ones with a one among them. -/
theorem zero_div_count (f : Fin 256 → BitVec 1) (j : Fin 256) (hj : f j = 1#1) :
    Ideal.div (0 : EReal) (0 + ∑ k, (((f k).toNat : ℝ) : EReal)) = 0 := by
  have hp : (0 : ℝ) < ∑ k, ((f k).toNat : ℝ) :=
    Finset.sum_pos' (fun i _ => Nat.cast_nonneg _) ⟨j, Finset.mem_univ j, by rw [hj]; simp⟩
  rw [zero_add, ← coe_sum, ← EReal.coe_zero, div_real 0 hp.ne', zero_div]

/-- The pattern of an eighth. -/
theorem eighth : Ideal.ofBits .f32 0x3E000000#32 = ((1 / 8 : ℝ) : EReal) := by
  simp [Ideal.ofBits, Ideal.ieee]; norm_num; rw [← EReal.coe_mul]; norm_num

/-- The pattern of eight. -/
theorem eight : Ideal.ofBits .f32 0x41000000#32 = ((8 : ℝ) : EReal) := by
  simp [Ideal.ofBits, Ideal.ieee]; norm_num; rw [← EReal.coe_mul]; norm_num

/-- The pattern of one. -/
theorem one : Ideal.ofBits .f32 0x3F800000#32 = ((1 : ℝ) : EReal) := by
  simp [Ideal.ofBits, Ideal.ieee]; norm_num; rw [← EReal.coe_mul]; norm_num

/-- The pattern of minus infinity. -/
theorem minusInfinity : Ideal.ofBits .f32 0xFF800000#32 = (⊥ : EReal) := by
  simp [Ideal.ofBits, Ideal.ieee]

end Cert.Attn

end
-- ==== Proof.RefRow.lean ====
/-
  The reference's softmax row and what flows back through it, read at an index over real inputs: the masked scores,
  their maximum, weights and sum, the log-sum and the weighted values; then the gradient of the scores.
-/
module

public import proofs.«01_k».proof.Proof.RefRead
public import proofs.«01_k».proof.Proof.RowMax

@[expose] public section

noncomputable section

open scoped BigOperators

namespace Cert.ReferenceIdeal.Row

open Idealize.ShloMosaic Idealize.ShloMosaic.TcCoe Idealize.SL.Sem Idealize.ShloMosaic.ValueIdx
open Cert.ReferenceIdeal Cert.ReferenceIdeal.Gen Cert.ReferenceIdeal.Read Cert.Attn

local notation "Tok" => FVec Ideal S8192x4x64 FTy.f32
local notation "TokH" => FVec Ideal S8192x4 FTy.f32

/-- The inputs read as reals by residue, head, block and row. -/
structure Reals (x0 x1 x2 x3 : Tok) (x4 : TokH) (Q K V G : Fin 16 → Fin 4 → Fin 4 → Fin 128 → Fin 64 → ℝ)
    (D : Fin 16 → Fin 4 → Fin 4 → Fin 128 → ℝ) : Prop where
  q : ∀ ρ h n a d, x0 (ix3 (tok ρ n a) h d) = (Q ρ h n a d : EReal)
  k : ∀ ρ h n a d, x1 (ix3 (tok ρ n a) h d) = (K ρ h n a d : EReal)
  v : ∀ ρ h n a d, x2 (ix3 (tok ρ n a) h d) = (V ρ h n a d : EReal)
  g : ∀ ρ h n a d, x3 (ix3 (tok ρ n a) h d) = (G ρ h n a d : EReal)
  d : ∀ ρ h n a, x4 (ix2 (tok ρ n a) h) = (D ρ h n a : EReal)

variable {x0 x1 x2 x3 : Tok} {x4 : TokH} {Q K V G : Fin 16 → Fin 4 → Fin 4 → Fin 128 → Fin 64 → ℝ}
  {D : Fin 16 → Fin 4 → Fin 4 → Fin 128 → ℝ} (r : Reals x0 x1 x2 x3 x4 Q K V G D)
  (ρ : Fin 16) (n h : Fin 4) (a : Fin 128) (j : Fin 256) (d : Fin 64)

/-- The largest score of a query. -/
def big (Q K : Fin 16 → Fin 4 → Fin 4 → Fin 128 → Fin 64 → ℝ) (ρ : Fin 16) (h n : Fin 4) (a : Fin 128) : ℝ :=
  top (score (Q ρ h) (K ρ h) n a) (Sees n a)

/-- The sum of a query's weights. -/
def sum (Q K : Fin 16 → Fin 4 → Fin 4 → Fin 128 → Fin 64 → ℝ) (ρ : Fin 16) (h n : Fin 4) (a : Fin 128) : ℝ :=
  tot (score (Q ρ h) (K ρ h) n a) (Sees n a) (big Q K ρ h n a)

/-- The weight of a key. -/
def weight (Q K : Fin 16 → Fin 4 → Fin 4 → Fin 128 → Fin 64 → ℝ) (ρ : Fin 16) (h n : Fin 4) (a : Fin 128) (j : Fin 256) : ℝ :=
  wt (score (Q ρ h) (K ρ h) n a) (Sees n a) (big Q K ρ h n a) j

/-- A query's weights have a positive sum. -/
theorem sum_pos (Q K : Fin 16 → Fin 4 → Fin 4 → Fin 128 → Fin 64 → ℝ) : 0 < sum Q K ρ h n a :=
  tot_pos _ (exists_sees n a) _

/-- A weight over the sum of the weights is the probability. -/
theorem weight_div_sum (Q K : Fin 16 → Fin 4 → Fin 4 → Fin 128 → Fin 64 → ℝ) :
    weight Q K ρ h n a j / sum Q K ρ h n a = P (Q ρ h) (K ρ h) n a j := wt_div_tot _ _ j

include r

/-! ## The forward row -/

/-- The scores. -/
theorem scores_apply : val_main_v21 (F := Ideal) x0 x1 (ix5 ρ n h a j) = (score (Q ρ h) (K ρ h) n a j : EReal) := by
  rw [val_main_v21_apply, val_main_v19_apply, val_main_v20_apply, val_main_cst_3_apply]
  have e1 : ∀ k : Fin 64, val_main_v2 (F := Ideal) x0 (lidx_main_v19 (ix5 ρ n h a j) k) = (Q ρ h n a k : EReal) := fun k =>
    (congrArg (val_main_v2 (F := Ideal) x0) (funext fun b => by
      match b with | ⟨0, _⟩ => rfl | ⟨1, _⟩ => rfl | ⟨2, _⟩ => rfl | ⟨3, _⟩ => rfl | ⟨4, _⟩ => rfl)).trans
      ((blocks_apply x0 ρ n a h k).trans (r.q ρ h n a k))
  have e2 : ∀ k : Fin 64, val_main_v10 (F := Ideal) x1 (ridx_main_v19 (ix5 ρ n h a j) k) = (win (K ρ h) n j k : EReal) := fun k =>
    (congrArg (val_main_v10 (F := Ideal) x1) (funext fun b => by
      match b with | ⟨0, _⟩ => rfl | ⟨1, _⟩ => rfl | ⟨2, _⟩ => rfl | ⟨3, _⟩ => rfl | ⟨4, _⟩ => rfl)).trans
      (window_apply x1 K r.k ρ n j h k)
  show (∑ k : Fin 64, _ * _ : EReal) * Ideal.ofBits .f32 0x3E000000#32 = _
  rw [eighth, Finset.sum_congr rfl fun k _ => by rw [e1 k, e2 k, ← EReal.coe_mul], ← coe_sum, ← EReal.coe_mul, mul_comm]
  rfl

/-- The masked scores. -/
theorem masked_apply : val_main_v58_0 (F := Ideal) x0 x1 (ix5 ρ n h a j)
    = if Sees n a j then (score (Q ρ h) (K ρ h) n a j : EReal) else ⊥ := by
  rw [val_main_v58_0_apply, maskAll_apply, scores_apply r, val_main_call0_v2_apply, val_main_call0_v0_apply, val_main_cst_9_apply]
  show Scalar.select _ _ (Ideal.ofBits .f32 0xFF800000#32) = _
  rw [minusInfinity]
  by_cases hs : Sees n a j
  · rw [if_pos hs, if_pos hs]; rfl
  · rw [if_neg hs, if_neg hs]; rfl

/-- The row's maximum. -/
theorem max_apply : val_main_v59 (F := Ideal) x0 x1 (ix4 ρ n h a) = (big Q K ρ h n a : EReal) := by
  have hm : ∀ k, val_main_v58_0 (F := Ideal) x0 x1 (ix5 ρ n h a k) = if Sees n a k then (score (Q ρ h) (K ρ h) n a k : EReal) else ⊥ :=
    fun k => masked_apply r ρ n h a k
  have hr : S16x4x4x128x256.Reduces [4] S16x4x4x128 := by decide
  unfold val_main_v59
  revert hm
  generalize val_main_v58_0 (F := Ideal) x0 x1 = y
  intro hm
  rw [Host.reduce_eq_fold_single _ _ _ _ hr]
  refine Eq.trans ?_ (fold_max_masked (score (Q ρ h) (K ρ h) n a) (exists_sees n a))
  show (Finset.univ : Finset (Fin 256)).fold max (Ideal.ofBits .f32 0xFF800000#32) _ = _
  rw [minusInfinity]
  refine congrArg (fun f => (Finset.univ : Finset (Fin 256)).fold max (⊥ : EReal) f) (funext fun k => ?_)
  refine Eq.trans (congrArg y (funext fun b => ?_)) (hm k)
  match b with | ⟨0, _⟩ => rfl | ⟨1, _⟩ => rfl | ⟨2, _⟩ => rfl | ⟨3, _⟩ => rfl | ⟨4, _⟩ => rfl

/-- The row's maximum with a unit axis. -/
theorem maxUnit_apply (z : Fin 1) : val_main_v65 (F := Ideal) x0 x1 (ix5 ρ n h a z) = (big Q K ρ h n a : EReal) := by
  rw [val_main_v65_apply]
  refine Eq.trans (congrArg (val_main_v59 (F := Ideal) x0 x1) (funext fun b => ?_)) (max_apply r ρ n h a)
  match b with | ⟨0, _⟩ => rfl | ⟨1, _⟩ => rfl | ⟨2, _⟩ => rfl | ⟨3, _⟩ => rfl

/-- The weights. -/
theorem weights_apply : val_main_v68 (F := Ideal) x0 x1 (ix5 ρ n h a j) = (weight Q K ρ h n a j : EReal) := by
  have e : val_main_v66 (F := Ideal) x0 x1 (ix5 ρ n h a j) = (big Q K ρ h n a : EReal) := by
    rw [val_main_v66_apply]
    refine Eq.trans (congrArg (val_main_v65 (F := Ideal) x0 x1) (funext fun b => ?_)) (maxUnit_apply r ρ n h a 0)
    match b with | ⟨0, _⟩ => rfl | ⟨1, _⟩ => rfl | ⟨2, _⟩ => rfl | ⟨3, _⟩ => rfl | ⟨4, _⟩ => rfl
  rw [val_main_v68_apply, val_main_v67_apply, masked_apply r, e]
  show Ideal.exp ((if Sees n a j then (score (Q ρ h) (K ρ h) n a j : EReal) else ⊥) - (big Q K ρ h n a : EReal)) = _
  unfold weight wt
  by_cases hs : Sees n a j
  · rw [if_pos hs, if_pos hs, ← EReal.coe_sub, Ideal.exp_coe]
  · rw [if_neg hs, if_neg hs, EReal.bot_sub, Ideal.exp_bot, EReal.coe_zero]

/-- The weights' sum, with a unit axis. -/
theorem sumUnit_apply (z : Fin 1) : val_main_v70 (F := Ideal) x0 x1 (ix5 ρ n h a z) = (sum Q K ρ h n a : EReal) := by
  rw [val_main_v70_apply, val_main_v69_apply, val_main_cst_12_apply]
  show Ideal.ofBits .f32 0x00000000#32 + _ = _
  rw [Ideal.ofBits_zero_f32, zero_add, sum, tot, coe_sum]
  refine Finset.sum_congr rfl fun k _ => ?_
  refine Eq.trans (congrArg (val_main_v68 (F := Ideal) x0 x1) (funext fun b => ?_)) (weights_apply r ρ n h a k)
  match b with | ⟨0, _⟩ => rfl | ⟨1, _⟩ => rfl | ⟨2, _⟩ => rfl | ⟨3, _⟩ => rfl | ⟨4, _⟩ => rfl

/-- The probabilities. -/
theorem probs_apply : val_main_v72 (F := Ideal) x0 x1 (ix5 ρ n h a j) = (P (Q ρ h) (K ρ h) n a j : EReal) := by
  have e : val_main_v71 (F := Ideal) x0 x1 (ix5 ρ n h a j) = (sum Q K ρ h n a : EReal) := by
    rw [val_main_v71_apply]
    refine Eq.trans (congrArg (val_main_v70 (F := Ideal) x0 x1) (funext fun b => ?_)) (sumUnit_apply r ρ n h a 0)
    match b with | ⟨0, _⟩ => rfl | ⟨1, _⟩ => rfl | ⟨2, _⟩ => rfl | ⟨3, _⟩ => rfl | ⟨4, _⟩ => rfl
  rw [val_main_v72_apply, weights_apply r, e]
  show Ideal.div _ _ = _
  rw [div_real _ (sum_pos ρ n h a Q K).ne', weight_div_sum]

/-- One over the square of the weights' sum. -/
theorem square_apply (z : Fin 1) : val_main_v75 (F := Ideal) x0 x1 (ix5 ρ n h a z)
    = ((1 / (sum Q K ρ h n a * sum Q K ρ h n a) : ℝ) : EReal) := by
  rw [val_main_v75_apply, val_main_v73_apply, sumUnit_apply r, val_main_v74_apply, val_main_cst_13_apply]
  show Ideal.div (Ideal.ofBits .f32 0x3F800000#32) ((sum Q K ρ h n a : EReal) * (sum Q K ρ h n a : EReal)) = _
  rw [one, ← EReal.coe_mul, div_real _ (mul_pos (sum_pos ρ n h a Q K) (sum_pos ρ n h a Q K)).ne']

/-- The saved log-sum, at a token. -/
theorem lse_apply : val_main_v87 (F := Ideal) x0 x1 (ix2 (tok ρ n a) h)
    = ((big Q K ρ h n a + Real.log (sum Q K ρ h n a) : ℝ) : EReal) := by
  have e1 : val_main_v87 (F := Ideal) x0 x1 (ix2 (tok ρ n a) h) = val_main_v86 (F := Ideal) x0 x1 (ix3 (row n a) ρ h) := by
    refine (val_main_v87_apply (F := Ideal) x0 x1 (ix2 (tok ρ n a) h)).trans ?_
    refine congrArg (val_main_v86 (F := Ideal) x0 x1) (funext fun b => Fin.ext ?_)
    match b with
    | ⟨0, _⟩ => show (((n.val * 128 + a.val) * 16 + ρ.val) * 4 + h.val) / 64 = n.val * 128 + a.val; omega
    | ⟨1, _⟩ => show (((n.val * 128 + a.val) * 16 + ρ.val) * 4 + h.val) / 4 % 16 = ρ.val; omega
    | ⟨2, _⟩ => show (((n.val * 128 + a.val) * 16 + ρ.val) * 4 + h.val) % 4 = h.val; omega
  have e2 : val_main_v86 (F := Ideal) x0 x1 (ix3 (row n a) ρ h) = val_main_v85 (F := Ideal) x0 x1 (ix3 ρ (row n a) h) := by
    refine (val_main_v86_apply (F := Ideal) x0 x1 (ix3 (row n a) ρ h)).trans ?_
    refine congrArg (val_main_v85 (F := Ideal) x0 x1) (funext fun b => ?_)
    match b with | ⟨0, _⟩ => rfl | ⟨1, _⟩ => rfl | ⟨2, _⟩ => rfl
  have e3 : val_main_v85 (F := Ideal) x0 x1 (ix3 ρ (row n a) h) = val_main_v84 (F := Ideal) x0 x1 (ix4 ρ n a h) := by
    refine (val_main_v85_apply (F := Ideal) x0 x1 (ix3 ρ (row n a) h)).trans ?_
    refine congrArg (val_main_v84 (F := Ideal) x0 x1) (funext fun b => Fin.ext ?_)
    match b with
    | ⟨0, _⟩ => show ((ρ.val * 512 + (n.val * 128 + a.val)) * 4 + h.val) / 2048 = ρ.val; omega
    | ⟨1, _⟩ => show ((ρ.val * 512 + (n.val * 128 + a.val)) * 4 + h.val) / 512 % 4 = n.val; omega
    | ⟨2, _⟩ => show ((ρ.val * 512 + (n.val * 128 + a.val)) * 4 + h.val) / 4 % 128 = a.val; omega
    | ⟨3, _⟩ => show ((ρ.val * 512 + (n.val * 128 + a.val)) * 4 + h.val) % 4 = h.val; omega
  have e4 : val_main_v84 (F := Ideal) x0 x1 (ix4 ρ n a h) = val_main_v80 (F := Ideal) x0 x1 (ix4 ρ n h a) := by
    refine (val_main_v84_apply (F := Ideal) x0 x1 (ix4 ρ n a h)).trans ?_
    refine congrArg (val_main_v80 (F := Ideal) x0 x1) (funext fun b => ?_)
    match b with | ⟨0, _⟩ => rfl | ⟨1, _⟩ => rfl | ⟨2, _⟩ => rfl | ⟨3, _⟩ => rfl
  have e5 : val_main_v80 (F := Ideal) x0 x1 (ix4 ρ n h a) = val_main_v79 (F := Ideal) x0 x1 (ix5 ρ n h a (0 : Fin 1)) := by
    refine (val_main_v80_apply (F := Ideal) x0 x1 (ix4 ρ n h a)).trans ?_
    refine congrArg (val_main_v79 (F := Ideal) x0 x1) (funext fun b => Fin.ext ?_)
    match b with
    | ⟨0, _⟩ => show (((ρ.val * 4 + n.val) * 4 + h.val) * 128 + a.val) / 2048 = ρ.val; omega
    | ⟨1, _⟩ => show (((ρ.val * 4 + n.val) * 4 + h.val) * 128 + a.val) / 512 % 4 = n.val; omega
    | ⟨2, _⟩ => show (((ρ.val * 4 + n.val) * 4 + h.val) * 128 + a.val) / 128 % 4 = h.val; omega
    | ⟨3, _⟩ => show (((ρ.val * 4 + n.val) * 4 + h.val) * 128 + a.val) / 1 % 128 = a.val; omega
    | ⟨4, _⟩ => rfl
  rw [e1, e2, e3, e4, e5, val_main_v79_apply, val_main_v78_apply, maxUnit_apply r, sumUnit_apply r]
  show (big Q K ρ h n a : EReal) + Ideal.log (sum Q K ρ h n a : EReal) = _
  rw [Ideal.log_coe, if_neg (not_le.mpr (sum_pos ρ n h a Q K)), ← EReal.coe_add]

/-- The weighted values, at a token. -/
theorem out_apply : val_main_v83 (F := Ideal) x0 x1 x2 (ix3 (tok ρ n a) h d)
    = ((∑ j, win (V ρ h) n j d * P (Q ρ h) (K ρ h) n a j : ℝ) : EReal) := by
  have e1 : val_main_v83 (F := Ideal) x0 x1 x2 (ix3 (tok ρ n a) h d) = val_main_v82 (F := Ideal) x0 x1 x2 (ix4 (row n a) ρ h d) := by
    refine (val_main_v83_apply (F := Ideal) x0 x1 x2 (ix3 (tok ρ n a) h d)).trans ?_
    refine congrArg (val_main_v82 (F := Ideal) x0 x1 x2) (funext fun b => Fin.ext ?_)
    match b with
    | ⟨0, _⟩ => show ((((n.val * 128 + a.val) * 16 + ρ.val) * 4 + h.val) * 64 + d.val) / 4096 = n.val * 128 + a.val; omega
    | ⟨1, _⟩ => show ((((n.val * 128 + a.val) * 16 + ρ.val) * 4 + h.val) * 64 + d.val) / 256 % 16 = ρ.val; omega
    | ⟨2, _⟩ => show ((((n.val * 128 + a.val) * 16 + ρ.val) * 4 + h.val) * 64 + d.val) / 64 % 4 = h.val; omega
    | ⟨3, _⟩ => show ((((n.val * 128 + a.val) * 16 + ρ.val) * 4 + h.val) * 64 + d.val) % 64 = d.val; omega
  have e2 : val_main_v82 (F := Ideal) x0 x1 x2 (ix4 (row n a) ρ h d) = val_main_v81 (F := Ideal) x0 x1 x2 (ix4 ρ (row n a) h d) := by
    refine (val_main_v82_apply (F := Ideal) x0 x1 x2 (ix4 (row n a) ρ h d)).trans ?_
    refine congrArg (val_main_v81 (F := Ideal) x0 x1 x2) (funext fun b => ?_)
    match b with | ⟨0, _⟩ => rfl | ⟨1, _⟩ => rfl | ⟨2, _⟩ => rfl | ⟨3, _⟩ => rfl
  have e3 : val_main_v81 (F := Ideal) x0 x1 x2 (ix4 ρ (row n a) h d) = val_main_v77 (F := Ideal) x0 x1 x2 (ix5 ρ n a h d) := by
    refine (val_main_v81_apply (F := Ideal) x0 x1 x2 (ix4 ρ (row n a) h d)).trans ?_
    refine congrArg (val_main_v77 (F := Ideal) x0 x1 x2) (funext fun b => Fin.ext ?_)
    match b with
    | ⟨0, _⟩ => show (((ρ.val * 512 + (n.val * 128 + a.val)) * 4 + h.val) * 64 + d.val) / 131072 = ρ.val; omega
    | ⟨1, _⟩ => show (((ρ.val * 512 + (n.val * 128 + a.val)) * 4 + h.val) * 64 + d.val) / 32768 % 4 = n.val; omega
    | ⟨2, _⟩ => show (((ρ.val * 512 + (n.val * 128 + a.val)) * 4 + h.val) * 64 + d.val) / 256 % 128 = a.val; omega
    | ⟨3, _⟩ => show (((ρ.val * 512 + (n.val * 128 + a.val)) * 4 + h.val) * 64 + d.val) / 64 % 4 = h.val; omega
    | ⟨4, _⟩ => show (((ρ.val * 512 + (n.val * 128 + a.val)) * 4 + h.val) * 64 + d.val) % 64 = d.val; omega
  have e4 : val_main_v77 (F := Ideal) x0 x1 x2 (ix5 ρ n a h d) = val_main_v76 (F := Ideal) x0 x1 x2 (ix5 ρ n h d a) := by
    refine (val_main_v77_apply (F := Ideal) x0 x1 x2 (ix5 ρ n a h d)).trans ?_
    refine congrArg (val_main_v76 (F := Ideal) x0 x1 x2) (funext fun b => ?_)
    match b with | ⟨0, _⟩ => rfl | ⟨1, _⟩ => rfl | ⟨2, _⟩ => rfl | ⟨3, _⟩ => rfl | ⟨4, _⟩ => rfl
  rw [e1, e2, e3, e4, val_main_v76_apply, coe_sum]
  refine Finset.sum_congr rfl fun k _ => ?_
  rw [EReal.coe_mul]
  refine congrArg₂ (fun x y : EReal => x * y) ?_ ?_
  · refine Eq.trans (congrArg (val_main_v10 (F := Ideal) x2) (funext fun b => ?_)) (window_apply x2 V r.v ρ n k h d)
    match b with | ⟨0, _⟩ => rfl | ⟨1, _⟩ => rfl | ⟨2, _⟩ => rfl | ⟨3, _⟩ => rfl | ⟨4, _⟩ => rfl
  · refine Eq.trans (congrArg (val_main_v72 (F := Ideal) x0 x1) (funext fun b => ?_)) (probs_apply r ρ n h a k)
    match b with | ⟨0, _⟩ => rfl | ⟨1, _⟩ => rfl | ⟨2, _⟩ => rfl | ⟨3, _⟩ => rfl | ⟨4, _⟩ => rfl

/-! ## What flows back -/

/-- The gradient of the weighted values, turned to face a product. -/
theorem turned_apply : val_main_v97 (F := Ideal) x3 (ix5 ρ n h d a) = (G ρ h n a d : EReal) := by
  rw [val_main_v97_apply]
  refine Eq.trans (congrArg (val_main_v2 (F := Ideal) x3) (funext fun b => ?_)) ((blocks_apply x3 ρ n a h d).trans (r.g ρ h n a d))
  match b with | ⟨0, _⟩ => rfl | ⟨1, _⟩ => rfl | ⟨2, _⟩ => rfl | ⟨3, _⟩ => rfl | ⟨4, _⟩ => rfl

/-- The gradient of the weighted values against the value rows. -/
theorem facing_apply : val_main_v98 (F := Ideal) x2 x3 (ix5 ρ n h a j) = (gv (V ρ h) (G ρ h) n a j : EReal) := by
  rw [val_main_v98_apply, gv, coe_sum]
  refine Finset.sum_congr rfl fun k _ => ?_
  rw [EReal.coe_mul]
  refine congrArg₂ (fun x y : EReal => x * y) ?_ ?_
  · refine Eq.trans (congrArg (val_main_v97 (F := Ideal) x3) (funext fun b => ?_)) (turned_apply r ρ n h a k)
    match b with | ⟨0, _⟩ => rfl | ⟨1, _⟩ => rfl | ⟨2, _⟩ => rfl | ⟨3, _⟩ => rfl | ⟨4, _⟩ => rfl
  · refine Eq.trans (congrArg (val_main_v10 (F := Ideal) x2) (funext fun b => ?_)) (window_apply x2 V r.v ρ n j h k)
    match b with | ⟨0, _⟩ => rfl | ⟨1, _⟩ => rfl | ⟨2, _⟩ => rfl | ⟨3, _⟩ => rfl | ⟨4, _⟩ => rfl

/-- The gradient of the log-sum, with a unit axis. -/
theorem logSum_apply (z : Fin 1) : val_main_v95 (F := Ideal) x4 (ix5 ρ n h a z) = (D ρ h n a : EReal) := by
  rw [val_main_v95_apply]
  refine Eq.trans (congrArg (val_main_v91 (F := Ideal) x4) (funext fun b => ?_)) ((blocksH_apply x4 ρ n h a).trans (r.d ρ h n a))
  match b with | ⟨0, _⟩ => rfl | ⟨1, _⟩ => rfl | ⟨2, _⟩ => rfl | ⟨3, _⟩ => rfl

/-- What reaches the weights' sum. -/
theorem toSum_apply (z : Fin 1) : val_main_v107 (F := Ideal) x0 x1 x2 x3 x4 (ix5 ρ n h a z)
    = ((D ρ h n a / sum Q K ρ h n a + -∑ i, gv (V ρ h) (G ρ h) n a i * (1 / (sum Q K ρ h n a * sum Q K ρ h n a)) * weight Q K ρ h n a i : ℝ) : EReal) := by
  have e1 : val_main_v104 (F := Ideal) x0 x1 x2 x3 (ix4 ρ n h a)
      = ((∑ i, gv (V ρ h) (G ρ h) n a i * (1 / (sum Q K ρ h n a * sum Q K ρ h n a)) * weight Q K ρ h n a i : ℝ) : EReal) := by
    rw [val_main_v104_apply, val_main_cst_14_apply]
    show Ideal.ofBits .f32 0x00000000#32 + _ = _
    rw [Ideal.ofBits_zero_f32, zero_add, coe_sum]
    refine Finset.sum_congr rfl fun k _ => ?_
    refine Eq.trans (congrArg (val_main_v103 (F := Ideal) x0 x1 x2 x3) (a₂ := ix5 ρ n h a k) (funext fun b => ?_)) ?_
    · match b with | ⟨0, _⟩ => rfl | ⟨1, _⟩ => rfl | ⟨2, _⟩ => rfl | ⟨3, _⟩ => rfl | ⟨4, _⟩ => rfl
    have e : val_main_v101 (F := Ideal) x0 x1 (ix5 ρ n h a k) = ((1 / (sum Q K ρ h n a * sum Q K ρ h n a) : ℝ) : EReal) := by
      rw [val_main_v101_apply]
      refine Eq.trans (congrArg (val_main_v75 (F := Ideal) x0 x1) (funext fun b => ?_)) (square_apply r ρ n h a 0)
      match b with | ⟨0, _⟩ => rfl | ⟨1, _⟩ => rfl | ⟨2, _⟩ => rfl | ⟨3, _⟩ => rfl | ⟨4, _⟩ => rfl
    rw [val_main_v103_apply, val_main_v102_apply, facing_apply r, weights_apply r, e, EReal.coe_mul, EReal.coe_mul]
    rfl
  have e2 : val_main_v105 (F := Ideal) x0 x1 x2 x3 (ix5 ρ n h a z) = val_main_v104 (F := Ideal) x0 x1 x2 x3 (ix4 ρ n h a) := by
    refine (val_main_v105_apply (F := Ideal) x0 x1 x2 x3 (ix5 ρ n h a z)).trans ?_
    refine congrArg (val_main_v104 (F := Ideal) x0 x1 x2 x3) (funext fun b => Fin.ext ?_)
    match b with
    | ⟨0, _⟩ => show ((((ρ.val * 4 + n.val) * 4 + h.val) * 128 + a.val) * 1 + z.val) / 2048 = ρ.val; omega
    | ⟨1, _⟩ => show ((((ρ.val * 4 + n.val) * 4 + h.val) * 128 + a.val) * 1 + z.val) / 512 % 4 = n.val; omega
    | ⟨2, _⟩ => show ((((ρ.val * 4 + n.val) * 4 + h.val) * 128 + a.val) * 1 + z.val) / 128 % 4 = h.val; omega
    | ⟨3, _⟩ => show ((((ρ.val * 4 + n.val) * 4 + h.val) * 128 + a.val) * 1 + z.val) % 128 = a.val; omega
  rw [val_main_v107_apply, val_main_v96_apply, val_main_v106_apply, e2, e1, logSum_apply r, sumUnit_apply r]
  show Ideal.div _ _ + -_ = _
  rw [div_real _ (sum_pos ρ n h a Q K).ne', ← EReal.coe_neg, ← EReal.coe_add]

/-- The gradient of the scores before the maximum's share. -/
theorem through_apply : val_main_v113 (F := Ideal) x0 x1 x2 x3 x4 (ix5 ρ n h a j)
    = (dS (Q ρ h) (K ρ h) (V ρ h) (G ρ h) (D ρ h) n a j : EReal) := by
  have e1 : val_main_v111 (F := Ideal) x0 x1 x2 x3 x4 (ix5 ρ n h a j)
      = ((D ρ h n a / sum Q K ρ h n a + -∑ i, gv (V ρ h) (G ρ h) n a i * (1 / (sum Q K ρ h n a * sum Q K ρ h n a)) * weight Q K ρ h n a i : ℝ) : EReal) := by
    rw [val_main_v111_apply, val_main_v110_apply, val_main_cst_15_apply]
    show Ideal.ofBits .f32 0x00000000#32 + _ = _
    rw [Ideal.ofBits_zero_f32, zero_add, Fin.sum_univ_one]
    refine Eq.trans (congrArg (val_main_v107 (F := Ideal) x0 x1 x2 x3 x4) (funext fun b => ?_)) (toSum_apply r ρ n h a 0)
    match b with | ⟨0, _⟩ => rfl | ⟨1, _⟩ => rfl | ⟨2, _⟩ => rfl | ⟨3, _⟩ => rfl | ⟨4, _⟩ => rfl
  have e2 : val_main_v108 (F := Ideal) x0 x1 (ix5 ρ n h a j) = (sum Q K ρ h n a : EReal) := by
    rw [val_main_v108_apply]
    refine Eq.trans (congrArg (val_main_v70 (F := Ideal) x0 x1) (funext fun b => ?_)) (sumUnit_apply r ρ n h a 0)
    match b with | ⟨0, _⟩ => rfl | ⟨1, _⟩ => rfl | ⟨2, _⟩ => rfl | ⟨3, _⟩ => rfl | ⟨4, _⟩ => rfl
  rw [val_main_v113_apply, val_main_v112_apply, val_main_v109_apply, facing_apply r, e1, e2, weights_apply r]
  show (Ideal.div _ _ + _) * _ = _
  rw [div_real _ (sum_pos ρ n h a Q K).ne', ← EReal.coe_add, ← EReal.coe_mul]
  exact congrArg _ (dscore_eq (score (Q ρ h) (K ρ h) n a) (exists_sees n a) (gv (V ρ h) (G ρ h) n a) (D ρ h n a) (big Q K ρ h n a) j)

/-- Nothing reaches the maximum. -/
theorem toMax_apply : val_main_v118 (F := Ideal) x0 x1 x2 x3 x4 (ix4 ρ n h a) = (0 : EReal) := by
  have e1 : val_main_v115 (F := Ideal) x0 x1 x2 x3 x4 (ix4 ρ n h a)
      = ((∑ i, -dS (Q ρ h) (K ρ h) (V ρ h) (G ρ h) (D ρ h) n a i : ℝ) : EReal) := by
    rw [val_main_v115_apply, val_main_cst_16_apply]
    show Ideal.ofBits .f32 0x00000000#32 + _ = _
    rw [Ideal.ofBits_zero_f32, zero_add, coe_sum]
    refine Finset.sum_congr rfl fun k _ => ?_
    refine Eq.trans (congrArg (val_main_v114 (F := Ideal) x0 x1 x2 x3 x4) (a₂ := ix5 ρ n h a k) (funext fun b => ?_)) ?_
    · match b with | ⟨0, _⟩ => rfl | ⟨1, _⟩ => rfl | ⟨2, _⟩ => rfl | ⟨3, _⟩ => rfl | ⟨4, _⟩ => rfl
    rw [val_main_v114_apply, through_apply r, EReal.coe_neg]
    rfl
  have e2 : val_main_v116 (F := Ideal) x0 x1 x2 x3 x4 (ix5 ρ n h a (0 : Fin 1)) = val_main_v115 (F := Ideal) x0 x1 x2 x3 x4 (ix4 ρ n h a) := by
    refine (val_main_v116_apply (F := Ideal) x0 x1 x2 x3 x4 (ix5 ρ n h a (0 : Fin 1))).trans ?_
    refine congrArg (val_main_v115 (F := Ideal) x0 x1 x2 x3 x4) (funext fun b => Fin.ext ?_)
    match b with
    | ⟨0, _⟩ => show ((((ρ.val * 4 + n.val) * 4 + h.val) * 128 + a.val) * 1 + 0) / 2048 = ρ.val; omega
    | ⟨1, _⟩ => show ((((ρ.val * 4 + n.val) * 4 + h.val) * 128 + a.val) * 1 + 0) / 512 % 4 = n.val; omega
    | ⟨2, _⟩ => show ((((ρ.val * 4 + n.val) * 4 + h.val) * 128 + a.val) * 1 + 0) / 128 % 4 = h.val; omega
    | ⟨3, _⟩ => show ((((ρ.val * 4 + n.val) * 4 + h.val) * 128 + a.val) * 1 + 0) % 128 = a.val; omega
  rw [val_main_v118_apply, val_main_cst_17_apply]
  show Ideal.ofBits .f32 0x00000000#32 + _ = _
  rw [Ideal.ofBits_zero_f32, zero_add, Fin.sum_univ_one]
  refine Eq.trans (congrArg (val_main_v117 (F := Ideal) x0 x1 x2 x3 x4) (a₂ := ix5 ρ n h a (0 : Fin 1)) (funext fun b => ?_)) ?_
  · match b with | ⟨0, _⟩ => rfl | ⟨1, _⟩ => rfl | ⟨2, _⟩ => rfl | ⟨3, _⟩ => rfl | ⟨4, _⟩ => rfl
  rw [val_main_v117_apply, logSum_apply r, e2, e1]
  show (_ : EReal) + _ = _
  rw [← EReal.coe_add, ← EReal.coe_zero]
  exact congrArg _ (add_sum_neg_dscore (score (Q ρ h) (K ρ h) n a) (exists_sees n a) (gv (V ρ h) (G ρ h) n a) (D ρ h n a))

/-- The maximum's share, spread over the keys that attain it: none. -/
theorem share_apply : val_main_v119 (F := Ideal) x0 x1 x2 x3 x4 (ix4 ρ n h a) = (0 : EReal) := by
  obtain ⟨i, hi, ei⟩ := top_attained (score (Q ρ h) (K ρ h) n a) (exists_sees n a)
  rw [val_main_v119_apply, toMax_apply r, val_main_v64_apply, val_main_cst_11_apply]
  show Ideal.div 0 (Ideal.ofBits .f32 0x00000000#32 + ∑ k : Fin 256, (((val_main_v62 (F := Ideal) x0 x1 (idx_main_v64 (ix4 ρ n h a) k)).toNat : ℝ) : EReal)) = 0
  rw [Ideal.ofBits_zero_f32]
  refine zero_div_count _ i ?_
  refine Eq.trans (congrArg (val_main_v62 (F := Ideal) x0 x1) (a₂ := ix5 ρ n h a i) (funext fun b => ?_)) ?_
  · match b with | ⟨0, _⟩ => rfl | ⟨1, _⟩ => rfl | ⟨2, _⟩ => rfl | ⟨3, _⟩ => rfl | ⟨4, _⟩ => rfl
  have e1 : val_main_v60 (F := Ideal) x0 x1 (ix5 ρ n h a (0 : Fin 1)) = val_main_v59 (F := Ideal) x0 x1 (ix4 ρ n h a) := by
    refine (val_main_v60_apply (F := Ideal) x0 x1 (ix5 ρ n h a (0 : Fin 1))).trans ?_
    refine congrArg (val_main_v59 (F := Ideal) x0 x1) (funext fun b => Fin.ext ?_)
    match b with
    | ⟨0, _⟩ => show ((((ρ.val * 4 + n.val) * 4 + h.val) * 128 + a.val) * 1 + 0) / 2048 = ρ.val; omega
    | ⟨1, _⟩ => show ((((ρ.val * 4 + n.val) * 4 + h.val) * 128 + a.val) * 1 + 0) / 512 % 4 = n.val; omega
    | ⟨2, _⟩ => show ((((ρ.val * 4 + n.val) * 4 + h.val) * 128 + a.val) * 1 + 0) / 128 % 4 = h.val; omega
    | ⟨3, _⟩ => show ((((ρ.val * 4 + n.val) * 4 + h.val) * 128 + a.val) * 1 + 0) % 128 = a.val; omega
  have e2 : val_main_v61 (F := Ideal) x0 x1 (ix5 ρ n h a i) = (big Q K ρ h n a : EReal) := by
    rw [val_main_v61_apply]
    refine Eq.trans (congrArg (val_main_v60 (F := Ideal) x0 x1) (a₂ := ix5 ρ n h a (0 : Fin 1)) (funext fun b => ?_)) (e1.trans (max_apply r ρ n h a))
    match b with | ⟨0, _⟩ => rfl | ⟨1, _⟩ => rfl | ⟨2, _⟩ => rfl | ⟨3, _⟩ => rfl | ⟨4, _⟩ => rfl
  rw [val_main_v62_apply, masked_apply r, if_pos hi, e2]
  show BitVec.ofBool (decide (_ = _)) = _
  have ei' : ((score (Q ρ h) (K ρ h) n a i : ℝ) : EReal) = (big Q K ρ h n a : EReal) := congrArg _ ei.symm
  rw [decide_eq_true ei']
  rfl

/-- The gradient of the scores, scaled as the scores are. -/
theorem dscores_apply : val_main_v125 (F := Ideal) x0 x1 x2 x3 x4 (ix5 ρ n h a j)
    = ((dS (Q ρ h) (K ρ h) (V ρ h) (G ρ h) (D ρ h) n a j * (1 / 8) : ℝ) : EReal) := by
  have e1 : val_main_v120 (F := Ideal) x0 x1 x2 x3 x4 (ix5 ρ n h a j) = (0 : EReal) := by
    rw [val_main_v120_apply]
    refine Eq.trans (congrArg (val_main_v119 (F := Ideal) x0 x1 x2 x3 x4) (funext fun b => ?_)) (share_apply r ρ n h a)
    match b with | ⟨0, _⟩ => rfl | ⟨1, _⟩ => rfl | ⟨2, _⟩ => rfl | ⟨3, _⟩ => rfl
  have e2 : val_main_v123 (F := Ideal) x0 x1 x2 x3 x4 (ix5 ρ n h a j)
      = (dS (Q ρ h) (K ρ h) (V ρ h) (G ρ h) (D ρ h) n a j : EReal) := by
    rw [val_main_v123_apply, val_main_v122_apply, val_main_v121_apply, e1, through_apply r, maskAll_apply,
      val_main_call1_v0_apply, val_main_call1_cst_apply]
    show Scalar.select _ (_ + 0 * _ : EReal) (Ideal.ofBits .f32 0x00000000#32) = _
    rw [zero_mul, add_zero, Ideal.ofBits_zero_f32]
    by_cases hs : Sees n a j
    · rw [if_pos hs]; rfl
    · rw [if_neg hs, dS, dscore_of_not _ _ _ j hs]; rfl
  rw [val_main_v125_apply, e2, val_main_v124_apply, val_main_cst_18_apply]
  show _ * Ideal.ofBits .f32 0x3E000000#32 = _
  rw [eighth, ← EReal.coe_mul]

end Cert.ReferenceIdeal.Row

end
-- ==== Proof.Layout.lean ====
/-
  The layouts the call and its reference share, read at an index: tokens laid out by residue, row and lane, and
  blocks of a residue put back in the tokens' order.
-/
module

public import proofs.«01_k».proof.Proof.RefRead
public import proofs.«01_k».proof.Proof.BlockRead

@[expose] public section

noncomputable section

namespace Cert.Layout

open Idealize.ShloMosaic Idealize.ShloMosaic.TcCoe Idealize.SL.Sem Idealize.ShloMosaic.ValueIdx
open Cert.ReferenceIdeal Cert.ReferenceIdeal.Gen
open Cert.ReferenceIdeal.Row (tok row)
open Cert.KernelIdeal.Block (lane)

variable {α : Type} (ρ : Fin 16) (n h : Fin 4) (a : Fin 128) (d : Fin 64)

/-- Tokens laid out by residue, row and lane. -/
theorem strided_apply (x : S8192x4x64.Idx → α) :
    transpose S16x512x256 [1, 0, 2] (shapeCast S512x16x256 x shapeCasts_S8192x4x64_S512x16x256)
      transposes_S512x16x256_S16x512x256_1_0_2 (ix3 ρ (row n a) (lane h d)) = x (ix3 (tok ρ n a) h d) := by
  refine (transpose_apply [1, 0, 2] _ transposes_S512x16x256_S16x512x256_1_0_2 _ (ix3 (row n a) ρ (lane h d)) (fun b => ?_)).trans ?_
  · match b with | ⟨0, _⟩ => rfl | ⟨1, _⟩ => rfl | ⟨2, _⟩ => rfl
  · refine shapeCast_apply x shapeCasts_S8192x4x64_S512x16x256 _ _ ?_
    rw [Shape.rowMajor_val_three, Shape.rowMajor_val_three]
    show (((n.val * 128 + a.val) * 16 + ρ.val) * 4 + h.val) * 64 + d.val = ((n.val * 128 + a.val) * 16 + ρ.val) * 256 + (h.val * 64 + d.val)
    omega

/-- Blocks of a residue in the tokens' order. -/
theorem unblocked_apply (y : S16x4x128x4x64.Idx → α) :
    shapeCast S8192x4x64 (transpose S512x16x4x64 [1, 0, 2, 3] (shapeCast S16x512x4x64 y shapeCasts_S16x4x128x4x64_S16x512x4x64)
      transposes_S16x512x4x64_S512x16x4x64_1_0_2_3) shapeCasts_S512x16x4x64_S8192x4x64 (ix3 (tok ρ n a) h d) = y (ix5 ρ n a h d) := by
  refine (shapeCast_apply _ shapeCasts_S512x16x4x64_S8192x4x64 _ (ix4 (row n a) ρ h d) ?_).trans ?_
  · rw [Shape.rowMajor_val_three, Shape.rowMajor_val_four]
    show (((n.val * 128 + a.val) * 16 + ρ.val) * 4 + h.val) * 64 + d.val = (((n.val * 128 + a.val) * 16 + ρ.val) * 4 + h.val) * 64 + d.val
    rfl
  refine (transpose_apply [1, 0, 2, 3] _ transposes_S16x512x4x64_S512x16x4x64_1_0_2_3 _ (ix4 ρ (row n a) h d) (fun b => ?_)).trans ?_
  · match b with | ⟨0, _⟩ => rfl | ⟨1, _⟩ => rfl | ⟨2, _⟩ => rfl | ⟨3, _⟩ => rfl
  · refine shapeCast_apply y shapeCasts_S16x4x128x4x64_S16x512x4x64 _ _ ?_
    rw [Shape.rowMajor_val_four, Shape.rowMajor_val_five]
    show (((ρ.val * 4 + n.val) * 128 + a.val) * 4 + h.val) * 64 + d.val = ((ρ.val * 512 + (n.val * 128 + a.val)) * 4 + h.val) * 64 + d.val
    omega

/-- Every entry of a strided array is at some residue, block, row, head and coordinate. -/
theorem exists_strided (i : S16x512x256.Idx) : ∃ ρ n h a d, i = ix3 ρ (row n a) (lane h d) := by
  have h1 : (i 1).val < 512 := (i 1).isLt
  have h2 : (i 2).val < 256 := (i 2).isLt
  refine ⟨i 0, ⟨(i 1).val / 128, by omega⟩, ⟨(i 2).val / 64, by omega⟩, ⟨(i 1).val % 128, by omega⟩, ⟨(i 2).val % 64, by omega⟩,
    funext fun b => Fin.ext ?_⟩
  match b with
  | ⟨0, _⟩ => rfl
  | ⟨1, _⟩ => show (i 1).val = (i 1).val / 128 * 128 + (i 1).val % 128; omega
  | ⟨2, _⟩ => show (i 2).val = (i 2).val / 64 * 64 + (i 2).val % 64; omega

/-- Every token is at some residue, block and row. -/
theorem exists_tok (t : Fin 8192) : ∃ ρ n a, t = tok ρ n a := by
  refine ⟨⟨t.val % 16, by omega⟩, ⟨t.val / 2048, by omega⟩, ⟨t.val / 16 % 128, by omega⟩, Fin.ext ?_⟩
  show t.val = (t.val / 2048 * 128 + t.val / 16 % 128) * 16 + t.val % 16
  omega

end Cert.Layout

end
-- ==== Proof.Inputs.lean ====
/-
  On real arguments the arrays handed to the call are the real ones its blocks are read from.
-/
module

public import proofs.«01_k».proof.Proof.Host
public import proofs.«01_k».proof.Proof.Outcome
public import proofs.«01_k».proof.Proof.RefRow
public import proofs.«01_k».proof.Proof.Layout
public import Idealize.ShloMosaic.Lib.IdealHost

@[expose] public section

noncomputable section

open scoped BigOperators

namespace Cert.KernelIdeal.Block

open Idealize.ShloMosaic Idealize.ShloMosaic.TcCoe Idealize.SL.Sem Idealize.ShloMosaic.ValueIdx
open Cert.KernelIdeal Cert.KernelIdeal.Gen Cert.KernelIdeal.Host Cert.Attn Cert.Layout
open Cert.ReferenceIdeal.Row (tok row Reals big)

/-- A spread value read at a token, head and coordinate. -/
theorem spread_apply (x : FVec Ideal S8192x4 .f32) (t : Fin 8192) (h : Fin 4) (d : Fin 64) :
    spread x (ix3 t h d) = x (ix2 t h) := by
  unfold spread
  refine (broadcastInDim_apply _ bcast_S8192x4x1_S8192x4x64_0_1_2 _ _ (ix3 t h (0 : Fin 1)) (fun b => ?_)).trans
    (broadcastInDim_apply _ bcast_S8192x4_S8192x4x1_0_1 x _ (ix2 t h) (fun b => ?_))
  · match b with | ⟨0, _⟩ => rfl | ⟨1, _⟩ => rfl | ⟨2, _⟩ => rfl
  · match b with | ⟨0, _⟩ => rfl | ⟨1, _⟩ => rfl

/-- A token's and head's correction as a sum over the coordinates. -/
theorem corr_apply (o g : FVec Ideal S8192x4x64 .f32) (dl : FVec Ideal S8192x4 .f32) (t : Fin 8192) (h : Fin 4) :
    corr o g dl (ix2 t h) = (∑ d : Fin 64, (g (ix3 t h d) : EReal) * o (ix3 t h d)) - (dl (ix2 t h) : EReal) := by
  have hr : S8192x4x64.Reduces [2] S8192x4 := by decide
  have e : Host.reduceAdd (mulf g o) (constant S_ .f32 0x00000000#32) reducesTo_S8192x4x64_S8192x4_d2 h_S_ (ix2 t h)
      = ∑ d : Fin 64, (g (ix3 t h d) : EReal) * o (ix3 t h d) := by
    generalize hy : mulf g o = y
    rw [hostReduceAdd_apply, Ideal.hostReduceAdd_single _ hr]
    have hz : (constant (F := Ideal) S_ .f32 0x00000000#32) (Shape.Idx.first h_S_) = (0 : EReal) := Ideal.ofBits_zero_f32
    rw [hz, zero_add]
    refine Finset.sum_congr rfl fun d _ => ?_
    subst hy
    have hi : hr.lift (ix2 t h) d = ix3 t h d := funext fun b => by
      match b with | ⟨0, _⟩ => rfl | ⟨1, _⟩ => rfl | ⟨2, _⟩ => rfl
    rw [hi]; rfl
  unfold corr
  show (_ : EReal) - _ = _
  rw [e]

/-- The output's gradient against the output is the probabilities' sum of its products with the values. -/
theorem sum_out (V G : Fin 4 → Fin 128 → Fin 64 → ℝ) (p : Fin 256 → ℝ) (n : Fin 4) (a : Fin 128) :
    ∑ d, G n a d * ∑ j, win V n j d * p j = ∑ j, p j * gv V G n a j := by
  simp only [gv, Finset.mul_sum]
  rw [Finset.sum_comm]
  exact Finset.sum_congr rfl fun j _ => Finset.sum_congr rfl fun d _ => by ring

variable (m : (ℓ : Loc nD τ sig) → Buf (Elt Ideal) ℓ) (c : Dev nD)
  {Q K V G : Fin 16 → Fin 4 → Fin 4 → Fin 128 → Fin 64 → ℝ} {D : Fin 16 → Fin 4 → Fin 4 → Fin 128 → ℝ}

/-- Real arguments give the call real arrays. -/
theorem given (r : Reals (m ((c : Thread nD τ).loc main_arg0)) (m ((c : Thread nD τ).loc main_arg1)) (m ((c : Thread nD τ).loc main_arg2))
      (m ((c : Thread nD τ).loc main_arg3)) (m ((c : Thread nD τ).loc main_arg4)) Q K V G D) :
    Given m c Q K V G D (big Q K) where
  q ρ h n a d := by
    rw [V_v85]
    refine (strided_apply ρ n h a d (scaled (F := Ideal) (m ((c : Thread nD τ).loc main_arg0)))).trans ?_
    show (_ : EReal) * Ideal.ofBits .f32 0x3E000000#32 = _
    rw [r.q, eighth, ← EReal.coe_mul, mul_comm]
  k ρ h n a d := by
    rw [V_v88]
    exact (strided_apply ρ n h a d (m ((c : Thread nD τ).loc main_arg1))).trans (r.k ρ h n a d)
  v ρ h n a d := by
    rw [V_v91]
    exact (strided_apply ρ n h a d (m ((c : Thread nD τ).loc main_arg2))).trans (r.v ρ h n a d)
  g ρ h n a d := by
    rw [V_v94]
    exact (strided_apply ρ n h a d (m ((c : Thread nD τ).loc main_arg3))).trans (r.g ρ h n a d)
  lse ρ h n a d := by
    rw [V_v98]
    refine (strided_apply ρ n h a d (spread _)).trans ?_
    rw [spread_apply]
    exact Cert.ReferenceIdeal.Row.lse_apply r ρ n h a
  corr ρ h n a d := by
    rw [V_v102]
    refine (strided_apply ρ n h a d (spread _)).trans ?_
    rw [spread_apply, corr_apply, r.d, EReal.coe_sub, ← sum_out, coe_sum]
    refine congrArg (fun s : EReal => s - _) (Finset.sum_congr rfl fun k _ => ?_)
    rw [Cert.ReferenceIdeal.Row.out_apply r ρ n h a k, r.g, EReal.coe_mul]

end Cert.KernelIdeal.Block

end
-- ==== Proof.RefOut.lean ====
/-
  The reference's three results on real inputs: the gradients of windowed attention, as the kernel gives them.
-/
module

public import proofs.«01_k».proof.Proof.RefRow
public import proofs.«01_k».proof.Proof.Layout
public import Idealize.ShloMosaic.Lib.KernelVsHost

@[expose] public section

noncomputable section

open scoped BigOperators

namespace Cert.ReferenceIdeal.Row

open Idealize.ShloMosaic Idealize.ShloMosaic.TcCoe Idealize.SL.Sem Idealize.ShloMosaic.ValueIdx
open Cert.ReferenceIdeal Cert.ReferenceIdeal.Gen Cert.ReferenceIdeal.Read Cert.Attn Cert.Layout
open Cert.KernelIdeal.Block (lane)

local notation "Tok" => FVec Ideal S8192x4x64 FTy.f32
local notation "TokH" => FVec Ideal S8192x4 FTy.f32

variable {x0 x1 x2 x3 : Tok} {x4 : TokH} {Q K V G : Fin 16 → Fin 4 → Fin 4 → Fin 128 → Fin 64 → ℝ}
  {D : Fin 16 → Fin 4 → Fin 4 → Fin 128 → ℝ} (r : Reals x0 x1 x2 x3 x4 Q K V G D)
  (ρ : Fin 16) (n h : Fin 4) (a : Fin 128) (j : Fin 256) (d : Fin 64)

/-- Each block's own rows of a window's contributions, and the next block's. -/
def merged (y : FVec Ideal S16x4x256x4x64 .f32) : FVec Ideal S16x4x128x4x64 .f32 :=
  addf (extractStridedSlice S16x4x128x4x64 ![0, 0, 128, 0, 0] y slices_S16x4x256x4x64_S16x4x128x4x64_0_0_128_0_0)
    (pad S16x4x128x4x64 ![0, 0, 0, 0, 0] ![0, 1, 0, 0, 0] ![0, 0, 0, 0, 0]
      (extractStridedSlice S16x3x128x4x64 ![0, 1, 0, 0, 0]
        (extractStridedSlice S16x4x128x4x64 ![0, 0, 0, 0, 0] y slices_S16x4x256x4x64_S16x4x128x4x64_0_0_0_0_0)
        slices_S16x4x128x4x64_S16x3x128x4x64_0_1_0_0_0)
      (constant S_ .f32 0x00000000#32) pads_S16x3x128x4x64_S16x4x128x4x64_000_010_000_000_000 h_S_)

/-- The contributions collected, over real ones. -/
theorem merged_apply (y : FVec Ideal S16x4x256x4x64 .f32) (p : Fin 16 → Fin 4 → Fin 4 → Fin 256 → Fin 64 → ℝ)
    (hy : ∀ ρ h n j d, y (ix5 ρ n j h d) = (p ρ h n j d : EReal)) :
    merged y (ix5 ρ n a h d) = (collect (p ρ h) n a d : EReal) := by
  have e1 : extractStridedSlice S16x4x128x4x64 ![0, 0, 128, 0, 0] y slices_S16x4x256x4x64_S16x4x128x4x64_0_0_128_0_0 (ix5 ρ n a h d)
      = (p ρ h n ⟨a.val + 128, by omega⟩ d : EReal) := by
    refine (extractStridedSlice_apply _ _ slices_S16x4x256x4x64_S16x4x128x4x64_0_0_128_0_0 _ (ix5 ρ n (⟨a.val + 128, by omega⟩ : Fin 256) h d) (fun b => ?_)).trans (hy ρ h n _ d)
    match b with
    | ⟨0, _⟩ => show ρ.val = 0 + ρ.val; omega
    | ⟨1, _⟩ => show n.val = 0 + n.val; omega
    | ⟨2, _⟩ => show a.val + 128 = 128 + a.val; omega
    | ⟨3, _⟩ => show h.val = 0 + h.val; omega
    | ⟨4, _⟩ => show d.val = 0 + d.val; omega
  unfold merged collect
  show (_ : EReal) + _ = _
  rw [e1, EReal.coe_add]
  refine congrArg (fun w : EReal => _ + w) ?_
  by_cases hn : n.val < 3
  · rw [dif_pos hn]
    refine (pad_apply_of_inside _ _ _ _ _ pads_S16x3x128x4x64_S16x4x128x4x64_000_010_000_000_000 h_S_ (ix5 ρ n a h d)
      (ix5 ρ (⟨n.val, hn⟩ : Fin 3) a h d) (fun b => ?_)).trans ?_
    · match b with
      | ⟨0, _⟩ => show ρ.val = 0 + ρ.val * (0 + 1); omega
      | ⟨1, _⟩ => show n.val = 0 + n.val * (0 + 1); omega
      | ⟨2, _⟩ => show a.val = 0 + a.val * (0 + 1); omega
      | ⟨3, _⟩ => show h.val = 0 + h.val * (0 + 1); omega
      | ⟨4, _⟩ => show d.val = 0 + d.val * (0 + 1); omega
    refine (extractStridedSlice_apply _ _ slices_S16x4x128x4x64_S16x3x128x4x64_0_1_0_0_0 _ (ix5 ρ (⟨n.val + 1, by omega⟩ : Fin 4) a h d) (fun b => ?_)).trans ?_
    · match b with
      | ⟨0, _⟩ => show ρ.val = 0 + ρ.val; omega
      | ⟨1, _⟩ => show n.val + 1 = 1 + n.val; omega
      | ⟨2, _⟩ => show a.val = 0 + a.val; omega
      | ⟨3, _⟩ => show h.val = 0 + h.val; omega
      | ⟨4, _⟩ => show d.val = 0 + d.val; omega
    refine (extractStridedSlice_apply _ _ slices_S16x4x256x4x64_S16x4x128x4x64_0_0_0_0_0 _ (ix5 ρ (⟨n.val + 1, by omega⟩ : Fin 4) (⟨a.val, by omega⟩ : Fin 256) h d) (fun b => ?_)).trans (hy ρ h _ _ d)
    match b with
    | ⟨0, _⟩ => show ρ.val = 0 + ρ.val; omega
    | ⟨1, _⟩ => show n.val + 1 = 0 + (n.val + 1); omega
    | ⟨2, _⟩ => show a.val = 0 + a.val; omega
    | ⟨3, _⟩ => show h.val = 0 + h.val; omega
    | ⟨4, _⟩ => show d.val = 0 + d.val; omega
  · rw [dif_neg hn]
    refine (pad_apply_of_not_inside _ _ _ _ _ pads_S16x3x128x4x64_S16x4x128x4x64_000_010_000_000_000 h_S_ (ix5 ρ n a h d)
      (1 : Fin S16x3x128x4x64.rank) (fun hin => hn ?_)).trans ?_
    · have h3 : (n.val - 0) / (0 + 1) < 3 := hin.2.2
      omega
    · exact Ideal.ofBits_zero_f32

include r

/-- A block's contribution to its window's keys. -/
theorem keyParts_apply : val_main_v127 (F := Ideal) x0 x1 x2 x3 x4 (ix5 ρ n j h d)
    = (partK (Q ρ h) (K ρ h) (V ρ h) (G ρ h) (D ρ h) n j d : EReal) := by
  have e : val_main_v127 (F := Ideal) x0 x1 x2 x3 x4 (ix5 ρ n j h d) = val_main_v126 (F := Ideal) x0 x1 x2 x3 x4 (ix5 ρ n h j d) := by
    refine (val_main_v127_apply (F := Ideal) x0 x1 x2 x3 x4 (ix5 ρ n j h d)).trans ?_
    refine congrArg (val_main_v126 (F := Ideal) x0 x1 x2 x3 x4) (funext fun b => ?_)
    match b with | ⟨0, _⟩ => rfl | ⟨1, _⟩ => rfl | ⟨2, _⟩ => rfl | ⟨3, _⟩ => rfl | ⟨4, _⟩ => rfl
  rw [e, val_main_v126_apply, partK, coe_sum]
  refine Finset.sum_congr rfl fun k _ => ?_
  rw [← mul_assoc, EReal.coe_mul]
  refine congrArg₂ (fun x y : EReal => x * y) ?_ ?_
  · refine Eq.trans (congrArg (val_main_v125 (F := Ideal) x0 x1 x2 x3 x4) (funext fun b => ?_)) (dscores_apply r ρ n h k j)
    match b with | ⟨0, _⟩ => rfl | ⟨1, _⟩ => rfl | ⟨2, _⟩ => rfl | ⟨3, _⟩ => rfl | ⟨4, _⟩ => rfl
  · refine Eq.trans (congrArg (val_main_v2 (F := Ideal) x0) (funext fun b => ?_)) ((blocks_apply x0 ρ n k h d).trans (r.q ρ h n k d))
    match b with | ⟨0, _⟩ => rfl | ⟨1, _⟩ => rfl | ⟨2, _⟩ => rfl | ⟨3, _⟩ => rfl | ⟨4, _⟩ => rfl

/-- A block's contribution to its window's values. -/
theorem valueParts_apply : val_main_v100 (F := Ideal) x0 x1 x3 (ix5 ρ n j h d)
    = (partV (Q ρ h) (K ρ h) (G ρ h) n j d : EReal) := by
  have e : val_main_v100 (F := Ideal) x0 x1 x3 (ix5 ρ n j h d) = val_main_v99 (F := Ideal) x0 x1 x3 (ix5 ρ n h d j) := by
    refine (val_main_v100_apply (F := Ideal) x0 x1 x3 (ix5 ρ n j h d)).trans ?_
    refine congrArg (val_main_v99 (F := Ideal) x0 x1 x3) (funext fun b => ?_)
    match b with | ⟨0, _⟩ => rfl | ⟨1, _⟩ => rfl | ⟨2, _⟩ => rfl | ⟨3, _⟩ => rfl | ⟨4, _⟩ => rfl
  rw [e, val_main_v99_apply, partV, coe_sum]
  refine Finset.sum_congr rfl fun k _ => ?_
  rw [mul_comm (P (Q ρ h) (K ρ h) n k j), EReal.coe_mul]
  refine congrArg₂ (fun x y : EReal => x * y) ?_ ?_
  · refine Eq.trans (congrArg (val_main_v97 (F := Ideal) x3) (funext fun b => ?_)) (turned_apply r ρ n h k d)
    match b with | ⟨0, _⟩ => rfl | ⟨1, _⟩ => rfl | ⟨2, _⟩ => rfl | ⟨3, _⟩ => rfl | ⟨4, _⟩ => rfl
  · refine Eq.trans (congrArg (val_main_v72 (F := Ideal) x0 x1) (funext fun b => ?_)) (probs_apply r ρ n h k j)
    match b with | ⟨0, _⟩ => rfl | ⟨1, _⟩ => rfl | ⟨2, _⟩ => rfl | ⟨3, _⟩ => rfl | ⟨4, _⟩ => rfl

/-- The gradient of the unscaled queries, by block. -/
theorem queries_apply : val_main_v129 (F := Ideal) x0 x1 x2 x3 x4 (ix5 ρ n a h d)
    = ((∑ j, dS (Q ρ h) (K ρ h) (V ρ h) (G ρ h) (D ρ h) n a j * (1 / 8) * win (K ρ h) n j d : ℝ) : EReal) := by
  have e : val_main_v129 (F := Ideal) x0 x1 x2 x3 x4 (ix5 ρ n a h d) = val_main_v128 (F := Ideal) x0 x1 x2 x3 x4 (ix5 ρ n h a d) := by
    refine (val_main_v129_apply (F := Ideal) x0 x1 x2 x3 x4 (ix5 ρ n a h d)).trans ?_
    refine congrArg (val_main_v128 (F := Ideal) x0 x1 x2 x3 x4) (funext fun b => ?_)
    match b with | ⟨0, _⟩ => rfl | ⟨1, _⟩ => rfl | ⟨2, _⟩ => rfl | ⟨3, _⟩ => rfl | ⟨4, _⟩ => rfl
  rw [e, val_main_v128_apply, coe_sum]
  refine Finset.sum_congr rfl fun k _ => ?_
  rw [EReal.coe_mul]
  refine congrArg₂ (fun x y : EReal => x * y) ?_ ?_
  · refine Eq.trans (congrArg (val_main_v125 (F := Ideal) x0 x1 x2 x3 x4) (funext fun b => ?_)) (dscores_apply r ρ n h a k)
    match b with | ⟨0, _⟩ => rfl | ⟨1, _⟩ => rfl | ⟨2, _⟩ => rfl | ⟨3, _⟩ => rfl | ⟨4, _⟩ => rfl
  · refine Eq.trans (congrArg (val_main_v10 (F := Ideal) x1) (funext fun b => ?_)) (window_apply x1 K r.k ρ n k h d)
    match b with | ⟨0, _⟩ => rfl | ⟨1, _⟩ => rfl | ⟨2, _⟩ => rfl | ⟨3, _⟩ => rfl | ⟨4, _⟩ => rfl

/-- The reference's query gradient. -/
theorem refQ : val_main_v155 (F := Ideal) x0 x1 x2 x3 x4 (ix3 ρ (row n a) (lane h d))
    = (gradQ (Q ρ h) (K ρ h) (V ρ h) (G ρ h) (D ρ h) n a d : EReal) := by
  refine (strided_apply ρ n h a d (val_main_v152 (F := Ideal) x0 x1 x2 x3 x4)).trans ?_
  rw [val_main_v152_apply, val_main_v151_apply, val_main_cst_21_apply]
  have e : val_main_v150 (F := Ideal) x0 x1 x2 x3 x4 (ix3 (tok ρ n a) h d) = _ :=
    (unblocked_apply ρ n h a d (val_main_v129 (F := Ideal) x0 x1 x2 x3 x4)).trans (queries_apply r ρ n h a d)
  rw [e]
  show (_ : EReal) * Ideal.ofBits .f32 0x41000000#32 = _
  rw [eight, ← EReal.coe_mul, Finset.sum_mul, gradQ]
  exact congrArg _ (Finset.sum_congr rfl fun k _ => by ring)

/-- The reference's key gradient. -/
theorem refK : val_main_v158 (F := Ideal) x0 x1 x2 x3 x4 (ix3 ρ (row n a) (lane h d))
    = (collect (partK (Q ρ h) (K ρ h) (V ρ h) (G ρ h) (D ρ h)) n a d : EReal) :=
  (strided_apply ρ n h a d (val_main_v147 (F := Ideal) x0 x1 x2 x3 x4)).trans
    ((unblocked_apply ρ n h a d (merged (val_main_v127 (F := Ideal) x0 x1 x2 x3 x4))).trans
      (merged_apply ρ n h a d _ (fun ρ h => partK (Q ρ h) (K ρ h) (V ρ h) (G ρ h) (D ρ h)) fun ρ h n j d => keyParts_apply r ρ n h j d))

/-- The reference's value gradient. -/
theorem refV : val_main_v161 (F := Ideal) x0 x1 x3 (ix3 ρ (row n a) (lane h d))
    = (collect (partV (Q ρ h) (K ρ h) (G ρ h)) n a d : EReal) :=
  (strided_apply ρ n h a d (val_main_v138 (F := Ideal) x0 x1 x3)).trans
    ((unblocked_apply ρ n h a d (merged (val_main_v100 (F := Ideal) x0 x1 x3))).trans
      (merged_apply ρ n h a d _ (fun ρ h => partV (Q ρ h) (K ρ h) (G ρ h)) fun ρ h n j d => valueParts_apply r ρ n h j d))

end Cert.ReferenceIdeal.Row

end
-- ==== Proof.Finite.lean ====
/-
  The precondition: where it holds every entry of the five arguments is a real number.
-/
module

public import proofs.«01_k».proof.Defs
public import proofs.«01_k».proof.Proof.Gen.Pre_finite
public import proofs.«01_k».proof.Proof.RefRow
public import proofs.«01_k».proof.Proof.Layout
public import Idealize.ShloMosaic.Lib.SortNet.Extract

@[expose] public section

noncomputable section

namespace Cert.Finite

open Idealize.ShloMosaic Idealize.ShloMosaic.TcCoe Idealize.SL.Sem Idealize.ShloMosaic.ValueIdx
open Cert.Pre_finite Cert.Pre_finite.Gen
open Cert.ReferenceIdeal.Row (tok Reals)

/-- A running minimum of words that is positive met only positive words. -/
theorem pos_of_least {ι : Type} (f : ι → BitVec 32) : ∀ (l : List ι) (z : BitVec 32),
    0 < (l.foldl (fun r n => IntOp.minsi r (f n)) z).toInt → 0 < z.toInt ∧ ∀ n ∈ l, 0 < (f n).toInt
  | [], _, e => ⟨e, fun _ hn => nomatch hn⟩
  | a :: l, z, e => by
    obtain ⟨h1, h2⟩ := pos_of_least f l _ e
    rw [SortNet.toInt_minsi, lt_min_iff] at h1
    exact ⟨h1.1, fun n hn => (List.mem_cons.1 hn).elim (fun e => e ▸ h1.2) (h2 n)⟩

/-- The minimum of an array's words over all its axes is positive only if each word is. -/
theorem pos_of_reduce {s t u : Shape} {axes : List (Fin s.rank)} [Subsingleton t.Idx] (x : s.Idx → BitVec 32) (init : u.Idx → BitVec 32)
    (h : s.ReducesTo axes t) (hu : 0 < u.numel) (j : t.Idx) (e : 0 < (Host.reduce IntOp.minsi x init h hu j).toInt) (i : s.Idx) :
    0 < (x i).toInt := by
  rw [Host.reduce_eq_foldl] at e
  refine (pos_of_least x _ _ e).2 i (List.mem_filter.2 ⟨List.mem_map.2 ⟨s.rowMajor i, List.mem_finRange _, Equiv.symm_apply_apply _ _⟩, ?_⟩)
  exact decide_eq_true (Subsingleton.elim _ _)

/-- A value below infinity in magnitude is real. -/
theorem real_of_lt (x : Ideal .f32)
    (e : 0 < ((FloatOps.cmpf .olt (FloatOps.hostAbsf x) (FloatOps.ofBits (F := Ideal) .f32 0x7F800000#32)).setWidth 32).toInt) :
    x = ((EReal.toReal x : ℝ) : EReal) := by
  have htop : Ideal.ofBits .f32 0x7F800000#32 = ⊤ := by simp [Ideal.ofBits, Ideal.ieee]
  have hc : FloatOps.cmpf .olt (FloatOps.hostAbsf x) (FloatOps.ofBits (F := Ideal) .f32 0x7F800000#32)
      = BitVec.ofBool (decide (max (x : EReal) (-(x : EReal)) < ⊤)) := by
    show Ideal.cmp .olt (max (x : EReal) (-(x : EReal))) (Ideal.ofBits .f32 0x7F800000#32) = _
    rw [htop]; rfl
  rw [hc] at e
  by_cases hlt : max (x : EReal) (-(x : EReal)) < ⊤
  · rw [max_lt_iff] at hlt
    refine (EReal.coe_toReal (ne_of_lt hlt.1) fun hb => ?_).symm
    rw [hb] at hlt; exact absurd hlt.2 (by simp)
  · rw [decide_eq_false hlt] at e; exact absurd e (by decide)

instance : Subsingleton S_.Idx := ⟨fun a b => funext fun i => i.elim0⟩

/-- Where the precondition holds each argument is real. -/
theorem real (x0 x1 x2 x3 : FVec Ideal S8192x4x64 .f32) (x4 : FVec Ideal S8192x4 .f32)
    (e : fn (F := Ideal) x0 x1 x2 x3 x4 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal))
      ∧ (∀ i, x4 i = ((EReal.toReal (x4 i) : ℝ) : EReal)) := by
  have e0 := congrFun e ix0
  simp only [fn, fn_part1] at e0
  have key : ∀ a b c d f : IVec S_ 32, cmpi .eq (minsi (minsi (minsi a b) (minsi c d)) f) (constantI S_ 32 1#32) ix0 = 1#1 →
      0 < (a ix0).toInt ∧ 0 < (b ix0).toInt ∧ 0 < (c ix0).toInt ∧ 0 < (d ix0).toInt ∧ 0 < (f ix0).toInt := by
    intro a b c d f hq
    have hq' : BitVec.ofBool (decide (IntOp.minsi (IntOp.minsi (IntOp.minsi (a ix0) (b ix0)) (IntOp.minsi (c ix0) (d ix0))) (f ix0) = 1#32)) = 1#1 := hq
    have h1 : IntOp.minsi (IntOp.minsi (IntOp.minsi (a ix0) (b ix0)) (IntOp.minsi (c ix0) (d ix0))) (f ix0) = 1#32 := by
      by_contra hne; rw [decide_eq_false hne] at hq'; exact absurd hq' (by decide)
    have h2 := congrArg BitVec.toInt h1
    simp only [SortNet.toInt_minsi] at h2
    have h3 : (1#32).toInt = 1 := by decide
    rw [h3] at h2
    omega
  obtain ⟨ha, hb, hc, hd, hf⟩ := key _ _ _ _ _ e0
  exact ⟨fun i => real_of_lt _ (pos_of_reduce _ _ _ _ _ ha i), fun i => real_of_lt _ (pos_of_reduce _ _ _ _ _ hb i),
    fun i => real_of_lt _ (pos_of_reduce _ _ _ _ _ hc i), fun i => real_of_lt _ (pos_of_reduce _ _ _ _ _ hd i),
    fun i => real_of_lt _ (pos_of_reduce _ _ _ _ _ hf i)⟩

/-- An argument's reals by residue, head, block, row and coordinate. -/
def part (x : FVec Ideal S8192x4x64 .f32) (ρ : Fin 16) (h n : Fin 4) (a : Fin 128) (d : Fin 64) : ℝ :=
  EReal.toReal (x (ix3 (tok ρ n a) h d))

/-- The last argument's reals by residue, head, block and row. -/
def partRow (x : FVec Ideal S8192x4 .f32) (ρ : Fin 16) (h n : Fin 4) (a : Fin 128) : ℝ := EReal.toReal (x (ix2 (tok ρ n a) h))

/-- Where the precondition holds the arguments are the reals read off them. -/
theorem reals (x0 x1 x2 x3 : FVec Ideal S8192x4x64 .f32) (x4 : FVec Ideal S8192x4 .f32)
    (e : fn (F := Ideal) x0 x1 x2 x3 x4 = fun _ => 1#1) :
    Reals x0 x1 x2 x3 x4 (part x0) (part x1) (part x2) (part x3) (partRow x4) where
  q ρ h n a d := (real x0 x1 x2 x3 x4 e).1 _
  k ρ h n a d := (real x0 x1 x2 x3 x4 e).2.1 _
  v ρ h n a d := (real x0 x1 x2 x3 x4 e).2.2.1 _
  g ρ h n a d := (real x0 x1 x2 x3 x4 e).2.2.2.1 _
  d ρ h n a := (real x0 x1 x2 x3 x4 e).2.2.2.2 _

end Cert.Finite

end
-- ==== Proof.Mat.lean ====
/-
  Two-axis products over the extended reals at one element, for any extents, and sums cut into equal runs.
-/
module

public import Idealize.ShloMosaic.PureOps.Ideal.Laws
public import Idealize.ShloMosaic.Lib.ValueIdx

@[expose] public section

noncomputable section

open scoped BigOperators

namespace Cert.Mat

open Idealize.ShloMosaic Idealize.ShloMosaic.ValueIdx

variable {M K N : Nat}

/-- A rectangle of `a` rows and `b` columns. -/
abbrev Rect2 (a b : Nat) : Shape := ⟨2, ![a, b]⟩

/-- Rows times columns. -/
abbrev nn (M K N : Nat) (wf : DotDims.WF (Rect2 M K) (Rect2 K N) (Rect2 M N) [1] [0] [0] [1] [] []) : DotDims (Rect2 M K) (Rect2 K N) (Rect2 M N) :=
  ⟨[1], [0], [0], [1], [], [], wf⟩

/-- Rows times rows. -/
abbrev nt (M K N : Nat) (wf : DotDims.WF (Rect2 M K) (Rect2 N K) (Rect2 M N) [1] [1] [0] [0] [] []) : DotDims (Rect2 M K) (Rect2 N K) (Rect2 M N) :=
  ⟨[1], [1], [0], [0], [], [], wf⟩

/-- Columns times columns. -/
abbrev tn (M K N : Nat) (wf : DotDims.WF (Rect2 K M) (Rect2 K N) (Rect2 M N) [0] [0] [1] [1] [] []) : DotDims (Rect2 K M) (Rect2 K N) (Rect2 M N) :=
  ⟨[0], [0], [1], [1], [], [], wf⟩

/-- Rows times columns at one element. -/
theorem nn_apply {φ ψ : FTy} (wf : DotDims.WF (Rect2 M K) (Rect2 K N) (Rect2 M N) [1] [0] [0] [1] [] [])
    (x : FVec Ideal (Rect2 M K) φ) (y : FVec Ideal (Rect2 K N) ψ) (i : Fin M) (j : Fin N) :
    FloatOps.matmul (nn M K N wf) none x y (constant (Rect2 M N) .f32 0x00000000#32) (ix2 i j)
      = ∑ k : Fin K, (x (ix2 i k) : EReal) * y (ix2 k j) := by
  rw [Ideal.matmul_constant_zero_apply, ← Equiv.sum_comp (contrEquiv1 (nn M K N wf) K rfl rfl).symm]
  refine Finset.sum_congr rfl fun k _ => ?_
  have hk := contrEquiv1_symm_val (nn M K N wf) K rfl rfl k
  have el : (nn M K N wf).lhsIdx (ix2 i j) ((contrEquiv1 (nn M K N wf) K rfl rfl).symm k) = ix2 i k :=
    funext fun a => Fin.ext (by match a with | ⟨0, _⟩ => rfl | ⟨1, _⟩ => exact hk)
  have er : (nn M K N wf).rhsIdx (ix2 i j) ((contrEquiv1 (nn M K N wf) K rfl rfl).symm k) = ix2 k j :=
    funext fun a => Fin.ext (by match a with | ⟨0, _⟩ => exact hk | ⟨1, _⟩ => rfl)
  rw [el, er]

/-- Rows times rows at one element. -/
theorem nt_apply {φ ψ : FTy} (wf : DotDims.WF (Rect2 M K) (Rect2 N K) (Rect2 M N) [1] [1] [0] [0] [] [])
    (x : FVec Ideal (Rect2 M K) φ) (y : FVec Ideal (Rect2 N K) ψ) (i : Fin M) (j : Fin N) :
    FloatOps.matmul (nt M K N wf) none x y (constant (Rect2 M N) .f32 0x00000000#32) (ix2 i j)
      = ∑ k : Fin K, (x (ix2 i k) : EReal) * y (ix2 j k) := by
  rw [Ideal.matmul_constant_zero_apply, ← Equiv.sum_comp (contrEquiv1 (nt M K N wf) K rfl rfl).symm]
  refine Finset.sum_congr rfl fun k _ => ?_
  have hk := contrEquiv1_symm_val (nt M K N wf) K rfl rfl k
  have el : (nt M K N wf).lhsIdx (ix2 i j) ((contrEquiv1 (nt M K N wf) K rfl rfl).symm k) = ix2 i k :=
    funext fun a => Fin.ext (by match a with | ⟨0, _⟩ => rfl | ⟨1, _⟩ => exact hk)
  have er : (nt M K N wf).rhsIdx (ix2 i j) ((contrEquiv1 (nt M K N wf) K rfl rfl).symm k) = ix2 j k :=
    funext fun a => Fin.ext (by match a with | ⟨0, _⟩ => rfl | ⟨1, _⟩ => exact hk)
  rw [el, er]

/-- Columns times columns at one element. -/
theorem tn_apply {φ ψ : FTy} (wf : DotDims.WF (Rect2 K M) (Rect2 K N) (Rect2 M N) [0] [0] [1] [1] [] [])
    (x : FVec Ideal (Rect2 K M) φ) (y : FVec Ideal (Rect2 K N) ψ) (i : Fin M) (j : Fin N) :
    FloatOps.matmul (tn M K N wf) none x y (constant (Rect2 M N) .f32 0x00000000#32) (ix2 i j)
      = ∑ k : Fin K, (x (ix2 k i) : EReal) * y (ix2 k j) := by
  rw [Ideal.matmul_constant_zero_apply, ← Equiv.sum_comp (contrEquiv1 (tn M K N wf) K rfl rfl).symm]
  refine Finset.sum_congr rfl fun k _ => ?_
  have hk := contrEquiv1_symm_val (tn M K N wf) K rfl rfl k
  have el : (tn M K N wf).lhsIdx (ix2 i j) ((contrEquiv1 (tn M K N wf) K rfl rfl).symm k) = ix2 k i :=
    funext fun a => Fin.ext (by match a with | ⟨0, _⟩ => exact hk | ⟨1, _⟩ => rfl)
  have er : (tn M K N wf).rhsIdx (ix2 i j) ((contrEquiv1 (tn M K N wf) K rfl rfl).symm k) = ix2 k j :=
    funext fun a => Fin.ext (by match a with | ⟨0, _⟩ => exact hk | ⟨1, _⟩ => rfl)
  rw [el, er]

/-- Two indices of a rectangle with the same coordinates. -/
theorem idx2_ext {a b : Nat} (x y : (Rect2 a b).Idx) (h0 : (x 0).val = (y 0).val) (h1 : (x 1).val = (y 1).val) : x = y :=
  funext fun c => Fin.ext (by match c with | ⟨0, _⟩ => exact h0 | ⟨1, _⟩ => exact h1)

/-- A sum over `a * b` terms, run by run. -/
theorem sum_runs {A : Type*} [AddCommMonoid A] (a b n : Nat) (h : a * b = n) (f : Fin n → A) :
    ∑ k, f k = ∑ s : Fin a, ∑ k : Fin b, f ⟨s.val * b + k.val, by
      have := s.isLt; have := k.isLt; subst h
      calc s.val * b + k.val < s.val * b + b := by omega
        _ = (s.val + 1) * b := by ring
        _ ≤ a * b := Nat.mul_le_mul_right b (by omega)⟩ := by
  subst h
  rw [← Equiv.sum_comp (finProdFinEquiv (m := a) (n := b)) f, Fintype.sum_prod_type]
  refine Finset.sum_congr rfl fun s _ => Finset.sum_congr rfl fun k _ => congrArg f (Fin.ext ?_)
  simp [finProdFinEquiv, Nat.mul_comm, Nat.add_comm]

end Cert.Mat

end
-- ==== Proof.Mlp.lean ====
/-
  The MLP over whole arrays of extended reals: normalised rows, hidden features, the residual sum; and how the two
  weights are laid out in blocks.
-/
module

public import proofs.«01_k».proof.Proof.Mat
public import Idealize.ShloMosaic.Lib.Pipeline.Value

@[expose] public section

noncomputable section

open scoped BigOperators

namespace Cert.Mlp

open Idealize.ShloMosaic Idealize.ShloMosaic.ValueIdx Cert.Mat

/-- The mean square of a row with the offset. -/
def meanSq (x : Fin 1024 → EReal) : EReal :=
  Ideal.div (∑ l, x l * x l) (FloatOps.ofBits (F := Ideal) .f32 0x44800000#32) + FloatOps.ofBits (F := Ideal) .f32 0x358637BD#32

/-- One row's scale: the inverse root of its mean square with the offset. -/
def scale (x : Fin 1024 → EReal) : EReal := Ideal.rsqrt (meanSq x)

variable (h : (Rect2 8192 1024).Idx → EReal) (g : (Rect2 1 1024).Idx → EReal) (u : (Rect2 1024 4096).Idx → EReal) (d : (Rect2 4096 1024).Idx → EReal)

/-- The normalised rows. -/
def normed (T : Fin 8192) (k : Fin 1024) : EReal := (h (ix2 T k) * scale fun l => h (ix2 T l)) * g (ix2 (0 : Fin 1) k)

/-- The hidden features before the nonlinearity. -/
def pre (T : Fin 8192) (n : Fin 4096) : EReal := ∑ k, normed h g T k * u (ix2 k n)

/-- The hidden features. -/
def hidden (T : Fin 8192) (n : Fin 4096) : EReal := max (pre h g u T n) 0

/-- The residual sum. -/
def summed (T : Fin 8192) (j : Fin 1024) : EReal := h (ix2 T j) + ∑ n, (hidden h g u T n * hidden h g u T n) * d (ix2 n j)

/-- A column of a block of columns. -/
abbrev col (b : Fin 8) (j : Fin 512) : Fin 4096 := ⟨b.val * 512 + j.val, by omega⟩

/-- A row of a tile of rows. -/
abbrev row (t : Fin 16) (i : Fin 512) : Fin 8192 := ⟨t.val * 512 + i.val, by omega⟩

/-- The first weight laid out by blocks of columns. -/
theorem cols_apply {φ : FTy} (w : FVec Ideal (Rect2 1024 4096) φ) (h1 : (Rect2 1024 4096).ShapeCasts ⟨3, ![1024, 8, 512]⟩)
    (h2 : (⟨3, ![1024, 8, 512]⟩ : Shape).Transposes [1, 0, 2] ⟨3, ![8, 1024, 512]⟩) (b : Fin 8) (k : Fin 1024) (j : Fin 512) :
    transpose (⟨3, ![8, 1024, 512]⟩ : Shape) [1, 0, 2] (shapeCast (⟨3, ![1024, 8, 512]⟩ : Shape) w h1) h2 (ix3 b k j) = w (ix2 k (col b j)) := by
  refine (transpose_apply [1, 0, 2] _ h2 _ (ix3 k b j) (fun b => match b with | ⟨0, _⟩ => rfl | ⟨1, _⟩ => rfl | ⟨2, _⟩ => rfl)).trans ?_
  exact shapeCast_apply w h1 _ _ (by rw [Shape.rowMajor_val_three, Shape.rowMajor_val_two]; show k.val * 4096 + (b.val * 512 + j.val) = (k.val * 8 + b.val) * 512 + j.val; omega)

/-- The second weight laid out by blocks of rows. -/
theorem rows_apply {φ : FTy} (w : FVec Ideal (Rect2 4096 1024) φ) (h1 : (Rect2 4096 1024).ShapeCasts ⟨3, ![8, 512, 1024]⟩) (b : Fin 8) (k : Fin 512) (j : Fin 1024) :
    shapeCast (⟨3, ![8, 512, 1024]⟩ : Shape) w h1 (ix3 b k j) = w (ix2 (col b k) j) :=
  shapeCast_apply w h1 _ _ (by rw [Shape.rowMajor_val_three, Shape.rowMajor_val_two]; rfl)

/-- Every row is a row of a tile. -/
theorem row_eq (T : Fin 8192) : ∃ t i, T = row t i :=
  ⟨⟨T.val / 512, by omega⟩, ⟨T.val % 512, by omega⟩, Fin.ext (by show T.val = T.val / 512 * 512 + T.val % 512; omega)⟩

/-- Every column is a column of a block. -/
theorem col_eq (n : Fin 4096) : ∃ b j, n = col b j :=
  ⟨⟨n.val / 512, by omega⟩, ⟨n.val % 512, by omega⟩, Fin.ext (by show n.val = n.val / 512 * 512 + n.val % 512; omega)⟩

end Cert.Mlp

end
-- ==== Proof.MlpBack.lean ====
/-
  The MLP's backward pass over whole arrays of extended reals: the gradients of the hidden features before the
  nonlinearity, of the normalised rows, of the residual rows and of the gain.
-/
module

public import proofs.«01_k».proof.Proof.Mlp

@[expose] public section

noncomputable section

open scoped BigOperators

namespace Cert.Mlp

open Idealize.ShloMosaic Idealize.ShloMosaic.ValueIdx Cert.Mat

variable (e h : (Rect2 8192 1024).Idx → EReal) (g : (Rect2 1 1024).Idx → EReal) (u : (Rect2 1024 4096).Idx → EReal) (d : (Rect2 4096 1024).Idx → EReal)

/-- The gradient of the hidden features before the nonlinearity: the incoming row against a row of the second weight,
    times twice the hidden feature. -/
def gateGrad (T : Fin 8192) (n : Fin 4096) : EReal :=
  (∑ k, e (ix2 T k) * d (ix2 n k)) * (FloatOps.ofBits (F := Ideal) .f32 0x40000000#32 * hidden h g u T n)

/-- The gradient of the normalised rows. -/
def normGrad (T : Fin 8192) (k : Fin 1024) : EReal := ∑ n, gateGrad e h g u d T n * u (ix2 k n)

/-- A row over its root mean square. -/
def unit (T : Fin 8192) (k : Fin 1024) : EReal := h (ix2 T k) * scale fun l => h (ix2 T l)

/-- One entry of a row's gradient through the normalisation: from the row over its root mean square, the gradient times
    the gain, the row's scale and the residual's own gradient. -/
def through (o s : EReal) (x b : Fin 1024 → EReal) (k : Fin 1024) : EReal :=
  o + s * (b k - x k * Ideal.div (∑ l, b l * x l) (FloatOps.ofBits (F := Ideal) .f32 0x44800000#32))

/-- The gradient of the residual rows. -/
def rowGrad (T : Fin 8192) (k : Fin 1024) : EReal :=
  through (e (ix2 T k)) (scale fun l => h (ix2 T l)) (unit h T) (fun l => normGrad e h g u d T l * g (ix2 (0 : Fin 1) l)) k

/-- The gain's gradient. -/
def gainGrad (k : Fin 1024) : EReal := ∑ T, normGrad e h g u d T k * unit h T k

end Cert.Mlp

end
-- ==== Proof.Bwd.lean ====
/-
  The MLP's backward call, one tile of 512 tokens: the hidden gradients block by block, their product with the first
  weight, the normalisation's gradient, and the gain's gradient accumulated over the tiles.
-/
module

public import proofs.«01_k».proof.Proof.MlpBack
public import proofs.«01_k».proof.Proof.Gen.Kernel2Ideal.Value
public import Idealize.ShloMosaic.Lib.Pipeline.ValueKit.Tiles

@[expose] public section

noncomputable section

open scoped BigOperators

namespace Cert.Kernel2Ideal.Bwd

open Idealize.ShloMosaic Idealize.ShloMosaic.TcCoe Idealize.SL.Sem Idealize.ShloMosaic.ValueIdx
open Cert.Kernel2Ideal Cert.Kernel2Ideal.Gen Cert.Mat Cert.Mlp

/-- Offsets zero on both axes. -/
theorem zero2 : (![0, 0] : Fin 2 → Nat) = fun _ => 0 := funext fun a => by fin_cases a <;> rfl

section Shapes

variable {F : FTy → Type} [FloatOps F]

/-- The hidden gradients of one block of columns: the incoming rows against a block of the second weight, times twice the hidden features. -/
def gate (db : FVec F S512x1024 .bf16) (w : Vec F S1x512x1024 .bf16) (r : Vec F S512x512 .bf16) : FVec F S512x512 .bf16 :=
  truncf .bf16 (mulf
    (matmul dot_S512x1024_S512x1024_S512x512_1_1_0_0_n_n none db (shapeCast S512x1024 w shapeCasts_S1x512x1024_S512x1024) (constant S512x512 .f32 0x00000000#32))
    (mulf (broadcast S512x512 (Scalar.ofBits .f32 0x40000000#32)) (extf .f32 (shapeCast S512x512 r shapeCasts_S512x512_S512x512) bitsLt_bf16_f32))) bitsLt_bf16_f32

/-- One block of hidden gradients against the matching columns of the first weight. -/
def down (z : FVec F S512x512 .bf16) (w : Vec F S1x1024x512 .bf16) : FVec F S512x1024 .f32 :=
  matmul dot_S512x512_S1024x512_S512x1024_1_1_0_0_n_n none z (shapeCast S1024x512 w shapeCasts_S1x1024x512_S1024x512) (constant S512x1024 .f32 0x00000000#32)

/-- The blocks of columns of a tile's hidden features. -/
def rblk (x1 : Vec F S512x4096 .bf16) : Fin 8 → Vec F S512x512 .bf16 :=
  ![View.ld x1 (Rect.unit ![0, 0] S512x512.size inb_S512x4096_S512x512_0_0),
    View.ld x1 (Rect.unit ![0, 512] S512x512.size inb_S512x4096_S512x512_0_512),
    View.ld x1 (Rect.unit ![0, 1024] S512x512.size inb_S512x4096_S512x512_0_1024),
    View.ld x1 (Rect.unit ![0, 1536] S512x512.size inb_S512x4096_S512x512_0_1536),
    View.ld x1 (Rect.unit ![0, 2048] S512x512.size inb_S512x4096_S512x512_0_2048),
    View.ld x1 (Rect.unit ![0, 2560] S512x512.size inb_S512x4096_S512x512_0_2560),
    View.ld x1 (Rect.unit ![0, 3072] S512x512.size inb_S512x4096_S512x512_0_3072),
    View.ld x1 (Rect.unit ![0, 3584] S512x512.size inb_S512x4096_S512x512_0_3584)]

/-- The blocks of the first weight. -/
def ublk (x4 : Vec F S8x1024x512 .bf16) : Fin 8 → Vec F S1x1024x512 .bf16 :=
  ![View.ld x4 (Rect.unit ![0, 0, 0] S1x1024x512.size inb_S8x1024x512_S1x1024x512_0_0_0),
    View.ld x4 (Rect.unit ![1, 0, 0] S1x1024x512.size inb_S8x1024x512_S1x1024x512_1_0_0),
    View.ld x4 (Rect.unit ![2, 0, 0] S1x1024x512.size inb_S8x1024x512_S1x1024x512_2_0_0),
    View.ld x4 (Rect.unit ![3, 0, 0] S1x1024x512.size inb_S8x1024x512_S1x1024x512_3_0_0),
    View.ld x4 (Rect.unit ![4, 0, 0] S1x1024x512.size inb_S8x1024x512_S1x1024x512_4_0_0),
    View.ld x4 (Rect.unit ![5, 0, 0] S1x1024x512.size inb_S8x1024x512_S1x1024x512_5_0_0),
    View.ld x4 (Rect.unit ![6, 0, 0] S1x1024x512.size inb_S8x1024x512_S1x1024x512_6_0_0),
    View.ld x4 (Rect.unit ![7, 0, 0] S1x1024x512.size inb_S8x1024x512_S1x1024x512_7_0_0)]

/-- The blocks of the second weight. -/
def dblk (x5 : Vec F S8x512x1024 .bf16) : Fin 8 → Vec F S1x512x1024 .bf16 :=
  ![View.ld x5 (Rect.unit ![0, 0, 0] S1x512x1024.size inb_S8x512x1024_S1x512x1024_0_0_0),
    View.ld x5 (Rect.unit ![1, 0, 0] S1x512x1024.size inb_S8x512x1024_S1x512x1024_1_0_0),
    View.ld x5 (Rect.unit ![2, 0, 0] S1x512x1024.size inb_S8x512x1024_S1x512x1024_2_0_0),
    View.ld x5 (Rect.unit ![3, 0, 0] S1x512x1024.size inb_S8x512x1024_S1x512x1024_3_0_0),
    View.ld x5 (Rect.unit ![4, 0, 0] S1x512x1024.size inb_S8x512x1024_S1x512x1024_4_0_0),
    View.ld x5 (Rect.unit ![5, 0, 0] S1x512x1024.size inb_S8x512x1024_S1x512x1024_5_0_0),
    View.ld x5 (Rect.unit ![6, 0, 0] S1x512x1024.size inb_S8x512x1024_S1x512x1024_6_0_0),
    View.ld x5 (Rect.unit ![7, 0, 0] S1x512x1024.size inb_S8x512x1024_S1x512x1024_7_0_0)]

/-- A tile's hidden gradients, block by block. -/
def gates (x0 : Vec F S512x1024 .f32) (x1 : Vec F S512x4096 .bf16) (x5 : Vec F S8x512x1024 .bf16) (b : Fin 8) : FVec F S512x512 .bf16 :=
  gate (k0_pay2 x0) (dblk x5 b) (rblk x1 b)

/-- The gradient of a tile's normalised rows: over all eight blocks. -/
def back (x0 : Vec F S512x1024 .f32) (x1 : Vec F S512x4096 .bf16) (x4 : Vec F S8x1024x512 .bf16) (x5 : Vec F S8x512x1024 .bf16) : FVec F S512x1024 .f32 :=
  addf (addf (addf (addf (addf (addf (addf (down (gates x0 x1 x5 0) (ublk x4 0)) (down (gates x0 x1 x5 1) (ublk x4 1)))
    (down (gates x0 x1 x5 2) (ublk x4 2))) (down (gates x0 x1 x5 3) (ublk x4 3))) (down (gates x0 x1 x5 4) (ublk x4 4)))
    (down (gates x0 x1 x5 5) (ublk x4 5))) (down (gates x0 x1 x5 6) (ublk x4 6))) (down (gates x0 x1 x5 7) (ublk x4 7))

/-- The gradient of a tile's residual rows. -/
def rows (d : Vec F S512x1024 .f32) (b : FVec F S512x1024 .f32) (g : Vec F S1x1024 .f32) (h : Vec F S512x1024 .f32) : FVec F S512x1024 .f32 :=
  addf d (mulf (broadcastTo S512x1024 (k0_pay16 h) broadcasts_S512x1_S512x1024)
    (subf (mulf b (broadcastTo S512x1024 g broadcasts_S1x1024_S512x1024))
      (mulf (k0_pay17 h) (broadcastTo S512x1024
        (divf (shapeCast S512x1 (multiReduction .add [1] S512 (mulf (mulf b (broadcastTo S512x1024 g broadcasts_S1x1024_S512x1024)) (k0_pay17 h)) 0x00000000#32 reduces_S512x1024_S512 (.inl rfl) rfl) shapeCasts_S512_S512x1)
          (broadcast S512x1 (Scalar.ofBits .f32 0x44800000#32)))
        broadcasts_S512x1_S512x1024))))

/-- The gain's gradient with a tile's part added. -/
def gains (a : Vec F S1x1024 .f32) (b : FVec F S512x1024 .f32) (h : Vec F S512x1024 .f32) : FVec F S1x1024 .f32 :=
  addf (shapeCast S1x1024 a shapeCasts_S1x1024_S1x1024)
    (shapeCast S1x1024 (multiReduction .add [0] S1024 (mulf b (k0_pay17 h)) 0x00000000#32 reduces_S512x1024_S1024 (.inl rfl) rfl) shapeCasts_S1024_S1x1024)

/-- The stores of the hidden gradients. -/
abbrev stores (f : Fin 8 → FVec F S512x512 .bf16) : List (View.Piece (Elt F) S512x4096 .bf16) :=
  [⟨Rect.unit ![0, 3584] S512x512.size inb_S512x4096_S512x512_0_3584, f 7⟩,
    ⟨Rect.unit ![0, 3072] S512x512.size inb_S512x4096_S512x512_0_3072, f 6⟩,
    ⟨Rect.unit ![0, 2560] S512x512.size inb_S512x4096_S512x512_0_2560, f 5⟩,
    ⟨Rect.unit ![0, 2048] S512x512.size inb_S512x4096_S512x512_0_2048, f 4⟩,
    ⟨Rect.unit ![0, 1536] S512x512.size inb_S512x4096_S512x512_0_1536, f 3⟩,
    ⟨Rect.unit ![0, 1024] S512x512.size inb_S512x4096_S512x512_0_1024, f 2⟩,
    ⟨Rect.unit ![0, 512] S512x512.size inb_S512x4096_S512x512_0_512, f 1⟩,
    ⟨Rect.unit ![0, 0] S512x512.size inb_S512x4096_S512x512_0_0, f 0⟩]

end Shapes

section Cases

variable {F : FTy → Type} [FloatOps F] (c : Dev nD) (i : grid0.Coords)
  (arg1 : Memref sig .tc .vmem S512x1024 .f32) (harg1 : arg1.IsWhole) (arg2 : Memref sig .tc .vmem S512x4096 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S8x1024x512 .bf16) (harg5 : arg5.IsWhole) (arg6 : Memref sig .tc .vmem S8x512x1024 .bf16) (harg6 : arg6.IsWhole)
  (arg7 : Memref sig .tc .vmem S512x1024 .f32) (harg7 : arg7.IsWhole) (arg8 : Memref sig .tc .vmem S512x4096 .bf16) (harg8 : arg8.IsWhole)
  (arg9 : Memref sig .tc .vmem S1x1024 .f32) (harg9 : arg9.IsWhole) (arg10 : Memref sig .tc .vmem S512x1024 .bf16) (harg10 : arg10.IsWhole)
  (x0 : Vec F S512x1024 .f32) (x1 : Vec F S512x4096 .bf16) (x2 : Vec F S512x1024 .f32) (x3 : Vec F S1x1024 .f32)
  (x4 : Vec F S8x1024x512 .bf16) (x5 : Vec F S8x512x1024 .bf16) (xo : Vec F S1x1024 .f32)

/-- The first tile leaves the residual rows' gradient. -/
theorem outA6 (h0 : cond0_0 i) :
    out0_A_6 c i arg1 harg1 arg2 harg2 arg3 harg3 arg4 harg4 arg5 harg5 arg6 harg6 arg7 harg7 arg8 harg8 arg9 harg9 arg10 harg10 h0 x0 x1 x2 x3 x4 x5 = rows x0 (back x0 x1 x4 x5) x3 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 h0 x0 x1 x2 x3 x4 x5)]
  unfold kernelRun0_A
  dsimp only
  sl_unfold_words
  rw [View.canon_unit_zero zero2]
  simp only [View.readAt_eq_ld, harg1.read_unread, harg2.read_unread, harg3.read_unread, harg4.read_unread, harg5.read_unread, harg6.read_unread, View.ld_unit_zero (S := S512x1024) zero2, View.ld_unit_zero (S := S1x1024) zero2]
  rfl

/-- The first tile leaves the hidden gradients. -/
theorem outA7 (h0 : cond0_0 i) :
    out0_A_7 c i arg1 harg1 arg2 harg2 arg3 harg3 arg4 harg4 arg5 harg5 arg6 harg6 arg7 harg7 arg8 harg8 arg9 harg9 arg10 harg10 h0 x0 x1 x2 x3 x4 x5 = View.canon (stores (gates x0 x1 x5)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 h0 x0 x1 x2 x3 x4 x5)]
  unfold kernelRun0_A
  dsimp only
  sl_unfold_words
  simp only [View.readAt_eq_ld, harg1.read_unread, harg2.read_unread, harg6.read_unread, View.ld_unit_zero (S := S512x1024) zero2]
  rfl

/-- The first tile leaves the gain's gradient. -/
theorem outA8 (h0 : cond0_0 i) :
    out0_A_8 c i arg1 harg1 arg2 harg2 arg3 harg3 arg4 harg4 arg5 harg5 arg6 harg6 arg7 harg7 arg8 harg8 arg9 harg9 arg10 harg10 h0 x0 x1 x2 x3 x4 x5 = gains k0_pay1 (back x0 x1 x4 x5) x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 h0 x0 x1 x2 x3 x4 x5)]
  unfold kernelRun0_A
  dsimp only
  sl_unfold_words
  rw [View.canon_cons_unit_zero (S := S1x1024) zero2]
  rw [View.readCov_unit_zero _ zero2]
  simp only [View.readAt_eq_ld, harg1.read_unread, harg2.read_unread, harg3.read_unread, harg5.read_unread, harg6.read_unread, View.ld_unit_zero (S := S512x1024) zero2]
  rfl

/-- The first tile leaves the incoming rows, narrowed. -/
theorem outA9 (h0 : cond0_0 i) :
    out0_A_9 c i arg1 harg1 arg2 harg2 arg3 harg3 arg4 harg4 arg5 harg5 arg6 harg6 arg7 harg7 arg8 harg8 arg9 harg9 arg10 harg10 h0 x0 x1 x2 x3 x4 x5 = k0_pay2 x0 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 h0 x0 x1 x2 x3 x4 x5)]
  unfold kernelRun0_A
  dsimp only
  sl_unfold_words
  rw [View.canon_unit_zero zero2]
  simp only [View.readAt_eq_ld, harg1.read_unread, View.ld_unit_zero (S := S512x1024) zero2]

/-- A later tile leaves the residual rows' gradient. -/
theorem outB6 (h0 : ¬cond0_0 i) :
    out0_B_6 c i arg1 harg1 arg2 harg2 arg3 harg3 arg4 harg4 arg5 harg5 arg6 harg6 arg7 harg7 arg8 harg8 arg9 harg9 arg10 harg10 h0 x0 x1 x2 x3 x4 x5 xo = rows x0 (back x0 x1 x4 x5) x3 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 h0 x0 x1 x2 x3 x4 x5 xo)]
  unfold kernelRun0_B
  dsimp only
  sl_unfold_words
  rw [View.canon_unit_zero zero2]
  simp only [View.readAt_eq_ld, harg1.read_unread, harg2.read_unread, harg3.read_unread, harg4.read_unread, harg5.read_unread, harg6.read_unread, View.ld_unit_zero (S := S512x1024) zero2, View.ld_unit_zero (S := S1x1024) zero2]
  rfl

/-- A later tile leaves the hidden gradients. -/
theorem outB7 (h0 : ¬cond0_0 i) :
    out0_B_7 c i arg1 harg1 arg2 harg2 arg3 harg3 arg4 harg4 arg5 harg5 arg6 harg6 arg7 harg7 arg8 harg8 arg9 harg9 arg10 harg10 h0 x0 x1 x2 x3 x4 x5 xo = View.canon (stores (gates x0 x1 x5)) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 h0 x0 x1 x2 x3 x4 x5 xo)]
  unfold kernelRun0_B
  dsimp only
  sl_unfold_words
  simp only [View.readAt_eq_ld, harg1.read_unread, harg2.read_unread, harg6.read_unread, View.ld_unit_zero (S := S512x1024) zero2]
  rfl

/-- A later tile leaves the gain's gradient. -/
theorem outB8 (h0 : ¬cond0_0 i) :
    out0_B_8 c i arg1 harg1 arg2 harg2 arg3 harg3 arg4 harg4 arg5 harg5 arg6 harg6 arg7 harg7 arg8 harg8 arg9 harg9 arg10 harg10 h0 x0 x1 x2 x3 x4 x5 xo = gains xo (back x0 x1 x4 x5) x2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 h0 x0 x1 x2 x3 x4 x5 xo)]
  unfold kernelRun0_B
  dsimp only
  sl_unfold_words
  rw [View.canon_cons_unit_zero (S := S1x1024) zero2]
  simp only [View.readAt_eq_ld, harg1.read_unread, harg2.read_unread, harg3.read_unread, harg5.read_unread, harg6.read_unread, harg9.read_unread, View.ld_unit_zero (S := S512x1024) zero2, View.ld_unit_zero (S := S1x1024) zero2]
  rfl

/-- A later tile leaves the incoming rows, narrowed. -/
theorem outB9 (h0 : ¬cond0_0 i) :
    out0_B_9 c i arg1 harg1 arg2 harg2 arg3 harg3 arg4 harg4 arg5 harg5 arg6 harg6 arg7 harg7 arg8 harg8 arg9 harg9 arg10 harg10 h0 x0 x1 x2 x3 x4 x5 xo = k0_pay2 x0 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 h0 x0 x1 x2 x3 x4 x5 xo)]
  unfold kernelRun0_B
  dsimp only
  sl_unfold_words
  rw [View.canon_unit_zero zero2]
  simp only [View.readAt_eq_ld, harg1.read_unread, View.ld_unit_zero (S := S512x1024) zero2]

end Cases

end Cert.Kernel2Ideal.Bwd

end
-- ==== Proof.BwdRead.lean ====
/-
  The MLP's backward call, one tile at an element.
-/
module

public import proofs.«01_k».proof.Proof.Bwd
public import Idealize.ShloMosaic.Lib.ValueLayout

@[expose] public section

noncomputable section

open scoped BigOperators

namespace Cert.Kernel2Ideal.Bwd

open Idealize.ShloMosaic Idealize.ShloMosaic.TcCoe Idealize.SL.Sem Idealize.ShloMosaic.ValueIdx
open Cert.Kernel2Ideal Cert.Kernel2Ideal.Gen Cert.Mat Cert.Mlp

/-- A block of hidden gradients at an element. -/
theorem gate_apply (db : FVec Ideal S512x1024 .bf16) (w : Vec Ideal S1x512x1024 .bf16) (r : Vec Ideal S512x512 .bf16) (i j : Fin 512) :
    gate db w r (ix2 i j) = (∑ k : Fin 1024, (db (ix2 i k) : EReal) * w (ix3 (0 : Fin 1) j k)) * (FloatOps.ofBits (F := Ideal) .f32 0x40000000#32 * r (ix2 i j)) := by
  unfold gate
  rw [shapeCast_self]
  refine congrArg (fun z : EReal => z * (FloatOps.ofBits (F := Ideal) .f32 0x40000000#32 * r (ix2 i j))) ((nt_apply dot_S512x1024_S512x1024_S512x512_1_1_0_0_n_n_wf _ _ i j).trans
    (Finset.sum_congr rfl fun k _ => congrArg (fun z : EReal => (db (ix2 i k) : EReal) * z) ?_))
  exact shapeCast_apply w _ _ _ (by rw [Shape.rowMajor_val_three, Shape.rowMajor_val_two]; show (0 * 512 + j.val) * 1024 + k.val = j.val * 1024 + k.val; omega)

/-- A block's product with the first weight at an element. -/
theorem down_apply (z : FVec Ideal S512x512 .bf16) (w : Vec Ideal S1x1024x512 .bf16) (i : Fin 512) (j : Fin 1024) :
    down z w (ix2 i j) = ∑ k : Fin 512, (z (ix2 i k) : EReal) * w (ix3 (0 : Fin 1) j k) := by
  unfold down
  refine (nt_apply dot_S512x512_S1024x512_S512x1024_1_1_0_0_n_n_wf _ _ i j).trans
    (Finset.sum_congr rfl fun k _ => congrArg (fun w : EReal => (z (ix2 i k) : EReal) * w) ?_)
  exact shapeCast_apply w _ _ _ (by rw [Shape.rowMajor_val_three, Shape.rowMajor_val_two]; show (0 * 1024 + j.val) * 512 + k.val = j.val * 512 + k.val; omega)

/-- A block of columns at an element. -/
theorem rblk_apply (x1 : Vec Ideal S512x4096 .bf16) (b : Fin 8) (i j : Fin 512) : rblk x1 b (ix2 i j) = x1 (ix2 i (col b j)) := by
  fin_cases b <;>
  · refine congrArg x1 (funext fun a => Fin.ext ?_)
    match a with
    | ⟨0, _⟩ => show 0 + 1 * i.val = i.val; omega
    | ⟨1, _⟩ => exact congrArg (fun n => _ + n) (Nat.one_mul j.val)

/-- The first weight's block at an element. -/
theorem ublk_apply (x4 : Vec Ideal S8x1024x512 .bf16) (b : Fin 8) (k : Fin 1024) (j : Fin 512) : ublk x4 b (ix3 (0 : Fin 1) k j) = x4 (ix3 b k j) := by
  fin_cases b <;>
  · refine congrArg x4 (funext fun a => Fin.ext ?_)
    match a with
    | ⟨0, _⟩ => rfl
    | ⟨1, _⟩ => show 0 + 1 * k.val = k.val; omega
    | ⟨2, _⟩ => show 0 + 1 * j.val = j.val; omega

/-- The second weight's block at an element. -/
theorem dblk_apply (x5 : Vec Ideal S8x512x1024 .bf16) (b : Fin 8) (k : Fin 512) (j : Fin 1024) : dblk x5 b (ix3 (0 : Fin 1) k j) = x5 (ix3 b k j) := by
  fin_cases b <;>
  · refine congrArg x5 (funext fun a => Fin.ext ?_)
    match a with
    | ⟨0, _⟩ => rfl
    | ⟨1, _⟩ => show 0 + 1 * k.val = k.val; omega
    | ⟨2, _⟩ => show 0 + 1 * j.val = j.val; omega

/-- A hidden gradient of a tile: block `b`, column `j` within it. -/
def gat (x0 : Vec Ideal S512x1024 .f32) (x1 : Vec Ideal S512x4096 .bf16) (x5 : Vec Ideal S8x512x1024 .bf16) (i : Fin 512) (b : Fin 8) (j : Fin 512) : EReal :=
  (∑ k : Fin 1024, (x0 (ix2 i k) : EReal) * x5 (ix3 b j k)) * (FloatOps.ofBits (F := Ideal) .f32 0x40000000#32 * x1 (ix2 i (col b j)))

/-- A tile's hidden gradients at an element. -/
theorem gates_apply (x0 : Vec Ideal S512x1024 .f32) (x1 : Vec Ideal S512x4096 .bf16) (x5 : Vec Ideal S8x512x1024 .bf16) (i : Fin 512) (b : Fin 8) (j : Fin 512) :
    gates x0 x1 x5 b (ix2 i j) = gat x0 x1 x5 i b j :=
  (gate_apply _ _ _ i j).trans (congrArg₂ (fun a b : EReal => a * b)
    (Finset.sum_congr rfl fun k _ => congrArg (fun z : EReal => (x0 (ix2 i k) : EReal) * z) (dblk_apply x5 b j k))
    (congrArg (fun z : EReal => FloatOps.ofBits (F := Ideal) .f32 0x40000000#32 * z) (rblk_apply x1 b i j)))

/-- The gradient of a tile's normalised rows at an element: over all eight blocks. -/
theorem back_apply (x0 : Vec Ideal S512x1024 .f32) (x1 : Vec Ideal S512x4096 .bf16) (x4 : Vec Ideal S8x1024x512 .bf16) (x5 : Vec Ideal S8x512x1024 .bf16) (i : Fin 512) (j : Fin 1024) :
    back x0 x1 x4 x5 (ix2 i j) = ∑ b : Fin 8, ∑ k : Fin 512, gat x0 x1 x5 i b k * x4 (ix3 b j k) := by
  have h : ∀ b : Fin 8, down (gates x0 x1 x5 b) (ublk x4 b) (ix2 i j) = ∑ k : Fin 512, gat x0 x1 x5 i b k * x4 (ix3 b j k) := fun b =>
    (down_apply _ _ i j).trans (Finset.sum_congr rfl fun k _ => congrArg₂ (fun a b : EReal => a * b) (gates_apply x0 x1 x5 i b k) (ublk_apply x4 b j k))
  rw [← Finset.sum_congr rfl fun b _ => h b, Fin.sum_univ_eight]
  rfl

/-- A row's scale. -/
theorem scale_apply (h : Vec Ideal S512x1024 .f32) (i : Fin 512) : k0_pay16 (F := Ideal) h (ix2 i (0 : Fin 1)) = scale fun l => h (ix2 i l) := by
  unfold k0_pay16
  refine congrArg (fun s : EReal => Ideal.rsqrt (Ideal.div s (FloatOps.ofBits (F := Ideal) .f32 0x44800000#32) + FloatOps.ofBits (F := Ideal) .f32 0x358637BD#32)) ?_
  refine (shapeCast_apply _ _ _ (ix1 i) (by rw [Shape.rowMajor_val_two, Shape.rowMajor_val_one]; show i.val = i.val * 1 + 0; omega)).trans ?_
  refine (Ideal.multiReduction_add_single _ _ _ _ _ _).trans (Finset.sum_congr rfl fun l _ => ?_)
  have el : (reduces_S512x1024_S512 : S512x1024.Reduces [1] S512).lift (ix1 i) l = ix2 i l := idx2_ext _ (ix2 i l) rfl rfl
  rw [el]
  rfl

/-- The scale spread along a row. -/
theorem spread_apply (s : FVec Ideal S512x1 .f32) (i : Fin 512) (k : Fin 1024) :
    broadcastTo S512x1024 s broadcasts_S512x1_S512x1024 (ix2 i k) = s (ix2 i (0 : Fin 1)) :=
  broadcastTo_apply _ _ (ix2 i k) (ix2 i (0 : Fin 1)) (fun b => by match b with | ⟨0, _⟩ => rfl | ⟨1, _⟩ => rfl)

/-- A row over its root mean square. -/
theorem unit_apply (h : Vec Ideal S512x1024 .f32) (i : Fin 512) (k : Fin 1024) :
    k0_pay17 (F := Ideal) h (ix2 i k) = (h (ix2 i k) : EReal) * scale fun l => h (ix2 i l) :=
  congrArg (fun z : EReal => (h (ix2 i k) : EReal) * z) ((spread_apply _ i k).trans (scale_apply h i))

/-- A tile's residual gradient at an element. -/
theorem rows_apply (d : Vec Ideal S512x1024 .f32) (b : FVec Ideal S512x1024 .f32) (g : Vec Ideal S1x1024 .f32) (h : Vec Ideal S512x1024 .f32) (i : Fin 512) (k : Fin 1024) :
    rows d b g h (ix2 i k) = through (d (ix2 i k)) (scale fun l => h (ix2 i l)) (fun l => (h (ix2 i l) : EReal) * scale fun l => h (ix2 i l))
      (fun l => (b (ix2 i l) : EReal) * g (ix2 (0 : Fin 1) l)) k := by
  have hg : ∀ l : Fin 1024, mulf b (broadcastTo S512x1024 g broadcasts_S1x1024_S512x1024) (ix2 i l) = ((b (ix2 i l) : EReal) * g (ix2 (0 : Fin 1) l) : EReal) := fun l =>
    congrArg (fun z : EReal => (b (ix2 i l) : EReal) * z) (broadcastTo_1b_ab_apply (a := 512) (b := 1024) g broadcasts_S1x1024_S512x1024 i l)
  unfold rows through
  refine congrArg₂ (fun s t : EReal => (d (ix2 i k) : EReal) + s * t) ((spread_apply _ i k).trans (scale_apply h i))
    (congrArg₂ (fun a b : EReal => a - b) (hg k) (congrArg₂ (fun a b : EReal => a * b) (unit_apply h i k) ((spread_apply _ i k).trans ?_)))
  refine congrArg (fun s : EReal => Ideal.div s (FloatOps.ofBits (F := Ideal) .f32 0x44800000#32)) ?_
  refine (shapeCast_apply _ _ _ (ix1 i) (by rw [Shape.rowMajor_val_two, Shape.rowMajor_val_one]; show i.val = i.val * 1 + 0; omega)).trans ?_
  refine (Ideal.multiReduction_add_single _ _ _ _ _ _).trans (Finset.sum_congr rfl fun l _ => ?_)
  have el : (reduces_S512x1024_S512 : S512x1024.Reduces [1] S512).lift (ix1 i) l = ix2 i l := idx2_ext _ (ix2 i l) rfl rfl
  rw [el]
  exact congrArg₂ (fun a b : EReal => a * b) (hg l) (unit_apply h i l)

/-- The gain's gradient with a tile's part added, at an element. -/
theorem gains_apply (a : Vec Ideal S1x1024 .f32) (b : FVec Ideal S512x1024 .f32) (h : Vec Ideal S512x1024 .f32) (k : Fin 1024) :
    gains a b h (ix2 (0 : Fin 1) k) = (a (ix2 (0 : Fin 1) k) : EReal) + ∑ i : Fin 512, (b (ix2 i k) : EReal) * ((h (ix2 i k) : EReal) * scale fun l => h (ix2 i l)) := by
  unfold gains
  rw [shapeCast_self]
  refine congrArg (fun z : EReal => (a (ix2 (0 : Fin 1) k) : EReal) + z) ?_
  refine (shapeCast_apply _ _ _ (ix1 k) (by rw [Shape.rowMajor_val_two, Shape.rowMajor_val_one]; show k.val = 0 * 1024 + k.val; omega)).trans ?_
  refine (Ideal.multiReduction_add_single _ _ _ _ _ _).trans (Finset.sum_congr rfl fun i _ => ?_)
  have el : (reduces_S512x1024_S1024 : S512x1024.Reduces [0] S1024).lift (ix1 k) i = ix2 i k := idx2_ext _ (ix2 i k) rfl rfl
  rw [el]
  exact congrArg (fun z : EReal => (b (ix2 i k) : EReal) * z) (unit_apply h i k)

/-- The stores of the hidden gradients at an element. -/
theorem stores_apply (f : Fin 8 → FVec Ideal S512x512 .bf16) (i : Fin 512) (b : Fin 8) (j : Fin 512) :
    View.canon (stores f) (ix2 i (col b j)) = f b (ix2 i j) := by
  have tile : ∀ (b' : Fin 8) (off : Fin 2 → Nat) (hoff : off = ![0, b'.val * 512]),
      View.TileAt (Val := Elt Ideal) (S := S512x4096) (e := .bf16) (ix2 i (col b j)) off S512x512.size (f b') (f b (ix2 i j)) := by
    intro b' off hoff x hx
    subst hoff
    have x1 : (x 1).val < 512 := (x 1).isLt
    have e0 : i.val = 0 + (x 0).val := hx 0
    have e1 : b.val * 512 + j.val = b'.val * 512 + (x 1).val := hx 1
    have hb : b' = b := Fin.ext (by omega)
    subst hb
    exact congrArg (f b') (idx2_ext x (ix2 i j) (by show (x 0).val = i.val; omega) (by show (x 1).val = j.val; omega))
  refine View.canon_eq_of_allAt _ _ _ (View.cover_of_tiled_head _ _ _ (by rfl) _) ?_
  unfold stores
  refine View.allAt_cons_unit _ _ _ _ _ (tile 7 _ rfl) ?_
  refine View.allAt_cons_unit _ _ _ _ _ (tile 6 _ rfl) ?_
  refine View.allAt_cons_unit _ _ _ _ _ (tile 5 _ rfl) ?_
  refine View.allAt_cons_unit _ _ _ _ _ (tile 4 _ rfl) ?_
  refine View.allAt_cons_unit _ _ _ _ _ (tile 3 _ rfl) ?_
  refine View.allAt_cons_unit _ _ _ _ _ (tile 2 _ rfl) ?_
  refine View.allAt_cons_unit _ _ _ _ _ (tile 1 _ rfl) ?_
  refine View.allAt_cons_unit _ _ _ _ _ (tile 0 _ rfl) ?_
  exact View.allAt_nil _ _

end Cert.Kernel2Ideal.Bwd

end
-- ==== Proof.RefFwd.lean ====
/-
  The reference's MLP forward lines, read stage by stage at an element.
-/
module

public import proofs.«01_k».proof.Proof.Mlp
public import proofs.«01_k».proof.Proof.Gen.Reference3Ideal.Read

@[expose] public section

noncomputable section

open scoped BigOperators

namespace Cert.Reference3Ideal.Stages

open Idealize.ShloMosaic Idealize.ShloMosaic.TcCoe Idealize.SL.Sem Idealize.ShloMosaic.ValueIdx
open Cert.Reference3Ideal Cert.Reference3Ideal.Gen Cert.Reference3Ideal.Read Cert.Mat Cert.Mlp

variable (x0 : (⟨S8192x1024, .f32⟩ : BufTy).Contents (Elt Ideal)) (x1 : (⟨S1x1024, .f32⟩ : BufTy).Contents (Elt Ideal))
  (x2 : (⟨S1024x4096, .f32⟩ : BufTy).Contents (Elt Ideal)) (x3 : (⟨S4096x1024, .f32⟩ : BufTy).Contents (Elt Ideal))

/-- A row's scale. -/
theorem scale_eq (T : Fin 8192) : val_main_v8 (F := Ideal) x0 (ix2 T (0 : Fin 1)) = scale fun l => x0 (ix2 T l) := by
  have hs : val_main_v3 (F := Ideal) x0 (ix2 T (0 : Fin 1)) = ∑ l : Fin 1024, (x0 (ix2 T l) : EReal) * x0 (ix2 T l) := by
    refine (val_main_v3_apply x0 _).trans ((val_main_v2_apply x0 _).trans ?_)
    refine (congrArg₂ (fun a b : EReal => a + b) ((val_main_cst_apply (F := Ideal) _).trans Ideal.ofBits_zero_f32)
      (Finset.sum_congr rfl fun l _ => ?_)).trans (zero_add _)
    exact congrArg (fun z : EReal => z * z) (congrArg x0 (idx2_ext _ (ix2 T l) rfl rfl))
  exact congrArg Ideal.rsqrt (congrArg₂ (fun a b : EReal => a + b) (congrArg₂ Ideal.div hs (val_main_v4_apply _)) (val_main_v6_apply _))

/-- The normalised rows. -/
theorem norm_eq (T : Fin 8192) (k : Fin 1024) : val_main_v13 (F := Ideal) x0 x1 (ix2 T k) = normed x0 x1 T k := by
  have h9 : val_main_v9 (F := Ideal) x0 (ix2 T k) = scale fun l => x0 (ix2 T l) :=
    (val_main_v9_apply x0 (ix2 T k)).trans ((congrArg (val_main_v8 (F := Ideal) x0) (idx2_ext (idx_main_v9 (ix2 T k)) (ix2 T (0 : Fin 1)) rfl rfl)).trans (scale_eq x0 T))
  have e12 : idx_main_v0 (idx_main_v11 (idx_main_v12 (ix2 T k))) = ix2 (0 : Fin 1) k :=
    idx2_ext (idx_main_v0 (idx_main_v11 (idx_main_v12 (ix2 T k)))) (ix2 (0 : Fin 1) k) rfl (by dsimp only [idx_main_v0, idx_main_v11, idx_main_v12]; exact Nat.mod_eq_of_lt k.isLt)
  have h12 : val_main_v12 (F := Ideal) x1 (ix2 T k) = x1 (ix2 (0 : Fin 1) k) := by
    rw [val_main_v12_apply, val_main_v11_apply, val_main_v0_apply, e12]
  exact congrArg₂ (fun a b : EReal => a * b) (congrArg (fun z : EReal => (x0 (ix2 T k) : EReal) * z) h9) h12

/-- The hidden features. -/
theorem hidden_eq (T : Fin 8192) (n : Fin 4096) : val_main_v15 (F := Ideal) x0 x1 x2 (ix2 T n) = hidden x0 x1 x2 T n := by
  have h14 : val_main_v14 (F := Ideal) x0 x1 x2 (ix2 T n) = pre x0 x1 x2 T n :=
    (val_main_v14_apply x0 x1 x2 _).trans (Finset.sum_congr rfl fun k _ => congrArg₂ (fun a b : EReal => a * b)
      ((congrArg (val_main_v13 (F := Ideal) x0 x1) (idx2_ext (lidx_main_v14 (ix2 T n) k) (ix2 T k) rfl rfl)).trans (norm_eq x0 x1 T k)) (congrArg x2 (idx2_ext (ridx_main_v14 (ix2 T n) k) (ix2 k n) rfl rfl)))
  exact congrArg₂ (fun a b : EReal => max a b) h14 ((val_main_call0_v0_apply (F := Ideal) _).trans Ideal.ofBits_zero_f32)

/-- The residual sum. -/
theorem summed_eq (T : Fin 8192) (j : Fin 1024) : val_main_v18 (F := Ideal) x0 x1 x2 x3 (ix2 T j) = summed x0 x1 x2 x3 T j := by
  refine congrArg (fun z : EReal => (x0 (ix2 T j) : EReal) + z) ((val_main_v17_apply x0 x1 x2 x3 _).trans (Finset.sum_congr rfl fun n _ => ?_))
  exact congrArg₂ (fun a b : EReal => a * a * b) ((congrArg (val_main_v15 (F := Ideal) x0 x1 x2) (idx2_ext (lidx_main_v17 (ix2 T j) n) (ix2 T n) rfl rfl)).trans (hidden_eq x0 x1 x2 T n))
    (congrArg x3 (idx2_ext (ridx_main_v17 (ix2 T j) n) (ix2 n j) rfl rfl))

end Cert.Reference3Ideal.Stages

end
-- ==== Proof.BwdWhole.lean ====
/-
  The MLP's backward call over whole arrays: what each of its four result arrays holds, from the arguments.
-/
module

public import proofs.«01_k».proof.Proof.BwdRead
public import proofs.«01_k».proof.Proof.RefFwd
public import Idealize.ShloMosaic.Lib.StableHlo.RunRead

@[expose] public section

noncomputable section

open scoped BigOperators

namespace Cert.Kernel2Ideal.Bwd

open Idealize.ShloMosaic Idealize.ShloMosaic.TcCoe Idealize.SL.Sem Idealize.ShloMosaic.ValueIdx Idealize.ShloMosaic.StableHlo
open Cert.Kernel2Ideal Cert.Kernel2Ideal.Gen Cert.Mat Cert.Mlp

section Lines

variable (V0 W : Valuation τ sig (Elt Ideal))

set_option maxRecDepth 8192 in
set_option maxHeartbeats 4000000 in
/-- The hidden features before the nonlinearity: the forward reference's stage. -/
theorem line0_pre : after Gen.hostOps0 V0 (no_index (Proc.devRef .tc main_v14))
    = Cert.Reference3Ideal.Read.val_main_v14 (F := Ideal) (V0 (Proc.devRef .tc main_arg1)) (V0 (Proc.devRef .tc main_arg2)) (V0 (Proc.devRef .tc main_arg3)) := by
  simp only [Gen.hostOps0]
  after_results_simp
  all_goals rfl

set_option maxHeartbeats 4000000 in
/-- The first stretch leaves the first weight. -/
theorem line0_up : after Gen.hostOps0 V0 (no_index (Proc.devRef .tc main_arg3)) = V0 (Proc.devRef .tc main_arg3) := by
  simp only [Gen.hostOps0]
  after_results_simp

set_option maxHeartbeats 4000000 in
/-- The first stretch leaves the second weight. -/
theorem line0_down : after Gen.hostOps0 V0 (no_index (Proc.devRef .tc main_arg4)) = V0 (Proc.devRef .tc main_arg4) := by
  simp only [Gen.hostOps0]
  after_results_simp

set_option maxHeartbeats 4000000 in
/-- The hidden features: the forward reference's stage. -/
theorem line1_hidden (x0 : FVec Ideal Cert.Reference3Ideal.S8192x1024 .f32) (x1 : FVec Ideal Cert.Reference3Ideal.S1x1024 .f32) (x2 : FVec Ideal Cert.Reference3Ideal.S1024x4096 .f32)
    (e : W (Proc.devRef .tc main_v14) = Cert.Reference3Ideal.Read.val_main_v14 (F := Ideal) x0 x1 x2) :
    after Gen.hostOps0_1 W (no_index (Proc.devRef .tc main_v15)) = Cert.Reference3Ideal.Read.val_main_v15 (F := Ideal) x0 x1 x2 := by
  simp only [Gen.hostOps0_1]
  after_results_simp
  simp only [e]
  rfl

/-- The second stretch leaves the first weight. -/
theorem line1_up : after Gen.hostOps0_1 W (no_index (Proc.devRef .tc main_arg3)) = W (Proc.devRef .tc main_arg3) := by
  simp only [Gen.hostOps0_1]
  after_results_simp

/-- The second stretch leaves the second weight. -/
theorem line1_down : after Gen.hostOps0_1 W (no_index (Proc.devRef .tc main_arg4)) = W (Proc.devRef .tc main_arg4) := by
  simp only [Gen.hostOps0_1]
  after_results_simp

set_option maxHeartbeats 4000000 in
/-- The hidden features as the call is given them. -/
theorem line2_hidden : after Gen.hostOps0_2 W (no_index (Proc.devRef .tc main_v19)) = truncf (F := Ideal) (s := S8192x4096) (φ := .f32) .bf16 (W (Proc.devRef .tc main_v15)) bitsLt_bf16_f32 := by
  simp only [Gen.hostOps0_2]
  after_results_simp
  all_goals rfl

set_option maxHeartbeats 4000000 in
/-- The first weight in blocks of columns. -/
theorem line2_up : after Gen.hostOps0_2 W (no_index (Proc.devRef .tc main_v20))
    = truncf (F := Ideal) (s := S8x1024x512) (φ := .f32) .bf16 (transpose S8x1024x512 [1, 0, 2] (shapeCast S1024x8x512 (W (Proc.devRef .tc main_arg3)) shapeCasts_S1024x4096_S1024x8x512) transposes_S1024x8x512_S8x1024x512_1_0_2) bitsLt_bf16_f32 := by
  simp only [Gen.hostOps0_2]
  after_results_simp
  all_goals rfl

set_option maxHeartbeats 4000000 in
/-- The second weight in blocks of rows. -/
theorem line2_down : after Gen.hostOps0_2 W (no_index (Proc.devRef .tc main_v21))
    = truncf (F := Ideal) (s := S8x512x1024) (φ := .f32) .bf16 (shapeCast S8x512x1024 (W (Proc.devRef .tc main_arg4)) shapeCasts_S4096x1024_S8x512x1024) bitsLt_bf16_f32 := by
  simp only [Gen.hostOps0_2]
  after_results_simp
  all_goals rfl

end Lines

variable (m : (ℓ : Loc nD τ sig) → Buf (Elt Ideal) ℓ) (c : Dev nD)

/-- The incoming rows. -/
abbrev argE : main_arg0.ty.shape.Idx → EReal := m ((c.tc : Thread nD τ).loc main_arg0)
/-- The residual rows the call was given. -/
abbrev argH : main_arg1.ty.shape.Idx → EReal := m ((c.tc : Thread nD τ).loc main_arg1)
/-- The gain the call was given. -/
abbrev argG : main_arg2.ty.shape.Idx → EReal := m ((c.tc : Thread nD τ).loc main_arg2)
/-- The first weight. -/
abbrev argU : main_arg3.ty.shape.Idx → EReal := m ((c.tc : Thread nD τ).loc main_arg3)
/-- The second weight. -/
abbrev argD : main_arg4.ty.shape.Idx → EReal := m ((c.tc : Thread nD τ).loc main_arg4)

/-- The array of the hidden features. -/
theorem hidden_apply (T : Fin 8192) (n : Fin 4096) : V m c main_v19 (ix2 T n) = hidden (argH m c) (argG m c) (argU m c) T n := by
  have e : V m c main_v19 = truncf (F := Ideal) (s := S8192x4096) (φ := .f32) .bf16 (Cert.Reference3Ideal.Read.val_main_v15 (F := Ideal) (argH m c) (argG m c) (argU m c)) bitsLt_bf16_f32 := by
    show after (List.flatten [Gen.hostOps0, Gen.hostOps0_1, Gen.hostOps0_2]) (fun b => m (c, b)) (Proc.devRef .tc main_v19) = _
    rw [List.flatten_cons, List.flatten_cons, List.flatten_cons, List.flatten_nil, List.append_nil, after_append, after_append]
    rw [line2_hidden, line1_hidden _ _ _ _ (line0_pre _)]
  exact (congrFun e (ix2 T n)).trans (Cert.Reference3Ideal.Stages.hidden_eq (argH m c) (argG m c) (argU m c) T n)

/-- The array of the first weight's blocks. -/
theorem up_apply (b : Fin 8) (k : Fin 1024) (j : Fin 512) : V m c main_v20 (ix3 b k j) = argU m c (ix2 k (col b j)) := by
  have e : V m c main_v20 = truncf (F := Ideal) (s := S8x1024x512) (φ := .f32) .bf16 (transpose S8x1024x512 [1, 0, 2] (shapeCast S1024x8x512 (argU m c) shapeCasts_S1024x4096_S1024x8x512) transposes_S1024x8x512_S8x1024x512_1_0_2) bitsLt_bf16_f32 := by
    show after (List.flatten [Gen.hostOps0, Gen.hostOps0_1, Gen.hostOps0_2]) (fun b => m (c, b)) (Proc.devRef .tc main_v20) = _
    rw [List.flatten_cons, List.flatten_cons, List.flatten_cons, List.flatten_nil, List.append_nil, after_append, after_append]
    rw [line2_up, line1_up, line0_up]
  exact (congrFun e (ix3 b k j)).trans (cols_apply (φ := .f32) (argU m c) shapeCasts_S1024x4096_S1024x8x512 transposes_S1024x8x512_S8x1024x512_1_0_2 b k j)

/-- The array of the second weight's blocks. -/
theorem down_rows (b : Fin 8) (k : Fin 512) (j : Fin 1024) : V m c main_v21 (ix3 b k j) = argD m c (ix2 (col b k) j) := by
  have e : V m c main_v21 = truncf (F := Ideal) (s := S8x512x1024) (φ := .f32) .bf16 (shapeCast S8x512x1024 (argD m c) shapeCasts_S4096x1024_S8x512x1024) bitsLt_bf16_f32 := by
    show after (List.flatten [Gen.hostOps0, Gen.hostOps0_1, Gen.hostOps0_2]) (fun b => m (c, b)) (Proc.devRef .tc main_v21) = _
    rw [List.flatten_cons, List.flatten_cons, List.flatten_cons, List.flatten_nil, List.append_nil, after_append, after_append]
    rw [line2_down, line1_down, line0_down]
  exact (congrFun e (ix3 b k j)).trans (Cert.Mlp.rows_apply (φ := .f32) (argD m c) shapeCasts_S4096x1024_S8x512x1024 b k j)

/-- Window 0's block at a point: the tile's rows. -/
theorem read0_apply (X : main_arg0.ty.shape.Idx → EReal) (t : Fin cfg0.N) (i : Fin 512) (k : Fin 1024) :
    ((cfg0.win 0).blk t).view.read (Elt Ideal) X (ix2 i k) = X (ix2 (row t i) k) := by
  have hi : ∀ t : Fin cfg0.N, win0_0.index t 0 = t.val ∧ win0_0.index t 1 = 0 := by decide +kernel
  rw [View.read_apply]
  refine congrArg X (funext fun b => Fin.ext ?_)
  match b with
  | ⟨0, _⟩ => show win0_0.index t 0 * 512 + 1 * i.val = t.val * 512 + i.val; rw [(hi t).1]; omega
  | ⟨1, _⟩ => show win0_0.index t 1 * 1024 + 1 * k.val = k.val; rw [(hi t).2]; omega

/-- Window 1's block at a point: the tile's rows. -/
theorem read1_apply (X : main_v19.ty.shape.Idx → EReal) (t : Fin cfg0.N) (i : Fin 512) (k : Fin 4096) :
    ((cfg0.win 1).blk t).view.read (Elt Ideal) X (ix2 i k) = X (ix2 (row t i) k) := by
  have hi : ∀ t : Fin cfg0.N, win0_1.index t 0 = t.val ∧ win0_1.index t 1 = 0 := by decide +kernel
  rw [View.read_apply]
  refine congrArg X (funext fun b => Fin.ext ?_)
  match b with
  | ⟨0, _⟩ => show win0_1.index t 0 * 512 + 1 * i.val = t.val * 512 + i.val; rw [(hi t).1]; omega
  | ⟨1, _⟩ => show win0_1.index t 1 * 4096 + 1 * k.val = k.val; rw [(hi t).2]; omega

/-- Window 2's block at a point: the tile's rows. -/
theorem read2_apply (X : main_arg1.ty.shape.Idx → EReal) (t : Fin cfg0.N) (i : Fin 512) (k : Fin 1024) :
    ((cfg0.win 2).blk t).view.read (Elt Ideal) X (ix2 i k) = X (ix2 (row t i) k) := by
  have hi : ∀ t : Fin cfg0.N, win0_2.index t 0 = t.val ∧ win0_2.index t 1 = 0 := by decide +kernel
  rw [View.read_apply]
  refine congrArg X (funext fun b => Fin.ext ?_)
  match b with
  | ⟨0, _⟩ => show win0_2.index t 0 * 512 + 1 * i.val = t.val * 512 + i.val; rw [(hi t).1]; omega
  | ⟨1, _⟩ => show win0_2.index t 1 * 1024 + 1 * k.val = k.val; rw [(hi t).2]; omega

/-- Window 3's block at a point is the whole row. -/
theorem read3_apply (X : main_arg2.ty.shape.Idx → EReal) (t : Fin cfg0.N) (k : Fin 1024) :
    ((cfg0.win 3).blk t).view.read (Elt Ideal) X (ix2 (0 : Fin 1) k) = X (ix2 (0 : Fin 1) k) := by
  have hi : ∀ t : Fin cfg0.N, win0_3.index t 0 = 0 ∧ win0_3.index t 1 = 0 := by decide +kernel
  rw [View.read_apply]
  refine congrArg X (funext fun b => Fin.ext ?_)
  match b with
  | ⟨0, _⟩ => show win0_3.index t 0 * 1 + 1 * 0 = 0; rw [(hi t).1]
  | ⟨1, _⟩ => show win0_3.index t 1 * 1024 + 1 * k.val = k.val; rw [(hi t).2]; omega

/-- Window 4's block at a point is every block of the weight. -/
theorem read4_apply (X : main_v20.ty.shape.Idx → EReal) (t : Fin cfg0.N) (b : Fin 8) (k : Fin 1024) (j : Fin 512) :
    ((cfg0.win 4).blk t).view.read (Elt Ideal) X (ix3 b k j) = X (ix3 b k j) := by
  have hi : ∀ t : Fin cfg0.N, win0_4.index t 0 = 0 ∧ win0_4.index t 1 = 0 ∧ win0_4.index t 2 = 0 := by decide +kernel
  rw [View.read_apply]
  refine congrArg X (funext fun a => Fin.ext ?_)
  match a with
  | ⟨0, _⟩ => show win0_4.index t 0 * 8 + 1 * b.val = b.val; rw [(hi t).1]; omega
  | ⟨1, _⟩ => show win0_4.index t 1 * 1024 + 1 * k.val = k.val; rw [(hi t).2.1]; omega
  | ⟨2, _⟩ => show win0_4.index t 2 * 512 + 1 * j.val = j.val; rw [(hi t).2.2]; omega

/-- Window 5's block at a point is every block of the weight. -/
theorem read5_apply (X : main_v21.ty.shape.Idx → EReal) (t : Fin cfg0.N) (b : Fin 8) (k : Fin 512) (j : Fin 1024) :
    ((cfg0.win 5).blk t).view.read (Elt Ideal) X (ix3 b k j) = X (ix3 b k j) := by
  have hi : ∀ t : Fin cfg0.N, win0_5.index t 0 = 0 ∧ win0_5.index t 1 = 0 ∧ win0_5.index t 2 = 0 := by decide +kernel
  rw [View.read_apply]
  refine congrArg X (funext fun a => Fin.ext ?_)
  match a with
  | ⟨0, _⟩ => show win0_5.index t 0 * 8 + 1 * b.val = b.val; rw [(hi t).1]; omega
  | ⟨1, _⟩ => show win0_5.index t 1 * 512 + 1 * k.val = k.val; rw [(hi t).2.1]; omega
  | ⟨2, _⟩ => show win0_5.index t 2 * 1024 + 1 * j.val = j.val; rw [(hi t).2.2]; omega

/-- Window 6's block at a point: the tile's rows. -/
theorem read6_apply (X : main_v22_0.ty.shape.Idx → EReal) (t : Fin cfg0.N) (i : Fin 512) (k : Fin 1024) :
    ((cfg0.win 6).blk t).view.read (Elt Ideal) X (ix2 i k) = X (ix2 (row t i) k) := by
  have hi : ∀ t : Fin cfg0.N, win0_6.index t 0 = t.val ∧ win0_6.index t 1 = 0 := by decide +kernel
  rw [View.read_apply]
  refine congrArg X (funext fun b => Fin.ext ?_)
  match b with
  | ⟨0, _⟩ => show win0_6.index t 0 * 512 + 1 * i.val = t.val * 512 + i.val; rw [(hi t).1]; omega
  | ⟨1, _⟩ => show win0_6.index t 1 * 1024 + 1 * k.val = k.val; rw [(hi t).2]; omega

/-- Window 7's block at a point: the tile's rows. -/
theorem read7_apply (X : main_v22_1.ty.shape.Idx → EReal) (t : Fin cfg0.N) (i : Fin 512) (k : Fin 4096) :
    ((cfg0.win 7).blk t).view.read (Elt Ideal) X (ix2 i k) = X (ix2 (row t i) k) := by
  have hi : ∀ t : Fin cfg0.N, win0_7.index t 0 = t.val ∧ win0_7.index t 1 = 0 := by decide +kernel
  rw [View.read_apply]
  refine congrArg X (funext fun b => Fin.ext ?_)
  match b with
  | ⟨0, _⟩ => show win0_7.index t 0 * 512 + 1 * i.val = t.val * 512 + i.val; rw [(hi t).1]; omega
  | ⟨1, _⟩ => show win0_7.index t 1 * 4096 + 1 * k.val = k.val; rw [(hi t).2]; omega

/-- Window 8's block at a point is the whole row. -/
theorem read8_apply (X : main_v22_2.ty.shape.Idx → EReal) (t : Fin cfg0.N) (k : Fin 1024) :
    ((cfg0.win 8).blk t).view.read (Elt Ideal) X (ix2 (0 : Fin 1) k) = X (ix2 (0 : Fin 1) k) := by
  have hi : ∀ t : Fin cfg0.N, win0_8.index t 0 = 0 ∧ win0_8.index t 1 = 0 := by decide +kernel
  rw [View.read_apply]
  refine congrArg X (funext fun b => Fin.ext ?_)
  match b with
  | ⟨0, _⟩ => show win0_8.index t 0 * 1 + 1 * 0 = 0; rw [(hi t).1]
  | ⟨1, _⟩ => show win0_8.index t 1 * 1024 + 1 * k.val = k.val; rw [(hi t).2]; omega

/-- Window 9's block at a point: the tile's rows. -/
theorem read9_apply (X : main_v22_3.ty.shape.Idx → EReal) (t : Fin cfg0.N) (i : Fin 512) (k : Fin 1024) :
    ((cfg0.win 9).blk t).view.read (Elt Ideal) X (ix2 i k) = X (ix2 (row t i) k) := by
  have hi : ∀ t : Fin cfg0.N, win0_9.index t 0 = t.val ∧ win0_9.index t 1 = 0 := by decide +kernel
  rw [View.read_apply]
  refine congrArg X (funext fun b => Fin.ext ?_)
  match b with
  | ⟨0, _⟩ => show win0_9.index t 0 * 512 + 1 * i.val = t.val * 512 + i.val; rw [(hi t).1]; omega
  | ⟨1, _⟩ => show win0_9.index t 1 * 1024 + 1 * k.val = k.val; rw [(hi t).2]; omega

section Tiles

variable (t : Fin cfg0.N)

/-- What window 0 stages. -/
theorem iblk0_apply (i : Fin 512) (k : Fin 1024) : iblk m c 0 t (ix2 i k) = argE m c (ix2 (row t i) k) :=
  (read0_apply (V m c main_arg0) t i k).trans (congrFun (V_main_arg0 m c) _)

/-- What window 1 stages. -/
theorem iblk1_apply (i : Fin 512) (n : Fin 4096) : iblk m c 1 t (ix2 i n) = hidden (argH m c) (argG m c) (argU m c) (row t i) n :=
  (read1_apply (V m c main_v19) t i n).trans (hidden_apply m c (row t i) n)

/-- What window 2 stages. -/
theorem iblk2_apply (i : Fin 512) (k : Fin 1024) : iblk m c 2 t (ix2 i k) = argH m c (ix2 (row t i) k) :=
  (read2_apply (V m c main_arg1) t i k).trans (congrFun (V_main_arg1 m c) _)

/-- What window 3 stages. -/
theorem iblk3_apply (k : Fin 1024) : iblk m c 3 t (ix2 (0 : Fin 1) k) = argG m c (ix2 (0 : Fin 1) k) :=
  (read3_apply (V m c main_arg2) t k).trans (congrFun (V_main_arg2 m c) _)

/-- What window 4 stages. -/
theorem iblk4_apply (b : Fin 8) (k : Fin 1024) (j : Fin 512) : iblk m c 4 t (ix3 b k j) = argU m c (ix2 k (col b j)) :=
  (read4_apply (V m c main_v20) t b k j).trans (up_apply m c b k j)

/-- What window 5 stages. -/
theorem iblk5_apply (b : Fin 8) (k : Fin 512) (j : Fin 1024) : iblk m c 5 t (ix3 b k j) = argD m c (ix2 (col b k) j) :=
  (read5_apply (V m c main_v21) t b k j).trans (down_rows m c b k j)

/-- A tile's hidden gradients. -/
theorem gat_tile (i : Fin 512) (b : Fin 8) (j : Fin 512) :
    gat (iblk m c 0 t) (iblk m c 1 t) (iblk m c 5 t) i b j = gateGrad (argE m c) (argH m c) (argG m c) (argU m c) (argD m c) (row t i) (col b j) :=
  congrArg₂ (fun a b : EReal => a * b)
    (Finset.sum_congr rfl fun k _ => congrArg₂ (fun a b : EReal => a * b) (iblk0_apply m c t i k) (iblk5_apply m c t b j k))
    (congrArg (fun z : EReal => FloatOps.ofBits (F := Ideal) .f32 0x40000000#32 * z) (iblk1_apply m c t i (col b j)))

/-- A tile's gradient of the normalised rows. -/
abbrev backs : FVec Ideal S512x1024 .f32 := back (iblk m c 0 t) (iblk m c 1 t) (iblk m c 4 t) (iblk m c 5 t)

/-- A tile's gradient of the normalised rows at an element. -/
theorem backs_apply (i : Fin 512) (k : Fin 1024) : backs m c t (ix2 i k) = normGrad (argE m c) (argH m c) (argG m c) (argU m c) (argD m c) (row t i) k := by
  refine (back_apply _ _ _ _ i k).trans ?_
  unfold normGrad
  rw [sum_runs 8 512 4096 rfl]
  exact Finset.sum_congr rfl fun b _ => Finset.sum_congr rfl fun n _ => congrArg₂ (fun a b : EReal => a * b) (gat_tile m c t i b n) (iblk4_apply m c t b k n)

/-- A tile's residual rows. -/
abbrev tileH : Vec Ideal S512x1024 .f32 := iblk m c 2 t

/-- A tile's gain. -/
abbrev tileG : Vec Ideal S1x1024 .f32 := iblk m c 3 t

/-- A tile's row of the residual. -/
theorem row_tile (i : Fin 512) : ((fun l => tileH m c t (ix2 i l)) : Fin 1024 → EReal) = fun l => argH m c (ix2 (row t i) l) :=
  funext fun l => iblk2_apply m c t i l

/-- A tile's row over its root mean square. -/
theorem unit_tile (i : Fin 512) (k : Fin 1024) :
    ((tileH m c t (ix2 i k) : EReal) * scale fun l => tileH m c t (ix2 i l)) = unit (argH m c) (row t i) k :=
  congrArg₂ (fun a b : EReal => a * b) (iblk2_apply m c t i k) (congrArg scale (row_tile m c t i))

/-- After any point the first result's buffer holds the tile's residual gradient. -/
theorem outs6 : (outsAt0 m c t.val t.isLt).1 = rows (iblk m c 0 t) (backs m c t) (tileG m c t) (tileH m c t) := by
  by_cases h0 : t.val % 16 = 0
  · simp only [outsAt0_A m c t h0]
    exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)
  · simp only [outsAt0_B m c t h0]
    exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h))

/-- After any point the second result's buffer holds the tile's hidden gradients. -/
theorem outs7 : (outsAt0 m c t.val t.isLt).2.1 = View.canon (stores (gates (iblk m c 0 t) (iblk m c 1 t) (iblk m c 5 t))) := by
  by_cases h0 : t.val % 16 = 0
  · simp only [outsAt0_A m c t h0]
    exact outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)
  · simp only [outsAt0_B m c t h0]
    exact outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h))

/-- After any point the fourth result's buffer holds the tile's incoming rows. -/
theorem outs9 : (outsAt0 m c t.val t.isLt).2.2.2 = k0_pay2 (iblk m c 0 t) := by
  by_cases h0 : t.val % 16 = 0
  · simp only [outsAt0_A m c t h0]
    exact outA9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)
  · simp only [outsAt0_B m c t h0]
    exact outB9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h))

/-- One tile's part of the gain's gradient. -/
def tileGain (t : Fin cfg0.N) (k : Fin 1024) : EReal :=
  ∑ i : Fin 512, normGrad (argE m c) (argH m c) (argG m c) (argU m c) (argD m c) (row t i) k * unit (argH m c) (row t i) k

/-- One point adds its tile's part to the gain's gradient. -/
theorem gains_tile (a : Vec Ideal S1x1024 .f32) (k : Fin 1024) :
    gains a (backs m c t) (tileH m c t) (ix2 (0 : Fin 1) k) = (a (ix2 (0 : Fin 1) k) : EReal) + tileGain m c t k :=
  (gains_apply a _ _ k).trans (congrArg (fun z : EReal => (a (ix2 (0 : Fin 1) k) : EReal) + z)
    (Finset.sum_congr rfl fun i _ => congrArg₂ (fun a b : EReal => a * b) (backs_apply m c t i k) (unit_tile m c t i k)))

/-- The residual gradient's array. -/
theorem result6 (i : Fin 512) (k : Fin 1024) :
    (dats m 0 c).arrAt 6 cfg0.N (ix2 (row t i) k) = rowGrad (argE m c) (argH m c) (argG m c) (argU m c) (argD m c) (row t i) k := by
  refine (read6_apply ((dats m 0 c).arrAt 6 cfg0.N) t i k).symm.trans ?_
  rw [Value.blocks6 m c t (flush0_6 t), Value.flushed6]
  show (outsAt0 m c t.val t.isLt).1 (ix2 i k) = _
  rw [outs6]
  refine (rows_apply _ _ _ _ i k).trans ?_
  have ex : (fun l => (tileH m c t (ix2 i l) : EReal) * scale fun l => tileH m c t (ix2 i l) : Fin 1024 → EReal) = unit (argH m c) (row t i) := funext fun l => unit_tile m c t i l
  have eb : (fun l => (backs m c t (ix2 i l) : EReal) * tileG m c t (ix2 (0 : Fin 1) l) : Fin 1024 → EReal)
      = fun l => normGrad (argE m c) (argH m c) (argG m c) (argU m c) (argD m c) (row t i) l * argG m c (ix2 (0 : Fin 1) l) :=
    funext fun l => congrArg₂ (fun a b : EReal => a * b) (backs_apply m c t i l) (iblk3_apply m c t l)
  have es : scale (fun l => tileH m c t (ix2 i l)) = scale fun l => argH m c (ix2 (row t i) l) := congrArg scale (row_tile m c t i)
  have eo : iblk m c 0 t (ix2 i k) = argE m c (ix2 (row t i) k) := iblk0_apply m c t i k
  unfold rowGrad
  exact (congrArg₂ (fun o s => through o s _ _ k) eo es).trans (congrArg₂ (fun x b => through _ _ x b k) ex eb)

/-- The hidden gradients' array. -/
theorem result7 (i : Fin 512) (b : Fin 8) (j : Fin 512) :
    (dats m 0 c).arrAt 7 cfg0.N (ix2 (row t i) (col b j)) = gateGrad (argE m c) (argH m c) (argG m c) (argU m c) (argD m c) (row t i) (col b j) := by
  refine (read7_apply ((dats m 0 c).arrAt 7 cfg0.N) t i (col b j)).symm.trans ?_
  rw [Value.blocks7 m c t (flush0_7 t), Value.flushed7]
  show (outsAt0 m c t.val t.isLt).2.1 (ix2 i (col b j)) = _
  rw [outs7, stores_apply]
  exact (gates_apply _ _ _ i b j).trans (gat_tile m c t i b j)

/-- The incoming rows' array. -/
theorem result9 (i : Fin 512) (k : Fin 1024) : (dats m 0 c).arrAt 9 cfg0.N (ix2 (row t i) k) = argE m c (ix2 (row t i) k) := by
  refine (read9_apply ((dats m 0 c).arrAt 9 cfg0.N) t i k).symm.trans ?_
  rw [Value.blocks9 m c t (flush0_9 t), Value.flushed9]
  show (outsAt0 m c t.val t.isLt).2.2.2 (ix2 i k) = _
  rw [outs9]
  exact iblk0_apply m c t i k

end Tiles

/-- The first point leaves its own part. -/
theorem first8 (t : Fin cfg0.N) (h0 : t.val % 16 = 0) : (outsAt0 m c t.val t.isLt).2.2.1 = gains (k0_pay1 (F := Ideal)) (backs m c t) (tileH m c t) := by
  simp only [outsAt0_A m c t h0]
  exact outA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)

/-- A later point adds to what the point before left. -/
theorem later8 (t : Fin cfg0.N) (h0 : ¬t.val % 16 = 0) :
    (outsAt0 m c t.val t.isLt).2.2.1 = gains ((outsAt0 m c (t.val - 1) (Nat.lt_of_le_of_lt (Nat.sub_le _ _) t.isLt)).2.2.1) (backs m c t) (tileH m c t) := by
  simp only [outsAt0_B m c t h0]
  exact outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h))

/-- After a point the third result's buffer holds the parts of the tiles up to it. -/
theorem outs8 (k : Fin 1024) : ∀ (n : ℕ) (hn : n < cfg0.N), (outsAt0 m c n hn).2.2.1 (ix2 (0 : Fin 1) k)
    = ∑ q ∈ Finset.range (n + 1), if h : q < cfg0.N then tileGain m c ⟨q, h⟩ k else (0 : EReal)
  | 0, hn => by
    rw [Finset.sum_range_one, dif_pos hn]
    refine (congrFun (first8 m c ⟨0, hn⟩ rfl) _).trans ((gains_tile m c ⟨0, hn⟩ (k0_pay1 (F := Ideal)) k).trans ?_)
    exact (congrArg (fun z : EReal => z + tileGain m c ⟨0, hn⟩ k) Ideal.ofBits_zero_f32).trans (zero_add _)
  | n + 1, hn => by
    have hN : n + 1 < 16 := Nat.lt_of_lt_of_eq hn N_0
    have h0 : ¬(n + 1) % 16 = 0 := by omega
    rw [Finset.sum_range_succ, dif_pos hn, ← outs8 k n (Nat.lt_of_succ_lt hn)]
    exact (congrFun (later8 m c ⟨n + 1, hn⟩ h0) _).trans (gains_tile m c ⟨n + 1, hn⟩ _ k)

/-- The gain's gradient's array: written back once, after the last point. -/
theorem result8 (k : Fin 1024) :
    (dats m 0 c).arrAt 8 cfg0.N (ix2 (0 : Fin 1) k) = gainGrad (argE m c) (argH m c) (argG m c) (argU m c) (argD m c) k := by
  have h15 : 15 < cfg0.N := by rw [show cfg0.N = 16 from N_0]; decide
  have disj : ∀ t t' : Fin cfg0.N, (cfg0.win 8).flush t = true → (cfg0.win 8).flush t' = true → t ≠ t' →
      Disjoint ((cfg0.win 8).blk t).view.set ((cfg0.win 8).blk t').view.set := fun t t' h h' hne => by
    have a := (flush0_8 t).mp h
    have b := (flush0_8 t').mp h'
    have l : t.val < 16 := Nat.lt_of_lt_of_eq t.isLt N_0
    have l' : t'.val < 16 := Nat.lt_of_lt_of_eq t'.isLt N_0
    exact absurd (Fin.ext (by omega)) hne
  refine (read8_apply ((dats m 0 c).arrAt 8 cfg0.N) ⟨15, h15⟩ k).symm.trans ?_
  rw [(dats m 0 c).read_blk_arrAt_eq_flushed 8 disj cfg0.N ⟨15, h15⟩ h15 ((flush0_8 ⟨15, h15⟩).mpr rfl), Value.flushed8]
  show (outsAt0 m c 15 h15).2.2.1 (ix2 (0 : Fin 1) k) = _
  rw [outs8 m c k 15 h15, Finset.sum_range]
  unfold gainGrad
  rw [sum_runs 16 512 8192 rfl]
  exact Finset.sum_congr rfl fun t _ => dif_pos (Nat.lt_of_lt_of_eq t.isLt N_0.symm)

end Cert.Kernel2Ideal.Bwd

end
-- ==== Proof.MlpReal.lean ====
/-
  The MLP's backward pass on real entries: a row's gradient through the normalisation is the derivative of the row over
  its root mean square taken term by term, and every gradient is real.
-/
module

public import proofs.«01_k».proof.Proof.MlpBack
public import proofs.«01_k».proof.Proof.RowMax

@[expose] public section

noncomputable section

open scoped BigOperators

namespace Cert.Mlp

open Idealize.ShloMosaic Idealize.ShloMosaic.ValueIdx Cert.Mat

/-- An extended real that is a real. -/
def IsReal (x : EReal) : Prop := ∃ r : ℝ, x = (r : EReal)

/-- A product of reals is real. -/
theorem IsReal.mul {x y : EReal} : IsReal x → IsReal y → IsReal (x * y)
  | ⟨a, ha⟩, ⟨b, hb⟩ => ⟨a * b, by rw [ha, hb, EReal.coe_mul]⟩

/-- The larger of two reals is real. -/
theorem IsReal.max {x y : EReal} (hx : IsReal x) (hy : IsReal y) : IsReal (Max.max x y) := by
  rcases le_total x y with h | h
  · rw [max_eq_right h]; exact hy
  · rw [max_eq_left h]; exact hx

/-- A finite sum of reals is real. -/
theorem IsReal.sum {ι : Type} (s : Finset ι) (f : ι → EReal) (h : ∀ i, IsReal (f i)) : IsReal (∑ i ∈ s, f i) := by
  choose g hg using h
  exact ⟨∑ i ∈ s, g i, by rw [Cert.Attn.coe_sum]; exact Finset.sum_congr rfl fun i _ => hg i⟩

/-- The constant a thousand and twenty-four. -/
theorem bits_1024 : Ideal.ofBits .f32 0x44800000#32 = ((1024 : ℝ) : EReal) := by
  simp [Ideal.ofBits, Ideal.ieee]; norm_num; rw [← EReal.coe_mul]; norm_num

/-- The constant two. -/
theorem bits_two : Ideal.ofBits .f32 0x40000000#32 = ((2 : ℝ) : EReal) := by
  simp [Ideal.ofBits, Ideal.ieee]; norm_num; rw [← EReal.coe_mul]; norm_num

/-- The constant minus a half. -/
theorem bits_half : Ideal.ofBits .f32 0xBF000000#32 = ((-(1 / 2) : ℝ) : EReal) := by
  simp [Ideal.ofBits, Ideal.ieee]; norm_num; rw [← EReal.coe_mul]; norm_num

/-- The mean square's offset is a positive real. -/
theorem bits_offset : ∃ r : ℝ, 0 < r ∧ Ideal.ofBits .f32 0x358637BD#32 = (r : EReal) := by
  refine ⟨8796093 * 2 ^ (-43 : ℤ), by positivity, ?_⟩
  simp [Ideal.ofBits, Ideal.ieee]

/-- A real row's mean square with the offset is a positive real. -/
theorem meanSq_real (x : Fin 1024 → ℝ) : ∃ M : ℝ, 0 < M ∧ meanSq (fun l => (x l : EReal)) = (M : EReal) := by
  obtain ⟨r, hr, er⟩ := bits_offset
  have hs : 0 ≤ ∑ l, x l * x l := Finset.sum_nonneg fun l _ => mul_self_nonneg (x l)
  refine ⟨(∑ l, x l * x l) / 1024 + r, by positivity, ?_⟩
  have es : (∑ l, (x l : EReal) * (x l : EReal)) = ((∑ l, x l * x l : ℝ) : EReal) := by
    rw [Cert.Attn.coe_sum]; exact Finset.sum_congr rfl fun l _ => (EReal.coe_mul _ _).symm
  show Ideal.div (∑ l, (x l : EReal) * (x l : EReal)) (Ideal.ofBits .f32 0x44800000#32) + Ideal.ofBits .f32 0x358637BD#32 = _
  rw [es, bits_1024, er, Cert.Attn.div_real _ (by norm_num), EReal.coe_add]

/-- A real row's scale is a real whose square inverts the mean square. -/
theorem scale_real (x : Fin 1024 → ℝ) : ∃ M s : ℝ, M ≠ 0 ∧ s * s = M⁻¹ ∧ meanSq (fun l => (x l : EReal)) = (M : EReal) ∧ scale (fun l => (x l : EReal)) = (s : EReal) := by
  obtain ⟨M, hM, eM⟩ := meanSq_real x
  refine ⟨M, (Real.sqrt M)⁻¹, hM.ne', ?_, eM, ?_⟩
  · rw [← mul_inv, Real.mul_self_sqrt hM.le]
  · unfold scale
    rw [eM]
    show Ideal.rsqrt (M : EReal) = _
    rw [Ideal.rsqrt_coe, if_neg (not_lt.2 hM.le), if_neg hM.ne']

/-- On a real row the gradient through the normalisation is the term by term derivative: the gradient times the scale,
    and the row twice times what reaches its mean square. -/
theorem through_real (o : ℝ) (x b : Fin 1024 → ℝ) (k : Fin 1024) :
    through o (scale fun l => (x l : EReal)) (fun l => (x l : EReal) * scale fun l => (x l : EReal)) (fun l => (b l : EReal)) k
      = (o : EReal) + (((b k : EReal) * scale (fun l => (x l : EReal))
        + (x k : EReal) * Ideal.div ((∑ l, (x l : EReal) * (b l : EReal)) * (Ideal.ofBits .f32 0xBF000000#32 * Ideal.div (scale fun l => (x l : EReal)) (meanSq fun l => (x l : EReal)))) (Ideal.ofBits .f32 0x44800000#32))
        + Ideal.div ((∑ l, (x l : EReal) * (b l : EReal)) * (Ideal.ofBits .f32 0xBF000000#32 * Ideal.div (scale fun l => (x l : EReal)) (meanSq fun l => (x l : EReal)))) (Ideal.ofBits .f32 0x44800000#32) * (x k : EReal)) := by
  obtain ⟨M, s, hM, hs, eM, es⟩ := scale_real x
  rw [eM, es]
  have e1 : (∑ l, (x l : EReal) * (b l : EReal)) = ((∑ l, x l * b l : ℝ) : EReal) := by
    rw [Cert.Attn.coe_sum]; exact Finset.sum_congr rfl fun l _ => (EReal.coe_mul _ _).symm
  have e2 : (∑ l, (b l : EReal) * ((x l : EReal) * (s : EReal))) = (((∑ l, x l * b l) * s : ℝ) : EReal) := by
    rw [Finset.sum_mul, Cert.Attn.coe_sum]
    exact Finset.sum_congr rfl fun l _ => by rw [← EReal.coe_mul, ← EReal.coe_mul]; exact congrArg _ (by ring)
  show (o : EReal) + (s : EReal) * ((b k : EReal) - (x k : EReal) * (s : EReal) * Ideal.div (∑ l, (b l : EReal) * ((x l : EReal) * (s : EReal))) (Ideal.ofBits .f32 0x44800000#32)) = _
  rw [e1, e2, bits_1024, bits_half, Cert.Attn.div_real _ hM, Cert.Attn.div_real _ (by norm_num)]
  rw [← EReal.coe_mul (-(1 / 2)), ← EReal.coe_mul (∑ l, x l * b l), Cert.Attn.div_real _ (by norm_num)]
  simp only [← EReal.coe_mul, ← EReal.coe_add, ← EReal.coe_sub]
  refine congrArg _ ?_
  generalize (∑ l, x l * b l) = S
  have h3 : s * (x k * s * (S * s / 1024)) = x k * S * s * M⁻¹ / 1024 := by rw [← hs]; ring
  have h4 : s / M = s * M⁻¹ := div_eq_mul_inv s M
  rw [h4]
  linear_combination -h3

variable {e h : (Rect2 8192 1024).Idx → EReal} {g : (Rect2 1 1024).Idx → EReal} {u : (Rect2 1024 4096).Idx → EReal} {d : (Rect2 4096 1024).Idx → EReal}

/-- Real arguments give real gradients of the normalised rows. -/
theorem normGrad_real (he : ∀ i, IsReal (e i)) (hh : ∀ i, IsReal (h i)) (hg : ∀ i, IsReal (g i)) (hu : ∀ i, IsReal (u i)) (hd : ∀ i, IsReal (d i))
    (T : Fin 8192) (k : Fin 1024) : IsReal (normGrad e h g u d T k) := by
  have hs : IsReal (scale fun l => h (ix2 T l)) := by
    choose x hx using fun l => hh (ix2 T l)
    obtain ⟨M, s, -, -, -, es⟩ := scale_real x
    exact ⟨s, (congrArg scale (funext hx)).trans es⟩
  have hn : ∀ n, IsReal (hidden h g u T n) := fun n =>
    (IsReal.sum _ _ fun k => (((hh _).mul hs).mul (hg _)).mul (hu _)).max ⟨0, rfl⟩
  exact IsReal.sum _ _ fun n => ((IsReal.sum _ _ fun k => (he _).mul (hd _)).mul (IsReal.mul ⟨2, bits_two⟩ (hn n))).mul (hu _)

end Cert.Mlp

end
-- ==== Proof.RefBwd.lean ====
/-
  The reference's MLP backward lines, read stage by stage at an element.
-/
module

public import proofs.«01_k».proof.Proof.MlpReal
public import proofs.«01_k».proof.Proof.RefFwd
public import proofs.«01_k».proof.Proof.Gen.Reference2Ideal.Read

@[expose] public section

noncomputable section

open scoped BigOperators

namespace Cert.Reference2Ideal.Stages

open Idealize.ShloMosaic Idealize.ShloMosaic.TcCoe Idealize.SL.Sem Idealize.ShloMosaic.ValueIdx
open Cert.Reference2Ideal Cert.Reference2Ideal.Gen Cert.Reference2Ideal.Read Cert.Mat Cert.Mlp

variable (x0 x1 : (⟨S8192x1024, .f32⟩ : BufTy).Contents (Elt Ideal)) (x2 : (⟨S1x1024, .f32⟩ : BufTy).Contents (Elt Ideal))
  (x3 : (⟨S1024x4096, .f32⟩ : BufTy).Contents (Elt Ideal)) (x4 : (⟨S4096x1024, .f32⟩ : BufTy).Contents (Elt Ideal))

/-- A row's mean square. -/
theorem meanSq_eq (T : Fin 8192) : val_main_v7 (F := Ideal) x1 (ix2 T (0 : Fin 1)) = meanSq fun l => x1 (ix2 T l) := by
  have hs : val_main_v3 (F := Ideal) x1 (ix2 T (0 : Fin 1)) = ∑ l : Fin 1024, (x1 (ix2 T l) : EReal) * x1 (ix2 T l) := by
    refine (val_main_v3_apply x1 _).trans ((val_main_v2_apply x1 _).trans ?_)
    refine (congrArg₂ (fun a b : EReal => a + b) ((val_main_cst_apply (F := Ideal) _).trans Ideal.ofBits_zero_f32)
      (Finset.sum_congr rfl fun l _ => ?_)).trans (zero_add _)
    exact congrArg (fun z : EReal => z * z) (congrArg x1 (idx2_ext _ (ix2 T l) rfl rfl))
  exact congrArg₂ (fun a b : EReal => a + b) (congrArg₂ Ideal.div hs (val_main_v4_apply _)) (val_main_v6_apply _)

/-- A row's scale. -/
theorem scale_eq (T : Fin 8192) : val_main_v8 (F := Ideal) x1 (ix2 T (0 : Fin 1)) = scale fun l => x1 (ix2 T l) :=
  congrArg Ideal.rsqrt (meanSq_eq x1 T)

/-- A row over its root mean square. -/
theorem unit_eq (T : Fin 8192) (k : Fin 1024) : val_main_v13 (F := Ideal) x1 (ix2 T k) = unit x1 T k :=
  congrArg (fun z : EReal => (x1 (ix2 T k) : EReal) * z) ((val_main_v12_apply x1 (ix2 T k)).trans
    ((congrArg (val_main_v8 (F := Ideal) x1) (idx2_ext (idx_main_v12 (ix2 T k)) (ix2 T (0 : Fin 1)) rfl rfl)).trans (scale_eq x1 T)))

/-- The gain along a row. -/
theorem gain_eq (T : Fin 8192) (k : Fin 1024) : val_main_v34 (F := Ideal) x2 (ix2 T k) = x2 (ix2 (0 : Fin 1) k) := by
  have e : idx_main_v0 (idx_main_v14 (idx_main_v34 (ix2 T k))) = ix2 (0 : Fin 1) k :=
    idx2_ext (idx_main_v0 (idx_main_v14 (idx_main_v34 (ix2 T k)))) (ix2 (0 : Fin 1) k) rfl (by dsimp only [idx_main_v0, idx_main_v14, idx_main_v34]; exact Nat.mod_eq_of_lt k.isLt)
  rw [val_main_v34_apply, val_main_v14_apply, val_main_v0_apply, e]

/-- The hidden features before the nonlinearity. -/
theorem pre_eq (T : Fin 8192) (n : Fin 4096) : val_main_v17 (F := Ideal) x1 x2 x3 (ix2 T n) = pre x1 x2 x3 T n :=
  (val_main_v17_apply x1 x2 x3 _).trans (Finset.sum_congr rfl fun k _ => congrArg₂ (fun a b : EReal => a * b)
    ((congrArg (val_main_v16 (F := Ideal) x1 x2) (idx2_ext (lidx_main_v17 (ix2 T n) k) (ix2 T k) rfl rfl)).trans
      (congrArg₂ (fun a b : EReal => a * b) (unit_eq x1 T k) (gain_eq x2 T k)))
    (congrArg x3 (idx2_ext (ridx_main_v17 (ix2 T n) k) (ix2 k n) rfl rfl)))

/-- The hidden features. -/
theorem hidden_eq (T : Fin 8192) (n : Fin 4096) : val_main_v18 (F := Ideal) x1 x2 x3 (ix2 T n) = hidden x1 x2 x3 T n :=
  congrArg₂ (fun a b : EReal => max a b) (pre_eq x1 x2 x3 T n) ((val_main_call0_v0_apply (F := Ideal) _).trans Ideal.ofBits_zero_f32)

/-- The gradient of the hidden features before the nonlinearity: where the feature is not positive both are zero. -/
theorem gate_eq (T : Fin 8192) (n : Fin 4096) : val_main_v29 (F := Ideal) x0 x1 x2 x3 x4 (ix2 T n) = gateGrad x0 x1 x2 x3 x4 T n := by
  have h27 : val_main_v27 (F := Ideal) x0 x1 x2 x3 x4 (ix2 T n) = gateGrad x0 x1 x2 x3 x4 T n :=
    congrArg₂ (fun a b : EReal => a * b)
      ((val_main_v26_apply x0 x4 _).trans (Finset.sum_congr rfl fun k _ => congrArg₂ (fun a b : EReal => a * b)
        (congrArg x0 (idx2_ext (lidx_main_v26 (ix2 T n) k) (ix2 T k) rfl rfl)) (congrArg x4 (idx2_ext (ridx_main_v26 (ix2 T n) k) (ix2 n k) rfl rfl))))
      (congrArg₂ (fun a b : EReal => a * b) (val_main_v23_apply (F := Ideal) _) (hidden_eq x1 x2 x3 T n))
  have h20 : val_main_v20 (F := Ideal) x1 x2 x3 (ix2 T n) = Ideal.cmp .ogt (pre x1 x2 x3 T n) (0 : EReal) :=
    congrArg₂ (Ideal.cmp .ogt) (pre_eq x1 x2 x3 T n) ((val_main_v19_apply (F := Ideal) _).trans Ideal.ofBits_zero_f32)
  have h28 : val_main_v28 (F := Ideal) (ix2 T n) = (0 : EReal) := (val_main_v28_apply (F := Ideal) _).trans Ideal.ofBits_zero_f32
  rw [val_main_v29_apply, h20, h27, h28]
  by_cases hp : 0 < pre x1 x2 x3 T n
  · simp [Scalar.select, Ideal.cmp, hp]
  · have h0 : hidden x1 x2 x3 T n = 0 := max_eq_right (not_lt.1 hp)
    simp [Scalar.select, Ideal.cmp, hp, gateGrad, h0]

/-- The gradient of the normalised rows. -/
theorem back_eq (T : Fin 8192) (k : Fin 1024) : val_main_v30 (F := Ideal) x0 x1 x2 x3 x4 (ix2 T k) = normGrad x0 x1 x2 x3 x4 T k :=
  (val_main_v30_apply x0 x1 x2 x3 x4 _).trans (Finset.sum_congr rfl fun n _ => congrArg₂ (fun a b : EReal => a * b)
    ((congrArg (val_main_v29 (F := Ideal) x0 x1 x2 x3 x4) (idx2_ext (lidx_main_v30 (ix2 T k) n) (ix2 T n) rfl rfl)).trans (gate_eq x0 x1 x2 x3 x4 T n))
    (congrArg x3 (idx2_ext (ridx_main_v30 (ix2 T k) n) (ix2 k n) rfl rfl)))

/-- The gain's gradient. -/
theorem gainGrad_eq (k : Fin 1024) : val_main_v53 (F := Ideal) x0 x1 x2 x3 x4 (ix2 (0 : Fin 1) k) = gainGrad x0 x1 x2 x3 x4 k := by
  have h32 : val_main_v32 (F := Ideal) x0 x1 x2 x3 x4 (ix1 k) = gainGrad x0 x1 x2 x3 x4 k := by
    refine (val_main_v32_apply x0 x1 x2 x3 x4 _).trans ?_
    refine (congrArg₂ (fun a b : EReal => a + b) ((val_main_cst_7_apply (F := Ideal) _).trans Ideal.ofBits_zero_f32) (Finset.sum_congr rfl fun T _ => ?_)).trans (zero_add _)
    refine (congrArg (val_main_v31 (F := Ideal) x0 x1 x2 x3 x4) (idx2_ext (idx_main_v32 (ix1 k) T) (ix2 T k) rfl rfl)).trans ?_
    exact (congrArg₂ (fun a b : EReal => a * b) (unit_eq x1 T k) (back_eq x0 x1 x2 x3 x4 T k)).trans (mul_comm _ _)
  have h33 : val_main_v33 (F := Ideal) x0 x1 x2 x3 x4 (ix2 (0 : Fin 1) k) = gainGrad x0 x1 x2 x3 x4 k := by
    refine (val_main_v33_apply x0 x1 x2 x3 x4 _).trans ((congrArg (val_main_v32 (F := Ideal) x0 x1 x2 x3 x4) (funext fun a => Fin.ext ?_)).trans h32)
    match a with
    | ⟨0, _⟩ => show 0 * 1024 + k.val = k.val; omega
  have h36 : val_main_v36 (F := Ideal) x0 x1 x2 x3 x4 (ix1 k) = gainGrad x0 x1 x2 x3 x4 k := by
    refine (val_main_v36_apply x0 x1 x2 x3 x4 _).trans ?_
    refine (congrArg₂ (fun a b : EReal => a + b) ((val_main_cst_8_apply (F := Ideal) _).trans Ideal.ofBits_zero_f32) (Fin.sum_univ_one _)).trans ((zero_add _).trans ?_)
    exact (congrArg (val_main_v33 (F := Ideal) x0 x1 x2 x3 x4) (idx2_ext (idx_main_v36 (ix1 k) 0) (ix2 (0 : Fin 1) k) rfl rfl)).trans h33
  refine (val_main_v53_apply x0 x1 x2 x3 x4 _).trans ((congrArg (val_main_v36 (F := Ideal) x0 x1 x2 x3 x4) (funext fun a => Fin.ext ?_)).trans h36)
  match a with
  | ⟨0, _⟩ => rfl

/-- What reaches a row's mean square, over the row's length. -/
theorem square_eq (T : Fin 8192) (k : Fin 1024) : val_main_v46 (F := Ideal) x0 x1 x2 x3 x4 (ix2 T k)
    = Ideal.div ((∑ l : Fin 1024, (x1 (ix2 T l) : EReal) * (normGrad x0 x1 x2 x3 x4 T l * x2 (ix2 (0 : Fin 1) l)))
      * (Ideal.ofBits .f32 0xBF000000#32 * Ideal.div (scale fun l => x1 (ix2 T l)) (meanSq fun l => x1 (ix2 T l)))) (Ideal.ofBits .f32 0x44800000#32) := by
  have h38 : val_main_v38 (F := Ideal) x0 x1 x2 x3 x4 (ix1 T) = ∑ l : Fin 1024, (x1 (ix2 T l) : EReal) * (normGrad x0 x1 x2 x3 x4 T l * x2 (ix2 (0 : Fin 1) l)) := by
    refine (val_main_v38_apply x0 x1 x2 x3 x4 _).trans ?_
    refine (congrArg₂ (fun a b : EReal => a + b) ((val_main_cst_9_apply (F := Ideal) _).trans Ideal.ofBits_zero_f32) (Finset.sum_congr rfl fun l _ => ?_)).trans (zero_add _)
    refine (congrArg (val_main_v37 (F := Ideal) x0 x1 x2 x3 x4) (idx2_ext (idx_main_v38 (ix1 T) l) (ix2 T l) rfl rfl)).trans ?_
    exact congrArg (fun z : EReal => (x1 (ix2 T l) : EReal) * z) (congrArg₂ (fun a b : EReal => a * b) (back_eq x0 x1 x2 x3 x4 T l) (gain_eq x2 T l))
  have e39 : idx_main_v39 (ix2 T (0 : Fin 1)) = ix1 T := funext fun a => Fin.ext (by
    match a with
    | ⟨0, _⟩ => show T.val * 1 + 0 = T.val; omega)
  have h39 := (val_main_v39_apply x0 x1 x2 x3 x4 (ix2 T (0 : Fin 1))).trans ((congrArg (val_main_v38 (F := Ideal) x0 x1 x2 x3 x4) e39).trans h38)
  have h11 : val_main_v11 (F := Ideal) x1 (ix2 T (0 : Fin 1)) = Ideal.ofBits .f32 0xBF000000#32 * Ideal.div (scale fun l => x1 (ix2 T l)) (meanSq fun l => x1 (ix2 T l)) :=
    congrArg₂ (fun a b : EReal => a * b) (val_main_v10_apply (F := Ideal) _) (congrArg₂ Ideal.div (scale_eq x1 T) (meanSq_eq x1 T))
  have h44 := congrArg₂ Ideal.div (congrArg₂ (fun a b : EReal => a * b) h39 h11) (val_main_v43_apply (F := Ideal) (ix2 T (0 : Fin 1)))
  have e46 : idx_main_v46 (ix2 T k) = ix1 T := funext fun a => Fin.ext (by
    match a with
    | ⟨0, _⟩ => rfl)
  refine (val_main_v46_apply x0 x1 x2 x3 x4 _).trans ((congrArg (val_main_v45 (F := Ideal) x0 x1 x2 x3 x4) e46).trans ((val_main_v45_apply x0 x1 x2 x3 x4 _).trans ?_))
  refine (congrArg₂ (fun a b : EReal => a + b) ((val_main_cst_11_apply (F := Ideal) _).trans Ideal.ofBits_zero_f32) (Fin.sum_univ_one _)).trans ((zero_add _).trans ?_)
  exact (congrArg (val_main_v44 (F := Ideal) x0 x1 x2 x3 x4) (idx2_ext (idx_main_v45 (ix1 T) 0) (ix2 T (0 : Fin 1)) rfl rfl)).trans h44

/-- The gradient of the residual rows, where the arguments are real. -/
theorem rowGrad_eq (h0 : ∀ i, IsReal (x0 i)) (h1 : ∀ i, IsReal (x1 i)) (h2 : ∀ i, IsReal (x2 i)) (h3 : ∀ i, IsReal (x3 i)) (h4 : ∀ i, IsReal (x4 i))
    (T : Fin 8192) (k : Fin 1024) : val_main_v51 (F := Ideal) x0 x1 x2 x3 x4 (ix2 T k) = rowGrad x0 x1 x2 x3 x4 T k := by
  have h40 : val_main_v40 (F := Ideal) x1 (ix2 T k) = scale fun l => x1 (ix2 T l) :=
    (val_main_v40_apply x1 (ix2 T k)).trans ((congrArg (val_main_v8 (F := Ideal) x1) (idx2_ext (idx_main_v40 (ix2 T k)) (ix2 T (0 : Fin 1)) rfl rfl)).trans (scale_eq x1 T))
  have h41 := congrArg₂ (fun a b : EReal => a * b) (congrArg₂ (fun a b : EReal => a * b) (back_eq x0 x1 x2 x3 x4 T k) (gain_eq x2 T k)) h40
  have h46 := square_eq x0 x1 x2 x3 x4 T k
  have h51 := congrArg (fun z : EReal => (x0 (ix2 T k) : EReal) + z) (congrArg₂ (fun a b : EReal => a + b)
    (congrArg₂ (fun a b : EReal => a + b) h41 (congrArg (fun z : EReal => (x1 (ix2 T k) : EReal) * z) h46)) (congrArg (fun z : EReal => z * (x1 (ix2 T k) : EReal)) h46))
  refine Eq.trans h51 ?_
  obtain ⟨o, ho⟩ := h0 (ix2 T k)
  choose x hx using fun l => h1 (ix2 T l)
  choose b hb using fun l => (normGrad_real h0 h1 h2 h3 h4 T l).mul (h2 (ix2 (0 : Fin 1) l))
  have ex : (fun l => x1 (ix2 T l) : Fin 1024 → EReal) = fun l => (x l : EReal) := funext hx
  have eb : (fun l => normGrad x0 x1 x2 x3 x4 T l * x2 (ix2 (0 : Fin 1) l) : Fin 1024 → EReal) = fun l => (b l : EReal) := funext hb
  have eu : unit x1 T = fun l => (x l : EReal) * scale fun l => (x l : EReal) := funext fun l => by unfold unit; rw [ex, hx l]
  have es : (∑ l : Fin 1024, (x1 (ix2 T l) : EReal) * (normGrad x0 x1 x2 x3 x4 T l * x2 (ix2 (0 : Fin 1) l))) = ∑ l, (x l : EReal) * (b l : EReal) :=
    Finset.sum_congr rfl fun l _ => congrArg₂ (fun a b : EReal => a * b) (hx l) (hb l)
  unfold rowGrad
  rw [eb, eu, ex, ho, through_real o x b k]
  dsimp only
  rw [es, hb k, hx k]

/-- The incoming rows, handed on. -/
theorem incoming_eq (i : S8192x1024.Idx) : val_main_v54 (F := Ideal) x0 i = x0 i := rfl

/-- The gradient of the hidden features as handed on. -/
theorem gateLow_eq (T : Fin 8192) (n : Fin 4096) : val_main_v52 (F := Ideal) x0 x1 x2 x3 x4 (ix2 T n) = gateGrad x0 x1 x2 x3 x4 T n := gate_eq x0 x1 x2 x3 x4 T n

end Cert.Reference2Ideal.Stages

end
-- ==== Proof.Finite2.lean ====
/-
  The MLP's precondition: where it holds every entry of the five arguments is a real number.
-/
module

public import proofs.«01_k».proof.Proof.Finite
public import proofs.«01_k».proof.Proof.MlpReal
public import proofs.«01_k».proof.Proof.Gen.Pre_finite2

@[expose] public section

noncomputable section

namespace Cert.Finite2

open Idealize.ShloMosaic Idealize.ShloMosaic.TcCoe Idealize.SL.Sem Idealize.ShloMosaic.ValueIdx
open Cert.Pre_finite2 Cert.Pre_finite2.Gen Cert.Mlp Cert.Finite

/-- Five minima brought together are one only if each is positive. -/
theorem five {s : Shape} (i : s.Idx) (a b c d f : IVec s 32) (hq : cmpi .eq (minsi (minsi (minsi a b) (minsi c d)) f) (constantI s 32 1#32) i = 1#1) :
    0 < (a i).toInt ∧ 0 < (b i).toInt ∧ 0 < (c i).toInt ∧ 0 < (d i).toInt ∧ 0 < (f i).toInt := by
  have hb : BitVec.ofBool (decide (IntOp.minsi (IntOp.minsi (IntOp.minsi (a i) (b i)) (IntOp.minsi (c i) (d i))) (f i) = 1#32)) = 1#1 := hq
  have h1 : IntOp.minsi (IntOp.minsi (IntOp.minsi (a i) (b i)) (IntOp.minsi (c i) (d i))) (f i) = 1#32 := by
    by_contra hne; rw [decide_eq_false hne] at hb; exact absurd hb (by decide)
  have h2 := congrArg BitVec.toInt h1
  simp only [SortNet.toInt_minsi] at h2
  have h3 : (1#32).toInt = 1 := by decide
  rw [h3] at h2
  omega

instance : Subsingleton S_.Idx := ⟨fun a b => funext fun i => i.elim0⟩

/-- Where the precondition holds each argument is real. -/
theorem real (x0 x1 : FVec Ideal S8192x1024 .f32) (x2 : FVec Ideal S1x1024 .f32) (x3 : FVec Ideal S1024x4096 .f32) (x4 : FVec Ideal S4096x1024 .f32)
    (e : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e0 := congrFun e ix0
  simp only [fn, fn_part1] at e0
  obtain ⟨ha, hb, hc, hd, hf⟩ := five _ _ _ _ _ _ e0
  exact ⟨fun i => ⟨_, real_of_lt _ (pos_of_reduce _ _ _ _ _ ha i)⟩, fun i => ⟨_, real_of_lt _ (pos_of_reduce _ _ _ _ _ hb i)⟩,
    fun i => ⟨_, real_of_lt _ (pos_of_reduce _ _ _ _ _ hc i)⟩, fun i => ⟨_, real_of_lt _ (pos_of_reduce _ _ _ _ _ hd i)⟩,
    fun i => ⟨_, real_of_lt _ (pos_of_reduce _ _ _ _ _ hf i)⟩⟩

end Cert.Finite2

end
-- ==== Proof.SameBwd.lean ====
/-
  The MLP's backward call and the reference's lines: the same four results, where the arguments are finite.
-/
module

public import proofs.«01_k».proof.Defs
public import proofs.«01_k».proof.Proof.BwdWhole
public import proofs.«01_k».proof.Proof.RefBwd
public import proofs.«01_k».proof.Proof.Finite2
public import proofs.«01_k».proof.Proof.Gen.Kernel2Ideal.Value

@[expose] public section

noncomputable section

namespace Cert.Kernel2Ideal.Same

open Idealize.ShloMosaic Idealize.ShloMosaic.TcCoe Idealize.SL.Sem Idealize.ShloMosaic.ValueIdx
open Cert.Mat Cert.Mlp

/-- The reference runs to its end, leaves its arguments as they were, and has no semaphore to leave raised. -/
theorem reference_runs : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

section Results

variable (m : (ℓ : Loc Cert.Kernel2Ideal.nD Cert.Kernel2Ideal.τ Cert.Kernel2Ideal.sig) → Buf (Elt Ideal) ℓ) (c : Dev Cert.Kernel2Ideal.nD)

/-- The hidden gradients agree. -/
theorem sameGate : Cert.Reference2Ideal.Read.val_main_v52 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
    = (Cert.Kernel2Ideal.Gen.dats m 0 c).arrAt 7 Cert.Kernel2Ideal.cfg0.N := by
  funext i
  obtain ⟨T, n, rfl⟩ : ∃ (T : Fin 8192) (k : Fin 4096), i = ix2 T k := ⟨i 0, i 1, idx2_ext i _ rfl rfl⟩
  obtain ⟨t, i, rfl⟩ := row_eq T
  obtain ⟨b, j, rfl⟩ := col_eq n
  exact (Cert.Reference2Ideal.Stages.gateLow_eq _ _ _ _ _ _ _).trans (Cert.Kernel2Ideal.Bwd.result7 m c t i b j).symm

/-- The gain's gradients agree. -/
theorem sameGain : Cert.Reference2Ideal.Read.val_main_v53 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
    = (Cert.Kernel2Ideal.Gen.dats m 0 c).arrAt 8 Cert.Kernel2Ideal.cfg0.N := by
  funext i
  obtain ⟨k, rfl⟩ : ∃ k : Fin 1024, i = ix2 (0 : Fin 1) k := ⟨i 1, idx2_ext i _ (by have h : (i 0).val < 1 := (i 0).isLt; show (i 0).val = 0; omega) rfl⟩
  exact (Cert.Reference2Ideal.Stages.gainGrad_eq _ _ _ _ _ k).trans (Cert.Kernel2Ideal.Bwd.result8 m c k).symm

/-- The incoming rows handed on agree. -/
theorem sameIncoming : Cert.Reference2Ideal.Read.val_main_v54 (F := Ideal) (m ((c.tc : Thread Cert.Kernel2Ideal.nD Cert.Kernel2Ideal.τ).loc Cert.Kernel2Ideal.main_arg0))
    = (Cert.Kernel2Ideal.Gen.dats m 0 c).arrAt 9 Cert.Kernel2Ideal.cfg0.N := by
  funext i
  obtain ⟨T, k, rfl⟩ : ∃ (T : Fin 8192) (k : Fin 1024), i = ix2 T k := ⟨i 0, i 1, idx2_ext i _ rfl rfl⟩
  obtain ⟨t, i, rfl⟩ := row_eq T
  exact (Cert.Reference2Ideal.Stages.incoming_eq _ _).trans (Cert.Kernel2Ideal.Bwd.result9 m c t i k).symm

variable (hpre : Cert.Pre_Kernel2Ideal_finite2 m)

include hpre

/-- The residual gradients agree. -/
theorem sameRow : Cert.Reference2Ideal.Read.val_main_v51 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
    = (Cert.Kernel2Ideal.Gen.dats m 0 c).arrAt 6 Cert.Kernel2Ideal.cfg0.N := by
  funext i
  obtain ⟨T, k, rfl⟩ : ∃ (T : Fin 8192) (k : Fin 1024), i = ix2 T k := ⟨i 0, i 1, idx2_ext i _ rfl rfl⟩
  obtain ⟨t, i, rfl⟩ := row_eq T
  obtain ⟨h0, h1, h2, h3, h4⟩ := Cert.Finite2.real _ _ _ _ _ (hpre c)
  exact (Cert.Reference2Ideal.Stages.rowGrad_eq _ _ _ _ _ h0 h1 h2 h3 h4 _ k).trans (Cert.Kernel2Ideal.Bwd.result6 m c t i k).symm

end Results

/-- On finite arguments the call's four results and the reference's are equal entry by entry. -/
theorem algebraic : Cert.algebraic_Kernel2Ideal_Reference2Ideal_pre_finite2 := by
  intro m g m' g' hpre hargs
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    Cert.Kernel2Ideal.Value.run_blocks m g, ?_⟩
  refine (θ_run _ _ _).mono (fun r h c => ?_) (Cert.Reference2Ideal.Value.run m' g')
  obtain ⟨e0, e1, e2, e3, e4⟩ := hargs c
  exact ⟨((h c).1.trans (Cert.Reference2Ideal.Read.val_main_v51_eq m' c)).trans (Eq.trans (by rw [e0, e1, e2, e3, e4]) (sameRow m c hpre)),
    ((h c).2.1.trans (Cert.Reference2Ideal.Read.val_main_v52_eq _ _ _ _ _)).trans (Eq.trans (by rw [e0, e1, e2, e3, e4]) (sameGate m c)),
    ((h c).2.2.1.trans (Cert.Reference2Ideal.Read.val_main_v53_eq _ _ _ _ _)).trans (Eq.trans (by rw [e0, e1, e2, e3, e4]) (sameGain m c)),
    ((h c).2.2.2.1.trans (Cert.Reference2Ideal.Read.val_main_v54_eq _)).trans (Eq.trans (by rw [e0]) (sameIncoming m c)),
    (h c).2.2.2.2⟩

end Cert.Kernel2Ideal.Same

end
-- ==== Proof.Fwd.lean ====
/-
  The MLP's forward call, one tile of 512 tokens: the normalised rows, the hidden features block by block, and the
  residual sum with the second product, which takes the hidden features a pair of blocks at a time.
-/
module

public import proofs.«01_k».proof.Proof.Mlp
public import proofs.«01_k».proof.Proof.Gen.Kernel3Ideal.Value
public import Idealize.ShloMosaic.Lib.Pipeline.ValueKit.Tiles

@[expose] public section

noncomputable section

open scoped BigOperators

namespace Cert.Kernel3Ideal.Fwd

open Idealize.ShloMosaic Idealize.ShloMosaic.TcCoe Idealize.SL.Sem Idealize.ShloMosaic.ValueIdx
open Cert.Kernel3Ideal Cert.Kernel3Ideal.Gen Cert.Mat Cert.Mlp

section Shapes

variable {F : FTy → Type} [FloatOps F]

/-- The hidden features of one block of columns. -/
def relu (hn : FVec F S512x1024 .bf16) (w : Vec F S1x1024x512 .bf16) : FVec F S512x512 .f32 :=
  maximumf (matmul dot_S512x1024_S1024x512_S512x512_1_0_0_1_n_n none hn (shapeCast S1024x512 w shapeCasts_S1x1024x512_S1024x512) (constant S512x512 .f32 0x00000000#32))
    (broadcast S512x512 (Scalar.ofBits .f32 0x00000000#32))

/-- The squares of one block, narrowed. -/
def act (hn : FVec F S512x1024 .bf16) (w : Vec F S1x1024x512 .bf16) : FVec F S512x512 .bf16 :=
  truncf .bf16 (mulf (relu hn w) (relu hn w)) bitsLt_bf16_f32

/-- Two blocks of squares against the matching rows of the second weight. -/
def pair (a b : FVec F S512x512 .bf16) (w : Vec F S2x512x1024 .bf16) : FVec F S512x1024 .f32 :=
  matmul dot_S512x1024_S1024x1024_S512x1024_1_0_0_1_n_n none (concatenate S512x1024 1 [⟨S512x512, a⟩, ⟨S512x512, b⟩] concatenates_S512x512_S512x512_S512x1024_d1)
    (shapeCast S1024x1024 (shapeCast S2x512x1024 w shapeCasts_S2x512x1024_S2x512x1024) shapeCasts_S2x512x1024_S1024x1024) (constant S512x1024 .f32 0x00000000#32)

/-- The residual sum. -/
def total (x0 : Vec F S512x1024 .f32) (hn : FVec F S512x1024 .bf16) (x2 : Vec F S8x1024x512 .bf16) (x3 : Vec F S8x512x1024 .bf16) : FVec F S512x1024 .f32 :=
  addf x0 (addf (addf (addf
    (pair (act hn (View.ld x2 r0_2)) (act hn (View.ld x2 r0_4)) (View.ld x3 r0_6))
    (pair (act hn (View.ld x2 r0_7)) (act hn (View.ld x2 r0_9)) (View.ld x3 r0_11)))
    (pair (act hn (View.ld x2 r0_12)) (act hn (View.ld x2 r0_14)) (View.ld x3 r0_16)))
    (pair (act hn (View.ld x2 r0_17)) (act hn (View.ld x2 r0_19)) (View.ld x3 r0_21)))

/-- Offsets zero on both axes. -/
theorem zero2 : (![0, 0] : Fin 2 → Nat) = fun _ => 0 := funext fun a => by fin_cases a <;> rfl

variable (x0 : Vec F S512x1024 .f32) (x1 : Vec F S1x1024 .f32) (x2 : Vec F S8x1024x512 .bf16) (x3 : Vec F S8x512x1024 .bf16)

/-- What the tile leaves in the first output. -/
theorem out4_eq : out0_4 x0 x1 x2 x3 = total x0 (k0_pay4 x0 x1) x2 x3 := by
  unfold out0_4
  rw [View.canon_unit_zero zero2]
  unfold k0_pay26 k0_pay27 k0_pay28 k0_pay29
  rw [View.ld_unit_zero (S := S512x1024) zero2, View.ld_unit_zero (S := S1x1024) zero2]
  rfl

/-- What the tile leaves in the second output. -/
theorem out5_eq : out0_5 x0 x1 x2 x3 = k0_pay4 x0 x1 := by
  unfold out0_5
  rw [View.canon_unit_zero zero2, View.ld_unit_zero (S := S512x1024) zero2, View.ld_unit_zero (S := S1x1024) zero2]

/-- One block of hidden features, narrowed. -/
def low (hn : FVec F S512x1024 .bf16) (w : Vec F S1x1024x512 .bf16) : FVec F S512x512 .bf16 := truncf .bf16 (relu hn w) bitsLt_bf16_f32

/-- The stores of the third output. -/
abbrev stores (f : Fin 8 → FVec F S512x512 .bf16) : List (View.Piece (Elt F) S512x4096 .bf16) :=
  [⟨r0_20, f 7⟩, ⟨r0_18, f 6⟩, ⟨r0_15, f 5⟩, ⟨r0_13, f 4⟩, ⟨r0_10, f 3⟩, ⟨r0_8, f 2⟩, ⟨r0_5, f 1⟩, ⟨r0_3, f 0⟩]

/-- The block of the first weight that a block of columns takes. -/
def wblk (x2 : Vec F S8x1024x512 .bf16) : Fin 8 → Vec F S1x1024x512 .bf16 :=
  ![View.ld x2 r0_2, View.ld x2 r0_4, View.ld x2 r0_7, View.ld x2 r0_9, View.ld x2 r0_12, View.ld x2 r0_14, View.ld x2 r0_17, View.ld x2 r0_19]

/-- The pair of blocks of the second weight. -/
def vblk (x3 : Vec F S8x512x1024 .bf16) : Fin 4 → Vec F S2x512x1024 .bf16 :=
  ![View.ld x3 r0_6, View.ld x3 r0_11, View.ld x3 r0_16, View.ld x3 r0_21]

/-- What the tile leaves in the third output. -/
theorem out6_eq : out0_6 x0 x1 x2 x3 = View.canon (stores fun b => low (k0_pay4 x0 x1) (wblk x2 b)) := by
  unfold out0_6
  unfold k0_pay26 k0_pay27 k0_pay28 k0_pay29
  rw [View.ld_unit_zero (S := S512x1024) zero2, View.ld_unit_zero (S := S1x1024) zero2]
  rfl

end Shapes

/-- The normalised rows. -/
theorem norm_apply (x0 : Vec Ideal S512x1024 .f32) (x1 : Vec Ideal S1x1024 .f32) (i : Fin 512) (k : Fin 1024) :
    k0_pay4 (F := Ideal) x0 x1 (ix2 i k) = ((x0 (ix2 i k) : EReal) * scale fun l => x0 (ix2 i l)) * x1 (ix2 (0 : Fin 1) k) := by
  have h := Value.piece5_0 x0 x1 (ix2 i k)
  have e0 : Value.ix5_0 (r0_0.idx (ix2 i k)) = ix2 i k := funext fun a => Fin.ext (by match a with | ⟨0, _⟩ => show 0 + 1 * i.val = i.val; omega | ⟨1, _⟩ => show 0 + 1 * k.val = k.val; omega)
  have e1 : Value.ix5_1 (r0_0.idx (ix2 i k)) = ix1 i := funext fun a => Fin.ext (by match a with | ⟨0, _⟩ => show 0 + 1 * i.val = i.val; omega)
  have e2 : Value.ix5_2 (r0_0.idx (ix2 i k)) = ix2 (0 : Fin 1) k := funext fun a => Fin.ext (by match a with | ⟨0, _⟩ => rfl | ⟨1, _⟩ => show 0 + 1 * k.val = k.val; omega)
  refine h.trans ?_
  unfold Value.E5
  rw [e0, e1, e2]
  refine congrArg (fun s : EReal => ((x0 (ix2 i k) : EReal) * Ideal.rsqrt (Ideal.div s _ + _)) * x1 (ix2 (0 : Fin 1) k)) ?_
  refine (Ideal.multiReduction_add_single _ _ _ _ _ _).trans (Finset.sum_congr rfl fun l _ => ?_)
  have el : (reduces_S512x1024_S512 : S512x1024.Reduces [1] S512).lift (ix1 i) l = ix2 i l := funext fun a => Fin.ext (by match a with | ⟨0, _⟩ => rfl | ⟨1, _⟩ => rfl)
  rw [el]
  rfl

/-- A block of hidden features at an element. -/
theorem relu_apply (hn : FVec Ideal S512x1024 .bf16) (w : Vec Ideal S1x1024x512 .bf16) (i j : Fin 512) :
    relu hn w (ix2 i j) = max (∑ k : Fin 1024, (hn (ix2 i k) : EReal) * w (ix3 (0 : Fin 1) k j)) 0 := by
  unfold relu
  refine congrArg₂ (fun a b : EReal => max a b) ((nn_apply dot_S512x1024_S1024x512_S512x512_1_0_0_1_n_n_wf _ _ i j).trans
    (Finset.sum_congr rfl fun k _ => congrArg (fun z : EReal => (hn (ix2 i k) : EReal) * z) ?_)) Ideal.ofBits_zero_f32
  exact shapeCast_apply w _ _ _ (by rw [Shape.rowMajor_val_three, Shape.rowMajor_val_two]; show (0 * 1024 + k.val) * 512 + j.val = k.val * 512 + j.val; omega)

/-- A pair's product at an element. -/
theorem pair_apply (a b : FVec Ideal S512x512 .bf16) (w : Vec Ideal S2x512x1024 .bf16) (i : Fin 512) (j : Fin 1024) :
    pair a b w (ix2 i j) = (∑ k : Fin 512, (a (ix2 i k) : EReal) * w (ix3 (0 : Fin 2) k j)) + ∑ k : Fin 512, (b (ix2 i k) : EReal) * w (ix3 (1 : Fin 2) k j) := by
  unfold pair
  refine (nn_apply dot_S512x1024_S1024x1024_S512x1024_1_0_0_1_n_n_wf _ _ i j).trans ?_
  rw [sum_runs 2 512 1024 rfl, Fin.sum_univ_two]
  have hw : ∀ (s : Fin 2) (k : Fin 512), shapeCast S1024x1024 (shapeCast S2x512x1024 w shapeCasts_S2x512x1024_S2x512x1024) shapeCasts_S2x512x1024_S1024x1024
      (ix2 (⟨s.val * 512 + k.val, by omega⟩ : Fin 1024) j) = w (ix3 s k j) := fun s k => by
    rw [shapeCast_self]
    exact shapeCast_apply w _ _ _ (by rw [Shape.rowMajor_val_three, Shape.rowMajor_val_two]; rfl)
  refine congrArg₂ (fun a b : EReal => a + b) (Finset.sum_congr rfl fun k _ => congrArg₂ (fun a b : EReal => a * b) ?_ (hw 0 k))
    (Finset.sum_congr rfl fun k _ => congrArg₂ (fun a b : EReal => a * b) ?_ (hw 1 k))
  · refine concatenate_pair_apply_left (t := S512x1024) 1 _ _ concatenates_S512x512_S512x512_S512x1024_d1 _ rfl (ix2 i k) ?_
    intro b; match b with | ⟨0, _⟩ => rfl | ⟨1, _⟩ => show k.val = 0 * 512 + k.val; omega
  · refine concatenate_pair_apply_right (t := S512x1024) 1 _ _ concatenates_S512x512_S512x512_S512x1024_d1 _ rfl rfl (ix2 i k) ?_ ?_
    · intro b hb; match b with | ⟨0, _⟩ => rfl | ⟨1, _⟩ => exact absurd rfl hb
    · show k.val + 512 = 1 * 512 + k.val; omega

/-- The first weight's block at an element. -/
theorem wblk_apply (x2 : Vec Ideal S8x1024x512 .bf16) (b : Fin 8) (k : Fin 1024) (j : Fin 512) :
    wblk x2 b (ix3 (0 : Fin 1) k j) = x2 (ix3 b k j) := by
  fin_cases b <;>
  · refine congrArg x2 (funext fun a => Fin.ext ?_)
    match a with
    | ⟨0, _⟩ => rfl
    | ⟨1, _⟩ => show 0 + 1 * k.val = k.val; omega
    | ⟨2, _⟩ => show 0 + 1 * j.val = j.val; omega

/-- The second weight's pair at an element. -/
theorem vblk_apply (x3 : Vec Ideal S8x512x1024 .bf16) (q : Fin 4) (s : Fin 2) (k : Fin 512) (j : Fin 1024) :
    vblk x3 q (ix3 s k j) = x3 (ix3 (⟨q.val * 2 + s.val, by omega⟩ : Fin 8) k j) := by
  fin_cases q <;> fin_cases s <;>
  · refine congrArg x3 (funext fun a => Fin.ext ?_)
    match a with
    | ⟨0, _⟩ => rfl
    | ⟨1, _⟩ => show 0 + 1 * k.val = k.val; omega
    | ⟨2, _⟩ => show 0 + 1 * j.val = j.val; omega

/-- A hidden feature of a tile: block `b`, column `j` within it. -/
def hid (hn : FVec Ideal S512x1024 .bf16) (x2 : Vec Ideal S8x1024x512 .bf16) (i : Fin 512) (b : Fin 8) (j : Fin 512) : EReal :=
  max (∑ k : Fin 1024, (hn (ix2 i k) : EReal) * x2 (ix3 b k j)) 0

/-- A block of hidden features is `hid`. -/
theorem relu_hid (hn : FVec Ideal S512x1024 .bf16) (x2 : Vec Ideal S8x1024x512 .bf16) (i : Fin 512) (b : Fin 8) (j : Fin 512) :
    relu hn (wblk x2 b) (ix2 i j) = hid hn x2 i b j :=
  (relu_apply hn _ i j).trans (congrArg (fun s : EReal => max s 0) (Finset.sum_congr rfl fun k _ => by rw [wblk_apply]))

/-- A pair of blocks' product over the tile's hidden features. -/
theorem pair_hid (hn : FVec Ideal S512x1024 .bf16) (x2 : Vec Ideal S8x1024x512 .bf16) (x3 : Vec Ideal S8x512x1024 .bf16) (q : Fin 4) (i : Fin 512) (j : Fin 1024) :
    pair (act hn (wblk x2 (⟨q.val * 2 + 0, by omega⟩ : Fin 8))) (act hn (wblk x2 (⟨q.val * 2 + 1, by omega⟩ : Fin 8))) (vblk x3 q) (ix2 i j)
      = ∑ s : Fin 2, ∑ k : Fin 512, (hid hn x2 i (⟨q.val * 2 + s.val, by omega⟩ : Fin 8) k * hid hn x2 i (⟨q.val * 2 + s.val, by omega⟩ : Fin 8) k)
          * x3 (ix3 (⟨q.val * 2 + s.val, by omega⟩ : Fin 8) k j) := by
  rw [pair_apply, Fin.sum_univ_two]
  have h : ∀ (s : Fin 2) (k : Fin 512), (act hn (wblk x2 (⟨q.val * 2 + s.val, by omega⟩ : Fin 8)) (ix2 i k) : EReal) * vblk x3 q (ix3 s k j)
      = (hid hn x2 i (⟨q.val * 2 + s.val, by omega⟩ : Fin 8) k * hid hn x2 i (⟨q.val * 2 + s.val, by omega⟩ : Fin 8) k) * x3 (ix3 (⟨q.val * 2 + s.val, by omega⟩ : Fin 8) k j) :=
    fun s k => congrArg₂ (fun a b : EReal => a * b) (congrArg (fun z : EReal => z * z) (relu_hid hn x2 i _ k)) (vblk_apply x3 q s k j)
  exact congrArg₂ (fun a b : EReal => a + b) (Finset.sum_congr rfl fun k _ => h 0 k) (Finset.sum_congr rfl fun k _ => h 1 k)

/-- The residual sum at an element: over all eight blocks. -/
theorem total_apply (x0 : Vec Ideal S512x1024 .f32) (hn : FVec Ideal S512x1024 .bf16) (x2 : Vec Ideal S8x1024x512 .bf16) (x3 : Vec Ideal S8x512x1024 .bf16) (i : Fin 512) (j : Fin 1024) :
    total x0 hn x2 x3 (ix2 i j) = (x0 (ix2 i j) : EReal) + ∑ b : Fin 8, ∑ k : Fin 512, (hid hn x2 i b k * hid hn x2 i b k) * x3 (ix3 b k j) := by
  rw [sum_runs 4 2 8 rfl (fun b : Fin 8 => ∑ k : Fin 512, (hid hn x2 i b k * hid hn x2 i b k) * x3 (ix3 b k j)), Fin.sum_univ_four]
  refine congrArg (fun z : EReal => (x0 (ix2 i j) : EReal) + z) ?_
  exact congrArg₂ (fun a b : EReal => a + b) (congrArg₂ (fun a b : EReal => a + b) (congrArg₂ (fun a b : EReal => a + b)
    (pair_hid hn x2 x3 0 i j) (pair_hid hn x2 x3 1 i j)) (pair_hid hn x2 x3 2 i j)) (pair_hid hn x2 x3 3 i j)

/-- The stores of the third output at an element. -/
theorem stores_apply (f : Fin 8 → FVec Ideal S512x512 .bf16) (i : Fin 512) (b : Fin 8) (j : Fin 512) :
    View.canon (stores f) (ix2 i (⟨b.val * 512 + j.val, by omega⟩ : Fin 4096)) = f b (ix2 i j) := by
  have tile : ∀ (b' : Fin 8) (off : Fin 2 → Nat) (hoff : off = ![0, b'.val * 512]),
      View.TileAt (Val := Elt Ideal) (S := S512x4096) (e := .bf16) (ix2 i (⟨b.val * 512 + j.val, by omega⟩ : Fin 4096))
        off S512x512.size (f b') (f b (ix2 i j)) := by
    intro b' off hoff x hx
    subst hoff
    have x1 : (x 1).val < 512 := (x 1).isLt
    have e0 : i.val = 0 + (x 0).val := hx 0
    have e1 : b.val * 512 + j.val = b'.val * 512 + (x 1).val := hx 1
    have hb : b' = b := Fin.ext (by omega)
    subst hb
    refine congrArg (f b') (funext fun a => Fin.ext ?_)
    match a with
    | ⟨0, _⟩ => show (x 0).val = i.val; omega
    | ⟨1, _⟩ => show (x 1).val = j.val; omega
  refine View.canon_eq_of_allAt _ _ _ (View.cover_of_tiled_head _ _ _ (by rfl) _) ?_
  unfold stores
  refine View.allAt_cons_unit _ _ _ _ _ (tile 7 _ rfl) ?_
  refine View.allAt_cons_unit _ _ _ _ _ (tile 6 _ rfl) ?_
  refine View.allAt_cons_unit _ _ _ _ _ (tile 5 _ rfl) ?_
  refine View.allAt_cons_unit _ _ _ _ _ (tile 4 _ rfl) ?_
  refine View.allAt_cons_unit _ _ _ _ _ (tile 3 _ rfl) ?_
  refine View.allAt_cons_unit _ _ _ _ _ (tile 2 _ rfl) ?_
  refine View.allAt_cons_unit _ _ _ _ _ (tile 1 _ rfl) ?_
  refine View.allAt_cons_unit _ _ _ _ _ (tile 0 _ rfl) ?_
  exact View.allAt_nil _ _

end Cert.Kernel3Ideal.Fwd

end
-- ==== Proof.FwdRead.lean ====
/-
  The MLP's forward call over whole arrays: what each of its three result arrays holds, from the arguments.
-/
module

public import proofs.«01_k».proof.Proof.Fwd
public import Idealize.ShloMosaic.Lib.StableHlo.RunRead

@[expose] public section

noncomputable section

open scoped BigOperators

namespace Cert.Kernel3Ideal.Fwd

open Idealize.ShloMosaic Idealize.ShloMosaic.TcCoe Idealize.SL.Sem Idealize.ShloMosaic.ValueIdx Idealize.ShloMosaic.StableHlo
open Cert.Kernel3Ideal Cert.Kernel3Ideal.Gen Cert.Mat Cert.Mlp

section Lines

variable (V0 : Valuation τ sig (Elt Ideal))

set_option maxHeartbeats 4000000 in
/-- The first weight in blocks of columns. -/
theorem line_up : after Gen.hostOps0 V0 (no_index (Proc.devRef .tc main_v3))
    = truncf (F := Ideal) (s := S8x1024x512) (φ := .f32) .bf16 (transpose S8x1024x512 [1, 0, 2] (shapeCast S1024x8x512 (V0 (Proc.devRef .tc main_arg2)) shapeCasts_S1024x4096_S1024x8x512) transposes_S1024x8x512_S8x1024x512_1_0_2) bitsLt_bf16_f32 := by
  simp only [Gen.hostOps0]
  after_results_simp
  all_goals rfl

set_option maxHeartbeats 4000000 in
/-- The second weight in blocks of rows. -/
theorem line_down : after Gen.hostOps0 V0 (no_index (Proc.devRef .tc main_v4))
    = truncf (F := Ideal) (s := S8x512x1024) (φ := .f32) .bf16 (shapeCast S8x512x1024 (V0 (Proc.devRef .tc main_arg3)) shapeCasts_S4096x1024_S8x512x1024) bitsLt_bf16_f32 := by
  simp only [Gen.hostOps0]
  after_results_simp
  all_goals rfl

end Lines

variable (m : (ℓ : Loc nD τ sig) → Buf (Elt Ideal) ℓ) (c : Dev nD)

/-- The residual rows the call was given. -/
abbrev argH : main_arg0.ty.shape.Idx → EReal := m ((c.tc : Thread nD τ).loc main_arg0)
/-- The gain the call was given. -/
abbrev argG : main_arg1.ty.shape.Idx → EReal := m ((c.tc : Thread nD τ).loc main_arg1)
/-- The first weight. -/
abbrev argU : main_arg2.ty.shape.Idx → EReal := m ((c.tc : Thread nD τ).loc main_arg2)
/-- The second weight. -/
abbrev argD : main_arg3.ty.shape.Idx → EReal := m ((c.tc : Thread nD τ).loc main_arg3)

/-- The array of the first weight's blocks. -/
theorem up_apply (b : Fin 8) (k : Fin 1024) (j : Fin 512) : V m c main_v3 (ix3 b k j) = argU m c (ix2 k (col b j)) :=
  (congrFun (line_up (fun b => m (c, b))) (ix3 b k j)).trans (cols_apply (φ := .f32) (argU m c) shapeCasts_S1024x4096_S1024x8x512 transposes_S1024x8x512_S8x1024x512_1_0_2 b k j)

/-- The array of the second weight's blocks. -/
theorem down_apply (b : Fin 8) (k : Fin 512) (j : Fin 1024) : V m c main_v4 (ix3 b k j) = argD m c (ix2 (col b k) j) :=
  (congrFun (line_down (fun b => m (c, b))) (ix3 b k j)).trans (rows_apply (φ := .f32) (argD m c) shapeCasts_S4096x1024_S8x512x1024 b k j)

/-- Window 0's block at a point: the tile's rows. -/
theorem read0_apply (X : main_arg0.ty.shape.Idx → EReal) (t : Fin cfg0.N) (i : Fin 512) (k : Fin 1024) :
    ((cfg0.win 0).blk t).view.read (Elt Ideal) X (ix2 i k) = X (ix2 (row t i) k) := by
  have hi : ∀ t : Fin cfg0.N, win0_0.index t 0 = t.val ∧ win0_0.index t 1 = 0 := by decide +kernel
  rw [View.read_apply]
  refine congrArg X (funext fun b => Fin.ext ?_)
  match b with
  | ⟨0, _⟩ => show win0_0.index t 0 * 512 + 1 * i.val = t.val * 512 + i.val; rw [(hi t).1]; omega
  | ⟨1, _⟩ => show win0_0.index t 1 * 1024 + 1 * k.val = k.val; rw [(hi t).2]; omega

/-- Window 1's block at a point is the whole gain. -/
theorem read1_apply (X : main_arg1.ty.shape.Idx → EReal) (t : Fin cfg0.N) (k : Fin 1024) :
    ((cfg0.win 1).blk t).view.read (Elt Ideal) X (ix2 (0 : Fin 1) k) = X (ix2 (0 : Fin 1) k) := by
  have hi : ∀ t : Fin cfg0.N, win0_1.index t 0 = 0 ∧ win0_1.index t 1 = 0 := by decide +kernel
  rw [View.read_apply]
  refine congrArg X (funext fun b => Fin.ext ?_)
  match b with
  | ⟨0, _⟩ => show win0_1.index t 0 * 1 + 1 * 0 = 0; rw [(hi t).1]
  | ⟨1, _⟩ => show win0_1.index t 1 * 1024 + 1 * k.val = k.val; rw [(hi t).2]; omega

/-- Window 2's block at a point is every block of the first weight. -/
theorem read2_apply (X : main_v3.ty.shape.Idx → EReal) (t : Fin cfg0.N) (b : Fin 8) (k : Fin 1024) (j : Fin 512) :
    ((cfg0.win 2).blk t).view.read (Elt Ideal) X (ix3 b k j) = X (ix3 b k j) := by
  have hi : ∀ t : Fin cfg0.N, win0_2.index t 0 = 0 ∧ win0_2.index t 1 = 0 ∧ win0_2.index t 2 = 0 := by decide +kernel
  rw [View.read_apply]
  refine congrArg X (funext fun a => Fin.ext ?_)
  match a with
  | ⟨0, _⟩ => show win0_2.index t 0 * 8 + 1 * b.val = b.val; rw [(hi t).1]; omega
  | ⟨1, _⟩ => show win0_2.index t 1 * 1024 + 1 * k.val = k.val; rw [(hi t).2.1]; omega
  | ⟨2, _⟩ => show win0_2.index t 2 * 512 + 1 * j.val = j.val; rw [(hi t).2.2]; omega

/-- Window 3's block at a point is every block of the second weight. -/
theorem read3_apply (X : main_v4.ty.shape.Idx → EReal) (t : Fin cfg0.N) (b : Fin 8) (k : Fin 512) (j : Fin 1024) :
    ((cfg0.win 3).blk t).view.read (Elt Ideal) X (ix3 b k j) = X (ix3 b k j) := by
  have hi : ∀ t : Fin cfg0.N, win0_3.index t 0 = 0 ∧ win0_3.index t 1 = 0 ∧ win0_3.index t 2 = 0 := by decide +kernel
  rw [View.read_apply]
  refine congrArg X (funext fun a => Fin.ext ?_)
  match a with
  | ⟨0, _⟩ => show win0_3.index t 0 * 8 + 1 * b.val = b.val; rw [(hi t).1]; omega
  | ⟨1, _⟩ => show win0_3.index t 1 * 512 + 1 * k.val = k.val; rw [(hi t).2.1]; omega
  | ⟨2, _⟩ => show win0_3.index t 2 * 1024 + 1 * j.val = j.val; rw [(hi t).2.2]; omega

/-- Window 4's block at a point: the tile's rows. -/
theorem read4_apply (X : main_v5_0.ty.shape.Idx → EReal) (t : Fin cfg0.N) (i : Fin 512) (k : Fin 1024) :
    ((cfg0.win 4).blk t).view.read (Elt Ideal) X (ix2 i k) = X (ix2 (row t i) k) := by
  have hi : ∀ t : Fin cfg0.N, win0_4.index t 0 = t.val ∧ win0_4.index t 1 = 0 := by decide +kernel
  rw [View.read_apply]
  refine congrArg X (funext fun b => Fin.ext ?_)
  match b with
  | ⟨0, _⟩ => show win0_4.index t 0 * 512 + 1 * i.val = t.val * 512 + i.val; rw [(hi t).1]; omega
  | ⟨1, _⟩ => show win0_4.index t 1 * 1024 + 1 * k.val = k.val; rw [(hi t).2]; omega

/-- Window 5's block at a point: the tile's rows. -/
theorem read5_apply (X : main_v5_1.ty.shape.Idx → EReal) (t : Fin cfg0.N) (i : Fin 512) (k : Fin 1024) :
    ((cfg0.win 5).blk t).view.read (Elt Ideal) X (ix2 i k) = X (ix2 (row t i) k) := by
  have hi : ∀ t : Fin cfg0.N, win0_5.index t 0 = t.val ∧ win0_5.index t 1 = 0 := by decide +kernel
  rw [View.read_apply]
  refine congrArg X (funext fun b => Fin.ext ?_)
  match b with
  | ⟨0, _⟩ => show win0_5.index t 0 * 512 + 1 * i.val = t.val * 512 + i.val; rw [(hi t).1]; omega
  | ⟨1, _⟩ => show win0_5.index t 1 * 1024 + 1 * k.val = k.val; rw [(hi t).2]; omega

/-- Window 6's block at a point: the tile's rows. -/
theorem read6_apply (X : main_v5_2.ty.shape.Idx → EReal) (t : Fin cfg0.N) (i : Fin 512) (n : Fin 4096) :
    ((cfg0.win 6).blk t).view.read (Elt Ideal) X (ix2 i n) = X (ix2 (row t i) n) := by
  have hi : ∀ t : Fin cfg0.N, win0_6.index t 0 = t.val ∧ win0_6.index t 1 = 0 := by decide +kernel
  rw [View.read_apply]
  refine congrArg X (funext fun b => Fin.ext ?_)
  match b with
  | ⟨0, _⟩ => show win0_6.index t 0 * 512 + 1 * i.val = t.val * 512 + i.val; rw [(hi t).1]; omega
  | ⟨1, _⟩ => show win0_6.index t 1 * 4096 + 1 * n.val = n.val; rw [(hi t).2]; omega

variable (t : Fin cfg0.N)

/-- What window 0 stages. -/
theorem iblk0_apply (i : Fin 512) (k : Fin 1024) : iblk m c 0 t (ix2 i k) = argH m c (ix2 (row t i) k) :=
  (read0_apply (V m c main_arg0) t i k).trans (congrFun (V_main_arg0 m c) _)

/-- What window 1 stages. -/
theorem iblk1_apply (k : Fin 1024) : iblk m c 1 t (ix2 (0 : Fin 1) k) = argG m c (ix2 (0 : Fin 1) k) :=
  (read1_apply (V m c main_arg1) t k).trans (congrFun (V_main_arg1 m c) _)

/-- What window 2 stages. -/
theorem iblk2_apply (b : Fin 8) (k : Fin 1024) (j : Fin 512) : iblk m c 2 t (ix3 b k j) = argU m c (ix2 k (col b j)) :=
  (read2_apply (V m c main_v3) t b k j).trans (up_apply m c b k j)

/-- What window 3 stages. -/
theorem iblk3_apply (b : Fin 8) (k : Fin 512) (j : Fin 1024) : iblk m c 3 t (ix3 b k j) = argD m c (ix2 (col b k) j) :=
  (read3_apply (V m c main_v4) t b k j).trans (down_apply m c b k j)

/-- A tile's normalised rows. -/
theorem norm_tile (i : Fin 512) (k : Fin 1024) :
    k0_pay4 (F := Ideal) (iblk m c 0 t) (iblk m c 1 t) (ix2 i k) = normed (argH m c) (argG m c) (row t i) k := by
  refine (norm_apply (iblk m c 0 t) (iblk m c 1 t) i k).trans ?_
  have e : (fun l => iblk m c 0 t (ix2 i l) : Fin 1024 → EReal) = fun l => argH m c (ix2 (row t i) l) := funext fun l => iblk0_apply m c t i l
  exact congrArg₂ (fun a b : EReal => a * b) (congrArg₂ (fun a b : EReal => a * b) (iblk0_apply m c t i k) (congrArg scale e)) (iblk1_apply m c t k)

/-- A tile's hidden features. -/
theorem hid_tile (i : Fin 512) (b : Fin 8) (j : Fin 512) :
    hid (k0_pay4 (F := Ideal) (iblk m c 0 t) (iblk m c 1 t)) (iblk m c 2 t) i b j = hidden (argH m c) (argG m c) (argU m c) (row t i) (col b j) :=
  congrArg (fun s : EReal => max s 0) (Finset.sum_congr rfl fun k _ => congrArg₂ (fun a b : EReal => a * b) (norm_tile m c t i k) (iblk2_apply m c t b k j))

/-- The residual sum's array. -/
theorem result4 (i : Fin 512) (j : Fin 1024) :
    (dats m 0 c).arrAt 4 cfg0.N (ix2 (row t i) j) = summed (argH m c) (argG m c) (argU m c) (argD m c) (row t i) j := by
  refine (read4_apply ((dats m 0 c).arrAt 4 cfg0.N) t i j).symm.trans ?_
  rw [Value.blocks4 m c t (flush0_4 t), Value.flushed4]
  show out0_4 (iblk m c 0 t) (iblk m c 1 t) (iblk m c 2 t) (iblk m c 3 t) (ix2 i j) = _
  rw [out4_eq]
  refine (total_apply _ _ _ _ i j).trans ?_
  unfold summed
  rw [sum_runs 8 512 4096 rfl]
  refine congrArg₂ (fun a b : EReal => a + b) (iblk0_apply m c t i j) (Finset.sum_congr rfl fun b _ => Finset.sum_congr rfl fun k _ => ?_)
  exact congrArg₂ (fun a b : EReal => a * a * b) (hid_tile m c t i b k) (iblk3_apply m c t b k j)

/-- The normalised rows' array. -/
theorem result5 (i : Fin 512) (k : Fin 1024) :
    (dats m 0 c).arrAt 5 cfg0.N (ix2 (row t i) k) = normed (argH m c) (argG m c) (row t i) k := by
  refine (read5_apply ((dats m 0 c).arrAt 5 cfg0.N) t i k).symm.trans ?_
  rw [Value.blocks5 m c t (flush0_5 t), Value.flushed5]
  show out0_5 (iblk m c 0 t) (iblk m c 1 t) (iblk m c 2 t) (iblk m c 3 t) (ix2 i k) = _
  rw [out5_eq]
  exact norm_tile m c t i k

/-- The hidden features' array. -/
theorem result6 (i : Fin 512) (b : Fin 8) (j : Fin 512) :
    (dats m 0 c).arrAt 6 cfg0.N (ix2 (row t i) (col b j)) = hidden (argH m c) (argG m c) (argU m c) (row t i) (col b j) := by
  refine (read6_apply ((dats m 0 c).arrAt 6 cfg0.N) t i (col b j)).symm.trans ?_
  rw [Value.blocks6 m c t (flush0_6 t), Value.flushed6]
  show out0_6 (iblk m c 0 t) (iblk m c 1 t) (iblk m c 2 t) (iblk m c 3 t) (ix2 i (col b j)) = _
  rw [out6_eq, stores_apply]
  exact (relu_hid _ _ i b j).trans (hid_tile m c t i b j)

end Cert.Kernel3Ideal.Fwd

end
-- ==== Proof.SameFwd.lean ====
/-
  The MLP's forward call and the reference's lines: the same three results.
-/
module

public import proofs.«01_k».proof.Defs
public import proofs.«01_k».proof.Proof.FwdRead
public import proofs.«01_k».proof.Proof.RefFwd
public import proofs.«01_k».proof.Proof.Gen.Kernel3Ideal.Value

@[expose] public section

noncomputable section

namespace Cert.Kernel3Ideal.Same

open Idealize.ShloMosaic Idealize.ShloMosaic.TcCoe Idealize.SL.Sem Idealize.ShloMosaic.ValueIdx
open Cert.Mat Cert.Mlp

/-- The reference runs to its end, leaves its arguments as they were, and has no semaphore to leave raised. -/
theorem reference_runs : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

section Results

variable (m : (ℓ : Loc Cert.Kernel3Ideal.nD Cert.Kernel3Ideal.τ Cert.Kernel3Ideal.sig) → Buf (Elt Ideal) ℓ) (c : Dev Cert.Kernel3Ideal.nD)

/-- The residual sums agree. -/
theorem sameSum : Cert.Reference3Ideal.Read.val_main_v18 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
    = (Cert.Kernel3Ideal.Gen.dats m 0 c).arrAt 4 Cert.Kernel3Ideal.cfg0.N := by
  funext i
  obtain ⟨T, k, rfl⟩ : ∃ (T : Fin 8192) (k : Fin 1024), i = ix2 T k := ⟨i 0, i 1, idx2_ext i _ rfl rfl⟩
  obtain ⟨t, i, rfl⟩ := row_eq T
  exact (Cert.Reference3Ideal.Stages.summed_eq _ _ _ _ _ k).trans (Cert.Kernel3Ideal.Fwd.result4 m c t i k).symm

/-- The normalised rows agree. -/
theorem sameNorm : Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
    = (Cert.Kernel3Ideal.Gen.dats m 0 c).arrAt 5 Cert.Kernel3Ideal.cfg0.N := by
  funext i
  obtain ⟨T, k, rfl⟩ : ∃ (T : Fin 8192) (k : Fin 1024), i = ix2 T k := ⟨i 0, i 1, idx2_ext i _ rfl rfl⟩
  obtain ⟨t, i, rfl⟩ := row_eq T
  exact (Cert.Reference3Ideal.Stages.norm_eq _ _ _ k).trans (Cert.Kernel3Ideal.Fwd.result5 m c t i k).symm

/-- The hidden features agree. -/
theorem sameHidden : Cert.Reference3Ideal.Read.val_main_v20 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
    = (Cert.Kernel3Ideal.Gen.dats m 0 c).arrAt 6 Cert.Kernel3Ideal.cfg0.N := by
  funext i
  obtain ⟨T, n, rfl⟩ : ∃ (T : Fin 8192) (k : Fin 4096), i = ix2 T k := ⟨i 0, i 1, idx2_ext i _ rfl rfl⟩
  obtain ⟨t, i, rfl⟩ := row_eq T
  obtain ⟨b, j, rfl⟩ := col_eq n
  exact (Cert.Reference3Ideal.Stages.hidden_eq _ _ _ _ _).trans (Cert.Kernel3Ideal.Fwd.result6 m c t i b j).symm

end Results

/-- The call's three results and the reference's are equal entry by entry, on any arguments. -/
theorem algebraic : Cert.algebraic_Kernel3Ideal_Reference3Ideal := by
  intro m g m' g' hpre hargs
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    Cert.Kernel3Ideal.Value.run_blocks m g, ?_⟩
  refine (θ_run _ _ _).mono (fun r h c => ?_) (Cert.Reference3Ideal.Value.run m' g')
  obtain ⟨e0, e1, e2, e3⟩ := hargs c
  exact ⟨((h c).1.trans (Cert.Reference3Ideal.Read.val_main_v18_eq _ _ _ _)).trans (Eq.trans (by rw [e0, e1, e2, e3]) (sameSum m c)),
    ((h c).2.1.trans (Cert.Reference3Ideal.Read.val_main_v19_eq _ _)).trans (Eq.trans (by rw [e0, e1]) (sameNorm m c)),
    ((h c).2.2.1.trans (Cert.Reference3Ideal.Read.val_main_v20_eq _ _ _)).trans (Eq.trans (by rw [e0, e1, e2]) (sameHidden m c)),
    (h c).2.2.2⟩

end Cert.Kernel3Ideal.Same

end
-- ==== Proof.Down.lean ====
/-
  The weight gradient of the MLP's second product: the call sums the tokens' products four runs at a time in
  a scratch and writes the total with the last run, so each entry is the sum over all 8192 tokens.
-/
module

public import proofs.«01_k».proof.Proof.Mat
public import proofs.«01_k».proof.Proof.Gen.Kernel4Ideal.Value
public import Idealize.ShloMosaic.Lib.Pipeline.ValueKit.Tiles

@[expose] public section

noncomputable section

open scoped BigOperators

namespace Cert.Kernel4Ideal.Down

open Idealize.ShloMosaic Idealize.ShloMosaic.TcCoe Idealize.SL.Sem Idealize.ShloMosaic.ValueIdx
open Cert.Kernel4Ideal Cert.Kernel4Ideal.Gen Cert.Mat

/-- One run's part of an entry: the squared activations times the incoming gradients over the run's tokens. -/
abbrev part (x0 x1 : Vec Ideal S2048x1024 .bf16) (i j : Fin 1024) : EReal :=
  ∑ k : Fin 2048, ((x0 (ix2 k i) : EReal) * x0 (ix2 k i)) * x1 (ix2 k j)

/-- The first run's payload is its part. -/
theorem pay1_apply (x0 x1 : Vec Ideal S2048x1024 .bf16) (i j : Fin 1024) :
    k0_pay1 (F := Ideal) x0 x1 (ix2 i j) = part x0 x1 i j := by
  unfold k0_pay1
  rw [shapeCast_self]
  exact tn_apply dot_S2048x1024_S2048x1024_S1024x1024_0_0_1_1_n_n_wf _ x1 i j

/-- A middle run's payload adds its part to what the scratch held. -/
theorem pay2_apply (acc : Vec Ideal S1024x1024 .f32) (x0 x1 : Vec Ideal S2048x1024 .bf16) (i j : Fin 1024) :
    k0_pay2 (F := Ideal) acc x0 x1 (ix2 i j) = (acc (ix2 i j) : EReal) + part x0 x1 i j := by
  unfold k0_pay2
  rw [shapeCast_self]
  exact congrArg (fun w : EReal => (acc (ix2 i j) : EReal) + w) (tn_apply dot_S2048x1024_S2048x1024_S1024x1024_0_0_1_1_n_n_wf _ x1 i j)

/-- The last run's payload adds its part to what the scratch held. -/
theorem pay3_apply (acc : Vec Ideal S1024x1024 .f32) (x0 x1 : Vec Ideal S2048x1024 .bf16) (i j : Fin 1024) :
    k0_pay3 (F := Ideal) acc x0 x1 (ix2 i j) = (acc (ix2 i j) : EReal) + part x0 x1 i j := by
  unfold k0_pay3
  exact congrArg (fun w : EReal => (acc (ix2 i j) : EReal) + w) (tn_apply dot_S2048x1024_S2048x1024_S1024x1024_0_0_1_1_n_n_wf _ x1 i j)

/-- Offsets zero on both axes. -/
theorem zero2 : (![0, 0] : Fin 2 → Nat) = fun _ => 0 := funext fun a => by fin_cases a <;> rfl

section Cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .bf16) (harg6 : arg6.IsWhole) (arg7 : Memref sig .tc .vmem S1024x1024 .f32) (harg7 : arg7.IsWhole)
  (x0 x1 : Vec Ideal S2048x1024 .bf16) (xs : Vec Ideal S1024x1024 .f32)

/-- A first run leaves its product in the scratch. -/
theorem scratch_first (h0 : cond0_0 i) (h1 : ¬cond0_1 i) (h2 : ¬cond0_2 i) :
    sout0_A_0 (F := Ideal) c i arg3 harg3 arg4 harg4 arg5 harg5 arg6 harg6 arg7 harg7 h0 h1 h2 x0 x1 = k0_pay1 x0 x1 := by
  unfold sout0_A_0
  rw [View.read_writes_eq_canon _ _ _ (scover0_A_0 c i arg3 harg3 arg4 harg4 arg5 harg5 arg6 harg6 arg7 harg7 h0 h1 h2 x0 x1)]
  unfold kernelRun0_A
  dsimp only
  sl_unfold_words
  rw [View.canon_unit_zero zero2]
  simp only [View.readAt_eq_ld, harg3.read_unread, harg4.read_unread, View.ld_unit_zero (S := S2048x1024) zero2]

/-- A middle run adds its product to the scratch. -/
theorem scratch_next (h0 : ¬cond0_0 i) (h1 : cond0_1 i) (h2 : ¬cond0_2 i) :
    sout0_B_0 (F := Ideal) c i arg3 harg3 arg4 harg4 arg5 harg5 arg6 harg6 arg7 harg7 h0 h1 h2 x0 x1 xs = k0_pay2 xs x0 x1 := by
  unfold sout0_B_0
  rw [View.read_writes_eq_canon _ _ _ (scover0_B_0 c i arg3 harg3 arg4 harg4 arg5 harg5 arg6 harg6 arg7 harg7 h0 h1 h2 x0 x1 xs)]
  unfold kernelRun0_B
  dsimp only
  sl_unfold_words
  rw [View.canon_unit_zero zero2]
  simp only [View.readAt_eq_ld, harg3.read_unread, harg4.read_unread, harg7.read_unread, View.ld_unit_zero (S := S2048x1024) zero2,
    View.ld_unit_zero (S := S1024x1024) zero2]

/-- The last run leaves the total in the single-precision output. -/
theorem out_last (h0 : ¬cond0_0 i) (h1 : ¬cond0_1 i) (h2 : cond0_2 i) :
    out0_C_2 (F := Ideal) c i arg3 harg3 arg4 harg4 arg5 harg5 arg6 harg6 arg7 harg7 h0 h1 h2 x0 x1 xs = k0_pay3 xs x0 x1 := by
  unfold out0_C_2
  rw [View.read_writes_eq_canon _ _ _ (cover0_C_2 c i arg3 harg3 arg4 harg4 arg5 harg5 arg6 harg6 arg7 harg7 h0 h1 h2 x0 x1 xs)]
  unfold kernelRun0_C
  dsimp only
  sl_unfold_words
  rw [View.canon_unit_zero zero2]
  simp only [View.readAt_eq_ld, harg3.read_unread, harg4.read_unread, harg7.read_unread, View.ld_unit_zero (S := S2048x1024) zero2,
    View.ld_unit_zero (S := S1024x1024) zero2]

/-- The last run leaves the same total in the half-precision output. -/
theorem half_last (h0 : ¬cond0_0 i) (h1 : ¬cond0_1 i) (h2 : cond0_2 i) :
    out0_C_3 (F := Ideal) c i arg3 harg3 arg4 harg4 arg5 harg5 arg6 harg6 arg7 harg7 h0 h1 h2 x0 x1 xs = k0_pay3 xs x0 x1 := by
  unfold out0_C_3
  rw [View.read_writes_eq_canon _ _ _ (cover0_C_3 c i arg3 harg3 arg4 harg4 arg5 harg5 arg6 harg6 arg7 harg7 h0 h1 h2 x0 x1 xs)]
  unfold kernelRun0_C
  dsimp only
  sl_unfold_words
  rw [View.canon_unit_zero zero2]
  simp only [View.readAt_eq_ld, harg3.read_unread, harg4.read_unread, harg7.read_unread, View.ld_unit_zero (S := S2048x1024) zero2,
    View.ld_unit_zero (S := S1024x1024) zero2]
  rfl

end Cases

variable (m : (ℓ : Loc nD τ sig) → Buf (Elt Ideal) ℓ) (c : Dev nD)

/-- The part of an entry that grid point `n` adds. -/
def term (n : ℕ) (y : S1024x1024.Idx) : EReal :=
  if h : n < cfg0.N then part (iblk m c 0 ⟨n, h⟩) (iblk m c 1 ⟨n, h⟩) (y 0) (y 1) else 0

/-- Every index of a square block is a pair of coordinates. -/
theorem pair_eq (y : S1024x1024.Idx) : ix2 (y 0) (y 1) = y :=
  funext fun a => by match a with | ⟨0, _⟩ => rfl | ⟨1, _⟩ => rfl

/-- The scratch after a run's third point holds the sum of the first three parts. -/
theorem scratch_apply (t : Fin cfg0.N) (ht : t.val % 4 = 2) (y : S1024x1024.Idx) :
    (outsAt0 m c t.val t.isLt).2.2 y = ∑ s ∈ Finset.range 3, term m c (4 * (t.val / 4) + s) y := by
  have hN : cfg0.N = 16 := N_0
  rw [Value.soutsAt0_0_eq m c t]
  have hl := t.isLt
  have key := Pipeline.accAt_add_apply (β := EReal) (fun n h => Value.scAt0_0 m c n h (VS0_0.read (Elt Ideal) VS0_0.junk)) (Value.scAt0_0 m c)
    (fun _ => 0) (term m c) (4 * (t.val / 4)) 2
    (fun h i => by
      have h0 : (4 * (t.val / 4)) % 4 = 0 := by omega
      unfold Value.scAt0_0
      rw [dif_pos h0, dif_neg (by omega), dif_neg (by omega), scratch_first, zero_add]
      unfold term
      rw [dif_pos h, ← pair_eq i]
      exact pay1_apply _ _ _ _)
    (fun n h acc i h1 h2 => by
      unfold Value.scAt0_0
      rw [dif_neg (by omega), dif_pos (by omega), dif_neg (by omega), scratch_next]
      unfold term
      rw [dif_pos h, ← pair_eq i]
      exact pay2_apply _ _ _ _ _)
  have e := key (t.val % 4) (by omega) (by omega) y
  rw [zero_add] at e
  exact e.trans (by rw [ht])

/-- The outputs after a run's last point hold the sum of its four parts. -/
theorem total_apply (t : Fin cfg0.N) (ht : t.val % 4 = 3) (y : S1024x1024.Idx) (hs : t.val - 1 < cfg0.N) :
    k0_pay3 (F := Ideal) (outsAt0 m c (t.val - 1) hs).2.2 (iblk m c 0 t) (iblk m c 1 t) y
      = ∑ s : Fin 4, term m c (4 * (t.val / 4) + s.val) y := by
  have e := scratch_apply m c ⟨t.val - 1, hs⟩ (by show (t.val - 1) % 4 = 2; omega) y
  have hd : (t.val - 1) / 4 = t.val / 4 := by omega
  dsimp only at e
  rw [hd] at e
  have e3 : term m c (4 * (t.val / 4) + 3) y = part (iblk m c 0 t) (iblk m c 1 t) (y 0) (y 1) := by
    have : 4 * (t.val / 4) + 3 = t.val := by omega
    rw [this]
    unfold term
    rw [dif_pos t.isLt]
  rw [Fin.sum_univ_eq_sum_range (fun s => term m c (4 * (t.val / 4) + s) y) 4, Finset.sum_range_succ, ← e, e3, ← pair_eq y]
  exact pay3_apply _ _ _ _ _

/-- Window 0's block at a point: a run's tokens and a quarter of the hidden features. -/
theorem read0_apply (X : main_arg0.ty.shape.Idx → EReal) (t : Fin cfg0.N) (k : Fin 2048) (i : Fin 1024) :
    ((cfg0.win 0).blk t).view.read (Elt Ideal) X (ix2 k i)
      = X (ix2 (⟨t.val % 4 * 2048 + k.val, by omega⟩ : Fin 8192) (⟨t.val / 4 * 1024 + i.val, by have : t.val < 16 := t.isLt; omega⟩ : Fin 4096)) := by
  have hi : ∀ t : Fin cfg0.N, win0_0.index t 0 = t.val % 4 ∧ win0_0.index t 1 = t.val / 4 := by decide +kernel
  rw [View.read_apply]
  refine congrArg X (funext fun b => Fin.ext ?_)
  match b with
  | ⟨0, _⟩ => show win0_0.index t 0 * 2048 + 1 * k.val = t.val % 4 * 2048 + k.val; rw [(hi t).1]; omega
  | ⟨1, _⟩ => show win0_0.index t 1 * 1024 + 1 * i.val = t.val / 4 * 1024 + i.val; rw [(hi t).2]; omega

/-- Window 1's block at a point: a run's tokens and every model feature. -/
theorem read1_apply (X : main_arg1.ty.shape.Idx → EReal) (t : Fin cfg0.N) (k : Fin 2048) (j : Fin 1024) :
    ((cfg0.win 1).blk t).view.read (Elt Ideal) X (ix2 k j) = X (ix2 (⟨t.val % 4 * 2048 + k.val, by omega⟩ : Fin 8192) j) := by
  have hi : ∀ t : Fin cfg0.N, win0_1.index t 0 = t.val % 4 ∧ win0_1.index t 1 = 0 := by decide +kernel
  rw [View.read_apply]
  refine congrArg X (funext fun b => Fin.ext ?_)
  match b with
  | ⟨0, _⟩ => show win0_1.index t 0 * 2048 + 1 * k.val = t.val % 4 * 2048 + k.val; rw [(hi t).1]; omega
  | ⟨1, _⟩ => show win0_1.index t 1 * 1024 + 1 * j.val = j.val; rw [(hi t).2]; omega

/-- Window 2's block at a point: a quarter of the hidden features against every model feature. -/
theorem read2_apply (X : main_v0_0.ty.shape.Idx → EReal) (t : Fin cfg0.N) (i j : Fin 1024) :
    ((cfg0.win 2).blk t).view.read (Elt Ideal) X (ix2 i j)
      = X (ix2 (⟨t.val / 4 * 1024 + i.val, by have : t.val < 16 := t.isLt; omega⟩ : Fin 4096) j) := by
  have hi : ∀ t : Fin cfg0.N, win0_2.index t 0 = t.val / 4 ∧ win0_2.index t 1 = 0 := by decide +kernel
  rw [View.read_apply]
  refine congrArg X (funext fun b => Fin.ext ?_)
  match b with
  | ⟨0, _⟩ => show win0_2.index t 0 * 1024 + 1 * i.val = t.val / 4 * 1024 + i.val; rw [(hi t).1]; omega
  | ⟨1, _⟩ => show win0_2.index t 1 * 1024 + 1 * j.val = j.val; rw [(hi t).2]; omega

/-- Window 3's block at a point: a quarter of the hidden features against every model feature. -/
theorem read3_apply (X : main_v0_1.ty.shape.Idx → EReal) (t : Fin cfg0.N) (i j : Fin 1024) :
    ((cfg0.win 3).blk t).view.read (Elt Ideal) X (ix2 i j)
      = X (ix2 (⟨t.val / 4 * 1024 + i.val, by have : t.val < 16 := t.isLt; omega⟩ : Fin 4096) j) := by
  have hi : ∀ t : Fin cfg0.N, win0_3.index t 0 = t.val / 4 ∧ win0_3.index t 1 = 0 := by decide +kernel
  rw [View.read_apply]
  refine congrArg X (funext fun b => Fin.ext ?_)
  match b with
  | ⟨0, _⟩ => show win0_3.index t 0 * 1024 + 1 * i.val = t.val / 4 * 1024 + i.val; rw [(hi t).1]; omega
  | ⟨1, _⟩ => show win0_3.index t 1 * 1024 + 1 * j.val = j.val; rw [(hi t).2]; omega

/-- The activations the call was given. -/
abbrev acts : main_arg0.ty.shape.Idx → EReal := m ((c.tc : Thread nD τ).loc main_arg0)
/-- The incoming gradients the call was given. -/
abbrev grads : main_arg1.ty.shape.Idx → EReal := m ((c.tc : Thread nD τ).loc main_arg1)

/-- What window 0 stages, from the arguments. -/
theorem iblk0_apply (t : Fin cfg0.N) (k : Fin 2048) (i : Fin 1024) :
    iblk m c 0 t (ix2 k i)
      = acts m c (ix2 (⟨t.val % 4 * 2048 + k.val, by omega⟩ : Fin 8192) (⟨t.val / 4 * 1024 + i.val, by have : t.val < 16 := t.isLt; omega⟩ : Fin 4096)) :=
  (read0_apply (V m c main_arg0) t k i).trans (congrFun (V_main_arg0 m c) _)

/-- What window 1 stages, from the arguments. -/
theorem iblk1_apply (t : Fin cfg0.N) (k : Fin 2048) (j : Fin 1024) :
    iblk m c 1 t (ix2 k j) = grads m c (ix2 (⟨t.val % 4 * 2048 + k.val, by omega⟩ : Fin 8192) j) :=
  (read1_apply (V m c main_arg1) t k j).trans (congrFun (V_main_arg1 m c) _)

/-- The last point of the run of quarter `q`. -/
abbrev lastPt (q : Fin 4) : Fin cfg0.N := ⟨4 * q.val + 3, by rw [show cfg0.N = 16 from N_0]; omega⟩

/-- The four parts of an entry make the sum over all tokens. -/
theorem parts_eq (q : Fin 4) (i j : Fin 1024) :
    ∑ s : Fin 4, term m c (4 * ((lastPt q).val / 4) + s.val) (ix2 i j)
      = ∑ k : Fin 8192, (acts m c (ix2 k (⟨q.val * 1024 + i.val, by omega⟩ : Fin 4096)) * acts m c (ix2 k (⟨q.val * 1024 + i.val, by omega⟩ : Fin 4096)))
          * grads m c (ix2 k j) := by
  rw [sum_runs 4 2048 8192 rfl]
  refine Finset.sum_congr rfl fun s _ => ?_
  have hd : 4 * ((lastPt q).val / 4) + s.val = 4 * q.val + s.val := by show 4 * ((4 * q.val + 3) / 4) + s.val = _; omega
  have hN : cfg0.N = 16 := N_0
  have hm : (4 * q.val + s.val) % 4 = s.val := by omega
  have hq : (4 * q.val + s.val) / 4 = q.val := by omega
  rw [hd]
  unfold term
  rw [dif_pos (by omega)]
  refine Finset.sum_congr rfl fun k _ => ?_
  have e0 := iblk0_apply m c ⟨4 * q.val + s.val, by omega⟩ k i
  have e1 := iblk1_apply m c ⟨4 * q.val + s.val, by omega⟩ k j
  simp only [hm, hq] at e0 e1
  exact congrArg₂ (fun a b : EReal => a * a * b) e0 e1

/-- The single-precision result: each entry is the sum over all tokens. -/
theorem final2_apply (q : Fin 4) (i j : Fin 1024) :
    (dats m 0 c).arrAt 2 cfg0.N (ix2 (⟨q.val * 1024 + i.val, by omega⟩ : Fin 4096) j)
      = ∑ k : Fin 8192, (acts m c (ix2 k (⟨q.val * 1024 + i.val, by omega⟩ : Fin 4096)) * acts m c (ix2 k (⟨q.val * 1024 + i.val, by omega⟩ : Fin 4096)))
          * grads m c (ix2 k j) := by
  have hm : (lastPt q).val % 4 = 3 := by show (4 * q.val + 3) % 4 = 3; omega
  have hf : (cfg0.win 2).flush (lastPt q) = true := (flush0_2 (lastPt q)).mpr hm
  have hr := read2_apply ((dats m 0 c).arrAt 2 cfg0.N) (lastPt q) i j
  have hq : (lastPt q).val / 4 = q.val := by show (4 * q.val + 3) / 4 = _; omega
  simp only [hq] at hr
  refine hr.symm.trans ?_
  rw [Value.final2 m c, ← Value.flushed2_eq m c (lastPt q) hf, Value.flushed2_C m c (lastPt q) (by omega) (by omega) hm, out_last, ← parts_eq]
  exact total_apply m c (lastPt q) hm (ix2 i j) _

/-- The half-precision result holds the same entries. -/
theorem final3_apply (q : Fin 4) (i j : Fin 1024) :
    (dats m 0 c).arrAt 3 cfg0.N (ix2 (⟨q.val * 1024 + i.val, by omega⟩ : Fin 4096) j)
      = ∑ k : Fin 8192, (acts m c (ix2 k (⟨q.val * 1024 + i.val, by omega⟩ : Fin 4096)) * acts m c (ix2 k (⟨q.val * 1024 + i.val, by omega⟩ : Fin 4096)))
          * grads m c (ix2 k j) := by
  have hm : (lastPt q).val % 4 = 3 := by show (4 * q.val + 3) % 4 = 3; omega
  have hf : (cfg0.win 3).flush (lastPt q) = true := (flush0_3 (lastPt q)).mpr hm
  have hr := read3_apply ((dats m 0 c).arrAt 3 cfg0.N) (lastPt q) i j
  have hq : (lastPt q).val / 4 = q.val := by show (4 * q.val + 3) / 4 = _; omega
  simp only [hq] at hr
  refine hr.symm.trans ?_
  rw [Value.final3 m c, ← Value.flushed3_eq m c (lastPt q) hf, Value.flushed3_C m c (lastPt q) (by omega) (by omega) hm, half_last, ← parts_eq]
  exact total_apply m c (lastPt q) hm (ix2 i j) _

end Cert.Kernel4Ideal.Down

end
-- ==== Proof.RefDown.lean ====
/-
  The reference's weight gradient of the MLP's second product, at an element.
-/
module

public import proofs.«01_k».proof.Proof.Mat
public import proofs.«01_k».proof.Proof.Gen.Reference4Ideal.Read

@[expose] public section

noncomputable section

open scoped BigOperators

namespace Cert.Reference4Ideal.Stages

open Idealize.ShloMosaic Idealize.ShloMosaic.TcCoe Idealize.SL.Sem Idealize.ShloMosaic.ValueIdx
open Cert.Reference4Ideal Cert.Reference4Ideal.Gen Cert.Reference4Ideal.Read Cert.Mat

variable (x0 : (⟨S8192x4096, .bf16⟩ : BufTy).Contents (Elt Ideal)) (x1 : (⟨S8192x1024, .bf16⟩ : BufTy).Contents (Elt Ideal))

/-- The gradient at an element: the squared activations times the incoming gradients, over all tokens. -/
theorem grad_eq (n : Fin 4096) (j : Fin 1024) :
    val_main_v6 (F := Ideal) x0 x1 (ix2 n j) = ∑ k : Fin 8192, ((x0 (ix2 k n) : EReal) * x0 (ix2 k n)) * x1 (ix2 k j) := by
  refine (val_main_v6_apply x0 x1 _).trans ((val_main_v5_apply x0 x1 _).trans (Finset.sum_congr rfl fun k _ => ?_))
  rw [mul_comm]
  exact congrArg₂ (fun a b : EReal => a * a * b) (congrArg x0 (idx2_ext _ _ rfl rfl)) (congrArg x1 (idx2_ext _ _ rfl rfl))

end Cert.Reference4Ideal.Stages

end
-- ==== Proof.SameDown.lean ====
/-
  The second weight's gradient and the reference's lines: the same two results.
-/
module

public import proofs.«01_k».proof.Defs
public import proofs.«01_k».proof.Proof.Down
public import proofs.«01_k».proof.Proof.RefDown
public import proofs.«01_k».proof.Proof.Gen.Kernel4Ideal.Value

@[expose] public section

noncomputable section

namespace Cert.Kernel4Ideal.Same

open Idealize.ShloMosaic Idealize.ShloMosaic.TcCoe Idealize.SL.Sem Idealize.ShloMosaic.ValueIdx
open Cert.Mat

/-- The reference runs to its end, leaves its arguments as they were, and has no semaphore to leave raised. -/
theorem reference_runs : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

section Results

variable (m : (ℓ : Loc Cert.Kernel4Ideal.nD Cert.Kernel4Ideal.τ Cert.Kernel4Ideal.sig) → Buf (Elt Ideal) ℓ) (c : Dev Cert.Kernel4Ideal.nD)

/-- The gradients agree. -/
theorem sameGrad : Cert.Reference4Ideal.Read.val_main_v6 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    = (Cert.Kernel4Ideal.Gen.dats m 0 c).arrAt 2 Cert.Kernel4Ideal.cfg0.N := by
  funext i
  obtain ⟨n, j, rfl⟩ : ∃ (n : Fin 4096) (j : Fin 1024), i = ix2 n j := ⟨i 0, i 1, idx2_ext i _ rfl rfl⟩
  obtain ⟨q, a, rfl⟩ : ∃ (q : Fin 4) (a : Fin 1024), n = ⟨q.val * 1024 + a.val, by omega⟩ :=
    ⟨⟨n.val / 1024, by omega⟩, ⟨n.val % 1024, by omega⟩, Fin.ext (by show n.val = n.val / 1024 * 1024 + n.val % 1024; omega)⟩
  exact (Cert.Reference4Ideal.Stages.grad_eq _ _ _ j).trans (Cert.Kernel4Ideal.Down.final2_apply m c q a j).symm

/-- The narrow gradients agree. -/
theorem sameLow : Cert.Reference4Ideal.Read.val_main_v7 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    = (Cert.Kernel4Ideal.Gen.dats m 0 c).arrAt 3 Cert.Kernel4Ideal.cfg0.N := by
  funext i
  obtain ⟨n, j, rfl⟩ : ∃ (n : Fin 4096) (j : Fin 1024), i = ix2 n j := ⟨i 0, i 1, idx2_ext i _ rfl rfl⟩
  obtain ⟨q, a, rfl⟩ : ∃ (q : Fin 4) (a : Fin 1024), n = ⟨q.val * 1024 + a.val, by omega⟩ :=
    ⟨⟨n.val / 1024, by omega⟩, ⟨n.val % 1024, by omega⟩, Fin.ext (by show n.val = n.val / 1024 * 1024 + n.val % 1024; omega)⟩
  exact (Cert.Reference4Ideal.Stages.grad_eq _ _ _ j).trans (Cert.Kernel4Ideal.Down.final3_apply m c q a j).symm

end Results

/-- The call's two results and the reference's are equal entry by entry, on any arguments. -/
theorem algebraic : Cert.algebraic_Kernel4Ideal_Reference4Ideal := by
  intro m g m' g' hpre hargs
  refine ⟨fun c => (Cert.Kernel4Ideal.Gen.dats m 0 c).arrAt 2 Cert.Kernel4Ideal.cfg0.N,
    fun c => (Cert.Kernel4Ideal.Gen.dats m 0 c).arrAt 3 Cert.Kernel4Ideal.cfg0.N,
    Cert.Kernel4Ideal.Value.run_blocks m g, ?_⟩
  refine (θ_run _ _ _).mono (fun r h c => ?_) (Cert.Reference4Ideal.Value.run m' g')
  obtain ⟨e0, e1⟩ := hargs c
  exact ⟨((h c).1.trans (Cert.Reference4Ideal.Read.val_main_v6_eq _ _)).trans (Eq.trans (by rw [e0, e1]) (sameGrad m c)),
    ((h c).2.1.trans (Cert.Reference4Ideal.Read.val_main_v7_eq _ _)).trans (Eq.trans (by rw [e0, e1]) (sameLow m c)),
    (h c).2.2⟩

end Cert.Kernel4Ideal.Same

end
-- ==== Proof.Up.lean ====
/-
  The gradient of the MLP's first weight: for each pair of blocks of hidden features the call sums four runs of tokens in
  a scratch, and writes the total to the two blocks, so that each entry is the sum over all 8192 tokens.
-/
module

public import proofs.«01_k».proof.Proof.Mat
public import proofs.«01_k».proof.Proof.Gen.Kernel5Ideal.Value
public import Idealize.ShloMosaic.Lib.Pipeline.ValueKit.Tiles

@[expose] public section

noncomputable section

open scoped BigOperators

namespace Cert.Kernel5Ideal.Up

open Idealize.ShloMosaic Idealize.ShloMosaic.TcCoe Idealize.SL.Sem Idealize.ShloMosaic.ValueIdx
open Cert.Kernel5Ideal Cert.Kernel5Ideal.Gen Cert.Mat

/-- One run's part of an entry: the normalised rows times the hidden gradients over the run's tokens. -/
abbrev part (x0 x1 : Vec Ideal S2048x1024 .bf16) (i j : Fin 1024) : EReal :=
  ∑ k : Fin 2048, (x0 (ix2 k i) : EReal) * x1 (ix2 k j)

/-- The first run's payload is its part. -/
theorem pay1_apply (x0 x1 : Vec Ideal S2048x1024 .bf16) (i j : Fin 1024) :
    k0_pay1 (F := Ideal) x0 x1 (ix2 i j) = part x0 x1 i j := by
  unfold k0_pay1
  rw [shapeCast_self]
  exact tn_apply dot_S2048x1024_S2048x1024_S1024x1024_0_0_1_1_n_n_wf x0 x1 i j

/-- A middle run's payload adds its part to what the scratch held. -/
theorem pay2_apply (acc : Vec Ideal S1024x1024 .f32) (x0 x1 : Vec Ideal S2048x1024 .bf16) (i j : Fin 1024) :
    k0_pay2 (F := Ideal) acc x0 x1 (ix2 i j) = (acc (ix2 i j) : EReal) + part x0 x1 i j := by
  unfold k0_pay2
  rw [shapeCast_self]
  exact congrArg (fun w : EReal => (acc (ix2 i j) : EReal) + w) (tn_apply dot_S2048x1024_S2048x1024_S1024x1024_0_0_1_1_n_n_wf x0 x1 i j)

/-- The last run's payload adds its part to what the scratch held. -/
theorem pay3_apply (acc : Vec Ideal S1024x1024 .f32) (x0 x1 : Vec Ideal S2048x1024 .bf16) (i j : Fin 1024) :
    k0_pay3 (F := Ideal) acc x0 x1 (ix2 i j) = (acc (ix2 i j) : EReal) + part x0 x1 i j := by
  unfold k0_pay3
  exact congrArg (fun w : EReal => (acc (ix2 i j) : EReal) + w) (tn_apply dot_S2048x1024_S2048x1024_S1024x1024_0_0_1_1_n_n_wf x0 x1 i j)

/-- The stores of an output: the two blocks of 512 hidden features. -/
abbrev halves {e : EltTy} (a b : S1x1024x512.Idx → Elt Ideal e) : List (View.Piece (Elt Ideal) S2x1024x512 e) :=
  [⟨Rect.unit (s := S2x1024x512) ![1, 0, 0] S1x1024x512.size inb_S2x1024x512_S1x1024x512_1_0_0, b⟩,
    ⟨Rect.unit (s := S2x1024x512) ![0, 0, 0] S1x1024x512.size inb_S2x1024x512_S1x1024x512_0_0_0, a⟩]

/-- The stores at an element, where the two blocks are the two halves of one array's columns. -/
theorem halves_apply {e : EltTy} (a b : S1x1024x512.Idx → Elt Ideal e) (f : Fin 2 → Fin 1024 → Fin 512 → Elt Ideal e)
    (ha : ∀ i j, a (ix3 (0 : Fin 1) i j) = f 0 i j) (hb : ∀ i j, b (ix3 (0 : Fin 1) i j) = f 1 i j) (s : Fin 2) (i : Fin 1024) (j : Fin 512) :
    View.canon (halves a b) (ix3 s i j) = f s i j := by
  have tile : ∀ (s' : Fin 2) (g : S1x1024x512.Idx → Elt Ideal e) (hg : ∀ i j, g (ix3 (0 : Fin 1) i j) = f s' i j),
      View.TileAt (Val := Elt Ideal) (S := S2x1024x512) (e := e) (ix3 s i j) ![s'.val, 0, 0] S1x1024x512.size g (f s i j) := by
    intro s' g hg x hx
    have x0 : (x 0).val < 1 := (x 0).isLt
    have e0 : s.val = s'.val + (x 0).val := hx 0
    have e1 : i.val = 0 + (x 1).val := hx 1
    have e2 : j.val = 0 + (x 2).val := hx 2
    have hs : s' = s := Fin.ext (by omega)
    subst hs
    refine (congrArg g (funext fun a => Fin.ext ?_)).trans (hg i j)
    match a with
    | ⟨0, _⟩ => show (x 0).val = 0; omega
    | ⟨1, _⟩ => show (x 1).val = i.val; omega
    | ⟨2, _⟩ => show (x 2).val = j.val; omega
  refine View.canon_eq_of_allAt _ _ _ (View.cover_of_tiled_head _ _ _ (by rfl) _) ?_
  refine View.allAt_cons_unit _ _ _ _ _ (tile 1 _ hb) ?_
  refine View.allAt_cons_unit _ _ _ _ _ (tile 0 _ ha) ?_
  exact View.allAt_nil _ _

/-- A block of the total at an element. -/
theorem block_apply (v : FVec Ideal S1024x1024 .f32) (off : Nat) (hoff : off + 512 ≤ 1024) (hs : S1024x1024.Slices ![0, off] S1024x512) (i : Fin 1024) (j : Fin 512) :
    shapeCast S1x1024x512 (extractStridedSlice S1024x512 ![0, off] v hs) shapeCasts_S1024x512_S1x1024x512 (ix3 (0 : Fin 1) i j)
      = v (ix2 i (⟨off + j.val, by omega⟩ : Fin 1024)) := by
  refine (shapeCast_apply _ _ _ (ix2 i j) (by rw [Shape.rowMajor_val_three, Shape.rowMajor_val_two]; show i.val * 512 + j.val = (0 * 1024 + i.val) * 512 + j.val; omega)).trans ?_
  exact congrArg v (funext fun a => Fin.ext (by match a with | ⟨0, _⟩ => show 0 + i.val = i.val; omega | ⟨1, _⟩ => rfl))

/-- Offsets zero on both axes. -/
theorem zero2 : (![0, 0] : Fin 2 → Nat) = fun _ => 0 := funext fun a => by fin_cases a <;> rfl

section Cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S2x1024x512 .f32) (harg5 : arg5.IsWhole)
  (arg6 : Memref sig .tc .vmem S2x1024x512 .bf16) (harg6 : arg6.IsWhole) (arg7 : Memref sig .tc .vmem S1024x1024 .f32) (harg7 : arg7.IsWhole)
  (x0 x1 : Vec Ideal S2048x1024 .bf16) (xs : Vec Ideal S1024x1024 .f32)

/-- A first run leaves its product in the scratch. -/
theorem scratch_first (h0 : cond0_0 i) (h1 : ¬cond0_1 i) (h2 : ¬cond0_2 i) :
    sout0_A_0 (F := Ideal) c i arg3 harg3 arg4 harg4 arg5 harg5 arg6 harg6 arg7 harg7 h0 h1 h2 x0 x1 = k0_pay1 x0 x1 := by
  unfold sout0_A_0
  rw [View.read_writes_eq_canon _ _ _ (scover0_A_0 c i arg3 harg3 arg4 harg4 arg5 harg5 arg6 harg6 arg7 harg7 h0 h1 h2 x0 x1)]
  unfold kernelRun0_A
  dsimp only
  sl_unfold_words
  rw [View.canon_unit_zero zero2]
  simp only [View.readAt_eq_ld, harg3.read_unread, harg4.read_unread, View.ld_unit_zero (S := S2048x1024) zero2]

/-- A middle run adds its product to the scratch. -/
theorem scratch_next (h0 : ¬cond0_0 i) (h1 : cond0_1 i) (h2 : ¬cond0_2 i) :
    sout0_B_0 (F := Ideal) c i arg3 harg3 arg4 harg4 arg5 harg5 arg6 harg6 arg7 harg7 h0 h1 h2 x0 x1 xs = k0_pay2 xs x0 x1 := by
  unfold sout0_B_0
  rw [View.read_writes_eq_canon _ _ _ (scover0_B_0 c i arg3 harg3 arg4 harg4 arg5 harg5 arg6 harg6 arg7 harg7 h0 h1 h2 x0 x1 xs)]
  unfold kernelRun0_B
  dsimp only
  sl_unfold_words
  rw [View.canon_unit_zero zero2]
  simp only [View.readAt_eq_ld, harg3.read_unread, harg4.read_unread, harg7.read_unread, View.ld_unit_zero (S := S2048x1024) zero2,
    View.ld_unit_zero (S := S1024x1024) zero2]

/-- The last run leaves the total in the two blocks of the single-precision output. -/
theorem out_last (h0 : ¬cond0_0 i) (h1 : ¬cond0_1 i) (h2 : cond0_2 i) :
    out0_C_2 (F := Ideal) c i arg3 harg3 arg4 harg4 arg5 harg5 arg6 harg6 arg7 harg7 h0 h1 h2 x0 x1 xs
      = View.canon (halves (k0_pay4 xs x0 x1) (k0_pay6 xs x0 x1)) := by
  unfold out0_C_2
  rw [View.read_writes_eq_canon _ _ _ (cover0_C_2 c i arg3 harg3 arg4 harg4 arg5 harg5 arg6 harg6 arg7 harg7 h0 h1 h2 x0 x1 xs)]
  unfold kernelRun0_C
  dsimp only
  sl_unfold_words
  simp only [View.readAt_eq_ld, harg3.read_unread, harg4.read_unread, harg7.read_unread, View.ld_unit_zero (S := S2048x1024) zero2,
    View.ld_unit_zero (S := S1024x1024) zero2]

/-- The last run leaves the same total in the two blocks of the half-precision output. -/
theorem half_last (h0 : ¬cond0_0 i) (h1 : ¬cond0_1 i) (h2 : cond0_2 i) :
    out0_C_3 (F := Ideal) c i arg3 harg3 arg4 harg4 arg5 harg5 arg6 harg6 arg7 harg7 h0 h1 h2 x0 x1 xs
      = View.canon (halves (k0_pay5 xs x0 x1) (k0_pay7 xs x0 x1)) := by
  unfold out0_C_3
  rw [View.read_writes_eq_canon _ _ _ (cover0_C_3 c i arg3 harg3 arg4 harg4 arg5 harg5 arg6 harg6 arg7 harg7 h0 h1 h2 x0 x1 xs)]
  unfold kernelRun0_C
  dsimp only
  sl_unfold_words
  simp only [View.readAt_eq_ld, harg3.read_unread, harg4.read_unread, harg7.read_unread, View.ld_unit_zero (S := S2048x1024) zero2,
    View.ld_unit_zero (S := S1024x1024) zero2]

end Cases

variable (m : (ℓ : Loc nD τ sig) → Buf (Elt Ideal) ℓ) (c : Dev nD)

/-- The part of an entry that grid point `n` adds. -/
def term (n : ℕ) (y : S1024x1024.Idx) : EReal :=
  if h : n < cfg0.N then part (iblk m c 0 ⟨n, h⟩) (iblk m c 1 ⟨n, h⟩) (y 0) (y 1) else 0

/-- Every index of a square block is a pair of coordinates. -/
theorem pair_eq (y : S1024x1024.Idx) : ix2 (y 0) (y 1) = y :=
  funext fun a => by match a with | ⟨0, _⟩ => rfl | ⟨1, _⟩ => rfl

/-- The scratch after a run's third point holds the sum of the first three parts. -/
theorem scratch_apply (t : Fin cfg0.N) (ht : t.val % 4 = 2) (y : S1024x1024.Idx) :
    (outsAt0 m c t.val t.isLt).2.2 y = ∑ s ∈ Finset.range 3, term m c (4 * (t.val / 4) + s) y := by
  have hN : cfg0.N = 16 := N_0
  rw [Value.soutsAt0_0_eq m c t]
  have hl := t.isLt
  have key := Pipeline.accAt_add_apply (β := EReal) (fun n h => Value.scAt0_0 m c n h (VS0_0.read (Elt Ideal) VS0_0.junk)) (Value.scAt0_0 m c)
    (fun _ => 0) (term m c) (4 * (t.val / 4)) 2
    (fun h i => by
      have h0 : (4 * (t.val / 4)) % 4 = 0 := by omega
      unfold Value.scAt0_0
      rw [dif_pos h0, dif_neg (by omega), dif_neg (by omega), scratch_first, zero_add]
      unfold term
      rw [dif_pos h, ← pair_eq i]
      exact pay1_apply _ _ _ _)
    (fun n h acc i h1 h2 => by
      unfold Value.scAt0_0
      rw [dif_neg (by omega), dif_pos (by omega), dif_neg (by omega), scratch_next]
      unfold term
      rw [dif_pos h, ← pair_eq i]
      exact pay2_apply _ _ _ _ _)
  have e := key (t.val % 4) (by omega) (by omega) y
  rw [zero_add] at e
  exact e.trans (by rw [ht])

/-- The outputs after a run's last point hold the sum of its four parts. -/
theorem total_apply (t : Fin cfg0.N) (ht : t.val % 4 = 3) (y : S1024x1024.Idx) (hs : t.val - 1 < cfg0.N) :
    k0_pay3 (F := Ideal) (outsAt0 m c (t.val - 1) hs).2.2 (iblk m c 0 t) (iblk m c 1 t) y
      = ∑ s : Fin 4, term m c (4 * (t.val / 4) + s.val) y := by
  have e := scratch_apply m c ⟨t.val - 1, hs⟩ (by show (t.val - 1) % 4 = 2; omega) y
  have hd : (t.val - 1) / 4 = t.val / 4 := by omega
  dsimp only at e
  rw [hd] at e
  have e3 : term m c (4 * (t.val / 4) + 3) y = part (iblk m c 0 t) (iblk m c 1 t) (y 0) (y 1) := by
    have : 4 * (t.val / 4) + 3 = t.val := by omega
    rw [this]
    unfold term
    rw [dif_pos t.isLt]
  rw [Fin.sum_univ_eq_sum_range (fun s => term m c (4 * (t.val / 4) + s) y) 4, Finset.sum_range_succ, ← e, e3, ← pair_eq y]
  exact pay3_apply _ _ _ _ _

/-- Window 0's block at a point: a run's tokens and every model feature. -/
theorem read0_apply (X : main_arg0.ty.shape.Idx → EReal) (t : Fin cfg0.N) (k : Fin 2048) (i : Fin 1024) :
    ((cfg0.win 0).blk t).view.read (Elt Ideal) X (ix2 k i) = X (ix2 (⟨t.val % 4 * 2048 + k.val, by omega⟩ : Fin 8192) i) := by
  have hi : ∀ t : Fin cfg0.N, win0_0.index t 0 = t.val % 4 ∧ win0_0.index t 1 = 0 := by decide +kernel
  rw [View.read_apply]
  refine congrArg X (funext fun b => Fin.ext ?_)
  match b with
  | ⟨0, _⟩ => show win0_0.index t 0 * 2048 + 1 * k.val = t.val % 4 * 2048 + k.val; rw [(hi t).1]; omega
  | ⟨1, _⟩ => show win0_0.index t 1 * 1024 + 1 * i.val = i.val; rw [(hi t).2]; omega

/-- Window 1's block at a point: a run's tokens and a quarter of the hidden features. -/
theorem read1_apply (X : main_arg1.ty.shape.Idx → EReal) (t : Fin cfg0.N) (k : Fin 2048) (j : Fin 1024) :
    ((cfg0.win 1).blk t).view.read (Elt Ideal) X (ix2 k j)
      = X (ix2 (⟨t.val % 4 * 2048 + k.val, by omega⟩ : Fin 8192) (⟨t.val / 4 * 1024 + j.val, by have : t.val < 16 := t.isLt; omega⟩ : Fin 4096)) := by
  have hi : ∀ t : Fin cfg0.N, win0_1.index t 0 = t.val % 4 ∧ win0_1.index t 1 = t.val / 4 := by decide +kernel
  rw [View.read_apply]
  refine congrArg X (funext fun b => Fin.ext ?_)
  match b with
  | ⟨0, _⟩ => show win0_1.index t 0 * 2048 + 1 * k.val = t.val % 4 * 2048 + k.val; rw [(hi t).1]; omega
  | ⟨1, _⟩ => show win0_1.index t 1 * 1024 + 1 * j.val = t.val / 4 * 1024 + j.val; rw [(hi t).2]; omega

/-- Window 2's block at a point: two blocks of hidden features. -/
theorem read2_apply (X : main_v0_0.ty.shape.Idx → EReal) (t : Fin cfg0.N) (s : Fin 2) (i : Fin 1024) (j : Fin 512) :
    ((cfg0.win 2).blk t).view.read (Elt Ideal) X (ix3 s i j)
      = X (ix3 (⟨t.val / 4 * 2 + s.val, by have : t.val < 16 := t.isLt; omega⟩ : Fin 8) i j) := by
  have hi : ∀ t : Fin cfg0.N, win0_2.index t 0 = t.val / 4 ∧ win0_2.index t 1 = 0 ∧ win0_2.index t 2 = 0 := by decide +kernel
  rw [View.read_apply]
  refine congrArg X (funext fun b => Fin.ext ?_)
  match b with
  | ⟨0, _⟩ => show win0_2.index t 0 * 2 + 1 * s.val = t.val / 4 * 2 + s.val; rw [(hi t).1]; omega
  | ⟨1, _⟩ => show win0_2.index t 1 * 1024 + 1 * i.val = i.val; rw [(hi t).2.1]; omega
  | ⟨2, _⟩ => show win0_2.index t 2 * 512 + 1 * j.val = j.val; rw [(hi t).2.2]; omega

/-- Window 3's block at a point: two blocks of hidden features. -/
theorem read3_apply (X : main_v0_1.ty.shape.Idx → EReal) (t : Fin cfg0.N) (s : Fin 2) (i : Fin 1024) (j : Fin 512) :
    ((cfg0.win 3).blk t).view.read (Elt Ideal) X (ix3 s i j)
      = X (ix3 (⟨t.val / 4 * 2 + s.val, by have : t.val < 16 := t.isLt; omega⟩ : Fin 8) i j) := by
  have hi : ∀ t : Fin cfg0.N, win0_3.index t 0 = t.val / 4 ∧ win0_3.index t 1 = 0 ∧ win0_3.index t 2 = 0 := by decide +kernel
  rw [View.read_apply]
  refine congrArg X (funext fun b => Fin.ext ?_)
  match b with
  | ⟨0, _⟩ => show win0_3.index t 0 * 2 + 1 * s.val = t.val / 4 * 2 + s.val; rw [(hi t).1]; omega
  | ⟨1, _⟩ => show win0_3.index t 1 * 1024 + 1 * i.val = i.val; rw [(hi t).2.1]; omega
  | ⟨2, _⟩ => show win0_3.index t 2 * 512 + 1 * j.val = j.val; rw [(hi t).2.2]; omega

/-- The normalised rows the call was given. -/
abbrev rows : main_arg0.ty.shape.Idx → EReal := m ((c.tc : Thread nD τ).loc main_arg0)
/-- The hidden gradients the call was given. -/
abbrev grads : main_arg1.ty.shape.Idx → EReal := m ((c.tc : Thread nD τ).loc main_arg1)

/-- What window 0 stages, from the arguments. -/
theorem iblk0_apply (t : Fin cfg0.N) (k : Fin 2048) (i : Fin 1024) :
    iblk m c 0 t (ix2 k i) = rows m c (ix2 (⟨t.val % 4 * 2048 + k.val, by omega⟩ : Fin 8192) i) :=
  (read0_apply (V m c main_arg0) t k i).trans (congrFun (V_main_arg0 m c) _)

/-- What window 1 stages, from the arguments. -/
theorem iblk1_apply (t : Fin cfg0.N) (k : Fin 2048) (j : Fin 1024) :
    iblk m c 1 t (ix2 k j)
      = grads m c (ix2 (⟨t.val % 4 * 2048 + k.val, by omega⟩ : Fin 8192) (⟨t.val / 4 * 1024 + j.val, by have : t.val < 16 := t.isLt; omega⟩ : Fin 4096)) :=
  (read1_apply (V m c main_arg1) t k j).trans (congrFun (V_main_arg1 m c) _)

/-- The last point of the run of quarter `q`. -/
abbrev lastPt (q : Fin 4) : Fin cfg0.N := ⟨4 * q.val + 3, by rw [show cfg0.N = 16 from N_0]; omega⟩

/-- The four parts of an entry make the sum over all tokens. -/
theorem parts_eq (q : Fin 4) (i j : Fin 1024) :
    ∑ s : Fin 4, term m c (4 * ((lastPt q).val / 4) + s.val) (ix2 i j)
      = ∑ k : Fin 8192, rows m c (ix2 k i) * grads m c (ix2 k (⟨q.val * 1024 + j.val, by omega⟩ : Fin 4096)) := by
  rw [sum_runs 4 2048 8192 rfl]
  refine Finset.sum_congr rfl fun s _ => ?_
  have hd : 4 * ((lastPt q).val / 4) + s.val = 4 * q.val + s.val := by show 4 * ((4 * q.val + 3) / 4) + s.val = _; omega
  have hN : cfg0.N = 16 := N_0
  have hm : (4 * q.val + s.val) % 4 = s.val := by omega
  have hq : (4 * q.val + s.val) / 4 = q.val := by omega
  rw [hd]
  unfold term
  rw [dif_pos (by omega)]
  refine Finset.sum_congr rfl fun k _ => ?_
  have e0 := iblk0_apply m c ⟨4 * q.val + s.val, by omega⟩ k i
  have e1 := iblk1_apply m c ⟨4 * q.val + s.val, by omega⟩ k j
  simp only [hm, hq] at e0 e1
  exact congrArg₂ (fun a b : EReal => a * b) e0 e1

/-- The sum over all tokens that a block's entry holds. -/
abbrev sums (q : Fin 4) (s : Fin 2) (i : Fin 1024) (j : Fin 512) : EReal :=
  ∑ k : Fin 8192, rows m c (ix2 k i) * grads m c (ix2 k (⟨(q.val * 2 + s.val) * 512 + j.val, by omega⟩ : Fin 4096))

/-- The total at the last point, in block `s`. -/
theorem block_total (q : Fin 4) (s : Fin 2) (off : Nat) (hoff : off = s.val * 512) (i : Fin 1024) (j : Fin 512) (hs : (lastPt q).val - 1 < cfg0.N) :
    k0_pay3 (F := Ideal) (outsAt0 m c ((lastPt q).val - 1) hs).2.2 (iblk m c 0 (lastPt q)) (iblk m c 1 (lastPt q)) (ix2 i (⟨off + j.val, by omega⟩ : Fin 1024))
      = sums m c q s i j := by
  refine (total_apply m c (lastPt q) (by show (4 * q.val + 3) % 4 = 3; omega) _ hs).trans ((parts_eq m c q i _).trans ?_)
  refine Finset.sum_congr rfl fun k _ => congrArg (fun n : Fin 4096 => rows m c (ix2 k i) * grads m c (ix2 k n)) (Fin.ext ?_)
  show q.val * 1024 + (off + j.val) = (q.val * 2 + s.val) * 512 + j.val
  omega

/-- The single-precision result: each entry is the sum over all tokens. -/
theorem final2_apply (q : Fin 4) (s : Fin 2) (i : Fin 1024) (j : Fin 512) :
    (dats m 0 c).arrAt 2 cfg0.N (ix3 (⟨q.val * 2 + s.val, by omega⟩ : Fin 8) i j) = sums m c q s i j := by
  have hm : (lastPt q).val % 4 = 3 := by show (4 * q.val + 3) % 4 = 3; omega
  have hf : (cfg0.win 2).flush (lastPt q) = true := (flush0_2 (lastPt q)).mpr hm
  have hr := read2_apply ((dats m 0 c).arrAt 2 cfg0.N) (lastPt q) s i j
  have hq : (lastPt q).val / 4 = q.val := by show (4 * q.val + 3) / 4 = _; omega
  simp only [hq] at hr
  refine hr.symm.trans ?_
  rw [Value.final2 m c, ← Value.flushed2_eq m c (lastPt q) hf, Value.flushed2_C m c (lastPt q) (by omega) (by omega) hm, out_last]
  refine halves_apply (e := .f32) _ _ (sums m c q) (fun i j => ?_) (fun i j => ?_) s i j
  · exact (block_apply _ 0 (by omega) slices_S1024x1024_o0_0_S1024x512 i j).trans (block_total m c q 0 0 rfl i j _)
  · exact (block_apply _ 512 (by omega) slices_S1024x1024_o0_512_S1024x512 i j).trans (block_total m c q 1 512 rfl i j _)

/-- The half-precision result holds the same entries. -/
theorem final3_apply (q : Fin 4) (s : Fin 2) (i : Fin 1024) (j : Fin 512) :
    (dats m 0 c).arrAt 3 cfg0.N (ix3 (⟨q.val * 2 + s.val, by omega⟩ : Fin 8) i j) = sums m c q s i j := by
  have hm : (lastPt q).val % 4 = 3 := by show (4 * q.val + 3) % 4 = 3; omega
  have hf : (cfg0.win 3).flush (lastPt q) = true := (flush0_3 (lastPt q)).mpr hm
  have hr := read3_apply ((dats m 0 c).arrAt 3 cfg0.N) (lastPt q) s i j
  have hq : (lastPt q).val / 4 = q.val := by show (4 * q.val + 3) / 4 = _; omega
  simp only [hq] at hr
  refine hr.symm.trans ?_
  rw [Value.final3 m c, ← Value.flushed3_eq m c (lastPt q) hf, Value.flushed3_C m c (lastPt q) (by omega) (by omega) hm, half_last]
  refine halves_apply (e := .bf16) _ _ (sums m c q) (fun i j => ?_) (fun i j => ?_) s i j
  · exact (block_apply _ 0 (by omega) slices_S1024x1024_o0_0_S1024x512 i j).trans (block_total m c q 0 0 rfl i j _)
  · exact (block_apply _ 512 (by omega) slices_S1024x1024_o0_512_S1024x512 i j).trans (block_total m c q 1 512 rfl i j _)

end Cert.Kernel5Ideal.Up

end
-- ==== Proof.RefUp.lean ====
/-
  The reference's gradient of the MLP's first weight, in blocks of 512 hidden features, at an element.
-/
module

public import proofs.«01_k».proof.Proof.Mat
public import proofs.«01_k».proof.Proof.Gen.Reference5Ideal.Read

@[expose] public section

noncomputable section

open scoped BigOperators

namespace Cert.Reference5Ideal.Stages

open Idealize.ShloMosaic Idealize.ShloMosaic.TcCoe Idealize.SL.Sem Idealize.ShloMosaic.ValueIdx
open Cert.Reference5Ideal Cert.Reference5Ideal.Gen Cert.Reference5Ideal.Read Cert.Mat

variable (x0 : (⟨S8192x1024, .bf16⟩ : BufTy).Contents (Elt Ideal)) (x1 : (⟨S8192x4096, .bf16⟩ : BufTy).Contents (Elt Ideal))

/-- The gradient before it is laid out: the hidden gradients times the normalised rows, over all tokens. -/
theorem sum_eq (n : Fin 4096) (j : Fin 1024) :
    val_main_v4 (F := Ideal) x0 x1 (ix2 n j) = ∑ k : Fin 8192, (x0 (ix2 k j) : EReal) * x1 (ix2 k n) := by
  refine (val_main_v4_apply x0 x1 _).trans (Finset.sum_congr rfl fun k _ => ?_)
  rw [mul_comm]
  exact congrArg₂ (fun a b : EReal => a * b) (congrArg x0 (idx2_ext _ _ rfl rfl)) (congrArg x1 (idx2_ext _ _ rfl rfl))

/-- The gradient at an element of a block. -/
theorem grad_eq (b : Fin 8) (i : Fin 1024) (j : Fin 512) :
    val_main_v7 (F := Ideal) x0 x1 (ix3 b i j)
      = ∑ k : Fin 8192, (x0 (ix2 k i) : EReal) * x1 (ix2 k (⟨b.val * 512 + j.val, by omega⟩ : Fin 4096)) := by
  refine (val_main_v7_apply x0 x1 _).trans ((val_main_v6_apply x0 x1 _).trans ((val_main_v5_apply x0 x1 _).trans (Eq.trans ?_ (sum_eq x0 x1 _ i))))
  refine congrArg (val_main_v4 (F := Ideal) x0 x1) (idx2_ext _ (ix2 (⟨b.val * 512 + j.val, by omega⟩ : Fin 4096) i) ?_ ?_)
  · show ((i.val * 8 + b.val) * 512 + j.val) % 4096 = b.val * 512 + j.val
    omega
  · show ((i.val * 8 + b.val) * 512 + j.val) / 4096 = i.val
    omega

end Cert.Reference5Ideal.Stages

end
-- ==== Proof.SameUp.lean ====
/-
  The gradient of the MLP's first weight and the reference's lines: the same two results.
-/
module

public import proofs.«01_k».proof.Defs
public import proofs.«01_k».proof.Proof.Up
public import proofs.«01_k».proof.Proof.RefUp
public import proofs.«01_k».proof.Proof.Gen.Kernel5Ideal.Value

@[expose] public section

noncomputable section

namespace Cert.Kernel5Ideal.Same

open Idealize.ShloMosaic Idealize.ShloMosaic.TcCoe Idealize.SL.Sem Idealize.ShloMosaic.ValueIdx
open Cert.Mat

/-- The reference runs to its end, leaves its arguments as they were, and has no semaphore to leave raised. -/
theorem reference_runs : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

section Results

variable (m : (ℓ : Loc Cert.Kernel5Ideal.nD Cert.Kernel5Ideal.τ Cert.Kernel5Ideal.sig) → Buf (Elt Ideal) ℓ) (c : Dev Cert.Kernel5Ideal.nD)

/-- The gradients agree. -/
theorem sameGrad : Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    = (Cert.Kernel5Ideal.Gen.dats m 0 c).arrAt 2 Cert.Kernel5Ideal.cfg0.N := by
  funext i
  obtain ⟨b, k, j, rfl⟩ : ∃ (b : Fin 8) (k : Fin 1024) (j : Fin 512), i = ix3 b k j :=
    ⟨i 0, i 1, i 2, funext fun a => by match a with | ⟨0, _⟩ => rfl | ⟨1, _⟩ => rfl | ⟨2, _⟩ => rfl⟩
  obtain ⟨q, s, rfl⟩ : ∃ (q : Fin 4) (s : Fin 2), b = ⟨q.val * 2 + s.val, by omega⟩ :=
    ⟨⟨b.val / 2, by omega⟩, ⟨b.val % 2, by omega⟩, Fin.ext (by show b.val = b.val / 2 * 2 + b.val % 2; omega)⟩
  exact (Cert.Reference5Ideal.Stages.grad_eq _ _ _ k j).trans (Cert.Kernel5Ideal.Up.final2_apply m c q s k j).symm

/-- The narrow gradients agree. -/
theorem sameLow : Cert.Reference5Ideal.Read.val_main_v8 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    = (Cert.Kernel5Ideal.Gen.dats m 0 c).arrAt 3 Cert.Kernel5Ideal.cfg0.N := by
  funext i
  obtain ⟨b, k, j, rfl⟩ : ∃ (b : Fin 8) (k : Fin 1024) (j : Fin 512), i = ix3 b k j :=
    ⟨i 0, i 1, i 2, funext fun a => by match a with | ⟨0, _⟩ => rfl | ⟨1, _⟩ => rfl | ⟨2, _⟩ => rfl⟩
  obtain ⟨q, s, rfl⟩ : ∃ (q : Fin 4) (s : Fin 2), b = ⟨q.val * 2 + s.val, by omega⟩ :=
    ⟨⟨b.val / 2, by omega⟩, ⟨b.val % 2, by omega⟩, Fin.ext (by show b.val = b.val / 2 * 2 + b.val % 2; omega)⟩
  exact (Cert.Reference5Ideal.Stages.grad_eq _ _ _ k j).trans (Cert.Kernel5Ideal.Up.final3_apply m c q s k j).symm

end Results

/-- The call's two results and the reference's are equal entry by entry, on any arguments. -/
theorem algebraic : Cert.algebraic_Kernel5Ideal_Reference5Ideal := by
  intro m g m' g' hpre hargs
  refine ⟨fun c => (Cert.Kernel5Ideal.Gen.dats m 0 c).arrAt 2 Cert.Kernel5Ideal.cfg0.N,
    fun c => (Cert.Kernel5Ideal.Gen.dats m 0 c).arrAt 3 Cert.Kernel5Ideal.cfg0.N,
    Cert.Kernel5Ideal.Value.run_blocks m g, ?_⟩
  refine (θ_run _ _ _).mono (fun r h c => ?_) (Cert.Reference5Ideal.Value.run m' g')
  obtain ⟨e0, e1⟩ := hargs c
  exact ⟨((h c).1.trans (Cert.Reference5Ideal.Read.val_main_v7_eq _ _)).trans (Eq.trans (by rw [e0, e1]) (sameGrad m c)),
    ((h c).2.1.trans (Cert.Reference5Ideal.Read.val_main_v8_eq _ _)).trans (Eq.trans (by rw [e0, e1]) (sameLow m c)),
    (h c).2.2⟩

end Cert.Kernel5Ideal.Same

end
-- ==== Proof.In.lean ====
/-
  The gradient of the input projection's weight: in each half of the projected features the call sums four runs of
  tokens in a scratch, so that each entry is the sum over all 8192 tokens.
-/
module

public import proofs.«01_k».proof.Proof.Mat
public import proofs.«01_k».proof.Proof.Gen.Kernel6Ideal.Value
public import Idealize.ShloMosaic.Lib.Pipeline.ValueKit.Tiles

@[expose] public section

noncomputable section

open scoped BigOperators

namespace Cert.Kernel6Ideal.In

open Idealize.ShloMosaic Idealize.ShloMosaic.TcCoe Idealize.SL.Sem Idealize.ShloMosaic.ValueIdx
open Cert.Kernel6Ideal Cert.Kernel6Ideal.Gen Cert.Mat

/-- One run's part of an entry: the projection's gradients times the normalised rows over the run's tokens. -/
abbrev part (x0 : Vec Ideal S2048x1280 .bf16) (x1 : Vec Ideal S2048x1024 .bf16) (i : Fin 1280) (j : Fin 1024) : EReal :=
  ∑ k : Fin 2048, (x0 (ix2 k i) : EReal) * x1 (ix2 k j)

/-- The first run's payload is its part. -/
theorem pay1_apply (x0 : Vec Ideal S2048x1280 .bf16) (x1 : Vec Ideal S2048x1024 .bf16) (i : Fin 1280) (j : Fin 1024) :
    k0_pay1 (F := Ideal) x0 x1 (ix2 i j) = part x0 x1 i j := by
  unfold k0_pay1
  rw [shapeCast_self]
  exact tn_apply dot_S2048x1280_S2048x1024_S1280x1024_0_0_1_1_n_n_wf x0 x1 i j

/-- A middle run's payload adds its part to what the scratch held. -/
theorem pay2_apply (acc : Vec Ideal S1280x1024 .f32) (x0 : Vec Ideal S2048x1280 .bf16) (x1 : Vec Ideal S2048x1024 .bf16) (i : Fin 1280) (j : Fin 1024) :
    k0_pay2 (F := Ideal) acc x0 x1 (ix2 i j) = (acc (ix2 i j) : EReal) + part x0 x1 i j := by
  unfold k0_pay2
  rw [shapeCast_self]
  exact congrArg (fun w : EReal => (acc (ix2 i j) : EReal) + w) (tn_apply dot_S2048x1280_S2048x1024_S1280x1024_0_0_1_1_n_n_wf x0 x1 i j)

/-- The last run's payload adds its part to what the scratch held. -/
theorem pay3_apply (acc : Vec Ideal S1280x1024 .f32) (x0 : Vec Ideal S2048x1280 .bf16) (x1 : Vec Ideal S2048x1024 .bf16) (i : Fin 1280) (j : Fin 1024) :
    k0_pay3 (F := Ideal) acc x0 x1 (ix2 i j) = (acc (ix2 i j) : EReal) + part x0 x1 i j := by
  unfold k0_pay3
  exact congrArg (fun w : EReal => (acc (ix2 i j) : EReal) + w) (tn_apply dot_S2048x1280_S2048x1024_S1280x1024_0_0_1_1_n_n_wf x0 x1 i j)

/-- Offsets zero on both axes. -/
theorem zero2 : (![0, 0] : Fin 2 → Nat) = fun _ => 0 := funext fun a => by fin_cases a <;> rfl

section Cases

variable (c : Dev nD) (i : grid0.Coords) (arg3 : Memref sig .tc .vmem S2048x1280 .bf16) (harg3 : arg3.IsWhole)
  (arg4 : Memref sig .tc .vmem S2048x1024 .bf16) (harg4 : arg4.IsWhole) (arg5 : Memref sig .tc .vmem S1280x1024 .f32) (harg5 : arg5.IsWhole)
  (arg6 : Memref sig .tc .vmem S1280x1024 .bf16) (harg6 : arg6.IsWhole) (arg7 : Memref sig .tc .vmem S1280x1024 .f32) (harg7 : arg7.IsWhole)
  (x0 : Vec Ideal S2048x1280 .bf16) (x1 : Vec Ideal S2048x1024 .bf16) (xs : Vec Ideal S1280x1024 .f32)

/-- A first run leaves its product in the scratch. -/
theorem scratch_first (h0 : cond0_0 i) (h1 : ¬cond0_1 i) (h2 : ¬cond0_2 i) :
    sout0_A_0 (F := Ideal) c i arg3 harg3 arg4 harg4 arg5 harg5 arg6 harg6 arg7 harg7 h0 h1 h2 x0 x1 = k0_pay1 x0 x1 := by
  unfold sout0_A_0
  rw [View.read_writes_eq_canon _ _ _ (scover0_A_0 c i arg3 harg3 arg4 harg4 arg5 harg5 arg6 harg6 arg7 harg7 h0 h1 h2 x0 x1)]
  unfold kernelRun0_A
  dsimp only
  sl_unfold_words
  rw [View.canon_unit_zero zero2]
  simp only [View.readAt_eq_ld, harg3.read_unread, harg4.read_unread, View.ld_unit_zero (S := S2048x1280) zero2, View.ld_unit_zero (S := S2048x1024) zero2]

/-- A middle run adds its product to the scratch. -/
theorem scratch_next (h0 : ¬cond0_0 i) (h1 : cond0_1 i) (h2 : ¬cond0_2 i) :
    sout0_B_0 (F := Ideal) c i arg3 harg3 arg4 harg4 arg5 harg5 arg6 harg6 arg7 harg7 h0 h1 h2 x0 x1 xs = k0_pay2 xs x0 x1 := by
  unfold sout0_B_0
  rw [View.read_writes_eq_canon _ _ _ (scover0_B_0 c i arg3 harg3 arg4 harg4 arg5 harg5 arg6 harg6 arg7 harg7 h0 h1 h2 x0 x1 xs)]
  unfold kernelRun0_B
  dsimp only
  sl_unfold_words
  rw [View.canon_unit_zero zero2]
  simp only [View.readAt_eq_ld, harg3.read_unread, harg4.read_unread, harg7.read_unread, View.ld_unit_zero (S := S2048x1280) zero2, View.ld_unit_zero (S := S2048x1024) zero2,
    View.ld_unit_zero (S := S1280x1024) zero2]

/-- The last run leaves the total in the single-precision output. -/
theorem out_last (h0 : ¬cond0_0 i) (h1 : ¬cond0_1 i) (h2 : cond0_2 i) :
    out0_C_2 (F := Ideal) c i arg3 harg3 arg4 harg4 arg5 harg5 arg6 harg6 arg7 harg7 h0 h1 h2 x0 x1 xs = k0_pay3 xs x0 x1 := by
  unfold out0_C_2
  rw [View.read_writes_eq_canon _ _ _ (cover0_C_2 c i arg3 harg3 arg4 harg4 arg5 harg5 arg6 harg6 arg7 harg7 h0 h1 h2 x0 x1 xs)]
  unfold kernelRun0_C
  dsimp only
  sl_unfold_words
  rw [View.canon_unit_zero zero2]
  simp only [View.readAt_eq_ld, harg3.read_unread, harg4.read_unread, harg7.read_unread, View.ld_unit_zero (S := S2048x1280) zero2, View.ld_unit_zero (S := S2048x1024) zero2,
    View.ld_unit_zero (S := S1280x1024) zero2]

/-- The last run leaves the same total in the half-precision output. -/
theorem half_last (h0 : ¬cond0_0 i) (h1 : ¬cond0_1 i) (h2 : cond0_2 i) :
    out0_C_3 (F := Ideal) c i arg3 harg3 arg4 harg4 arg5 harg5 arg6 harg6 arg7 harg7 h0 h1 h2 x0 x1 xs = k0_pay3 xs x0 x1 := by
  unfold out0_C_3
  rw [View.read_writes_eq_canon _ _ _ (cover0_C_3 c i arg3 harg3 arg4 harg4 arg5 harg5 arg6 harg6 arg7 harg7 h0 h1 h2 x0 x1 xs)]
  unfold kernelRun0_C
  dsimp only
  sl_unfold_words
  rw [View.canon_unit_zero zero2]
  simp only [View.readAt_eq_ld, harg3.read_unread, harg4.read_unread, harg7.read_unread, View.ld_unit_zero (S := S2048x1280) zero2, View.ld_unit_zero (S := S2048x1024) zero2,
    View.ld_unit_zero (S := S1280x1024) zero2]
  rfl

end Cases

variable (m : (ℓ : Loc nD τ sig) → Buf (Elt Ideal) ℓ) (c : Dev nD)

/-- The part of an entry that grid point `n` adds. -/
def term (n : ℕ) (y : S1280x1024.Idx) : EReal :=
  if h : n < cfg0.N then part (iblk m c 0 ⟨n, h⟩) (iblk m c 1 ⟨n, h⟩) (y 0) (y 1) else 0

/-- Every index of a block is a pair of coordinates. -/
theorem pair_eq (y : S1280x1024.Idx) : ix2 (y 0) (y 1) = y :=
  funext fun a => by match a with | ⟨0, _⟩ => rfl | ⟨1, _⟩ => rfl

/-- The scratch after a run's third point holds the sum of the first three parts. -/
theorem scratch_apply (t : Fin cfg0.N) (ht : t.val % 4 = 2) (y : S1280x1024.Idx) :
    (outsAt0 m c t.val t.isLt).2.2 y = ∑ s ∈ Finset.range 3, term m c (4 * (t.val / 4) + s) y := by
  have hN : cfg0.N = 8 := N_0
  rw [Value.soutsAt0_0_eq m c t]
  have hl := t.isLt
  have key := Pipeline.accAt_add_apply (β := EReal) (fun n h => Value.scAt0_0 m c n h (VS0_0.read (Elt Ideal) VS0_0.junk)) (Value.scAt0_0 m c)
    (fun _ => 0) (term m c) (4 * (t.val / 4)) 2
    (fun h i => by
      have h0 : (4 * (t.val / 4)) % 4 = 0 := by omega
      unfold Value.scAt0_0
      rw [dif_pos h0, dif_neg (by omega), dif_neg (by omega), scratch_first, zero_add]
      unfold term
      rw [dif_pos h, ← pair_eq i]
      exact pay1_apply _ _ _ _)
    (fun n h acc i h1 h2 => by
      unfold Value.scAt0_0
      rw [dif_neg (by omega), dif_pos (by omega), dif_neg (by omega), scratch_next]
      unfold term
      rw [dif_pos h, ← pair_eq i]
      exact pay2_apply _ _ _ _ _)
  have e := key (t.val % 4) (by omega) (by omega) y
  rw [zero_add] at e
  exact e.trans (by rw [ht])

/-- The outputs after a run's last point hold the sum of its four parts. -/
theorem total_apply (t : Fin cfg0.N) (ht : t.val % 4 = 3) (y : S1280x1024.Idx) (hs : t.val - 1 < cfg0.N) :
    k0_pay3 (F := Ideal) (outsAt0 m c (t.val - 1) hs).2.2 (iblk m c 0 t) (iblk m c 1 t) y
      = ∑ s : Fin 4, term m c (4 * (t.val / 4) + s.val) y := by
  have e := scratch_apply m c ⟨t.val - 1, hs⟩ (by show (t.val - 1) % 4 = 2; omega) y
  have hd : (t.val - 1) / 4 = t.val / 4 := by omega
  dsimp only at e
  rw [hd] at e
  have e3 : term m c (4 * (t.val / 4) + 3) y = part (iblk m c 0 t) (iblk m c 1 t) (y 0) (y 1) := by
    have : 4 * (t.val / 4) + 3 = t.val := by omega
    rw [this]
    unfold term
    rw [dif_pos t.isLt]
  rw [Fin.sum_univ_eq_sum_range (fun s => term m c (4 * (t.val / 4) + s) y) 4, Finset.sum_range_succ, ← e, e3, ← pair_eq y]
  exact pay3_apply _ _ _ _ _

/-- Window 0's block at a point: a run's tokens and a half of the projected features. -/
theorem read0_apply (X : main_arg0.ty.shape.Idx → EReal) (t : Fin cfg0.N) (k : Fin 2048) (i : Fin 1280) :
    ((cfg0.win 0).blk t).view.read (Elt Ideal) X (ix2 k i)
      = X (ix2 (⟨t.val % 4 * 2048 + k.val, by omega⟩ : Fin 8192) (⟨t.val / 4 * 1280 + i.val, by have : t.val < 8 := t.isLt; omega⟩ : Fin 2560)) := by
  have hi : ∀ t : Fin cfg0.N, win0_0.index t 0 = t.val % 4 ∧ win0_0.index t 1 = t.val / 4 := by decide +kernel
  rw [View.read_apply]
  refine congrArg X (funext fun b => Fin.ext ?_)
  match b with
  | ⟨0, _⟩ => show win0_0.index t 0 * 2048 + 1 * k.val = t.val % 4 * 2048 + k.val; rw [(hi t).1]; omega
  | ⟨1, _⟩ => show win0_0.index t 1 * 1280 + 1 * i.val = t.val / 4 * 1280 + i.val; rw [(hi t).2]; omega

/-- Window 1's block at a point: a run's tokens and every model feature. -/
theorem read1_apply (X : main_arg1.ty.shape.Idx → EReal) (t : Fin cfg0.N) (k : Fin 2048) (j : Fin 1024) :
    ((cfg0.win 1).blk t).view.read (Elt Ideal) X (ix2 k j) = X (ix2 (⟨t.val % 4 * 2048 + k.val, by omega⟩ : Fin 8192) j) := by
  have hi : ∀ t : Fin cfg0.N, win0_1.index t 0 = t.val % 4 ∧ win0_1.index t 1 = 0 := by decide +kernel
  rw [View.read_apply]
  refine congrArg X (funext fun b => Fin.ext ?_)
  match b with
  | ⟨0, _⟩ => show win0_1.index t 0 * 2048 + 1 * k.val = t.val % 4 * 2048 + k.val; rw [(hi t).1]; omega
  | ⟨1, _⟩ => show win0_1.index t 1 * 1024 + 1 * j.val = j.val; rw [(hi t).2]; omega

/-- Window 2's block at a point: a half of the projected features against every model feature. -/
theorem read2_apply (X : main_v0_0.ty.shape.Idx → EReal) (t : Fin cfg0.N) (i : Fin 1280) (j : Fin 1024) :
    ((cfg0.win 2).blk t).view.read (Elt Ideal) X (ix2 i j)
      = X (ix2 (⟨t.val / 4 * 1280 + i.val, by have : t.val < 8 := t.isLt; omega⟩ : Fin 2560) j) := by
  have hi : ∀ t : Fin cfg0.N, win0_2.index t 0 = t.val / 4 ∧ win0_2.index t 1 = 0 := by decide +kernel
  rw [View.read_apply]
  refine congrArg X (funext fun b => Fin.ext ?_)
  match b with
  | ⟨0, _⟩ => show win0_2.index t 0 * 1280 + 1 * i.val = t.val / 4 * 1280 + i.val; rw [(hi t).1]; omega
  | ⟨1, _⟩ => show win0_2.index t 1 * 1024 + 1 * j.val = j.val; rw [(hi t).2]; omega

/-- Window 3's block at a point: a half of the projected features against every model feature. -/
theorem read3_apply (X : main_v0_1.ty.shape.Idx → EReal) (t : Fin cfg0.N) (i : Fin 1280) (j : Fin 1024) :
    ((cfg0.win 3).blk t).view.read (Elt Ideal) X (ix2 i j)
      = X (ix2 (⟨t.val / 4 * 1280 + i.val, by have : t.val < 8 := t.isLt; omega⟩ : Fin 2560) j) := by
  have hi : ∀ t : Fin cfg0.N, win0_3.index t 0 = t.val / 4 ∧ win0_3.index t 1 = 0 := by decide +kernel
  rw [View.read_apply]
  refine congrArg X (funext fun b => Fin.ext ?_)
  match b with
  | ⟨0, _⟩ => show win0_3.index t 0 * 1280 + 1 * i.val = t.val / 4 * 1280 + i.val; rw [(hi t).1]; omega
  | ⟨1, _⟩ => show win0_3.index t 1 * 1024 + 1 * j.val = j.val; rw [(hi t).2]; omega

/-- The projection's gradients the call was given. -/
abbrev grads : main_arg0.ty.shape.Idx → EReal := m ((c.tc : Thread nD τ).loc main_arg0)
/-- The normalised rows the call was given. -/
abbrev rows : main_arg1.ty.shape.Idx → EReal := m ((c.tc : Thread nD τ).loc main_arg1)

/-- What window 0 stages, from the arguments. -/
theorem iblk0_apply (t : Fin cfg0.N) (k : Fin 2048) (i : Fin 1280) :
    iblk m c 0 t (ix2 k i)
      = grads m c (ix2 (⟨t.val % 4 * 2048 + k.val, by omega⟩ : Fin 8192) (⟨t.val / 4 * 1280 + i.val, by have : t.val < 8 := t.isLt; omega⟩ : Fin 2560)) :=
  (read0_apply (V m c main_arg0) t k i).trans (congrFun (V_main_arg0 m c) _)

/-- What window 1 stages, from the arguments. -/
theorem iblk1_apply (t : Fin cfg0.N) (k : Fin 2048) (j : Fin 1024) :
    iblk m c 1 t (ix2 k j) = rows m c (ix2 (⟨t.val % 4 * 2048 + k.val, by omega⟩ : Fin 8192) j) :=
  (read1_apply (V m c main_arg1) t k j).trans (congrFun (V_main_arg1 m c) _)

/-- The last point of the run of half `q`. -/
abbrev lastPt (q : Fin 2) : Fin cfg0.N := ⟨4 * q.val + 3, by rw [show cfg0.N = 8 from N_0]; omega⟩

/-- The four parts of an entry make the sum over all tokens. -/
theorem parts_eq (q : Fin 2) (i : Fin 1280) (j : Fin 1024) :
    ∑ s : Fin 4, term m c (4 * ((lastPt q).val / 4) + s.val) (ix2 i j)
      = ∑ k : Fin 8192, grads m c (ix2 k (⟨q.val * 1280 + i.val, by omega⟩ : Fin 2560))
          * rows m c (ix2 k j) := by
  rw [sum_runs 4 2048 8192 rfl]
  refine Finset.sum_congr rfl fun s _ => ?_
  have hd : 4 * ((lastPt q).val / 4) + s.val = 4 * q.val + s.val := by show 4 * ((4 * q.val + 3) / 4) + s.val = _; omega
  have hN : cfg0.N = 8 := N_0
  have hm : (4 * q.val + s.val) % 4 = s.val := by omega
  have hq : (4 * q.val + s.val) / 4 = q.val := by omega
  rw [hd]
  unfold term
  rw [dif_pos (by omega)]
  refine Finset.sum_congr rfl fun k _ => ?_
  have e0 := iblk0_apply m c ⟨4 * q.val + s.val, by omega⟩ k i
  have e1 := iblk1_apply m c ⟨4 * q.val + s.val, by omega⟩ k j
  simp only [hm, hq] at e0 e1
  exact congrArg₂ (fun a b : EReal => a * b) e0 e1

/-- The single-precision result: each entry is the sum over all tokens. -/
theorem final2_apply (q : Fin 2) (i : Fin 1280) (j : Fin 1024) :
    (dats m 0 c).arrAt 2 cfg0.N (ix2 (⟨q.val * 1280 + i.val, by omega⟩ : Fin 2560) j)
      = ∑ k : Fin 8192, grads m c (ix2 k (⟨q.val * 1280 + i.val, by omega⟩ : Fin 2560))
          * rows m c (ix2 k j) := by
  have hm : (lastPt q).val % 4 = 3 := by show (4 * q.val + 3) % 4 = 3; omega
  have hf : (cfg0.win 2).flush (lastPt q) = true := (flush0_2 (lastPt q)).mpr hm
  have hr := read2_apply ((dats m 0 c).arrAt 2 cfg0.N) (lastPt q) i j
  have hq : (lastPt q).val / 4 = q.val := by show (4 * q.val + 3) / 4 = _; omega
  simp only [hq] at hr
  refine hr.symm.trans ?_
  rw [Value.final2 m c, ← Value.flushed2_eq m c (lastPt q) hf, Value.flushed2_C m c (lastPt q) (by omega) (by omega) hm, out_last, ← parts_eq]
  exact total_apply m c (lastPt q) hm (ix2 i j) _

/-- The half-precision result holds the same entries. -/
theorem final3_apply (q : Fin 2) (i : Fin 1280) (j : Fin 1024) :
    (dats m 0 c).arrAt 3 cfg0.N (ix2 (⟨q.val * 1280 + i.val, by omega⟩ : Fin 2560) j)
      = ∑ k : Fin 8192, grads m c (ix2 k (⟨q.val * 1280 + i.val, by omega⟩ : Fin 2560))
          * rows m c (ix2 k j) := by
  have hm : (lastPt q).val % 4 = 3 := by show (4 * q.val + 3) % 4 = 3; omega
  have hf : (cfg0.win 3).flush (lastPt q) = true := (flush0_3 (lastPt q)).mpr hm
  have hr := read3_apply ((dats m 0 c).arrAt 3 cfg0.N) (lastPt q) i j
  have hq : (lastPt q).val / 4 = q.val := by show (4 * q.val + 3) / 4 = _; omega
  simp only [hq] at hr
  refine hr.symm.trans ?_
  rw [Value.final3 m c, ← Value.flushed3_eq m c (lastPt q) hf, Value.flushed3_C m c (lastPt q) (by omega) (by omega) hm, half_last, ← parts_eq]
  exact total_apply m c (lastPt q) hm (ix2 i j) _

end Cert.Kernel6Ideal.In

end
-- ==== Proof.RefIn.lean ====
/-
  The reference's gradient of the input projection's weight, at an element.
-/
module

public import proofs.«01_k».proof.Proof.Mat
public import proofs.«01_k».proof.Proof.Gen.Reference6Ideal.Read

@[expose] public section

noncomputable section

open scoped BigOperators

namespace Cert.Reference6Ideal.Stages

open Idealize.ShloMosaic Idealize.ShloMosaic.TcCoe Idealize.SL.Sem Idealize.ShloMosaic.ValueIdx
open Cert.Reference6Ideal Cert.Reference6Ideal.Gen Cert.Reference6Ideal.Read Cert.Mat

variable (x0 : (⟨S8192x2560, .bf16⟩ : BufTy).Contents (Elt Ideal)) (x1 : (⟨S8192x1024, .bf16⟩ : BufTy).Contents (Elt Ideal))

/-- The gradient before its two transposes: the projection's gradients times the normalised rows, over all tokens. -/
theorem sum_eq (n : Fin 2560) (j : Fin 1024) :
    val_main_v4 (F := Ideal) x0 x1 (ix2 n j) = ∑ k : Fin 8192, (x0 (ix2 k n) : EReal) * x1 (ix2 k j) := by
  refine (val_main_v4_apply x0 x1 _).trans (Finset.sum_congr rfl fun k _ => ?_)
  exact congrArg₂ (fun a b : EReal => a * b) (congrArg x0 (idx2_ext _ _ rfl rfl)) (congrArg x1 (idx2_ext _ _ rfl rfl))

/-- The gradient at an element. -/
theorem grad_eq (n : Fin 2560) (j : Fin 1024) :
    val_main_v6 (F := Ideal) x0 x1 (ix2 n j) = ∑ k : Fin 8192, (x0 (ix2 k n) : EReal) * x1 (ix2 k j) := by
  refine (val_main_v6_apply x0 x1 _).trans ((val_main_v5_apply x0 x1 _).trans (Eq.trans ?_ (sum_eq x0 x1 n j)))
  exact congrArg (val_main_v4 (F := Ideal) x0 x1) (idx2_ext _ (ix2 n j) rfl rfl)

/-- The gradient that is narrowed, at an element. -/
theorem low_eq (n : Fin 2560) (j : Fin 1024) :
    val_main_v7 (F := Ideal) x0 x1 (ix2 n j) = ∑ k : Fin 8192, (x0 (ix2 k n) : EReal) * x1 (ix2 k j) := by
  refine (val_main_v7_apply x0 x1 _).trans ((val_main_v5_apply x0 x1 _).trans (Eq.trans ?_ (sum_eq x0 x1 n j)))
  exact congrArg (val_main_v4 (F := Ideal) x0 x1) (idx2_ext _ (ix2 n j) rfl rfl)

end Cert.Reference6Ideal.Stages

end
-- ==== Proof.SameIn.lean ====
/-
  The gradient of the input projection's weight and the reference's lines: the same two results.
-/
module

public import proofs.«01_k».proof.Defs
public import proofs.«01_k».proof.Proof.In
public import proofs.«01_k».proof.Proof.RefIn
public import proofs.«01_k».proof.Proof.Gen.Kernel6Ideal.Value

@[expose] public section

noncomputable section

namespace Cert.Kernel6Ideal.Same

open Idealize.ShloMosaic Idealize.ShloMosaic.TcCoe Idealize.SL.Sem Idealize.ShloMosaic.ValueIdx
open Cert.Mat

/-- The reference runs to its end, leaves its arguments as they were, and has no semaphore to leave raised. -/
theorem reference_runs : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

section Results

variable (m : (ℓ : Loc Cert.Kernel6Ideal.nD Cert.Kernel6Ideal.τ Cert.Kernel6Ideal.sig) → Buf (Elt Ideal) ℓ) (c : Dev Cert.Kernel6Ideal.nD)

/-- The gradients agree. -/
theorem sameGrad : Cert.Reference6Ideal.Read.val_main_v6 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    = (Cert.Kernel6Ideal.Gen.dats m 0 c).arrAt 2 Cert.Kernel6Ideal.cfg0.N := by
  funext i
  obtain ⟨n, j, rfl⟩ : ∃ (n : Fin 2560) (j : Fin 1024), i = ix2 n j := ⟨i 0, i 1, idx2_ext i _ rfl rfl⟩
  obtain ⟨q, a, rfl⟩ : ∃ (q : Fin 2) (a : Fin 1280), n = ⟨q.val * 1280 + a.val, by omega⟩ :=
    ⟨⟨n.val / 1280, by omega⟩, ⟨n.val % 1280, by omega⟩, Fin.ext (by show n.val = n.val / 1280 * 1280 + n.val % 1280; omega)⟩
  exact (Cert.Reference6Ideal.Stages.grad_eq _ _ _ j).trans (Cert.Kernel6Ideal.In.final2_apply m c q a j).symm

/-- The narrow gradients agree. -/
theorem sameLow : Cert.Reference6Ideal.Read.val_main_v8 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    = (Cert.Kernel6Ideal.Gen.dats m 0 c).arrAt 3 Cert.Kernel6Ideal.cfg0.N := by
  funext i
  obtain ⟨n, j, rfl⟩ : ∃ (n : Fin 2560) (j : Fin 1024), i = ix2 n j := ⟨i 0, i 1, idx2_ext i _ rfl rfl⟩
  obtain ⟨q, a, rfl⟩ : ∃ (q : Fin 2) (a : Fin 1280), n = ⟨q.val * 1280 + a.val, by omega⟩ :=
    ⟨⟨n.val / 1280, by omega⟩, ⟨n.val % 1280, by omega⟩, Fin.ext (by show n.val = n.val / 1280 * 1280 + n.val % 1280; omega)⟩
  exact (Cert.Reference6Ideal.Stages.low_eq _ _ _ j).trans (Cert.Kernel6Ideal.In.final3_apply m c q a j).symm

end Results

/-- The call's two results and the reference's are equal entry by entry, on any arguments. -/
theorem algebraic : Cert.algebraic_Kernel6Ideal_Reference6Ideal := by
  intro m g m' g' hpre hargs
  refine ⟨fun c => (Cert.Kernel6Ideal.Gen.dats m 0 c).arrAt 2 Cert.Kernel6Ideal.cfg0.N,
    fun c => (Cert.Kernel6Ideal.Gen.dats m 0 c).arrAt 3 Cert.Kernel6Ideal.cfg0.N,
    Cert.Kernel6Ideal.Value.run_blocks m g, ?_⟩
  refine (θ_run _ _ _).mono (fun r h c => ?_) (Cert.Reference6Ideal.Value.run m' g')
  obtain ⟨e0, e1⟩ := hargs c
  exact ⟨((h c).1.trans (Cert.Reference6Ideal.Read.val_main_v6_eq _ _)).trans (Eq.trans (by rw [e0, e1]) (sameGrad m c)),
    ((h c).2.1.trans (Cert.Reference6Ideal.Read.val_main_v8_eq _ _)).trans (Eq.trans (by rw [e0, e1]) (sameLow m c)),
    (h c).2.2⟩

end Cert.Kernel6Ideal.Same

end
-- ==== Proof.GateBack.lean ====
/-
  The per-layer embedding's gate and its backward pass over whole arrays of extended reals: the gate, the gradients of its
  logits, of the normalised rows, of the residual rows, of the gain and of the two weights; and their values on real entries.
-/
module

public import proofs.«01_k».proof.Proof.MlpReal
public import Idealize.ShloMosaic.Lib.IdealHost

@[expose] public section

noncomputable section

open scoped BigOperators

namespace Cert.Gate

open Idealize.ShloMosaic Idealize.ShloMosaic.ValueIdx Cert.Mat Cert.Mlp

variable (e h : (Rect2 8192 1024).Idx → EReal) (g : (Rect2 1 1024).Idx → EReal) (w : (Rect2 1024 1024).Idx → EReal)
  (p : (Rect2 8192 256).Idx → EReal) (q : (Rect2 256 1024).Idx → EReal)

/-- The gate: the logistic function of the normalised row against a column of the weight. -/
def gate (T : Fin 8192) (n : Fin 1024) : EReal :=
  Ideal.div (Ideal.ofBits .f32 0x3F800000#32) (Ideal.ofBits .f32 0x3F800000#32 + Ideal.exp (-∑ k, normed h g T k * w (ix2 k n)))

/-- The per-layer embedding, projected. -/
def embed (T : Fin 8192) (n : Fin 1024) : EReal := ∑ l, p (ix2 T l) * q (ix2 l n)

/-- The gradient of the gate's logits. -/
def logitGrad (T : Fin 8192) (n : Fin 1024) : EReal :=
  ((e (ix2 T n) * embed p q T n) * gate h g w T n) * (Ideal.ofBits .f32 0x3F800000#32 - gate h g w T n)

/-- The gradient of the normalised rows. -/
def normGrad (T : Fin 8192) (k : Fin 1024) : EReal := ∑ n, logitGrad e h g w p q T n * w (ix2 k n)

/-- The gradient of the residual rows. -/
def rowGrad (T : Fin 8192) (k : Fin 1024) : EReal :=
  through (e (ix2 T k)) (scale fun l => h (ix2 T l)) (unit h T) (fun l => normGrad e h g w p q T l * g (ix2 (0 : Fin 1) l)) k

/-- The gain's gradient. -/
def gainGrad (k : Fin 1024) : EReal := ∑ T, normGrad e h g w p q T k * unit h T k

/-- The gradient of the gate's weight. -/
def weightGrad (k n : Fin 1024) : EReal := ∑ T, normed h g T k * logitGrad e h g w p q T n

/-- The gradient of the embedding's weight. -/
def embedGrad (l : Fin 256) (n : Fin 1024) : EReal := ∑ T, p (ix2 T l) * (e (ix2 T n) * gate h g w T n)

/-- A row of a tile of rows. -/
abbrev row (t : Fin 8) (i : Fin 1024) : Fin 8192 := ⟨t.val * 1024 + i.val, by omega⟩

/-- Every row is a row of a tile. -/
theorem row_eq (T : Fin 8192) : ∃ t i, T = row t i :=
  ⟨⟨T.val / 1024, by omega⟩, ⟨T.val % 1024, by omega⟩, Fin.ext (by show T.val = T.val / 1024 * 1024 + T.val % 1024; omega)⟩

/-- The logistic function of a real is real. -/
theorem logistic_real {z : EReal} (hz : IsReal z) :
    IsReal (Ideal.div (Ideal.ofBits .f32 0x3F800000#32) (Ideal.ofBits .f32 0x3F800000#32 + Ideal.exp (-z))) := by
  obtain ⟨r, rfl⟩ := hz
  have hp : (1 + Real.exp (-r)) ≠ 0 := by positivity
  refine ⟨1 / (1 + Real.exp (-r)), ?_⟩
  rw [Ideal.ofBits_one_f32, ← EReal.coe_neg, Ideal.exp_coe, ← EReal.coe_one, ← EReal.coe_add, Cert.Attn.div_real _ hp]

/-- A difference of reals is real. -/
theorem sub_real {x y : EReal} : IsReal x → IsReal y → IsReal (x - y)
  | ⟨a, ha⟩, ⟨b, hb⟩ => ⟨a - b, by rw [ha, hb, EReal.coe_sub]⟩

/-- On a real row the gradient through the normalisation, its terms added one after another. -/
theorem through_terms {o : EReal} {x b : Fin 1024 → EReal} (ho : IsReal o) (hx : ∀ l, IsReal (x l)) (hb : ∀ l, IsReal (b l)) (k : Fin 1024) :
    through o (scale x) (fun l => x l * scale x) b k
      = ((o + b k * scale x) + x k * Ideal.div ((∑ l, x l * b l) * (Ideal.ofBits .f32 0xBF000000#32 * Ideal.div (scale x) (meanSq x))) (Ideal.ofBits .f32 0x44800000#32))
        + Ideal.div ((∑ l, x l * b l) * (Ideal.ofBits .f32 0xBF000000#32 * Ideal.div (scale x) (meanSq x))) (Ideal.ofBits .f32 0x44800000#32) * x k := by
  obtain ⟨r, rfl⟩ := ho
  choose y hy using hx
  choose c hc using hb
  obtain rfl : x = fun l => (y l : EReal) := funext hy
  obtain rfl : b = fun l => (c l : EReal) := funext hc
  refine (through_real r y c k).trans ?_
  dsimp only
  simp only [add_assoc]

variable {e h g w p q}

/-- Real arguments give real gradients of the normalised rows. -/
theorem normGrad_real (he : ∀ i, IsReal (e i)) (hh : ∀ i, IsReal (h i)) (hg : ∀ i, IsReal (g i)) (hw : ∀ i, IsReal (w i)) (hp : ∀ i, IsReal (p i))
    (hq : ∀ i, IsReal (q i)) (T : Fin 8192) (k : Fin 1024) : IsReal (normGrad e h g w p q T k) := by
  have hs : IsReal (scale fun l => h (ix2 T l)) := by
    choose x hx using fun l => hh (ix2 T l)
    obtain ⟨M, s, -, -, -, es⟩ := scale_real x
    exact ⟨s, (congrArg scale (funext hx)).trans es⟩
  have hgate : ∀ n, IsReal (gate h g w T n) := fun n =>
    logistic_real (IsReal.sum _ _ fun k => (((hh _).mul hs).mul (hg _)).mul (hw _))
  exact IsReal.sum _ _ fun n => ((((he _).mul (IsReal.sum _ _ fun l => (hp _).mul (hq _))).mul (hgate n)).mul
    (sub_real ⟨1, by rw [Ideal.ofBits_one_f32, EReal.coe_one]⟩ (hgate n))).mul (hw _)

end Cert.Gate

end
-- ==== Proof.Gate.lean ====
/-
  The gate's backward call, one tile of 1024 tokens: what its cases leave in the six results, and each at an element.
-/
module

public import proofs.«01_k».proof.Proof.GateBack
public import proofs.«01_k».proof.Proof.Gen.Kernel7Ideal.Value
public import Idealize.ShloMosaic.Lib.Pipeline.ValueKit.Tiles
public import Idealize.ShloMosaic.Lib.ValueLayout

@[expose] public section

noncomputable section

open scoped BigOperators

namespace Cert.Kernel7Ideal.Tile

open Idealize.ShloMosaic Idealize.ShloMosaic.TcCoe Idealize.SL.Sem Idealize.ShloMosaic.ValueIdx
open Cert.Kernel7Ideal Cert.Kernel7Ideal.Gen Cert.Mat Cert.Mlp Cert.Gate

/-- Offsets zero on both axes. -/
theorem zero2 : (![0, 0] : Fin 2 → Nat) = fun _ => 0 := funext fun a => by fin_cases a <;> rfl

section Cases

variable (c : Dev nD) (i : grid0.Coords)
  (arg1 : Memref sig .tc .vmem S1024x1024 .f32) (harg1 : arg1.IsWhole)
  (arg2 : Memref sig .tc .vmem S1024x1024 .bf16) (harg2 : arg2.IsWhole)
  (arg3 : Memref sig .tc .vmem S1024x256 .bf16) (harg3 : arg3.IsWhole)
  (arg4 : Memref sig .tc .vmem S256x1024 .bf16) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S1024x1024 .bf16) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .bf16) (harg12 : arg12.IsWhole)
  (arg13 : Memref sig .tc .vmem S256x1024 .f32) (harg13 : arg13.IsWhole)
  (arg14 : Memref sig .tc .vmem S256x1024 .bf16) (harg14 : arg14.IsWhole)
  (x0 : Vec Ideal S1024x1024 .f32) (x1 : Vec Ideal S1024x1024 .bf16) (x2 : Vec Ideal S1024x256 .bf16) (x3 : Vec Ideal S256x1024 .bf16) (x4 : Vec Ideal S1024x1024 .f32) (x5 : Vec Ideal S1x1024 .f32) (x6 : Vec Ideal S1024x1024 .bf16) (x7 : Vec Ideal S1024x1024 .bf16)
  (a9 : Vec Ideal S1x1024 .f32) (a10 : Vec Ideal S1024x1024 .f32) (a12 : Vec Ideal S256x1024 .f32)

/-- The first tile leaves its own parts. -/
theorem first (h0 : cond0_0 i) (h1 : ¬cond0_1 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 = k0_pay14 x0 (k0_pay8 x0 x1 x2 x3) x5 x4 x6
    ∧ out0_A_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 = k0_pay15 (k0_pay8 x0 x1 x2 x3) x4 x6 (k0_pay3 (F := Ideal))
    ∧ out0_A_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 = k0_pay9 x0 x1 x2 x3 (k0_pay4 (F := Ideal)) x7
    ∧ out0_A_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 = k0_pay10 x0 x1 x2 (k0_pay5 (F := Ideal)) := by
  refine ⟨(View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7)).trans ?_, (View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7)).trans ?_, (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7)).trans ?_, (View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7)).trans ?_⟩
  all_goals
    unfold kernelRun0_A
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg10.read_unread, harg11.read_unread, harg13.read_unread,
      View.ld_unit_zero (S := S1024x1024) zero2, View.ld_unit_zero (S := S1024x256) zero2, View.ld_unit_zero (S := S256x1024) zero2, View.ld_unit_zero (S := S1x1024) zero2]

/-- A middle tile adds its parts to what the tile before left. -/
theorem middle (h0 : ¬cond0_0 i) (h1 : ¬cond0_1 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay14 x0 (k0_pay8 x0 x1 x2 x3) x5 x4 x6
    ∧ out0_B_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay15 (k0_pay8 x0 x1 x2 x3) x4 x6 a9
    ∧ out0_B_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay9 x0 x1 x2 x3 a10 x7
    ∧ out0_B_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay10 x0 x1 x2 a12 := by
  refine ⟨(View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_⟩
  all_goals
    unfold kernelRun0_B
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg10.read_unread, harg11.read_unread, harg13.read_unread,
      View.ld_unit_zero (S := S1024x1024) zero2, View.ld_unit_zero (S := S1024x256) zero2, View.ld_unit_zero (S := S256x1024) zero2, View.ld_unit_zero (S := S1x1024) zero2]

/-- The last tile adds its parts and leaves the two weights' gradients in half precision as well. -/
theorem last (h0 : ¬cond0_0 i) (h1 : cond0_1 i) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay14 x0 (k0_pay8 x0 x1 x2 x3) x5 x4 x6
    ∧ out0_C_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay15 (k0_pay8 x0 x1 x2 x3) x4 x6 a9
    ∧ out0_C_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay9 x0 x1 x2 x3 a10 x7
    ∧ out0_C_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay10 x0 x1 x2 a12
    ∧ out0_C_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay1 (k0_pay9 x0 x1 x2 x3 a10 x7)
    ∧ out0_C_13 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12 = k0_pay2 (k0_pay10 x0 x1 x2 a12) := by
  refine ⟨(View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_, (View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 x6 x7 a9 a10 a12)).trans ?_⟩
  all_goals
    unfold kernelRun0_C
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg10.read_unread, harg11.read_unread, harg13.read_unread,
      View.ld_unit_zero (S := S1024x1024) zero2, View.ld_unit_zero (S := S1024x256) zero2, View.ld_unit_zero (S := S256x1024) zero2, View.ld_unit_zero (S := S1x1024) zero2]

end Cases

end Cert.Kernel7Ideal.Tile

end
-- ==== Proof.GateRead.lean ====
/-
  The gate's backward call, one tile at an element.
-/
module

public import proofs.«01_k».proof.Proof.Gate

@[expose] public section

noncomputable section

open scoped BigOperators

namespace Cert.Kernel7Ideal.Tile

open Idealize.ShloMosaic Idealize.ShloMosaic.TcCoe Idealize.SL.Sem Idealize.ShloMosaic.ValueIdx
open Cert.Kernel7Ideal Cert.Kernel7Ideal.Gen Cert.Mat Cert.Mlp Cert.Gate

/-- A logit's gradient in a tile. -/
def logit (x0 : Vec Ideal S1024x1024 .f32) (x1 : Vec Ideal S1024x1024 .bf16) (x2 : Vec Ideal S1024x256 .bf16) (x3 : Vec Ideal S256x1024 .bf16) (i n : Fin 1024) : EReal :=
  (((x0 (ix2 i n) : EReal) * ∑ l : Fin 256, (x2 (ix2 i l) : EReal) * x3 (ix2 l n)) * x1 (ix2 i n)) * (Ideal.ofBits .f32 0x3F800000#32 - x1 (ix2 i n))

/-- The logits' gradients of a tile at an element. -/
theorem logit_apply (x0 : Vec Ideal S1024x1024 .f32) (x1 : Vec Ideal S1024x1024 .bf16) (x2 : Vec Ideal S1024x256 .bf16) (x3 : Vec Ideal S256x1024 .bf16) (i n : Fin 1024) :
    k0_pay8 x0 x1 x2 x3 (ix2 i n) = logit x0 x1 x2 x3 i n := by
  unfold k0_pay8 k0_pay7 k0_pay6 logit
  rw [shapeCast_self, shapeCast_self, shapeCast_self]
  exact congrArg (fun z : EReal => (((x0 (ix2 i n) : EReal) * z) * x1 (ix2 i n)) * (Ideal.ofBits .f32 0x3F800000#32 - x1 (ix2 i n)))
    (nn_apply dot_S1024x256_S256x1024_S1024x1024_1_0_0_1_n_n_wf _ _ i n)

/-- The gate's weight's gradient with a tile's part added, at an element. -/
theorem weight_apply (x0 : Vec Ideal S1024x1024 .f32) (x1 : Vec Ideal S1024x1024 .bf16) (x2 : Vec Ideal S1024x256 .bf16) (x3 : Vec Ideal S256x1024 .bf16)
    (a : Vec Ideal S1024x1024 .f32) (x7 : Vec Ideal S1024x1024 .bf16) (k n : Fin 1024) :
    k0_pay9 x0 x1 x2 x3 a x7 (ix2 k n) = (a (ix2 k n) : EReal) + ∑ i : Fin 1024, (x7 (ix2 i k) : EReal) * logit x0 x1 x2 x3 i n := by
  unfold k0_pay9
  rw [shapeCast_self, shapeCast_self]
  exact congrArg (fun z : EReal => (a (ix2 k n) : EReal) + z) ((tn_apply dot_S1024x1024_S1024x1024_S1024x1024_0_0_1_1_n_n_wf _ _ k n).trans
    (Finset.sum_congr rfl fun i _ => congrArg (fun z : EReal => (x7 (ix2 i k) : EReal) * z) (logit_apply x0 x1 x2 x3 i n)))

/-- The embedding's weight's gradient with a tile's part added, at an element. -/
theorem embed_apply (x0 : Vec Ideal S1024x1024 .f32) (x1 : Vec Ideal S1024x1024 .bf16) (x2 : Vec Ideal S1024x256 .bf16)
    (a : Vec Ideal S256x1024 .f32) (l : Fin 256) (n : Fin 1024) :
    k0_pay10 x0 x1 x2 a (ix2 l n) = (a (ix2 l n) : EReal) + ∑ i : Fin 1024, (x2 (ix2 i l) : EReal) * ((x0 (ix2 i n) : EReal) * x1 (ix2 i n)) := by
  unfold k0_pay10 k0_pay7 k0_pay6
  rw [shapeCast_self, shapeCast_self, shapeCast_self]
  exact congrArg (fun z : EReal => (a (ix2 l n) : EReal) + z) (tn_apply dot_S1024x256_S1024x1024_S256x1024_0_0_1_1_n_n_wf _ _ l n)

/-- The gradient of a tile's normalised rows at an element. -/
theorem back_apply (z : FVec Ideal S1024x1024 .bf16) (w : Vec Ideal S1024x1024 .bf16) (i k : Fin 1024) :
    k0_pay13 z w (ix2 i k) = ∑ n : Fin 1024, (z (ix2 i n) : EReal) * w (ix2 k n) := by
  unfold k0_pay13
  rw [shapeCast_self]
  exact nt_apply dot_S1024x1024_S1024x1024_S1024x1024_1_1_0_0_n_n_wf _ _ i k

/-- A row's scale. -/
theorem scale_apply (h : Vec Ideal S1024x1024 .f32) (i : Fin 1024) : k0_pay11 (F := Ideal) h (ix2 i (0 : Fin 1)) = scale fun l => h (ix2 i l) := by
  unfold k0_pay11
  refine congrArg (fun s : EReal => Ideal.rsqrt (Ideal.div s (FloatOps.ofBits (F := Ideal) .f32 0x44800000#32) + FloatOps.ofBits (F := Ideal) .f32 0x358637BD#32)) ?_
  refine (shapeCast_apply _ _ _ (ix1 i) (by rw [Shape.rowMajor_val_two, Shape.rowMajor_val_one]; show i.val = i.val * 1 + 0; omega)).trans ?_
  refine (Ideal.multiReduction_add_single _ _ _ _ _ _).trans (Finset.sum_congr rfl fun l _ => ?_)
  have el : (reduces_S1024x1024_S1024 : S1024x1024.Reduces [1] S1024).lift (ix1 i) l = ix2 i l := idx2_ext _ (ix2 i l) rfl rfl
  rw [el]
  rfl

/-- One number a row spread along the row. -/
theorem spread_apply (s : FVec Ideal S1024x1 .f32) (i k : Fin 1024) :
    broadcastTo S1024x1024 s broadcasts_S1024x1_S1024x1024 (ix2 i k) = s (ix2 i (0 : Fin 1)) :=
  broadcastTo_apply _ _ (ix2 i k) (ix2 i (0 : Fin 1)) (fun b => by match b with | ⟨0, _⟩ => rfl | ⟨1, _⟩ => rfl)

/-- A row over its root mean square. -/
theorem unit_apply (h : Vec Ideal S1024x1024 .f32) (i k : Fin 1024) :
    k0_pay12 (F := Ideal) h (ix2 i k) = (h (ix2 i k) : EReal) * scale fun l => h (ix2 i l) :=
  congrArg (fun z : EReal => (h (ix2 i k) : EReal) * z) ((spread_apply _ i k).trans (scale_apply h i))

/-- A tile's residual gradient at an element. -/
theorem rows_apply (d : Vec Ideal S1024x1024 .f32) (z : FVec Ideal S1024x1024 .bf16) (g : Vec Ideal S1x1024 .f32) (h : Vec Ideal S1024x1024 .f32) (w : Vec Ideal S1024x1024 .bf16) (i k : Fin 1024) :
    k0_pay14 d z g h w (ix2 i k) = through (d (ix2 i k)) (scale fun l => h (ix2 i l)) (fun l => (h (ix2 i l) : EReal) * scale fun l => h (ix2 i l))
      (fun l => (∑ n : Fin 1024, (z (ix2 i n) : EReal) * w (ix2 l n)) * g (ix2 (0 : Fin 1) l)) k := by
  have hg : ∀ l : Fin 1024, mulf (k0_pay13 z w) (broadcastTo S1024x1024 g broadcasts_S1x1024_S1024x1024) (ix2 i l) = ((∑ n : Fin 1024, (z (ix2 i n) : EReal) * w (ix2 l n)) * g (ix2 (0 : Fin 1) l) : EReal) := fun l =>
    congrArg₂ (fun a b : EReal => a * b) (back_apply z w i l) (broadcastTo_1b_ab_apply (a := 1024) (b := 1024) g broadcasts_S1x1024_S1024x1024 i l)
  unfold k0_pay14 through
  refine congrArg₂ (fun s t : EReal => (d (ix2 i k) : EReal) + s * t) ((spread_apply _ i k).trans (scale_apply h i))
    (congrArg₂ (fun a b : EReal => a - b) (hg k) (congrArg₂ (fun a b : EReal => a * b) (unit_apply h i k) ((spread_apply _ i k).trans ?_)))
  refine congrArg (fun s : EReal => Ideal.div s (FloatOps.ofBits (F := Ideal) .f32 0x44800000#32)) ?_
  refine (shapeCast_apply _ _ _ (ix1 i) (by rw [Shape.rowMajor_val_two, Shape.rowMajor_val_one]; show i.val = i.val * 1 + 0; omega)).trans ?_
  refine (Ideal.multiReduction_add_single _ _ _ _ _ _).trans (Finset.sum_congr rfl fun l _ => ?_)
  have el : (reduces_S1024x1024_S1024 : S1024x1024.Reduces [1] S1024).lift (ix1 i) l = ix2 i l := idx2_ext _ (ix2 i l) rfl rfl
  rw [el]
  exact congrArg₂ (fun a b : EReal => a * b) (hg l) (unit_apply h i l)

/-- The gain's gradient with a tile's part added, at an element. -/
theorem gains_apply (a : Vec Ideal S1x1024 .f32) (z : FVec Ideal S1024x1024 .bf16) (h : Vec Ideal S1024x1024 .f32) (w : Vec Ideal S1024x1024 .bf16) (k : Fin 1024) :
    k0_pay15 z h w a (ix2 (0 : Fin 1) k) = (a (ix2 (0 : Fin 1) k) : EReal) + ∑ i : Fin 1024, (∑ n : Fin 1024, (z (ix2 i n) : EReal) * w (ix2 k n)) * ((h (ix2 i k) : EReal) * scale fun l => h (ix2 i l)) := by
  unfold k0_pay15
  rw [shapeCast_self]
  refine congrArg (fun z : EReal => (a (ix2 (0 : Fin 1) k) : EReal) + z) ?_
  refine (shapeCast_apply _ _ _ (ix1 k) (by rw [Shape.rowMajor_val_two, Shape.rowMajor_val_one]; show k.val = 0 * 1024 + k.val; omega)).trans ?_
  refine (Ideal.multiReduction_add_single _ _ _ _ _ _).trans (Finset.sum_congr rfl fun i _ => ?_)
  have el : (reduces_S1024x1024_S1024_2 : S1024x1024.Reduces [0] S1024).lift (ix1 k) i = ix2 i k := idx2_ext _ (ix2 i k) rfl rfl
  rw [el]
  exact congrArg₂ (fun a b : EReal => a * b) (back_apply z w i k) (unit_apply h i k)

end Cert.Kernel7Ideal.Tile

end
-- ==== Proof.RefGate.lean ====
/-
  The reference's lines of the gate's backward pass, read stage by stage at an element.
-/
module

public import proofs.«01_k».proof.Proof.GateBack
public import proofs.«01_k».proof.Proof.Gen.Reference7Ideal.Read

@[expose] public section

noncomputable section

open scoped BigOperators

namespace Cert.Reference7Ideal.Stages

open Idealize.ShloMosaic Idealize.ShloMosaic.TcCoe Idealize.SL.Sem Idealize.ShloMosaic.ValueIdx
open Cert.Reference7Ideal Cert.Reference7Ideal.Gen Cert.Reference7Ideal.Read Cert.Mat Cert.Mlp Cert.Gate

variable (x0 x1 : (⟨S8192x1024, .f32⟩ : BufTy).Contents (Elt Ideal)) (x2 : (⟨S1x1024, .f32⟩ : BufTy).Contents (Elt Ideal))
  (x3 : (⟨S1024x1024, .f32⟩ : BufTy).Contents (Elt Ideal)) (x4 : (⟨S8192x256, .f32⟩ : BufTy).Contents (Elt Ideal)) (x5 : (⟨S256x1024, .f32⟩ : BufTy).Contents (Elt Ideal))

/-- A row's mean square. -/
theorem meanSq_eq (T : Fin 8192) : val_main_v7 (F := Ideal) x1 (ix2 T (0 : Fin 1)) = meanSq fun l => x1 (ix2 T l) := by
  have hs : val_main_v3 (F := Ideal) x1 (ix2 T (0 : Fin 1)) = ∑ l : Fin 1024, (x1 (ix2 T l) : EReal) * x1 (ix2 T l) := by
    refine (val_main_v3_apply x1 _).trans ((val_main_v2_apply x1 _).trans ?_)
    refine (congrArg₂ (fun a b : EReal => a + b) ((val_main_cst_apply (F := Ideal) _).trans Ideal.ofBits_zero_f32)
      (Finset.sum_congr rfl fun l _ => ?_)).trans (zero_add _)
    exact congrArg (fun z : EReal => z * z) (congrArg x1 (idx2_ext _ (ix2 T l) rfl rfl))
  exact congrArg₂ (fun a b : EReal => a + b) (congrArg₂ Ideal.div hs (val_main_v4_apply _)) (val_main_v6_apply _)

/-- A row's scale. -/
theorem scale_eq (T : Fin 8192) : val_main_v8 (F := Ideal) x1 (ix2 T (0 : Fin 1)) = scale fun l => x1 (ix2 T l) :=
  congrArg Ideal.rsqrt (meanSq_eq x1 T)

/-- A row's scale spread along the row. -/
theorem spread_eq (T : Fin 8192) (k : Fin 1024) : val_main_v12 (F := Ideal) x1 (ix2 T k) = scale fun l => x1 (ix2 T l) :=
  (val_main_v12_apply x1 (ix2 T k)).trans ((congrArg (val_main_v8 (F := Ideal) x1) (idx2_ext (idx_main_v12 (ix2 T k)) (ix2 T (0 : Fin 1)) rfl rfl)).trans (scale_eq x1 T))

/-- A row over its root mean square. -/
theorem unit_eq (T : Fin 8192) (k : Fin 1024) : val_main_v13 (F := Ideal) x1 (ix2 T k) = unit x1 T k :=
  congrArg (fun z : EReal => (x1 (ix2 T k) : EReal) * z) (spread_eq x1 T k)

/-- The gain along a row. -/
theorem gain_eq (T : Fin 8192) (k : Fin 1024) : val_main_v15 (F := Ideal) x2 (ix2 T k) = x2 (ix2 (0 : Fin 1) k) := by
  have e : idx_main_v0 (idx_main_v14 (idx_main_v15 (ix2 T k))) = ix2 (0 : Fin 1) k :=
    idx2_ext (idx_main_v0 (idx_main_v14 (idx_main_v15 (ix2 T k)))) (ix2 (0 : Fin 1) k) rfl (by dsimp only [idx_main_v0, idx_main_v14, idx_main_v15]; exact Nat.mod_eq_of_lt k.isLt)
  rw [val_main_v15_apply, val_main_v14_apply, val_main_v0_apply, e]

/-- The normalised rows. -/
theorem normed_eq (T : Fin 8192) (k : Fin 1024) : val_main_v16 (F := Ideal) x1 x2 (ix2 T k) = normed x1 x2 T k :=
  congrArg₂ (fun a b : EReal => a * b) (unit_eq x1 T k) (gain_eq x2 T k)

/-- The gate. -/
theorem gate_eq (T : Fin 8192) (n : Fin 1024) : val_main_v23 (F := Ideal) x1 x2 x3 (ix2 T n) = gate x1 x2 x3 T n := by
  have h17 : val_main_v17 (F := Ideal) x1 x2 x3 (ix2 T n) = ∑ k, normed x1 x2 T k * x3 (ix2 k n) :=
    (val_main_v17_apply x1 x2 x3 _).trans (Finset.sum_congr rfl fun k _ => congrArg₂ (fun a b : EReal => a * b)
      ((congrArg (val_main_v16 (F := Ideal) x1 x2) (idx2_ext (lidx_main_v17 (ix2 T n) k) (ix2 T k) rfl rfl)).trans (normed_eq x1 x2 T k))
      (congrArg x3 (idx2_ext (ridx_main_v17 (ix2 T n) k) (ix2 k n) rfl rfl)))
  exact congrArg₂ Ideal.div (val_main_v22_apply (F := Ideal) _) (congrArg₂ (fun a b : EReal => a + Ideal.exp (-b)) (val_main_v20_apply (F := Ideal) _) h17)

/-- The projected embedding. -/
theorem embed_eq (T : Fin 8192) (n : Fin 1024) : val_main_v27 (F := Ideal) x4 x5 (ix2 T n) = embed x4 x5 T n :=
  (val_main_v27_apply x4 x5 _).trans (Finset.sum_congr rfl fun l _ => congrArg₂ (fun a b : EReal => a * b)
    (congrArg x4 (idx2_ext (lidx_main_v27 (ix2 T n) l) (ix2 T l) rfl rfl)) (congrArg x5 (idx2_ext (ridx_main_v27 (ix2 T n) l) (ix2 l n) rfl rfl)))

/-- The incoming rows. -/
theorem incoming_eq (T : Fin 8192) (k : Fin 1024) : val_main_v30 (F := Ideal) x0 (ix2 T k) = x0 (ix2 T k) :=
  congrFun (shapeCast_self (s := S8192x1024) x0 _) _

/-- The gradient of the gate's logits. -/
theorem logit_eq (T : Fin 8192) (n : Fin 1024) : val_main_v35 (F := Ideal) x0 x1 x2 x3 x4 x5 (ix2 T n) = logitGrad x0 x1 x2 x3 x4 x5 T n := by
  have hd : val_main_v26 (F := Ideal) x1 x2 x3 (ix2 T n) = gate x1 x2 x3 T n * (Ideal.ofBits .f32 0x3F800000#32 - gate x1 x2 x3 T n) :=
    congrArg₂ (fun a b : EReal => a * b) (gate_eq x1 x2 x3 T n) (congrArg₂ (fun a b : EReal => a - b) (val_main_v24_apply (F := Ideal) _) (gate_eq x1 x2 x3 T n))
  exact (congrArg₂ (fun a b : EReal => a * b) (congrArg₂ (fun a b : EReal => a * b) (incoming_eq x0 T n) (embed_eq x4 x5 T n)) hd).trans (mul_assoc _ _ _).symm

/-- The gradient of the normalised rows. -/
theorem back_eq (T : Fin 8192) (k : Fin 1024) : val_main_v38 (F := Ideal) x0 x1 x2 x3 x4 x5 (ix2 T k) = normGrad x0 x1 x2 x3 x4 x5 T k :=
  (val_main_v38_apply x0 x1 x2 x3 x4 x5 _).trans (Finset.sum_congr rfl fun n _ => congrArg₂ (fun a b : EReal => a * b)
    ((congrArg (val_main_v35 (F := Ideal) x0 x1 x2 x3 x4 x5) (idx2_ext (lidx_main_v38 (ix2 T k) n) (ix2 T n) rfl rfl)).trans (logit_eq x0 x1 x2 x3 x4 x5 T n))
    (congrArg x3 (idx2_ext (ridx_main_v38 (ix2 T k) n) (ix2 k n) rfl rfl)))

/-- The gradient of the gate's weight. -/
theorem weightGrad_eq (k n : Fin 1024) : val_main_v37 (F := Ideal) x0 x1 x2 x3 x4 x5 (ix2 k n) = weightGrad x0 x1 x2 x3 x4 x5 k n := by
  refine (val_main_v37_apply x0 x1 x2 x3 x4 x5 _).trans ((congrArg (val_main_v36 (F := Ideal) x0 x1 x2 x3 x4 x5) (idx2_ext (idx_main_v37 (ix2 k n)) (ix2 n k) rfl rfl)).trans ?_)
  exact (val_main_v36_apply x0 x1 x2 x3 x4 x5 _).trans (Finset.sum_congr rfl fun T _ => (congrArg₂ (fun a b : EReal => a * b)
    ((congrArg (val_main_v35 (F := Ideal) x0 x1 x2 x3 x4 x5) (idx2_ext (lidx_main_v36 (ix2 n k) T) (ix2 T n) rfl rfl)).trans (logit_eq x0 x1 x2 x3 x4 x5 T n))
    ((congrArg (val_main_v16 (F := Ideal) x1 x2) (idx2_ext (ridx_main_v36 (ix2 n k) T) (ix2 T k) rfl rfl)).trans (normed_eq x1 x2 T k))).trans (mul_comm _ _))

/-- The gradient of the embedding's weight. -/
theorem embedGrad_eq (l : Fin 256) (n : Fin 1024) : val_main_v34 (F := Ideal) x0 x1 x2 x3 x4 (ix2 l n) = embedGrad x0 x1 x2 x3 x4 l n := by
  refine (val_main_v34_apply x0 x1 x2 x3 x4 _).trans ((congrArg (val_main_v33 (F := Ideal) x0 x1 x2 x3 x4) (idx2_ext (idx_main_v34 (ix2 l n)) (ix2 n l) rfl rfl)).trans ?_)
  have h31 : ∀ T, val_main_v31 (F := Ideal) x0 x1 x2 x3 (ix2 T n) = (x0 (ix2 T n) : EReal) * gate x1 x2 x3 T n := fun T =>
    (congrArg₂ (fun a b : EReal => a * b) (gate_eq x1 x2 x3 T n) (incoming_eq x0 T n)).trans (mul_comm _ _)
  exact (val_main_v33_apply x0 x1 x2 x3 x4 _).trans (Finset.sum_congr rfl fun T _ => (congrArg₂ (fun a b : EReal => a * b)
    ((congrArg (val_main_v31 (F := Ideal) x0 x1 x2 x3) (idx2_ext (lidx_main_v33 (ix2 n l) T) (ix2 T n) rfl rfl)).trans (h31 T))
    (congrArg x4 (idx2_ext (ridx_main_v33 (ix2 n l) T) (ix2 T l) rfl rfl))).trans (mul_comm _ _))

/-- The gain's gradient. -/
theorem gainGrad_eq (k : Fin 1024) : val_main_v60 (F := Ideal) x0 x1 x2 x3 x4 x5 (ix2 (0 : Fin 1) k) = gainGrad x0 x1 x2 x3 x4 x5 k := by
  have h40 : val_main_v40 (F := Ideal) x0 x1 x2 x3 x4 x5 (ix1 k) = gainGrad x0 x1 x2 x3 x4 x5 k := by
    refine (val_main_v40_apply x0 x1 x2 x3 x4 x5 _).trans ?_
    refine (congrArg₂ (fun a b : EReal => a + b) ((val_main_cst_6_apply (F := Ideal) _).trans Ideal.ofBits_zero_f32) (Finset.sum_congr rfl fun T _ => ?_)).trans (zero_add _)
    refine (congrArg (val_main_v39 (F := Ideal) x0 x1 x2 x3 x4 x5) (idx2_ext (idx_main_v40 (ix1 k) T) (ix2 T k) rfl rfl)).trans ?_
    exact (congrArg₂ (fun a b : EReal => a * b) (unit_eq x1 T k) (back_eq x0 x1 x2 x3 x4 x5 T k)).trans (mul_comm _ _)
  have h41 : val_main_v41 (F := Ideal) x0 x1 x2 x3 x4 x5 (ix2 (0 : Fin 1) k) = gainGrad x0 x1 x2 x3 x4 x5 k := by
    refine (val_main_v41_apply x0 x1 x2 x3 x4 x5 _).trans ((congrArg (val_main_v40 (F := Ideal) x0 x1 x2 x3 x4 x5) (funext fun a => Fin.ext ?_)).trans h40)
    match a with
    | ⟨0, _⟩ => show 0 * 1024 + k.val = k.val; omega
  have h44 : val_main_v44 (F := Ideal) x0 x1 x2 x3 x4 x5 (ix1 k) = gainGrad x0 x1 x2 x3 x4 x5 k := by
    refine (val_main_v44_apply x0 x1 x2 x3 x4 x5 _).trans ?_
    refine (congrArg₂ (fun a b : EReal => a + b) ((val_main_cst_7_apply (F := Ideal) _).trans Ideal.ofBits_zero_f32) (Fin.sum_univ_one _)).trans ((zero_add _).trans ?_)
    exact (congrArg (val_main_v41 (F := Ideal) x0 x1 x2 x3 x4 x5) (idx2_ext (idx_main_v44 (ix1 k) 0) (ix2 (0 : Fin 1) k) rfl rfl)).trans h41
  refine (val_main_v60_apply x0 x1 x2 x3 x4 x5 _).trans ((congrArg (val_main_v44 (F := Ideal) x0 x1 x2 x3 x4 x5) (funext fun a => Fin.ext ?_)).trans h44)
  match a with
  | ⟨0, _⟩ => rfl

/-- A row's gradient times the gain. -/
theorem gained_eq (T : Fin 8192) (k : Fin 1024) : val_main_v43 (F := Ideal) x0 x1 x2 x3 x4 x5 (ix2 T k) = normGrad x0 x1 x2 x3 x4 x5 T k * x2 (ix2 (0 : Fin 1) k) := by
  have h42 : val_main_v42 (F := Ideal) x2 (ix2 T k) = x2 (ix2 (0 : Fin 1) k) := gain_eq x2 T k
  exact congrArg₂ (fun a b : EReal => a * b) (back_eq x0 x1 x2 x3 x4 x5 T k) h42

/-- What reaches a row's mean square, over the row's length. -/
theorem square_eq (T : Fin 8192) (k : Fin 1024) : val_main_v55 (F := Ideal) x0 x1 x2 x3 x4 x5 (ix2 T k)
    = Ideal.div ((∑ l : Fin 1024, (x1 (ix2 T l) : EReal) * (normGrad x0 x1 x2 x3 x4 x5 T l * x2 (ix2 (0 : Fin 1) l)))
      * (Ideal.ofBits .f32 0xBF000000#32 * Ideal.div (scale fun l => x1 (ix2 T l)) (meanSq fun l => x1 (ix2 T l)))) (Ideal.ofBits .f32 0x44800000#32) := by
  have h46 : val_main_v46 (F := Ideal) x0 x1 x2 x3 x4 x5 (ix1 T) = ∑ l : Fin 1024, (x1 (ix2 T l) : EReal) * (normGrad x0 x1 x2 x3 x4 x5 T l * x2 (ix2 (0 : Fin 1) l)) := by
    refine (val_main_v46_apply x0 x1 x2 x3 x4 x5 _).trans ?_
    refine (congrArg₂ (fun a b : EReal => a + b) ((val_main_cst_8_apply (F := Ideal) _).trans Ideal.ofBits_zero_f32) (Finset.sum_congr rfl fun l _ => ?_)).trans (zero_add _)
    refine (congrArg (val_main_v45 (F := Ideal) x0 x1 x2 x3 x4 x5) (idx2_ext (idx_main_v46 (ix1 T) l) (ix2 T l) rfl rfl)).trans ?_
    exact congrArg (fun z : EReal => (x1 (ix2 T l) : EReal) * z) (gained_eq x0 x1 x2 x3 x4 x5 T l)
  have e47 : idx_main_v47 (ix2 T (0 : Fin 1)) = ix1 T := funext fun a => Fin.ext (by
    match a with
    | ⟨0, _⟩ => show T.val * 1 + 0 = T.val; omega)
  have h47 := (val_main_v47_apply x0 x1 x2 x3 x4 x5 (ix2 T (0 : Fin 1))).trans ((congrArg (val_main_v46 (F := Ideal) x0 x1 x2 x3 x4 x5) e47).trans h46)
  have h11 : val_main_v11 (F := Ideal) x1 (ix2 T (0 : Fin 1)) = Ideal.ofBits .f32 0xBF000000#32 * Ideal.div (scale fun l => x1 (ix2 T l)) (meanSq fun l => x1 (ix2 T l)) :=
    congrArg₂ (fun a b : EReal => a * b) (val_main_v10_apply (F := Ideal) _) (congrArg₂ Ideal.div (scale_eq x1 T) (meanSq_eq x1 T))
  have h53 := congrArg₂ Ideal.div (congrArg₂ (fun a b : EReal => a * b) h47 h11) (val_main_v52_apply (F := Ideal) (ix2 T (0 : Fin 1)))
  have e55 : idx_main_v55 (ix2 T k) = ix1 T := funext fun a => Fin.ext (by
    match a with
    | ⟨0, _⟩ => rfl)
  refine (val_main_v55_apply x0 x1 x2 x3 x4 x5 _).trans ((congrArg (val_main_v54 (F := Ideal) x0 x1 x2 x3 x4 x5) e55).trans ((val_main_v54_apply x0 x1 x2 x3 x4 x5 _).trans ?_))
  refine (congrArg₂ (fun a b : EReal => a + b) ((val_main_cst_10_apply (F := Ideal) _).trans Ideal.ofBits_zero_f32) (Fin.sum_univ_one _)).trans ((zero_add _).trans ?_)
  exact (congrArg (val_main_v53 (F := Ideal) x0 x1 x2 x3 x4 x5) (idx2_ext (idx_main_v54 (ix1 T) 0) (ix2 T (0 : Fin 1)) rfl rfl)).trans h53

/-- The gradient of the residual rows, where the arguments are real. -/
theorem rowGrad_eq (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i))
    (T : Fin 8192) (k : Fin 1024) : val_main_v59 (F := Ideal) x0 x1 x2 x3 x4 x5 (ix2 T k) = rowGrad x0 x1 x2 x3 x4 x5 T k := by
  have h48 : val_main_v48 (F := Ideal) x1 (ix2 T k) = scale fun l => x1 (ix2 T l) := spread_eq x1 T k
  have h49 := congrArg₂ (fun a b : EReal => a * b) (gained_eq x0 x1 x2 x3 x4 x5 T k) h48
  have h55 := square_eq x0 x1 x2 x3 x4 x5 T k
  refine Eq.trans (congrArg₂ (fun a b : EReal => a + b) (congrArg₂ (fun a b : EReal => (x0 (ix2 T k) + a) + x1 (ix2 T k) * b) h49 h55) (congrArg (fun z : EReal => z * x1 (ix2 T k)) h55)) ?_
  exact (through_terms (h0 (ix2 T k)) (fun l => h1 (ix2 T l)) (fun l => (normGrad_real h0 h1 h2 h3 h4 h5 T l).mul (h2 (ix2 (0 : Fin 1) l))) k).symm

end Cert.Reference7Ideal.Stages

end
-- ==== Proof.GateWhole.lean ====
/-
  The gate's backward call over whole arrays: what each of its six result arrays holds, from the arguments.
-/
module

public import proofs.«01_k».proof.Proof.GateRead
public import proofs.«01_k».proof.Proof.RefGate
public import Idealize.ShloMosaic.Lib.StableHlo.RunRead

@[expose] public section

noncomputable section

open scoped BigOperators

namespace Cert.Kernel7Ideal.Tile

open Idealize.ShloMosaic Idealize.ShloMosaic.TcCoe Idealize.SL.Sem Idealize.ShloMosaic.ValueIdx Idealize.ShloMosaic.StableHlo
open Cert.Kernel7Ideal Cert.Kernel7Ideal.Gen Cert.Mat Cert.Mlp Cert.Gate

section Lines

variable (V0 : Valuation τ sig (Elt Ideal))

set_option maxRecDepth 8192 in
set_option maxHeartbeats 4000000 in
/-- The gate as the call is given it: the reference's stage. -/
theorem line_gate : after Gen.hostOps0 V0 (no_index (Proc.devRef .tc main_v21)) = truncf (F := Ideal) (s := S8192x1024) (φ := .f32) .bf16 (Cert.Reference7Ideal.Read.val_main_v23 (F := Ideal) (V0 (Proc.devRef .tc main_arg1)) (V0 (Proc.devRef .tc main_arg2)) (V0 (Proc.devRef .tc main_arg3))) bitsLt_bf16_f32 := by
  simp only [Gen.hostOps0]
  after_results_simp
  all_goals rfl

set_option maxRecDepth 8192 in
set_option maxHeartbeats 4000000 in
/-- The embedding as the call is given it. -/
theorem line_embed : after Gen.hostOps0 V0 (no_index (Proc.devRef .tc main_v22)) = truncf (F := Ideal) (s := S8192x256) (φ := .f32) .bf16 ((V0 (Proc.devRef .tc main_arg4))) bitsLt_bf16_f32 := by
  simp only [Gen.hostOps0]
  after_results_simp
  all_goals rfl

set_option maxRecDepth 8192 in
set_option maxHeartbeats 4000000 in
/-- The embedding's weight as the call is given it. -/
theorem line_down : after Gen.hostOps0 V0 (no_index (Proc.devRef .tc main_v23)) = truncf (F := Ideal) (s := S256x1024) (φ := .f32) .bf16 ((V0 (Proc.devRef .tc main_arg5))) bitsLt_bf16_f32 := by
  simp only [Gen.hostOps0]
  after_results_simp
  all_goals rfl

set_option maxRecDepth 8192 in
set_option maxHeartbeats 4000000 in
/-- The gate's weight as the call is given it. -/
theorem line_weight : after Gen.hostOps0 V0 (no_index (Proc.devRef .tc main_v24)) = truncf (F := Ideal) (s := S1024x1024) (φ := .f32) .bf16 ((V0 (Proc.devRef .tc main_arg3))) bitsLt_bf16_f32 := by
  simp only [Gen.hostOps0]
  after_results_simp
  all_goals rfl

set_option maxRecDepth 8192 in
set_option maxHeartbeats 4000000 in
/-- The normalised rows as the call is given them: the reference's stage. -/
theorem line_normed : after Gen.hostOps0 V0 (no_index (Proc.devRef .tc main_v25)) = truncf (F := Ideal) (s := S8192x1024) (φ := .f32) .bf16 (Cert.Reference7Ideal.Read.val_main_v16 (F := Ideal) (V0 (Proc.devRef .tc main_arg1)) (V0 (Proc.devRef .tc main_arg2))) bitsLt_bf16_f32 := by
  simp only [Gen.hostOps0]
  after_results_simp
  all_goals rfl

end Lines

variable (m : (ℓ : Loc nD τ sig) → Buf (Elt Ideal) ℓ) (c : Dev nD)

/-- The incoming rows. -/
abbrev argE : main_arg0.ty.shape.Idx → EReal := m ((c.tc : Thread nD τ).loc main_arg0)
/-- The residual rows the gate was given. -/
abbrev argH : main_arg1.ty.shape.Idx → EReal := m ((c.tc : Thread nD τ).loc main_arg1)
/-- The gain. -/
abbrev argG : main_arg2.ty.shape.Idx → EReal := m ((c.tc : Thread nD τ).loc main_arg2)
/-- The gate's weight. -/
abbrev argW : main_arg3.ty.shape.Idx → EReal := m ((c.tc : Thread nD τ).loc main_arg3)
/-- The per-layer embedding. -/
abbrev argP : main_arg4.ty.shape.Idx → EReal := m ((c.tc : Thread nD τ).loc main_arg4)
/-- The embedding's weight. -/
abbrev argQ : main_arg5.ty.shape.Idx → EReal := m ((c.tc : Thread nD τ).loc main_arg5)

/-- The array of the gate. -/
theorem gateArr_apply (T : Fin 8192) (n : Fin 1024) : V m c main_v21 (ix2 T n) = gate (argH m c) (argG m c) (argW m c) T n := by
  have e : V m c main_v21 = truncf (F := Ideal) (s := S8192x1024) (φ := .f32) .bf16 (Cert.Reference7Ideal.Read.val_main_v23 (F := Ideal) (argH m c) (argG m c) (argW m c)) bitsLt_bf16_f32 := by
    show after (List.flatten [Gen.hostOps0]) (fun b => m (c, b)) (Proc.devRef .tc main_v21) = _
    rw [List.flatten_cons, List.flatten_nil, List.append_nil, line_gate]
  exact (congrFun e (ix2 T n)).trans (Cert.Reference7Ideal.Stages.gate_eq (argH m c) (argG m c) (argW m c) T n)

/-- The array of the embedding. -/
theorem embedArr_apply (T : Fin 8192) (l : Fin 256) : V m c main_v22 (ix2 T l) = argP m c (ix2 T l) := by
  have e : V m c main_v22 = truncf (F := Ideal) (s := S8192x256) (φ := .f32) .bf16 (argP m c) bitsLt_bf16_f32 := by
    show after (List.flatten [Gen.hostOps0]) (fun b => m (c, b)) (Proc.devRef .tc main_v22) = _
    rw [List.flatten_cons, List.flatten_nil, List.append_nil, line_embed]
  exact congrFun e (ix2 T l)

/-- The array of the embedding's weight. -/
theorem downArr_apply (l : Fin 256) (n : Fin 1024) : V m c main_v23 (ix2 l n) = argQ m c (ix2 l n) := by
  have e : V m c main_v23 = truncf (F := Ideal) (s := S256x1024) (φ := .f32) .bf16 (argQ m c) bitsLt_bf16_f32 := by
    show after (List.flatten [Gen.hostOps0]) (fun b => m (c, b)) (Proc.devRef .tc main_v23) = _
    rw [List.flatten_cons, List.flatten_nil, List.append_nil, line_down]
  exact congrFun e (ix2 l n)

/-- The array of the gate's weight. -/
theorem weightArr_apply (k n : Fin 1024) : V m c main_v24 (ix2 k n) = argW m c (ix2 k n) := by
  have e : V m c main_v24 = truncf (F := Ideal) (s := S1024x1024) (φ := .f32) .bf16 (argW m c) bitsLt_bf16_f32 := by
    show after (List.flatten [Gen.hostOps0]) (fun b => m (c, b)) (Proc.devRef .tc main_v24) = _
    rw [List.flatten_cons, List.flatten_nil, List.append_nil, line_weight]
  exact congrFun e (ix2 k n)

/-- The array of the normalised rows. -/
theorem normedArr_apply (T : Fin 8192) (k : Fin 1024) : V m c main_v25 (ix2 T k) = normed (argH m c) (argG m c) T k := by
  have e : V m c main_v25 = truncf (F := Ideal) (s := S8192x1024) (φ := .f32) .bf16 (Cert.Reference7Ideal.Read.val_main_v16 (F := Ideal) (argH m c) (argG m c)) bitsLt_bf16_f32 := by
    show after (List.flatten [Gen.hostOps0]) (fun b => m (c, b)) (Proc.devRef .tc main_v25) = _
    rw [List.flatten_cons, List.flatten_nil, List.append_nil, line_normed]
  exact (congrFun e (ix2 T k)).trans (Cert.Reference7Ideal.Stages.normed_eq (argH m c) (argG m c) T k)

/-- Window 0's block at a point: the tile's rows. -/
theorem read0_apply (X : main_arg0.ty.shape.Idx → EReal) (t : Fin cfg0.N) (i : Fin 1024) (k : Fin 1024) :
    ((cfg0.win 0).blk t).view.read (Elt Ideal) X (ix2 i k) = X (ix2 (row t i) k) := by
  have hi : ∀ t : Fin cfg0.N, win0_0.index t 0 = t.val ∧ win0_0.index t 1 = 0 := by decide +kernel
  rw [View.read_apply]
  refine congrArg X (funext fun b => Fin.ext ?_)
  match b with
  | ⟨0, _⟩ => show win0_0.index t 0 * 1024 + 1 * i.val = t.val * 1024 + i.val; rw [(hi t).1]; omega
  | ⟨1, _⟩ => show win0_0.index t 1 * 1024 + 1 * k.val = k.val; rw [(hi t).2]; omega

/-- Window 1's block at a point: the tile's rows. -/
theorem read1_apply (X : main_v21.ty.shape.Idx → EReal) (t : Fin cfg0.N) (i : Fin 1024) (k : Fin 1024) :
    ((cfg0.win 1).blk t).view.read (Elt Ideal) X (ix2 i k) = X (ix2 (row t i) k) := by
  have hi : ∀ t : Fin cfg0.N, win0_1.index t 0 = t.val ∧ win0_1.index t 1 = 0 := by decide +kernel
  rw [View.read_apply]
  refine congrArg X (funext fun b => Fin.ext ?_)
  match b with
  | ⟨0, _⟩ => show win0_1.index t 0 * 1024 + 1 * i.val = t.val * 1024 + i.val; rw [(hi t).1]; omega
  | ⟨1, _⟩ => show win0_1.index t 1 * 1024 + 1 * k.val = k.val; rw [(hi t).2]; omega

/-- Window 2's block at a point: the tile's rows. -/
theorem read2_apply (X : main_v22.ty.shape.Idx → EReal) (t : Fin cfg0.N) (i : Fin 1024) (k : Fin 256) :
    ((cfg0.win 2).blk t).view.read (Elt Ideal) X (ix2 i k) = X (ix2 (row t i) k) := by
  have hi : ∀ t : Fin cfg0.N, win0_2.index t 0 = t.val ∧ win0_2.index t 1 = 0 := by decide +kernel
  rw [View.read_apply]
  refine congrArg X (funext fun b => Fin.ext ?_)
  match b with
  | ⟨0, _⟩ => show win0_2.index t 0 * 1024 + 1 * i.val = t.val * 1024 + i.val; rw [(hi t).1]; omega
  | ⟨1, _⟩ => show win0_2.index t 1 * 256 + 1 * k.val = k.val; rw [(hi t).2]; omega

/-- Window 3's block at a point is the whole array. -/
theorem read3_apply (X : main_v23.ty.shape.Idx → EReal) (t : Fin cfg0.N) (i : Fin 256) (k : Fin 1024) :
    ((cfg0.win 3).blk t).view.read (Elt Ideal) X (ix2 i k) = X (ix2 i k) := by
  have hi : ∀ t : Fin cfg0.N, win0_3.index t 0 = 0 ∧ win0_3.index t 1 = 0 := by decide +kernel
  rw [View.read_apply]
  refine congrArg X (funext fun b => Fin.ext ?_)
  match b with
  | ⟨0, _⟩ => show win0_3.index t 0 * 256 + 1 * i.val = i.val; rw [(hi t).1]; omega
  | ⟨1, _⟩ => show win0_3.index t 1 * 1024 + 1 * k.val = k.val; rw [(hi t).2]; omega

/-- Window 4's block at a point: the tile's rows. -/
theorem read4_apply (X : main_arg1.ty.shape.Idx → EReal) (t : Fin cfg0.N) (i : Fin 1024) (k : Fin 1024) :
    ((cfg0.win 4).blk t).view.read (Elt Ideal) X (ix2 i k) = X (ix2 (row t i) k) := by
  have hi : ∀ t : Fin cfg0.N, win0_4.index t 0 = t.val ∧ win0_4.index t 1 = 0 := by decide +kernel
  rw [View.read_apply]
  refine congrArg X (funext fun b => Fin.ext ?_)
  match b with
  | ⟨0, _⟩ => show win0_4.index t 0 * 1024 + 1 * i.val = t.val * 1024 + i.val; rw [(hi t).1]; omega
  | ⟨1, _⟩ => show win0_4.index t 1 * 1024 + 1 * k.val = k.val; rw [(hi t).2]; omega

/-- Window 5's block at a point is the whole row. -/
theorem read5_apply (X : main_arg2.ty.shape.Idx → EReal) (t : Fin cfg0.N) (k : Fin 1024) :
    ((cfg0.win 5).blk t).view.read (Elt Ideal) X (ix2 (0 : Fin 1) k) = X (ix2 (0 : Fin 1) k) := by
  have hi : ∀ t : Fin cfg0.N, win0_5.index t 0 = 0 ∧ win0_5.index t 1 = 0 := by decide +kernel
  rw [View.read_apply]
  refine congrArg X (funext fun b => Fin.ext ?_)
  match b with
  | ⟨0, _⟩ => show win0_5.index t 0 * 1 + 1 * 0 = 0; rw [(hi t).1]
  | ⟨1, _⟩ => show win0_5.index t 1 * 1024 + 1 * k.val = k.val; rw [(hi t).2]; omega

/-- Window 6's block at a point is the whole array. -/
theorem read6_apply (X : main_v24.ty.shape.Idx → EReal) (t : Fin cfg0.N) (i : Fin 1024) (k : Fin 1024) :
    ((cfg0.win 6).blk t).view.read (Elt Ideal) X (ix2 i k) = X (ix2 i k) := by
  have hi : ∀ t : Fin cfg0.N, win0_6.index t 0 = 0 ∧ win0_6.index t 1 = 0 := by decide +kernel
  rw [View.read_apply]
  refine congrArg X (funext fun b => Fin.ext ?_)
  match b with
  | ⟨0, _⟩ => show win0_6.index t 0 * 1024 + 1 * i.val = i.val; rw [(hi t).1]; omega
  | ⟨1, _⟩ => show win0_6.index t 1 * 1024 + 1 * k.val = k.val; rw [(hi t).2]; omega

/-- Window 7's block at a point: the tile's rows. -/
theorem read7_apply (X : main_v25.ty.shape.Idx → EReal) (t : Fin cfg0.N) (i : Fin 1024) (k : Fin 1024) :
    ((cfg0.win 7).blk t).view.read (Elt Ideal) X (ix2 i k) = X (ix2 (row t i) k) := by
  have hi : ∀ t : Fin cfg0.N, win0_7.index t 0 = t.val ∧ win0_7.index t 1 = 0 := by decide +kernel
  rw [View.read_apply]
  refine congrArg X (funext fun b => Fin.ext ?_)
  match b with
  | ⟨0, _⟩ => show win0_7.index t 0 * 1024 + 1 * i.val = t.val * 1024 + i.val; rw [(hi t).1]; omega
  | ⟨1, _⟩ => show win0_7.index t 1 * 1024 + 1 * k.val = k.val; rw [(hi t).2]; omega

/-- Window 8's block at a point: the tile's rows. -/
theorem read8_apply (X : main_v26_0.ty.shape.Idx → EReal) (t : Fin cfg0.N) (i : Fin 1024) (k : Fin 1024) :
    ((cfg0.win 8).blk t).view.read (Elt Ideal) X (ix2 i k) = X (ix2 (row t i) k) := by
  have hi : ∀ t : Fin cfg0.N, win0_8.index t 0 = t.val ∧ win0_8.index t 1 = 0 := by decide +kernel
  rw [View.read_apply]
  refine congrArg X (funext fun b => Fin.ext ?_)
  match b with
  | ⟨0, _⟩ => show win0_8.index t 0 * 1024 + 1 * i.val = t.val * 1024 + i.val; rw [(hi t).1]; omega
  | ⟨1, _⟩ => show win0_8.index t 1 * 1024 + 1 * k.val = k.val; rw [(hi t).2]; omega

/-- Window 9's block at a point is the whole row. -/
theorem read9_apply (X : main_v26_1.ty.shape.Idx → EReal) (t : Fin cfg0.N) (k : Fin 1024) :
    ((cfg0.win 9).blk t).view.read (Elt Ideal) X (ix2 (0 : Fin 1) k) = X (ix2 (0 : Fin 1) k) := by
  have hi : ∀ t : Fin cfg0.N, win0_9.index t 0 = 0 ∧ win0_9.index t 1 = 0 := by decide +kernel
  rw [View.read_apply]
  refine congrArg X (funext fun b => Fin.ext ?_)
  match b with
  | ⟨0, _⟩ => show win0_9.index t 0 * 1 + 1 * 0 = 0; rw [(hi t).1]
  | ⟨1, _⟩ => show win0_9.index t 1 * 1024 + 1 * k.val = k.val; rw [(hi t).2]; omega

/-- Window 10's block at a point is the whole array. -/
theorem read10_apply (X : main_v26_2.ty.shape.Idx → EReal) (t : Fin cfg0.N) (i : Fin 1024) (k : Fin 1024) :
    ((cfg0.win 10).blk t).view.read (Elt Ideal) X (ix2 i k) = X (ix2 i k) := by
  have hi : ∀ t : Fin cfg0.N, win0_10.index t 0 = 0 ∧ win0_10.index t 1 = 0 := by decide +kernel
  rw [View.read_apply]
  refine congrArg X (funext fun b => Fin.ext ?_)
  match b with
  | ⟨0, _⟩ => show win0_10.index t 0 * 1024 + 1 * i.val = i.val; rw [(hi t).1]; omega
  | ⟨1, _⟩ => show win0_10.index t 1 * 1024 + 1 * k.val = k.val; rw [(hi t).2]; omega

/-- Window 11's block at a point is the whole array. -/
theorem read11_apply (X : main_v26_3.ty.shape.Idx → EReal) (t : Fin cfg0.N) (i : Fin 1024) (k : Fin 1024) :
    ((cfg0.win 11).blk t).view.read (Elt Ideal) X (ix2 i k) = X (ix2 i k) := by
  have hi : ∀ t : Fin cfg0.N, win0_11.index t 0 = 0 ∧ win0_11.index t 1 = 0 := by decide +kernel
  rw [View.read_apply]
  refine congrArg X (funext fun b => Fin.ext ?_)
  match b with
  | ⟨0, _⟩ => show win0_11.index t 0 * 1024 + 1 * i.val = i.val; rw [(hi t).1]; omega
  | ⟨1, _⟩ => show win0_11.index t 1 * 1024 + 1 * k.val = k.val; rw [(hi t).2]; omega

/-- Window 12's block at a point is the whole array. -/
theorem read12_apply (X : main_v26_4.ty.shape.Idx → EReal) (t : Fin cfg0.N) (i : Fin 256) (k : Fin 1024) :
    ((cfg0.win 12).blk t).view.read (Elt Ideal) X (ix2 i k) = X (ix2 i k) := by
  have hi : ∀ t : Fin cfg0.N, win0_12.index t 0 = 0 ∧ win0_12.index t 1 = 0 := by decide +kernel
  rw [View.read_apply]
  refine congrArg X (funext fun b => Fin.ext ?_)
  match b with
  | ⟨0, _⟩ => show win0_12.index t 0 * 256 + 1 * i.val = i.val; rw [(hi t).1]; omega
  | ⟨1, _⟩ => show win0_12.index t 1 * 1024 + 1 * k.val = k.val; rw [(hi t).2]; omega

/-- Window 13's block at a point is the whole array. -/
theorem read13_apply (X : main_v26_5.ty.shape.Idx → EReal) (t : Fin cfg0.N) (i : Fin 256) (k : Fin 1024) :
    ((cfg0.win 13).blk t).view.read (Elt Ideal) X (ix2 i k) = X (ix2 i k) := by
  have hi : ∀ t : Fin cfg0.N, win0_13.index t 0 = 0 ∧ win0_13.index t 1 = 0 := by decide +kernel
  rw [View.read_apply]
  refine congrArg X (funext fun b => Fin.ext ?_)
  match b with
  | ⟨0, _⟩ => show win0_13.index t 0 * 256 + 1 * i.val = i.val; rw [(hi t).1]; omega
  | ⟨1, _⟩ => show win0_13.index t 1 * 1024 + 1 * k.val = k.val; rw [(hi t).2]; omega

section Tiles

variable (t : Fin cfg0.N)

/-- What window 0 stages. -/
theorem iblk0_apply (i k : Fin 1024) : iblk m c 0 t (ix2 i k) = argE m c (ix2 (row t i) k) :=
  (read0_apply (V m c main_arg0) t i k).trans (congrFun (V_main_arg0 m c) _)

/-- What window 1 stages. -/
theorem iblk1_apply (i n : Fin 1024) : iblk m c 1 t (ix2 i n) = gate (argH m c) (argG m c) (argW m c) (row t i) n :=
  (read1_apply (V m c main_v21) t i n).trans (gateArr_apply m c (row t i) n)

/-- What window 2 stages. -/
theorem iblk2_apply (i : Fin 1024) (l : Fin 256) : iblk m c 2 t (ix2 i l) = argP m c (ix2 (row t i) l) :=
  (read2_apply (V m c main_v22) t i l).trans (embedArr_apply m c (row t i) l)

/-- What window 3 stages. -/
theorem iblk3_apply (l : Fin 256) (n : Fin 1024) : iblk m c 3 t (ix2 l n) = argQ m c (ix2 l n) :=
  (read3_apply (V m c main_v23) t l n).trans (downArr_apply m c l n)

/-- What window 4 stages. -/
theorem iblk4_apply (i k : Fin 1024) : iblk m c 4 t (ix2 i k) = argH m c (ix2 (row t i) k) :=
  (read4_apply (V m c main_arg1) t i k).trans (congrFun (V_main_arg1 m c) _)

/-- What window 5 stages. -/
theorem iblk5_apply (k : Fin 1024) : iblk m c 5 t (ix2 (0 : Fin 1) k) = argG m c (ix2 (0 : Fin 1) k) :=
  (read5_apply (V m c main_arg2) t k).trans (congrFun (V_main_arg2 m c) _)

/-- What window 6 stages. -/
theorem iblk6_apply (k n : Fin 1024) : iblk m c 6 t (ix2 k n) = argW m c (ix2 k n) :=
  (read6_apply (V m c main_v24) t k n).trans (weightArr_apply m c k n)

/-- What window 7 stages. -/
theorem iblk7_apply (i k : Fin 1024) : iblk m c 7 t (ix2 i k) = normed (argH m c) (argG m c) (row t i) k :=
  (read7_apply (V m c main_v25) t i k).trans (normedArr_apply m c (row t i) k)

/-- The embedding's rows as the tile has them. -/
abbrev tileP : Vec Ideal S1024x256 .bf16 := iblk m c 2 t

/-- The embedding's weight as the tile has it. -/
abbrev tileQ : Vec Ideal S256x1024 .bf16 := iblk m c 3 t

/-- A tile's gradient of the logits at an element. -/
theorem logit_tile (i n : Fin 1024) : logit (iblk m c 0 t) (iblk m c 1 t) (iblk m c 2 t) (iblk m c 3 t) i n = logitGrad (argE m c) (argH m c) (argG m c) (argW m c) (argP m c) (argQ m c) (row t i) n := by
  have hm : (∑ l : Fin 256, (tileP m c t (ix2 i l) : EReal) * tileQ m c t (ix2 l n)) = embed (argP m c) (argQ m c) (row t i) n :=
    Finset.sum_congr rfl fun l _ => congrArg₂ (fun a b : EReal => a * b) (iblk2_apply m c t i l) (iblk3_apply m c t l n)
  have hg := iblk1_apply m c t i n
  unfold logit logitGrad
  refine congrArg₂ (fun a b : EReal => a * b) (congrArg₂ (fun a b : EReal => a * b) (congrArg₂ (fun a b : EReal => a * b) (iblk0_apply m c t i n) hm) hg) ?_
  exact congrArg (fun z : EReal => Ideal.ofBits .f32 0x3F800000#32 - z) hg

/-- A tile's gradient of the logits. -/
abbrev logits : FVec Ideal S1024x1024 .bf16 := k0_pay8 (iblk m c 0 t) (iblk m c 1 t) (iblk m c 2 t) (iblk m c 3 t)

/-- A tile's residual rows. -/
abbrev tileH : Vec Ideal S1024x1024 .f32 := iblk m c 4 t

/-- The gain as the tile has it. -/
abbrev tileG : Vec Ideal S1x1024 .f32 := iblk m c 5 t

/-- The gate's weight as the tile has it. -/
abbrev tileW : Vec Ideal S1024x1024 .bf16 := iblk m c 6 t

/-- A tile's gradient of the normalised rows at an element. -/
theorem back_tile (i k : Fin 1024) : (∑ n : Fin 1024, (logits m c t (ix2 i n) : EReal) * tileW m c t (ix2 k n)) = normGrad (argE m c) (argH m c) (argG m c) (argW m c) (argP m c) (argQ m c) (row t i) k :=
  Finset.sum_congr rfl fun n _ => congrArg₂ (fun a b : EReal => a * b) ((logit_apply _ _ _ _ i n).trans (logit_tile m c t i n)) (iblk6_apply m c t k n)

/-- A tile's row of the residual. -/
theorem row_tile (i : Fin 1024) : ((fun l => tileH m c t (ix2 i l)) : Fin 1024 → EReal) = fun l => argH m c (ix2 (row t i) l) :=
  funext fun l => iblk4_apply m c t i l

/-- A tile's row over its root mean square. -/
theorem unit_tile (i k : Fin 1024) :
    ((tileH m c t (ix2 i k) : EReal) * scale fun l => tileH m c t (ix2 i l)) = unit (argH m c) (row t i) k :=
  congrArg₂ (fun a b : EReal => a * b) (iblk4_apply m c t i k) (congrArg scale (row_tile m c t i))

/-- After any point the first result's buffer holds the tile's residual gradient. -/
theorem outs8 : (outsAt0 m c t.val t.isLt).1 = k0_pay14 (iblk m c 0 t) (logits m c t) (tileG m c t) (tileH m c t) (tileW m c t) := by
  by_cases h0 : t.val % 8 = 0
  · have h1 : ¬t.val % 8 = 7 := by omega
    simp only [outsAt0_A m c t h0 h1]
    exact (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).1
  · by_cases h1 : t.val % 8 = 7
    · simp only [outsAt0_C m c t h0 h1]
      exact (last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.1 (fun h => h0 ((hcond0_0 t).mp h)) ((hcond0_1 t).mpr h1)).1
    · simp only [outsAt0_B m c t h0 h1]
      exact (middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.1 (fun h => h0 ((hcond0_0 t).mp h)) (fun h => h1 ((hcond0_1 t).mp h))).1

/-- What the first point leaves in the three sums. -/
theorem sums_first (h0 : t.val % 8 = 0) : (outsAt0 m c t.val t.isLt).2.1 = k0_pay15 (logits m c t) (tileH m c t) (tileW m c t) (k0_pay3 (F := Ideal))
    ∧ (outsAt0 m c t.val t.isLt).2.2.1 = k0_pay9 (iblk m c 0 t) (iblk m c 1 t) (iblk m c 2 t) (iblk m c 3 t) (k0_pay4 (F := Ideal)) (iblk m c 7 t)
    ∧ (outsAt0 m c t.val t.isLt).2.2.2.2.1 = k0_pay10 (iblk m c 0 t) (iblk m c 1 t) (iblk m c 2 t) (k0_pay5 (F := Ideal)) := by
  have h1 : ¬t.val % 8 = 7 := by omega
  simp only [outsAt0_A m c t h0 h1]
  exact (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).2

/-- What a later point leaves in the three sums, from what the point before left. -/
theorem sums_later (h0 : ¬t.val % 8 = 0) : (outsAt0 m c t.val t.isLt).2.1 = k0_pay15 (logits m c t) (tileH m c t) (tileW m c t) (outsAt0 m c (t.val - 1) (Nat.lt_of_le_of_lt (Nat.sub_le _ _) t.isLt)).2.1
    ∧ (outsAt0 m c t.val t.isLt).2.2.1 = k0_pay9 (iblk m c 0 t) (iblk m c 1 t) (iblk m c 2 t) (iblk m c 3 t) (outsAt0 m c (t.val - 1) (Nat.lt_of_le_of_lt (Nat.sub_le _ _) t.isLt)).2.2.1 (iblk m c 7 t)
    ∧ (outsAt0 m c t.val t.isLt).2.2.2.2.1 = k0_pay10 (iblk m c 0 t) (iblk m c 1 t) (iblk m c 2 t) (outsAt0 m c (t.val - 1) (Nat.lt_of_le_of_lt (Nat.sub_le _ _) t.isLt)).2.2.2.2.1 := by
  by_cases h1 : t.val % 8 = 7
  · simp only [outsAt0_C m c t h0 h1]
    have e := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.1 (fun h => h0 ((hcond0_0 t).mp h)) ((hcond0_1 t).mpr h1)
    exact ⟨e.2.1, e.2.2.1, e.2.2.2.1⟩
  · simp only [outsAt0_B m c t h0 h1]
    exact (middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.1 (fun h => h0 ((hcond0_0 t).mp h)) (fun h => h1 ((hcond0_1 t).mp h))).2

/-- The last point leaves the two weights' gradients once more in half precision. -/
theorem halves_last (h1 : t.val % 8 = 7) (i n : Fin 1024) (l : Fin 256) :
    (outsAt0 m c t.val t.isLt).2.2.2.1 (ix2 i n) = (outsAt0 m c t.val t.isLt).2.2.1 (ix2 i n)
    ∧ (outsAt0 m c t.val t.isLt).2.2.2.2.2 (ix2 l n) = (outsAt0 m c t.val t.isLt).2.2.2.2.1 (ix2 l n) := by
  have h0 : ¬t.val % 8 = 0 := by omega
  simp only [outsAt0_C m c t h0 h1]
  have e := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.1 (fun h => h0 ((hcond0_0 t).mp h)) ((hcond0_1 t).mpr h1)
  refine ⟨(congrFun e.2.2.2.2.1 _).trans (Eq.trans ?_ (congrFun e.2.2.1 _).symm), (congrFun e.2.2.2.2.2 _).trans (Eq.trans ?_ (congrFun e.2.2.2.1 _).symm)⟩
  · unfold k0_pay1
    rw [shapeCast_self]
    rfl
  · unfold k0_pay2
    rw [shapeCast_self]
    rfl

/-- One tile's part of the gain's gradient. -/
def tileGain (k : Fin 1024) : EReal := ∑ i : Fin 1024, normGrad (argE m c) (argH m c) (argG m c) (argW m c) (argP m c) (argQ m c) (row t i) k * unit (argH m c) (row t i) k

/-- One tile's part of the gate's weight's gradient. -/
def tileWeight (k n : Fin 1024) : EReal := ∑ i : Fin 1024, normed (argH m c) (argG m c) (row t i) k * logitGrad (argE m c) (argH m c) (argG m c) (argW m c) (argP m c) (argQ m c) (row t i) n

/-- One tile's part of the embedding's weight's gradient. -/
def tileEmbed (l : Fin 256) (n : Fin 1024) : EReal := ∑ i : Fin 1024, argP m c (ix2 (row t i) l) * (argE m c (ix2 (row t i) n) * gate (argH m c) (argG m c) (argW m c) (row t i) n)

/-- One point adds its tile's part to the gain's gradient. -/
theorem gains_tile (a : Vec Ideal S1x1024 .f32) (k : Fin 1024) :
    k0_pay15 (logits m c t) (tileH m c t) (tileW m c t) a (ix2 (0 : Fin 1) k) = (a (ix2 (0 : Fin 1) k) : EReal) + tileGain m c t k :=
  (gains_apply a _ _ _ k).trans (congrArg (fun z : EReal => (a (ix2 (0 : Fin 1) k) : EReal) + z)
    (Finset.sum_congr rfl fun i _ => congrArg₂ (fun a b : EReal => a * b) (back_tile m c t i k) (unit_tile m c t i k)))

/-- One point adds its tile's part to the gate's weight's gradient. -/
theorem weight_tile (a : Vec Ideal S1024x1024 .f32) (k n : Fin 1024) :
    k0_pay9 (iblk m c 0 t) (iblk m c 1 t) (iblk m c 2 t) (iblk m c 3 t) a (iblk m c 7 t) (ix2 k n) = (a (ix2 k n) : EReal) + tileWeight m c t k n :=
  (weight_apply _ _ _ _ a _ k n).trans (congrArg (fun z : EReal => (a (ix2 k n) : EReal) + z)
    (Finset.sum_congr rfl fun i _ => congrArg₂ (fun a b : EReal => a * b) (iblk7_apply m c t i k) (logit_tile m c t i n)))

/-- One point adds its tile's part to the embedding's weight's gradient. -/
theorem embed_tile (a : Vec Ideal S256x1024 .f32) (l : Fin 256) (n : Fin 1024) :
    k0_pay10 (iblk m c 0 t) (iblk m c 1 t) (iblk m c 2 t) a (ix2 l n) = (a (ix2 l n) : EReal) + tileEmbed m c t l n :=
  (embed_apply _ _ _ a l n).trans (congrArg (fun z : EReal => (a (ix2 l n) : EReal) + z)
    (Finset.sum_congr rfl fun i _ => congrArg₂ (fun a b : EReal => a * b) (iblk2_apply m c t i l) (congrArg₂ (fun a b : EReal => a * b) (iblk0_apply m c t i n) (iblk1_apply m c t i n))))

/-- The residual gradient's array. -/
theorem result8 (i k : Fin 1024) : (dats m 0 c).arrAt 8 cfg0.N (ix2 (row t i) k) = rowGrad (argE m c) (argH m c) (argG m c) (argW m c) (argP m c) (argQ m c) (row t i) k := by
  refine (read8_apply ((dats m 0 c).arrAt 8 cfg0.N) t i k).symm.trans ?_
  rw [Value.blocks8 m c t (flush0_8 t), Value.flushed8]
  show (outsAt0 m c t.val t.isLt).1 (ix2 i k) = _
  rw [outs8]
  refine (rows_apply _ _ _ _ _ i k).trans ?_
  have ex : (fun l => (tileH m c t (ix2 i l) : EReal) * scale fun l => tileH m c t (ix2 i l) : Fin 1024 → EReal) = unit (argH m c) (row t i) := funext fun l => unit_tile m c t i l
  have eb : (fun l => (∑ n : Fin 1024, (logits m c t (ix2 i n) : EReal) * tileW m c t (ix2 l n)) * tileG m c t (ix2 (0 : Fin 1) l) : Fin 1024 → EReal)
      = fun l => normGrad (argE m c) (argH m c) (argG m c) (argW m c) (argP m c) (argQ m c) (row t i) l * argG m c (ix2 (0 : Fin 1) l) :=
    funext fun l => congrArg₂ (fun a b : EReal => a * b) (back_tile m c t i l) (iblk5_apply m c t l)
  have es : scale (fun l => tileH m c t (ix2 i l)) = scale fun l => argH m c (ix2 (row t i) l) := congrArg scale (row_tile m c t i)
  have eo : iblk m c 0 t (ix2 i k) = argE m c (ix2 (row t i) k) := iblk0_apply m c t i k
  unfold Cert.Gate.rowGrad
  exact (congrArg₂ (fun o s => through o s _ _ k) eo es).trans (congrArg₂ (fun x b => through _ _ x b k) ex eb)

end Tiles

/-- A running sum over the points: it starts from nothing and every point adds its part. -/
theorem running (f : (n : ℕ) → n < cfg0.N → EReal) (p : Fin cfg0.N → EReal)
    (first : ∀ t : Fin cfg0.N, t.val % 8 = 0 → f t.val t.isLt = p t)
    (later : ∀ t : Fin cfg0.N, ¬t.val % 8 = 0 → f t.val t.isLt = f (t.val - 1) (Nat.lt_of_le_of_lt (Nat.sub_le _ _) t.isLt) + p t) :
    ∀ (n : ℕ) (hn : n < cfg0.N), f n hn = ∑ q ∈ Finset.range (n + 1), if h : q < cfg0.N then p ⟨q, h⟩ else (0 : EReal)
  | 0, hn => by
    rw [Finset.sum_range_one, dif_pos hn]
    exact first ⟨0, hn⟩ rfl
  | n + 1, hn => by
    have hN : n + 1 < 8 := Nat.lt_of_lt_of_eq hn N_0
    have h0 : ¬(n + 1) % 8 = 0 := by omega
    rw [Finset.sum_range_succ, dif_pos hn, ← running f p first later n (Nat.lt_of_succ_lt hn)]
    exact later ⟨n + 1, hn⟩ h0

/-- The last point. -/
abbrev end0 : Fin cfg0.N := ⟨7, by rw [show cfg0.N = 8 from N_0]; decide⟩

/-- A running sum after the last point: all eight parts. -/
theorem running_end (f : (n : ℕ) → n < cfg0.N → EReal) (p : Fin cfg0.N → EReal)
    (first : ∀ t : Fin cfg0.N, t.val % 8 = 0 → f t.val t.isLt = p t)
    (later : ∀ t : Fin cfg0.N, ¬t.val % 8 = 0 → f t.val t.isLt = f (t.val - 1) (Nat.lt_of_le_of_lt (Nat.sub_le _ _) t.isLt) + p t) :
    f end0.val end0.isLt = ∑ t : Fin 8, p t := by
  rw [running f p first later end0.val end0.isLt, Finset.sum_range]
  exact Finset.sum_congr rfl fun t _ => dif_pos (Nat.lt_of_lt_of_eq t.isLt N_0.symm)

/-- After the last point the second result's buffer holds the gain's gradient. -/
theorem outs9 (k : Fin 1024) : (outsAt0 m c end0.val end0.isLt).2.1 (ix2 (0 : Fin 1) k) = gainGrad (argE m c) (argH m c) (argG m c) (argW m c) (argP m c) (argQ m c) k := by
  unfold Cert.Gate.gainGrad
  rw [sum_runs 8 1024 8192 rfl]
  refine running_end (fun n hn => (outsAt0 m c n hn).2.1 (ix2 (0 : Fin 1) k)) (fun t => tileGain m c t k) (fun t h0 => ?_) (fun t h0 => ?_)
  · refine (congrFun (sums_first m c t h0).1 _).trans ((gains_tile m c t (k0_pay3 (F := Ideal)) k).trans ?_)
    exact (congrArg (fun z : EReal => z + tileGain m c t k) Ideal.ofBits_zero_f32).trans (zero_add _)
  · exact (congrFun (sums_later m c t h0).1 _).trans (gains_tile m c t _ k)

/-- After the last point the third result's buffer holds the gate's weight's gradient. -/
theorem outs10 (k n : Fin 1024) : (outsAt0 m c end0.val end0.isLt).2.2.1 (ix2 k n) = weightGrad (argE m c) (argH m c) (argG m c) (argW m c) (argP m c) (argQ m c) k n := by
  unfold weightGrad
  rw [sum_runs 8 1024 8192 rfl]
  refine running_end (fun q hn => (outsAt0 m c q hn).2.2.1 (ix2 k n)) (fun t => tileWeight m c t k n) (fun t h0 => ?_) (fun t h0 => ?_)
  · refine (congrFun (sums_first m c t h0).2.1 _).trans ((weight_tile m c t (k0_pay4 (F := Ideal)) k n).trans ?_)
    exact (congrArg (fun z : EReal => z + tileWeight m c t k n) Ideal.ofBits_zero_f32).trans (zero_add _)
  · exact (congrFun (sums_later m c t h0).2.1 _).trans (weight_tile m c t _ k n)

/-- After the last point the fifth result's buffer holds the embedding's weight's gradient. -/
theorem outs12 (l : Fin 256) (n : Fin 1024) : (outsAt0 m c end0.val end0.isLt).2.2.2.2.1 (ix2 l n) = embedGrad (argE m c) (argH m c) (argG m c) (argW m c) (argP m c) l n := by
  unfold embedGrad
  rw [sum_runs 8 1024 8192 rfl]
  refine running_end (fun q hn => (outsAt0 m c q hn).2.2.2.2.1 (ix2 l n)) (fun t => tileEmbed m c t l n) (fun t h0 => ?_) (fun t h0 => ?_)
  · refine (congrFun (sums_first m c t h0).2.2 _).trans ((embed_tile m c t (k0_pay5 (F := Ideal)) l n).trans ?_)
    exact (congrArg (fun z : EReal => z + tileEmbed m c t l n) Ideal.ofBits_zero_f32).trans (zero_add _)
  · exact (congrFun (sums_later m c t h0).2.2 _).trans (embed_tile m c t _ l n)

/-- Points written back only at the end are one point. -/
theorem once (t t' : Fin cfg0.N) (a : t.val % 8 = 7) (b : t'.val % 8 = 7) : t = t' := by
  have l : t.val < 8 := Nat.lt_of_lt_of_eq t.isLt N_0
  have l' : t'.val < 8 := Nat.lt_of_lt_of_eq t'.isLt N_0
  exact Fin.ext (by omega)

/-- The gain's gradient's array: written back once, after the last point. -/
theorem result9 (k : Fin 1024) : (dats m 0 c).arrAt 9 cfg0.N (ix2 (0 : Fin 1) k) = gainGrad (argE m c) (argH m c) (argG m c) (argW m c) (argP m c) (argQ m c) k := by
  refine (read9_apply ((dats m 0 c).arrAt 9 cfg0.N) end0 k).symm.trans ?_
  rw [(dats m 0 c).read_blk_arrAt_eq_flushed 9 (fun t t' h h' hne => absurd (once t t' ((flush0_9 t).mp h) ((flush0_9 t').mp h')) hne) cfg0.N end0 end0.isLt ((flush0_9 end0).mpr rfl), Value.flushed9]
  exact outs9 m c k

/-- The gate's weight's gradient's array. -/
theorem result10 (k n : Fin 1024) : (dats m 0 c).arrAt 10 cfg0.N (ix2 k n) = weightGrad (argE m c) (argH m c) (argG m c) (argW m c) (argP m c) (argQ m c) k n := by
  refine (read10_apply ((dats m 0 c).arrAt 10 cfg0.N) end0 k n).symm.trans ?_
  rw [(dats m 0 c).read_blk_arrAt_eq_flushed 10 (fun t t' h h' hne => absurd (once t t' ((flush0_10 t).mp h) ((flush0_10 t').mp h')) hne) cfg0.N end0 end0.isLt ((flush0_10 end0).mpr rfl), Value.flushed10]
  exact outs10 m c k n

/-- The gate's weight's gradient's array in half precision. -/
theorem result11 (k n : Fin 1024) : (dats m 0 c).arrAt 11 cfg0.N (ix2 k n) = weightGrad (argE m c) (argH m c) (argG m c) (argW m c) (argP m c) (argQ m c) k n := by
  refine (read11_apply ((dats m 0 c).arrAt 11 cfg0.N) end0 k n).symm.trans ?_
  rw [(dats m 0 c).read_blk_arrAt_eq_flushed 11 (fun t t' h h' hne => absurd (once t t' ((flush0_11 t).mp h) ((flush0_11 t').mp h')) hne) cfg0.N end0 end0.isLt ((flush0_11 end0).mpr rfl), Value.flushed11]
  exact (halves_last m c end0 rfl k n 0).1.trans (outs10 m c k n)

/-- The embedding's weight's gradient's array. -/
theorem result12 (l : Fin 256) (n : Fin 1024) : (dats m 0 c).arrAt 12 cfg0.N (ix2 l n) = embedGrad (argE m c) (argH m c) (argG m c) (argW m c) (argP m c) l n := by
  refine (read12_apply ((dats m 0 c).arrAt 12 cfg0.N) end0 l n).symm.trans ?_
  rw [(dats m 0 c).read_blk_arrAt_eq_flushed 12 (fun t t' h h' hne => absurd (once t t' ((flush0_12 t).mp h) ((flush0_12 t').mp h')) hne) cfg0.N end0 end0.isLt ((flush0_12 end0).mpr rfl), Value.flushed12]
  exact outs12 m c l n

/-- The embedding's weight's gradient's array in half precision. -/
theorem result13 (l : Fin 256) (n : Fin 1024) : (dats m 0 c).arrAt 13 cfg0.N (ix2 l n) = embedGrad (argE m c) (argH m c) (argG m c) (argW m c) (argP m c) l n := by
  refine (read13_apply ((dats m 0 c).arrAt 13 cfg0.N) end0 l n).symm.trans ?_
  rw [(dats m 0 c).read_blk_arrAt_eq_flushed 13 (fun t t' h h' hne => absurd (once t t' ((flush0_13 t).mp h) ((flush0_13 t').mp h')) hne) cfg0.N end0 end0.isLt ((flush0_13 end0).mpr rfl), Value.flushed13]
  exact (halves_last m c end0 rfl 0 n l).2.trans (outs12 m c l n)

end Cert.Kernel7Ideal.Tile

end
-- ==== Proof.Finite7.lean ====
/-
  The gate's precondition: where it holds every entry of the six arguments is a real number.
-/
module

public import proofs.«01_k».proof.Proof.Finite2
public import proofs.«01_k».proof.Proof.Gen.Pre_finite7

@[expose] public section

noncomputable section

namespace Cert.Finite7

open Idealize.ShloMosaic Idealize.ShloMosaic.TcCoe Idealize.SL.Sem Idealize.ShloMosaic.ValueIdx
open Cert.Pre_finite7 Cert.Pre_finite7.Gen Cert.Mlp Cert.Finite

instance : Subsingleton S_.Idx := ⟨fun a b => funext fun i => i.elim0⟩

/-- Where the precondition holds each argument is real. -/
theorem real (x0 x1 : FVec Ideal S8192x1024 .f32) (x2 : FVec Ideal S1x1024 .f32) (x3 : FVec Ideal S1024x1024 .f32) (x4 : FVec Ideal S8192x256 .f32)
    (x5 : FVec Ideal S256x1024 .f32) (e : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have e0 := congrFun e ix0
  simp only [fn, fn_part1, fn_part2] at e0
  obtain ⟨ha, hb, hc, hd, hf⟩ := Cert.Finite2.five _ _ _ _ _ _ e0
  have hm := hf.trans_eq (SortNet.toInt_minsi _ _)
  exact ⟨fun i => ⟨_, real_of_lt _ (pos_of_reduce _ _ _ _ _ ha i)⟩, fun i => ⟨_, real_of_lt _ (pos_of_reduce _ _ _ _ _ hb i)⟩,
    fun i => ⟨_, real_of_lt _ (pos_of_reduce _ _ _ _ _ hc i)⟩, fun i => ⟨_, real_of_lt _ (pos_of_reduce _ _ _ _ _ hd i)⟩,
    fun i => ⟨_, real_of_lt _ (pos_of_reduce _ _ _ _ _ (lt_min_iff.1 hm).1 i)⟩, fun i => ⟨_, real_of_lt _ (pos_of_reduce _ _ _ _ _ (lt_min_iff.1 hm).2 i)⟩⟩

end Cert.Finite7

end
-- ==== Proof.SameGate.lean ====
/-
  The gate's backward call and the reference's lines: the same six results, where the arguments are finite.
-/
module

public import proofs.«01_k».proof.Defs
public import proofs.«01_k».proof.Proof.GateWhole
public import proofs.«01_k».proof.Proof.Finite7

@[expose] public section

noncomputable section

namespace Cert.Kernel7Ideal.Same

open Idealize.ShloMosaic Idealize.ShloMosaic.TcCoe Idealize.SL.Sem Idealize.ShloMosaic.ValueIdx
open Cert.Mat Cert.Mlp Cert.Gate Cert.Kernel7Ideal.Tile

/-- The reference runs to its end, leaves its arguments as they were, and has no semaphore to leave raised. -/
theorem reference_runs : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

section Results

variable (m : (ℓ : Loc Cert.Kernel7Ideal.nD Cert.Kernel7Ideal.τ Cert.Kernel7Ideal.sig) → Buf (Elt Ideal) ℓ) (c : Dev Cert.Kernel7Ideal.nD)

/-- The gain's gradients agree. -/
theorem sameGain : Cert.Reference7Ideal.Read.val_main_v60 (F := Ideal) (argE m c) (argH m c) (argG m c) (argW m c) (argP m c) (argQ m c) = (Cert.Kernel7Ideal.Gen.dats m 0 c).arrAt 9 Cert.Kernel7Ideal.cfg0.N := by
  funext i
  obtain ⟨k, rfl⟩ : ∃ k : Fin 1024, i = ix2 (0 : Fin 1) k := ⟨i 1, idx2_ext i _ (by have h : (i 0).val < 1 := (i 0).isLt; show (i 0).val = 0; omega) rfl⟩
  exact (Cert.Reference7Ideal.Stages.gainGrad_eq _ _ _ _ _ _ k).trans (result9 m c k).symm

/-- The gate's weight's gradients agree. -/
theorem sameWeight : Cert.Reference7Ideal.Read.val_main_v37 (F := Ideal) (argE m c) (argH m c) (argG m c) (argW m c) (argP m c) (argQ m c) = (Cert.Kernel7Ideal.Gen.dats m 0 c).arrAt 10 Cert.Kernel7Ideal.cfg0.N := by
  funext i
  obtain ⟨k, n, rfl⟩ : ∃ (k : Fin 1024) (n : Fin 1024), i = ix2 k n := ⟨i 0, i 1, idx2_ext i _ rfl rfl⟩
  exact (Cert.Reference7Ideal.Stages.weightGrad_eq _ _ _ _ _ _ k n).trans (result10 m c k n).symm

/-- The embedding's weight's gradients agree. -/
theorem sameEmbed : Cert.Reference7Ideal.Read.val_main_v34 (F := Ideal) (argE m c) (argH m c) (argG m c) (argW m c) (argP m c) = (Cert.Kernel7Ideal.Gen.dats m 0 c).arrAt 12 Cert.Kernel7Ideal.cfg0.N := by
  funext i
  obtain ⟨k, n, rfl⟩ : ∃ (k : Fin 256) (n : Fin 1024), i = ix2 k n := ⟨i 0, i 1, idx2_ext i _ rfl rfl⟩
  exact (Cert.Reference7Ideal.Stages.embedGrad_eq _ _ _ _ _ k n).trans (result12 m c k n).symm

/-- The gate's weight's gradients in half precision agree. -/
theorem sameWeightLow : Cert.Reference7Ideal.Read.val_main_v61 (F := Ideal) (argE m c) (argH m c) (argG m c) (argW m c) (argP m c) (argQ m c) = (Cert.Kernel7Ideal.Gen.dats m 0 c).arrAt 11 Cert.Kernel7Ideal.cfg0.N := by
  funext i
  obtain ⟨k, n, rfl⟩ : ∃ (k n : Fin 1024), i = ix2 k n := ⟨i 0, i 1, idx2_ext i _ rfl rfl⟩
  exact (Cert.Reference7Ideal.Stages.weightGrad_eq _ _ _ _ _ _ k n).trans (result11 m c k n).symm

/-- The embedding's weight's gradients in half precision agree. -/
theorem sameEmbedLow : Cert.Reference7Ideal.Read.val_main_v62 (F := Ideal) (argE m c) (argH m c) (argG m c) (argW m c) (argP m c) = (Cert.Kernel7Ideal.Gen.dats m 0 c).arrAt 13 Cert.Kernel7Ideal.cfg0.N := by
  funext i
  obtain ⟨l, n, rfl⟩ : ∃ (l : Fin 256) (n : Fin 1024), i = ix2 l n := ⟨i 0, i 1, idx2_ext i _ rfl rfl⟩
  exact (Cert.Reference7Ideal.Stages.embedGrad_eq _ _ _ _ _ l n).trans (result13 m c l n).symm

/-- The residual gradients agree on finite arguments. -/
theorem sameRow (hpre : Cert.Pre_Kernel7Ideal_finite7 m) : Cert.Reference7Ideal.Read.val_main_v59 (F := Ideal) (argE m c) (argH m c) (argG m c) (argW m c) (argP m c) (argQ m c) = (Cert.Kernel7Ideal.Gen.dats m 0 c).arrAt 8 Cert.Kernel7Ideal.cfg0.N := by
  funext i
  obtain ⟨T, k, rfl⟩ : ∃ (T : Fin 8192) (k : Fin 1024), i = ix2 T k := ⟨i 0, i 1, idx2_ext i _ rfl rfl⟩
  obtain ⟨t, i, rfl⟩ := Cert.Gate.row_eq T
  obtain ⟨h0, h1, h2, h3, h4, h5⟩ := Cert.Finite7.real _ _ _ _ _ _ (hpre c)
  exact (Cert.Reference7Ideal.Stages.rowGrad_eq _ _ _ _ _ _ h0 h1 h2 h3 h4 h5 _ k).trans (result8 m c t i k).symm

end Results

/-- On finite arguments the call's six results and the reference's are equal entry by entry. -/
theorem algebraic : Cert.algebraic_Kernel7Ideal_Reference7Ideal_pre_finite7 := by
  intro m g m' g' hpre hargs
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    Cert.Kernel7Ideal.Value.run_blocks m g, ?_⟩
  refine (θ_run _ _ _).mono (fun r h c => ?_) (Cert.Reference7Ideal.Value.run m' g')
  obtain ⟨e0, e1, e2, e3, e4, e5⟩ := hargs c
  exact ⟨((h c).1.trans (Cert.Reference7Ideal.Read.val_main_v59_eq m' c)).trans (Eq.trans (by rw [e0, e1, e2, e3, e4, e5]) (sameRow m c hpre)),
    ((h c).2.1.trans (Cert.Reference7Ideal.Read.val_main_v60_eq _ _ _ _ _ _)).trans (Eq.trans (by rw [e0, e1, e2, e3, e4, e5]) (sameGain m c)),
    ((h c).2.2.1.trans (Cert.Reference7Ideal.Read.val_main_v37_eq _ _ _ _ _ _)).trans (Eq.trans (by rw [e0, e1, e2, e3, e4, e5]) (sameWeight m c)),
    ((h c).2.2.2.1.trans (Cert.Reference7Ideal.Read.val_main_v61_eq _ _ _ _ _ _)).trans (Eq.trans (by rw [e0, e1, e2, e3, e4, e5]) (sameWeightLow m c)),
    ((h c).2.2.2.2.1.trans (Cert.Reference7Ideal.Read.val_main_v34_eq _ _ _ _ _)).trans (Eq.trans (by rw [e0, e1, e2, e3, e4]) (sameEmbed m c)),
    ((h c).2.2.2.2.2.1.trans (Cert.Reference7Ideal.Read.val_main_v62_eq _ _ _ _ _)).trans (Eq.trans (by rw [e0, e1, e2, e3, e4]) (sameEmbedLow m c)),
    (h c).2.2.2.2.2.2⟩

end Cert.Kernel7Ideal.Same

end
-- ==== Proof.HeadBack.lean ====
/-
  The last layer's gate, the final norm and the loss over whole arrays of extended reals: the rows that reach the final
  norm, the loss, and the gradients of the final gain and of those rows; and their values on real entries.
-/
module

public import proofs.«01_k».proof.Proof.GateBack

@[expose] public section

noncomputable section

open scoped BigOperators

namespace Cert.Head

open Idealize.ShloMosaic Idealize.ShloMosaic.ValueIdx Cert.Mat Cert.Mlp Cert.Gate

/-- An array from its entries. -/
def ofRows (f : Fin 8192 → Fin 1024 → EReal) : (Rect2 8192 1024).Idx → EReal := fun i => f (i 0) (i 1)

variable (h : (Rect2 8192 1024).Idx → EReal) (g : (Rect2 1 1024).Idx → EReal) (w : (Rect2 1024 1024).Idx → EReal)
  (p : (Rect2 8192 256).Idx → EReal) (q : (Rect2 256 1024).Idx → EReal) (f : (Rect2 1 1024).Idx → EReal)
  (y : (Rect2 8192 1024).Idx → EReal)

/-- The residual rows with the gated embedding added. -/
def carried : (Rect2 8192 1024).Idx → EReal := ofRows fun T k => h (ix2 T k) + gate h g w T k * embed p q T k

/-- The final norm's rows less the target. -/
def diff (T : Fin 8192) (k : Fin 1024) : EReal := normed (carried h g w p q) f T k - y (ix2 T k)

/-- The loss: half the mean square of the differences along a row, summed over the rows. -/
def loss : EReal := ∑ T, (∑ k, diff h g w p q f y T k * diff h g w p q f y T k) * Ideal.ofBits .f32 0x3A000000#32

/-- The gradient of the final norm's rows. -/
def outGrad (T : Fin 8192) (k : Fin 1024) : EReal := diff h g w p q f y T k * Ideal.ofBits .f32 0x3A800000#32

/-- The gradient of the final gain. -/
def finalGain (k : Fin 1024) : EReal := ∑ T, outGrad h g w p q f y T k * unit (carried h g w p q) T k

/-- The gradient of the rows that reach the final norm. -/
def headGrad (T : Fin 8192) (k : Fin 1024) : EReal :=
  through 0 (scale fun l => carried h g w p q (ix2 T l)) (unit (carried h g w p q) T)
    (fun l => outGrad h g w p q f y T l * f (ix2 (0 : Fin 1) l)) k

/-- The same as an array. -/
def headRows : (Rect2 8192 1024).Idx → EReal := ofRows (headGrad h g w p q f y)

/-- A sum of two reals is real. -/
theorem add_real {x y : EReal} : IsReal x → IsReal y → IsReal (x + y)
  | ⟨a, ha⟩, ⟨b, hb⟩ => ⟨a + b, by rw [ha, hb, EReal.coe_add]⟩

/-- A real over the row's length. -/
theorem over_length {x : EReal} : IsReal x → IsReal (Ideal.div x (Ideal.ofBits .f32 0x44800000#32))
  | ⟨a, ha⟩ => ⟨a / 1024, by rw [ha, bits_1024, Cert.Attn.div_real _ (by norm_num)]⟩

/-- One over the row's length. -/
theorem bits_inverse : Ideal.ofBits .f32 0x3A800000#32 = ((1 / 1024 : ℝ) : EReal) := by
  simp [Ideal.ofBits, Ideal.ieee]; norm_num; rw [← EReal.coe_mul]; norm_num

/-- A half over the row's length. -/
theorem bits_half_inverse : Ideal.ofBits .f32 0x3A000000#32 = ((1 / 2048 : ℝ) : EReal) := by
  simp [Ideal.ofBits, Ideal.ieee]; norm_num; rw [← EReal.coe_mul]; norm_num

/-- The constant a half. -/
theorem bits_plus_half : Ideal.ofBits .f32 0x3F000000#32 = ((1 / 2 : ℝ) : EReal) := by
  simp [Ideal.ofBits, Ideal.ieee]; norm_num; rw [← EReal.coe_mul]; norm_num

/-- A row's scale is real where the row is. -/
theorem scale_isReal {x : Fin 1024 → EReal} (hx : ∀ l, IsReal (x l)) : IsReal (scale x) := by
  choose r hr using hx
  obtain ⟨M, s, -, -, -, es⟩ := scale_real r
  exact ⟨s, (congrArg scale (funext hr)).trans es⟩

/-- A row's gradient through the normalisation is real where its parts are. -/
theorem through_isReal {o s : EReal} {x b : Fin 1024 → EReal} (ho : IsReal o) (hs : IsReal s) (hx : ∀ l, IsReal (x l)) (hb : ∀ l, IsReal (b l)) (k : Fin 1024) :
    IsReal (through o s x b k) :=
  add_real ho (hs.mul (sub_real (hb k) ((hx k).mul (over_length (IsReal.sum _ _ fun l => (hb l).mul (hx l))))))

/-- Adding up multiples of reals is the multiple of their sum. -/
theorem sum_mul_real {ι : Type} (s : Finset ι) (a : ι → EReal) (c : ℝ) (ha : ∀ i, IsReal (a i)) : (∑ i ∈ s, a i) * (c : EReal) = ∑ i ∈ s, a i * (c : EReal) := by
  choose r hr using ha
  simp only [hr, ← EReal.coe_mul]
  rw [← Cert.Attn.coe_sum, ← Cert.Attn.coe_sum, ← EReal.coe_mul, Finset.sum_mul]

/-- Half the sum of the rows' means. -/
theorem half_means {ι : Type} (s : Finset ι) (a : ι → EReal) (ha : ∀ i, IsReal (a i)) :
    Ideal.ofBits .f32 0x3F000000#32 * ∑ i ∈ s, Ideal.div (a i) (Ideal.ofBits .f32 0x44800000#32) = ∑ i ∈ s, a i * Ideal.ofBits .f32 0x3A000000#32 := by
  choose r hr using ha
  simp only [hr, bits_1024, bits_plus_half, bits_half_inverse, Cert.Attn.div_real _ (show (1024 : ℝ) ≠ 0 by norm_num), ← EReal.coe_mul]
  rw [← Cert.Attn.coe_sum, ← Cert.Attn.coe_sum, ← EReal.coe_mul, Finset.mul_sum]
  exact congrArg _ (Finset.sum_congr rfl fun i _ => by ring)

/-- The derivative of half the mean square. -/
theorem half_square (x : EReal) :
    Ideal.div (Ideal.ofBits .f32 0x3F000000#32 * Ideal.ofBits .f32 0x3F800000#32) (Ideal.ofBits .f32 0x44800000#32) * (Ideal.ofBits .f32 0x40000000#32 * x)
      = x * Ideal.ofBits .f32 0x3A800000#32 := by
  rw [Ideal.ofBits_one_f32, mul_one, bits_plus_half, bits_1024, bits_two, bits_inverse, Cert.Attn.div_real _ (by norm_num), ← mul_assoc, ← EReal.coe_mul, mul_comm]
  norm_num

variable {h g w p q f y}

/-- The gate is real where its arguments are. -/
theorem gate_real (hh : ∀ i, IsReal (h i)) (hg : ∀ i, IsReal (g i)) (hw : ∀ i, IsReal (w i)) (T : Fin 8192) (n : Fin 1024) : IsReal (gate h g w T n) :=
  logistic_real (IsReal.sum _ _ fun k => (((hh _).mul (scale_isReal fun l => hh _)).mul (hg _)).mul (hw _))

/-- The rows that reach the final norm are real. -/
theorem carried_real (hh : ∀ i, IsReal (h i)) (hg : ∀ i, IsReal (g i)) (hw : ∀ i, IsReal (w i)) (hp : ∀ i, IsReal (p i)) (hq : ∀ i, IsReal (q i))
    (i : (Rect2 8192 1024).Idx) : IsReal (carried h g w p q i) :=
  add_real (hh _) ((gate_real hh hg hw _ _).mul (IsReal.sum _ _ fun l => (hp _).mul (hq _)))

/-- The differences are real. -/
theorem diff_real (hh : ∀ i, IsReal (h i)) (hg : ∀ i, IsReal (g i)) (hw : ∀ i, IsReal (w i)) (hp : ∀ i, IsReal (p i)) (hq : ∀ i, IsReal (q i))
    (hf : ∀ i, IsReal (f i)) (hy : ∀ i, IsReal (y i)) (T : Fin 8192) (k : Fin 1024) : IsReal (diff h g w p q f y T k) :=
  sub_real (((carried_real hh hg hw hp hq _).mul (scale_isReal fun l => carried_real hh hg hw hp hq _)).mul (hf _)) (hy _)

/-- The gradients of the final norm's rows are real. -/
theorem outGrad_real (hh : ∀ i, IsReal (h i)) (hg : ∀ i, IsReal (g i)) (hw : ∀ i, IsReal (w i)) (hp : ∀ i, IsReal (p i)) (hq : ∀ i, IsReal (q i))
    (hf : ∀ i, IsReal (f i)) (hy : ∀ i, IsReal (y i)) (T : Fin 8192) (k : Fin 1024) : IsReal (outGrad h g w p q f y T k) :=
  (diff_real hh hg hw hp hq hf hy T k).mul ⟨_, bits_inverse⟩

/-- The gradients of the rows that reach the final norm are real. -/
theorem headGrad_real (hh : ∀ i, IsReal (h i)) (hg : ∀ i, IsReal (g i)) (hw : ∀ i, IsReal (w i)) (hp : ∀ i, IsReal (p i)) (hq : ∀ i, IsReal (q i))
    (hf : ∀ i, IsReal (f i)) (hy : ∀ i, IsReal (y i)) (T : Fin 8192) (k : Fin 1024) : IsReal (headGrad h g w p q f y T k) := by
  have hc := carried_real hh hg hw hp hq
  have hs : IsReal (scale fun l => carried h g w p q (ix2 T l)) := scale_isReal fun l => hc (ix2 T l)
  have hu : ∀ l, IsReal (unit (carried h g w p q) T l) := fun l => (hc (ix2 T l)).mul hs
  have hb : ∀ l, IsReal (outGrad h g w p q f y T l * f (ix2 (0 : Fin 1) l)) := fun l => (outGrad_real hh hg hw hp hq hf hy T l).mul (hf _)
  unfold headGrad
  exact through_isReal ⟨0, EReal.coe_zero.symm⟩ hs hu hb k

/-- So is their array. -/
theorem headRows_real (hh : ∀ i, IsReal (h i)) (hg : ∀ i, IsReal (g i)) (hw : ∀ i, IsReal (w i)) (hp : ∀ i, IsReal (p i)) (hq : ∀ i, IsReal (q i))
    (hf : ∀ i, IsReal (f i)) (hy : ∀ i, IsReal (y i)) (i : (Rect2 8192 1024).Idx) : IsReal (headRows h g w p q f y i) :=
  headGrad_real hh hg hw hp hq hf hy (i 0) (i 1)

end Cert.Head

end
-- ==== Proof.Head.lean ====
/-
  The head's call, one tile of 512 tokens: what its cases leave in the eight results.
-/
module

public import proofs.«01_k».proof.Proof.HeadBack
public import proofs.«01_k».proof.Proof.Gen.Kernel8Ideal.Value
public import Idealize.ShloMosaic.Lib.Pipeline.ValueKit.Tiles
public import Idealize.ShloMosaic.Lib.ValueLayout

@[expose] public section

noncomputable section

open scoped BigOperators

namespace Cert.Kernel8Ideal.Tile

open Idealize.ShloMosaic Idealize.ShloMosaic.TcCoe Idealize.SL.Sem Idealize.ShloMosaic.ValueIdx
open Cert.Kernel8Ideal Cert.Kernel8Ideal.Gen

/-- Offsets zero on both axes. -/
theorem zero2 : (![0, 0] : Fin 2 → Nat) = fun _ => 0 := funext fun a => by fin_cases a <;> rfl

/-- Offsets zero on three axes. -/
theorem zero3 : (![0, 0, 0] : Fin 3 → Nat) = fun _ => 0 := funext fun a => by fin_cases a <;> rfl

section Cases

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x1024 .bf16) (harg3 : arg3.IsWhole)
  (arg4 : Memref sig .tc .vmem S1x512x256 .f32) (harg4 : arg4.IsWhole)
  (arg5 : Memref sig .tc .vmem S256x1024 .bf16) (harg5 : arg5.IsWhole)
  (arg6 : Memref sig .tc .vmem S1x1024 .f32) (harg6 : arg6.IsWhole)
  (arg7 : Memref sig .tc .vmem S512x1024 .f32) (harg7 : arg7.IsWhole)
  (arg8 : Memref sig .tc .vmem S1x128 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .bf16) (harg13 : arg13.IsWhole)
  (arg14 : Memref sig .tc .vmem S256x1024 .f32) (harg14 : arg14.IsWhole)
  (arg15 : Memref sig .tc .vmem S256x1024 .bf16) (harg15 : arg15.IsWhole)
  (x0 : Vec Ideal S512x1024 .f32) (x1 : Vec Ideal S1x1024 .f32) (x2 : Vec Ideal S1024x1024 .bf16) (x3 : Vec Ideal S1x512x256 .f32) (x4 : Vec Ideal S256x1024 .bf16) (x5 : Vec Ideal S1x1024 .f32) (x6 : Vec Ideal S512x1024 .f32)
  (a7 : Vec Ideal S1x128 .f32) (a8 : Vec Ideal S1x1024 .f32) (a10 : Vec Ideal S1x1024 .f32) (a11 : Vec Ideal S1024x1024 .f32) (a13 : Vec Ideal S256x1024 .f32)

/-- A tile's gate. -/
abbrev gates : FVec Ideal S512x1024 .f32 := k0_pay8 x0 x1 x2

/-- A tile's projected embedding. -/
abbrev embeds : FVec Ideal S512x1024 .f32 := k0_pay10 x3 x4

/-- A tile's rows that reach the final norm. -/
abbrev carries : FVec Ideal S512x1024 .f32 := k0_pay11 x0 x1 x2 x3 x4

/-- The gradient of a tile's rows that reach the final norm. -/
abbrev heads : FVec Ideal S512x1024 .f32 := k0_pay22 (carries x0 x1 x2 x3 x4) x5 x6

/-- What a tile leaves in the loss. -/
abbrev left7 : FVec Ideal S1x128 .f32 := k0_pay20 (carries x0 x1 x2 x3 x4) x5 x6 a7

/-- What a tile leaves in the final gain's gradient. -/
abbrev left8 : FVec Ideal S1x1024 .f32 := k0_pay24 (k0_pay23 (carries x0 x1 x2 x3 x4) x5 x6) a8

/-- What a tile leaves in the residual rows' gradient. -/
abbrev left9 : FVec Ideal S512x1024 .f32 :=
  k0_pay1 (heads x0 x1 x2 x3 x4 x5 x6) (k0_pay29 x1 (k0_pay5 x0) (k0_pay6 x0) (gates x0 x1 x2) (embeds x3 x4) (heads x0 x1 x2 x3 x4 x5 x6) x2)

/-- What a tile leaves in the gain's gradient. -/
abbrev left10 : FVec Ideal S1x1024 .f32 :=
  k0_pay2 (k0_pay6 x0) (k0_pay28 (gates x0 x1 x2) (embeds x3 x4) (heads x0 x1 x2 x3 x4 x5 x6) x2) a10

/-- What a tile leaves in the gate's weight's gradient. -/
abbrev left11 : FVec Ideal S1024x1024 .f32 :=
  k0_pay26 (k0_pay7 x0 x1) (gates x0 x1 x2) (embeds x3 x4) (heads x0 x1 x2 x3 x4 x5 x6) a11

/-- What a tile leaves in the embedding's weight's gradient. -/
abbrev left13 : FVec Ideal S256x1024 .f32 := k0_pay27 (gates x0 x1 x2) (k0_pay9 x3) (heads x0 x1 x2 x3 x4 x5 x6) a13

/-- The first tile leaves its own parts. -/
theorem first (h0 : cond0_0 i) (h1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left9 x0 x1 x2 x3 x4 x5 x6
    ∧ out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left7 x0 x1 x2 x3 x4 x5 x6 (k0_pay12 (F := Ideal))
    ∧ out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left8 x0 x1 x2 x3 x4 x5 x6 (k0_pay13 (F := Ideal))
    ∧ out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left10 x0 x1 x2 x3 x4 x5 x6 (k0_pay14 (F := Ideal))
    ∧ out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left11 x0 x1 x2 x3 x4 x5 x6 (k0_pay15 (F := Ideal))
    ∧ out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 = left13 x0 x1 x2 x3 x4 x5 x6 (k0_pay16 (F := Ideal)) := by
  refine ⟨(View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_, (View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_, (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_, (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_, (View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_, (View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6)).trans ?_⟩
  all_goals
    unfold kernelRun0_A
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg9.read_unread, harg11.read_unread, harg12.read_unread, harg14.read_unread,
      View.ld_unit_zero (S := S512x1024) zero2, View.ld_unit_zero (S := S1024x1024) zero2, View.ld_unit_zero (S := S1x512x256) zero3, View.ld_unit_zero (S := S256x1024) zero2, View.ld_unit_zero (S := S1x1024) zero2, View.ld_unit_zero (S := S1x128) zero2]

/-- A middle tile adds its parts to what the tile before left. -/
theorem middle (h0 : ¬cond0_0 i) (h1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left9 x0 x1 x2 x3 x4 x5 x6
    ∧ out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left7 x0 x1 x2 x3 x4 x5 x6 a7
    ∧ out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left8 x0 x1 x2 x3 x4 x5 x6 a8
    ∧ out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left10 x0 x1 x2 x3 x4 x5 x6 a10
    ∧ out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left11 x0 x1 x2 x3 x4 x5 x6 a11
    ∧ out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left13 x0 x1 x2 x3 x4 x5 x6 a13 := by
  refine ⟨(View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_⟩
  all_goals
    unfold kernelRun0_B
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg9.read_unread, harg11.read_unread, harg12.read_unread, harg14.read_unread,
      View.ld_unit_zero (S := S512x1024) zero2, View.ld_unit_zero (S := S1024x1024) zero2, View.ld_unit_zero (S := S1x512x256) zero3, View.ld_unit_zero (S := S256x1024) zero2, View.ld_unit_zero (S := S1x1024) zero2, View.ld_unit_zero (S := S1x128) zero2]

/-- The last tile adds its parts and leaves the two weights' gradients in half precision as well. -/
theorem last (h0 : ¬cond0_0 i) (h1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left9 x0 x1 x2 x3 x4 x5 x6
    ∧ out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left7 x0 x1 x2 x3 x4 x5 x6 a7
    ∧ out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left8 x0 x1 x2 x3 x4 x5 x6 a8
    ∧ out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left10 x0 x1 x2 x3 x4 x5 x6 a10
    ∧ out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left11 x0 x1 x2 x3 x4 x5 x6 a11
    ∧ out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = left13 x0 x1 x2 x3 x4 x5 x6 a13
    ∧ out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = k0_pay3 (F := Ideal) (left11 x0 x1 x2 x3 x4 x5 x6 a11)
    ∧ out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13 = k0_pay4 (F := Ideal) (left13 x0 x1 x2 x3 x4 x5 x6 a13) := by
  refine ⟨(View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_, (View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 a7 a8 a10 a11 a13)).trans ?_⟩
  all_goals
    unfold kernelRun0_C
    dsimp only
    sl_unfold_words
    first | rw [View.canon_unit_zero zero2] | rw [View.canon_cons_unit_zero zero2]
    try rw [View.readCov_unit_zero _ zero2]
    simp only [View.readAt_eq_ld, harg1.read_unread, harg2.read_unread, harg3.read_unread, harg4.read_unread, harg5.read_unread, harg6.read_unread, harg7.read_unread, harg8.read_unread, harg9.read_unread, harg11.read_unread, harg12.read_unread, harg14.read_unread,
      View.ld_unit_zero (S := S512x1024) zero2, View.ld_unit_zero (S := S1024x1024) zero2, View.ld_unit_zero (S := S1x512x256) zero3, View.ld_unit_zero (S := S256x1024) zero2, View.ld_unit_zero (S := S1x1024) zero2, View.ld_unit_zero (S := S1x128) zero2]

end Cases

end Cert.Kernel8Ideal.Tile

end
-- ==== Proof.HeadRead.lean ====
/-
  The head's call, one tile of 512 tokens at an element: each of its parts is the whole arrays' at the tile's rows.
-/
module

public import proofs.«01_k».proof.Proof.Head

@[expose] public section

noncomputable section

open scoped BigOperators

namespace Cert.Kernel8Ideal.Tile

open Idealize.ShloMosaic Idealize.ShloMosaic.TcCoe Idealize.SL.Sem Idealize.ShloMosaic.ValueIdx
open Cert.Kernel8Ideal Cert.Kernel8Ideal.Gen Cert.Mat Cert.Mlp Cert.Gate Cert.Head

/-- One number a row, from a sum along the row. -/
theorem column_apply (v : FVec Ideal S512x1024 .f32) (i : Fin 512) :
    shapeCast S512x1 (multiReduction .add [1] S512 v 0x00000000#32 reduces_S512x1024_S512 (.inl rfl) rfl) shapeCasts_S512_S512x1 (ix2 i (0 : Fin 1))
      = ∑ l : Fin 1024, (v (ix2 i l) : EReal) := by
  refine (shapeCast_apply _ _ _ (ix1 i) (by rw [Shape.rowMajor_val_two, Shape.rowMajor_val_one]; show i.val = i.val * 1 + 0; omega)).trans ?_
  refine (Ideal.multiReduction_add_single _ _ _ _ _ _).trans (Finset.sum_congr rfl fun l _ => ?_)
  have el : (reduces_S512x1024_S512 : S512x1024.Reduces [1] S512).lift (ix1 i) l = ix2 i l := idx2_ext _ (ix2 i l) rfl rfl
  rw [el]
  rfl

/-- One number a column, from a sum along the column. -/
theorem line_apply (v : FVec Ideal S512x1024 .f32) (k : Fin 1024) :
    shapeCast S1x1024 (multiReduction .add [0] S1024 v 0x00000000#32 reduces_S512x1024_S1024 (.inl rfl) rfl) shapeCasts_S1024_S1x1024 (ix2 (0 : Fin 1) k)
      = ∑ i : Fin 512, (v (ix2 i k) : EReal) := by
  refine (shapeCast_apply _ _ _ (ix1 k) (by rw [Shape.rowMajor_val_two, Shape.rowMajor_val_one]; show k.val = 0 * 1024 + k.val; omega)).trans ?_
  refine (Ideal.multiReduction_add_single _ _ _ _ _ _).trans (Finset.sum_congr rfl fun i _ => ?_)
  have el : (reduces_S512x1024_S1024 : S512x1024.Reduces [0] S1024).lift (ix1 k) i = ix2 i k := idx2_ext _ (ix2 i k) rfl rfl
  rw [el]
  rfl

/-- A tile's total. -/
theorem total_apply (v : FVec Ideal S512x1024 .f32) :
    extractAt ![0, 0, 0] (shapeCast S1x1x1 (multiReduction .add [1, 2] S1 (shapeCast S1x512x1024 v shapeCasts_S512x1024_S1x512x1024) 0x00000000#32 reduces_S1x512x1024_S1 (.inl rfl) rfl) shapeCasts_S1_S1x1x1) inpos_S1x1x1_p0_0_0
      = ∑ i : Fin 512, ∑ k : Fin 1024, (v (ix2 i k) : EReal) := by
  unfold extractAt
  refine (shapeCast_apply _ _ _ (ix1 (0 : Fin 1)) rfl).trans ?_
  refine (Ideal.multiReduction_add_total _ _ _ (fun b => by match b with | ⟨0, _⟩ => rfl) _ _ _).trans ?_
  have e : (∑ j : S1x512x1024.Idx, (shapeCast S1x512x1024 v shapeCasts_S512x1024_S1x512x1024 j : EReal)) = ∑ p : Fin 512 × Fin 1024, (v (ix2 p.1 p.2) : EReal) := by
    refine Fintype.sum_equiv ⟨fun j => (j 1, j 2), fun p => ix3 (0 : Fin 1) p.1 p.2, fun j => funext fun a => ?_, fun p => rfl⟩ _ _ fun j => ?_
    · match a with
      | ⟨0, _⟩ => exact (Fin.fin_one_eq_zero (j 0)).symm
      | ⟨1, _⟩ => rfl
      | ⟨2, _⟩ => rfl
    · refine shapeCast_apply _ _ _ (ix2 (j 1) (j 2)) ?_
      have h0 : (j 0).val < 1 := (j 0).isLt
      rw [Shape.rowMajor_val_two, Shape.rowMajor_val_three]
      show (j 1).val * 1024 + (j 2).val = ((j 0).val * 512 + (j 1).val) * 1024 + (j 2).val
      omega
  exact e.trans (Fintype.sum_prod_type _)

/-- A row's scale. -/
theorem scale_apply (x : Vec Ideal S512x1024 .f32) (i : Fin 512) : k0_pay5 (F := Ideal) x (ix2 i (0 : Fin 1)) = scale fun l => x (ix2 i l) :=
  congrArg (fun s : EReal => Ideal.rsqrt (Ideal.div s (FloatOps.ofBits (F := Ideal) .f32 0x44800000#32) + FloatOps.ofBits (F := Ideal) .f32 0x358637BD#32)) (column_apply _ i)

/-- One number a row spread along the row. -/
theorem spread_apply (s : FVec Ideal S512x1 .f32) (i : Fin 512) (k : Fin 1024) :
    broadcastTo S512x1024 s broadcasts_S512x1_S512x1024 (ix2 i k) = s (ix2 i (0 : Fin 1)) :=
  broadcastTo_apply _ _ (ix2 i k) (ix2 i (0 : Fin 1)) (fun b => by match b with | ⟨0, _⟩ => rfl | ⟨1, _⟩ => rfl)

/-- A gain spread over the rows. -/
theorem gain_apply (g : Vec Ideal S1x1024 .f32) (i : Fin 512) (k : Fin 1024) :
    broadcastTo S512x1024 g broadcasts_S1x1024_S512x1024 (ix2 i k) = g (ix2 (0 : Fin 1) k) :=
  broadcastTo_1b_ab_apply (a := 512) (b := 1024) g broadcasts_S1x1024_S512x1024 i k

section Rows

variable (t : Fin 16) (x : Vec Ideal S512x1024 .f32) (X : (Rect2 8192 1024).Idx → EReal) (hx : ∀ i k, (x (ix2 i k) : EReal) = X (ix2 (Cert.Mlp.row t i) k))

include hx

/-- A tile's scales are the whole array's. -/
theorem scale_of (i : Fin 512) : k0_pay5 (F := Ideal) x (ix2 i (0 : Fin 1)) = scale fun l => X (ix2 (Cert.Mlp.row t i) l) :=
  (scale_apply x i).trans (congrArg scale (funext fun l => hx i l))

/-- A tile's unit rows are the whole array's. -/
theorem unit_of (i : Fin 512) (k : Fin 1024) : k0_pay6 (F := Ideal) x (ix2 i k) = unit X (Cert.Mlp.row t i) k :=
  congrArg₂ (fun a b : EReal => a * b) (hx i k) ((spread_apply _ i k).trans (scale_of t x X hx i))

/-- The gradient through a tile's normalisation. -/
theorem through_of (b : FVec Ideal S512x1024 .f32) (B : Fin 8192 → Fin 1024 → EReal) (hb : ∀ i k, (b (ix2 i k) : EReal) = B (Cert.Mlp.row t i) k) (i : Fin 512) (k : Fin 1024) :
    mulf (broadcastTo S512x1024 (k0_pay5 (F := Ideal) x) broadcasts_S512x1_S512x1024) (subf b (mulf (k0_pay6 x) (broadcastTo S512x1024
      (divf (shapeCast S512x1 (multiReduction .add [1] S512 (mulf b (k0_pay6 x)) 0x00000000#32 reduces_S512x1024_S512 (.inl rfl) rfl) shapeCasts_S512_S512x1)
        (broadcast S512x1 (Scalar.ofBits (F := Ideal) .f32 0x44800000#32))) broadcasts_S512x1_S512x1024))) (ix2 i k)
      = through 0 (scale fun l => X (ix2 (Cert.Mlp.row t i) l)) (unit X (Cert.Mlp.row t i)) (B (Cert.Mlp.row t i)) k := by
  unfold through
  refine Eq.trans ?_ (zero_add _).symm
  refine congrArg₂ (fun s t : EReal => s * t) ((spread_apply _ i k).trans (scale_of t x X hx i))
    (congrArg₂ (fun a b : EReal => a - b) (hb i k) (congrArg₂ (fun a b : EReal => a * b) (unit_of t x X hx i k) ((spread_apply _ i k).trans ?_)))
  refine congrArg (fun s : EReal => Ideal.div s (FloatOps.ofBits (F := Ideal) .f32 0x44800000#32)) ?_
  exact (column_apply _ i).trans (Finset.sum_congr rfl fun l _ => congrArg₂ (fun a b : EReal => a * b) (hb i l) (unit_of t x X hx i l))

end Rows

section Tile

variable (t : Fin 16) (x0 : Vec Ideal S512x1024 .f32) (x1 : Vec Ideal S1x1024 .f32) (x2 : Vec Ideal S1024x1024 .bf16) (x3 : Vec Ideal S1x512x256 .f32)
  (x4 : Vec Ideal S256x1024 .bf16) (x5 : Vec Ideal S1x1024 .f32) (x6 : Vec Ideal S512x1024 .f32)
  (H : (Rect2 8192 1024).Idx → EReal) (G : (Rect2 1 1024).Idx → EReal) (W : (Rect2 1024 1024).Idx → EReal) (P : (Rect2 8192 256).Idx → EReal)
  (Q : (Rect2 256 1024).Idx → EReal) (N : (Rect2 1 1024).Idx → EReal) (Y : (Rect2 8192 1024).Idx → EReal)
  (h0 : ∀ i k, (x0 (ix2 i k) : EReal) = H (ix2 (Cert.Mlp.row t i) k)) (h1 : ∀ k, (x1 (ix2 (0 : Fin 1) k) : EReal) = G (ix2 (0 : Fin 1) k))
  (h2 : ∀ k n, (x2 (ix2 k n) : EReal) = W (ix2 k n)) (h3 : ∀ i l, (x3 (ix3 (0 : Fin 1) i l) : EReal) = P (ix2 (Cert.Mlp.row t i) l))
  (h4 : ∀ l n, (x4 (ix2 l n) : EReal) = Q (ix2 l n)) (h5 : ∀ k, (x5 (ix2 (0 : Fin 1) k) : EReal) = N (ix2 (0 : Fin 1) k))
  (h6 : ∀ i k, (x6 (ix2 i k) : EReal) = Y (ix2 (Cert.Mlp.row t i) k))

section Gates

include h0 h1

/-- The normalised rows. -/
theorem normed_of (i : Fin 512) (k : Fin 1024) : k0_pay7 (F := Ideal) x0 x1 (ix2 i k) = normed H G (Cert.Mlp.row t i) k :=
  congrArg₂ (fun a b : EReal => a * b) (unit_of t x0 H h0 i k) ((gain_apply x1 i k).trans (h1 k))

include h2

/-- The gate. -/
theorem gates_of (i : Fin 512) (n : Fin 1024) : gates x0 x1 x2 (ix2 i n) = gate H G W (Cert.Mlp.row t i) n := by
  unfold gates k0_pay8 gate
  rw [shapeCast_self]
  refine congrArg (fun z : EReal => Ideal.div (Ideal.ofBits .f32 0x3F800000#32) (Ideal.ofBits .f32 0x3F800000#32 + Ideal.exp z)) ?_
  refine (congrArg₂ (fun a b : EReal => a - b) Ideal.ofBits_zero_f32 (nn_apply dot_S512x1024_S1024x1024_S512x1024_1_0_0_1_n_n_wf _ _ i n)).trans ((zero_sub _).trans ?_)
  exact congrArg (fun z : EReal => -z) (Finset.sum_congr rfl fun k _ => congrArg₂ (fun a b : EReal => a * b) (normed_of t x0 x1 H G h0 h1 i k) (h2 k n))

end Gates

section Embeds

include h3

/-- The embedding's rows. -/
theorem second_of (i : Fin 512) (l : Fin 256) : k0_pay9 (F := Ideal) x3 (ix2 i l) = P (ix2 (Cert.Mlp.row t i) l) :=
  (shapeCast_apply _ _ _ (ix3 (0 : Fin 1) i l) (by
    rw [Shape.rowMajor_val_two, Shape.rowMajor_val_three]; show (0 * 512 + i.val) * 256 + l.val = i.val * 256 + l.val; omega)).trans (h3 i l)

include h4

/-- The projected embedding. -/
theorem embeds_of (i : Fin 512) (n : Fin 1024) : embeds x3 x4 (ix2 i n) = embed P Q (Cert.Mlp.row t i) n := by
  unfold embeds k0_pay10 embed
  rw [shapeCast_self]
  have e : (∑ l : Fin 256, (k0_pay9 (F := Ideal) x3 (ix2 i l) : EReal) * x4 (ix2 l n)) = ∑ l, P (ix2 (Cert.Mlp.row t i) l) * Q (ix2 l n) :=
    Finset.sum_congr rfl fun l _ => congrArg₂ (fun a b : EReal => a * b) (second_of t x3 P h3 i l) (h4 l n)
  rw [← e]
  exact nn_apply dot_S512x256_S256x1024_S512x1024_1_0_0_1_n_n_wf _ _ i n

end Embeds

include h0 h1 h2 h3 h4

/-- The rows that reach the final norm. -/
theorem carries_of (i : Fin 512) (k : Fin 1024) : carries x0 x1 x2 x3 x4 (ix2 i k) = carried H G W P Q (ix2 (Cert.Mlp.row t i) k) :=
  congrArg₂ (fun a b : EReal => a + b) (h0 i k) (congrArg₂ (fun a b : EReal => a * b) (gates_of t x0 x1 x2 H G W h0 h1 h2 i k) (embeds_of t x3 x4 P Q h3 h4 i k))

include h5 h6

/-- The differences. -/
theorem diff_of (i : Fin 512) (k : Fin 1024) : k0_pay19 (carries x0 x1 x2 x3 x4) x5 x6 (ix2 i k) = diff H G W P Q N Y (Cert.Mlp.row t i) k :=
  congrArg₂ (fun a b : EReal => a - b) (congrArg₂ (fun a b : EReal => a * b)
    (unit_of t (carries x0 x1 x2 x3 x4) (carried H G W P Q) (carries_of t x0 x1 x2 x3 x4 H G W P Q h0 h1 h2 h3 h4) i k) ((gain_apply x5 i k).trans (h5 k))) (h6 i k)

/-- The gradient of the final norm's rows. -/
theorem out_of (i : Fin 512) (k : Fin 1024) : k0_pay21 (carries x0 x1 x2 x3 x4) x5 x6 (ix2 i k) = outGrad H G W P Q N Y (Cert.Mlp.row t i) k :=
  congrArg (fun z : EReal => z * Ideal.ofBits .f32 0x3A800000#32) (diff_of t x0 x1 x2 x3 x4 x5 x6 H G W P Q N Y h0 h1 h2 h3 h4 h5 h6 i k)

/-- The gradient of the rows that reach the final norm. -/
theorem heads_of (i : Fin 512) (k : Fin 1024) : heads x0 x1 x2 x3 x4 x5 x6 (ix2 i k) = headRows H G W P Q N Y (ix2 (Cert.Mlp.row t i) k) :=
  through_of t (carries x0 x1 x2 x3 x4) (carried H G W P Q) (carries_of t x0 x1 x2 x3 x4 H G W P Q h0 h1 h2 h3 h4) _
    (fun T l => outGrad H G W P Q N Y T l * N (ix2 (0 : Fin 1) l))
    (fun i k => congrArg₂ (fun a b : EReal => a * b) (out_of t x0 x1 x2 x3 x4 x5 x6 H G W P Q N Y h0 h1 h2 h3 h4 h5 h6 i k) ((gain_apply x5 i k).trans (h5 k))) i k

/-- The loss with a tile's part added, where the differences are real. -/
theorem left7_of (hd : ∀ T k, IsReal (diff H G W P Q N Y T k)) (a : Vec Ideal S1x128 .f32) (n : Fin 128) :
    left7 x0 x1 x2 x3 x4 x5 x6 a (ix2 (0 : Fin 1) n) = (a (ix2 (0 : Fin 1) n) : EReal)
      + ∑ i : Fin 512, (∑ k, diff H G W P Q N Y (Cert.Mlp.row t i) k * diff H G W P Q N Y (Cert.Mlp.row t i) k) * Ideal.ofBits .f32 0x3A000000#32 := by
  unfold left7 k0_pay20
  rw [shapeCast_self]
  refine congrArg (fun z : EReal => (a (ix2 (0 : Fin 1) n) : EReal) + z) ?_
  refine (congrArg (fun z : EReal => z * Ideal.ofBits .f32 0x3A000000#32) ((total_apply _).trans (Finset.sum_congr rfl fun i _ => Finset.sum_congr rfl fun k _ =>
    congrArg (fun z : EReal => z * z) (diff_of t x0 x1 x2 x3 x4 x5 x6 H G W P Q N Y h0 h1 h2 h3 h4 h5 h6 i k)))).trans ?_
  rw [bits_half_inverse]
  exact sum_mul_real _ _ _ fun i => IsReal.sum _ _ fun k => (hd _ k).mul (hd _ k)

/-- The final gain's gradient with a tile's part added. -/
theorem left8_of (a : Vec Ideal S1x1024 .f32) (k : Fin 1024) :
    left8 x0 x1 x2 x3 x4 x5 x6 a (ix2 (0 : Fin 1) k) = (a (ix2 (0 : Fin 1) k) : EReal)
      + ∑ i : Fin 512, outGrad H G W P Q N Y (Cert.Mlp.row t i) k * unit (carried H G W P Q) (Cert.Mlp.row t i) k := by
  unfold left8 k0_pay24
  rw [shapeCast_self]
  refine congrArg (fun z : EReal => (a (ix2 (0 : Fin 1) k) : EReal) + z) ((line_apply _ k).trans (Finset.sum_congr rfl fun i _ => ?_))
  exact congrArg₂ (fun a b : EReal => a * b) (out_of t x0 x1 x2 x3 x4 x5 x6 H G W P Q N Y h0 h1 h2 h3 h4 h5 h6 i k)
    (unit_of t (carries x0 x1 x2 x3 x4) (carried H G W P Q) (carries_of t x0 x1 x2 x3 x4 H G W P Q h0 h1 h2 h3 h4) i k)

/-- The gradient of the gate's logits. -/
theorem logit_of (i : Fin 512) (n : Fin 1024) : k0_pay25 (gates x0 x1 x2) (embeds x3 x4) (heads x0 x1 x2 x3 x4 x5 x6) (ix2 i n)
    = logitGrad (headRows H G W P Q N Y) H G W P Q (Cert.Mlp.row t i) n := by
  have hg := gates_of t x0 x1 x2 H G W h0 h1 h2 i n
  exact congrArg₂ (fun a b : EReal => a * b) (congrArg₂ (fun a b : EReal => a * b) (congrArg₂ (fun a b : EReal => a * b)
    (heads_of t x0 x1 x2 x3 x4 x5 x6 H G W P Q N Y h0 h1 h2 h3 h4 h5 h6 i n) (embeds_of t x3 x4 P Q h3 h4 i n)) hg) (congrArg (fun z : EReal => Ideal.ofBits .f32 0x3F800000#32 - z) hg)

/-- The gradient of the normalised rows. -/
theorem back_of (i : Fin 512) (k : Fin 1024) : k0_pay28 (gates x0 x1 x2) (embeds x3 x4) (heads x0 x1 x2 x3 x4 x5 x6) x2 (ix2 i k)
    = Cert.Gate.normGrad (headRows H G W P Q N Y) H G W P Q (Cert.Mlp.row t i) k := by
  unfold k0_pay28 Cert.Gate.normGrad
  rw [shapeCast_self]
  have e : (∑ n : Fin 1024, (k0_pay25 (gates x0 x1 x2) (embeds x3 x4) (heads x0 x1 x2 x3 x4 x5 x6) (ix2 i n) : EReal) * x2 (ix2 k n))
      = ∑ n, logitGrad (headRows H G W P Q N Y) H G W P Q (Cert.Mlp.row t i) n * W (ix2 k n) :=
    Finset.sum_congr rfl fun n _ => congrArg₂ (fun a b : EReal => a * b) (logit_of t x0 x1 x2 x3 x4 x5 x6 H G W P Q N Y h0 h1 h2 h3 h4 h5 h6 i n) (h2 k n)
  rw [← e]
  exact nt_apply dot_S512x1024_S1024x1024_S512x1024_1_1_0_0_n_n_wf _ _ i k

/-- The gradient of the residual rows. -/
theorem left9_of (i : Fin 512) (k : Fin 1024) : left9 x0 x1 x2 x3 x4 x5 x6 (ix2 i k)
    = Cert.Gate.rowGrad (headRows H G W P Q N Y) H G W P Q (Cert.Mlp.row t i) k := by
  have e := through_of t x0 H h0 (mulf (k0_pay28 (gates x0 x1 x2) (embeds x3 x4) (heads x0 x1 x2 x3 x4 x5 x6) x2) (broadcastTo S512x1024 x1 broadcasts_S1x1024_S512x1024))
    (fun T l => Cert.Gate.normGrad (headRows H G W P Q N Y) H G W P Q T l * G (ix2 (0 : Fin 1) l))
    (fun i k => congrArg₂ (fun a b : EReal => a * b) (back_of t x0 x1 x2 x3 x4 x5 x6 H G W P Q N Y h0 h1 h2 h3 h4 h5 h6 i k) ((gain_apply x1 i k).trans (h1 k))) i k
  unfold Cert.Gate.rowGrad
  refine (congrArg₂ (fun a b : EReal => a + b) (heads_of t x0 x1 x2 x3 x4 x5 x6 H G W P Q N Y h0 h1 h2 h3 h4 h5 h6 i k) e).trans ?_
  unfold through
  rw [zero_add]

/-- The gain's gradient with a tile's part added. -/
theorem left10_of (a : Vec Ideal S1x1024 .f32) (k : Fin 1024) :
    left10 x0 x1 x2 x3 x4 x5 x6 a (ix2 (0 : Fin 1) k) = (a (ix2 (0 : Fin 1) k) : EReal)
      + ∑ i : Fin 512, Cert.Gate.normGrad (headRows H G W P Q N Y) H G W P Q (Cert.Mlp.row t i) k * unit H (Cert.Mlp.row t i) k := by
  unfold left10 k0_pay2
  rw [shapeCast_self]
  refine congrArg (fun z : EReal => (a (ix2 (0 : Fin 1) k) : EReal) + z) ((line_apply _ k).trans (Finset.sum_congr rfl fun i _ => ?_))
  exact congrArg₂ (fun a b : EReal => a * b) (back_of t x0 x1 x2 x3 x4 x5 x6 H G W P Q N Y h0 h1 h2 h3 h4 h5 h6 i k) (unit_of t x0 H h0 i k)

/-- The gate's weight's gradient with a tile's part added. -/
theorem left11_of (a : Vec Ideal S1024x1024 .f32) (k n : Fin 1024) :
    left11 x0 x1 x2 x3 x4 x5 x6 a (ix2 k n) = (a (ix2 k n) : EReal)
      + ∑ i : Fin 512, normed H G (Cert.Mlp.row t i) k * logitGrad (headRows H G W P Q N Y) H G W P Q (Cert.Mlp.row t i) n := by
  unfold left11 k0_pay26
  rw [shapeCast_self]
  exact congrArg (fun z : EReal => (a (ix2 k n) : EReal) + z) ((tn_apply dot_S512x1024_S512x1024_S1024x1024_0_0_1_1_n_n_wf _ _ k n).trans
    (Finset.sum_congr rfl fun i _ => congrArg₂ (fun a b : EReal => a * b) (normed_of t x0 x1 H G h0 h1 i k)
      (logit_of t x0 x1 x2 x3 x4 x5 x6 H G W P Q N Y h0 h1 h2 h3 h4 h5 h6 i n)))

/-- The embedding's weight's gradient with a tile's part added. -/
theorem left13_of (a : Vec Ideal S256x1024 .f32) (l : Fin 256) (n : Fin 1024) :
    left13 x0 x1 x2 x3 x4 x5 x6 a (ix2 l n) = (a (ix2 l n) : EReal)
      + ∑ i : Fin 512, P (ix2 (Cert.Mlp.row t i) l) * (headRows H G W P Q N Y (ix2 (Cert.Mlp.row t i) n) * gate H G W (Cert.Mlp.row t i) n) := by
  unfold left13 k0_pay27
  rw [shapeCast_self]
  exact congrArg (fun z : EReal => (a (ix2 l n) : EReal) + z) ((tn_apply dot_S512x256_S512x1024_S256x1024_0_0_1_1_n_n_wf _ _ l n).trans
    (Finset.sum_congr rfl fun i _ => congrArg₂ (fun a b : EReal => a * b) (second_of t x3 P h3 i l)
      (congrArg₂ (fun a b : EReal => a * b) (heads_of t x0 x1 x2 x3 x4 x5 x6 H G W P Q N Y h0 h1 h2 h3 h4 h5 h6 i n) (gates_of t x0 x1 x2 H G W h0 h1 h2 i n))))

end Tile

end Cert.Kernel8Ideal.Tile

end
-- ==== Proof.RefHead.lean ====
/-
  The reference's lines of the last layer's gate, the final norm and the loss, read stage by stage at an element. The
  gate's backward lines are those of the first layer's call, with the head's gradient as the incoming rows.
-/
module

public import proofs.«01_k».proof.Proof.HeadBack
public import proofs.«01_k».proof.Proof.RefGate
public import proofs.«01_k».proof.Proof.Gen.Reference8Ideal.Read

@[expose] public section

noncomputable section

open scoped BigOperators

namespace Cert.Reference8Ideal.Stages

open Idealize.ShloMosaic Idealize.ShloMosaic.TcCoe Idealize.SL.Sem Idealize.ShloMosaic.ValueIdx
open Cert.Reference8Ideal Cert.Reference8Ideal.Gen Cert.Reference8Ideal.Read Cert.Mat Cert.Mlp Cert.Gate Cert.Head

variable (x0 : (⟨S8192x1024, .f32⟩ : BufTy).Contents (Elt Ideal)) (x1 : (⟨S1x1024, .f32⟩ : BufTy).Contents (Elt Ideal))
  (x2 : (⟨S1024x1024, .f32⟩ : BufTy).Contents (Elt Ideal)) (x3 : (⟨S2x8192x256, .f32⟩ : BufTy).Contents (Elt Ideal)) (x4 : (⟨S256x1024, .f32⟩ : BufTy).Contents (Elt Ideal))
  (x5 : (⟨S1x1024, .f32⟩ : BufTy).Contents (Elt Ideal)) (x6 : (⟨S8192x1024, .f32⟩ : BufTy).Contents (Elt Ideal))

/-- The second layer's embeddings. -/
abbrev second : (Rect2 8192 256).Idx → EReal := fun i => x3 (ix3 (1 : Fin 2) (i 0) (i 1))

/-- The reference's slice of the embeddings. -/
theorem second_eq : val_main_v28 (F := Ideal) x3 = second x3 := funext fun i => by
  refine (val_main_v28_apply x3 i).trans ((val_main_v27_apply x3 _).trans (congrArg x3 (funext fun a => Fin.ext ?_)))
  have h0 : (i 0).val < 8192 := (i 0).isLt
  have h1 : (i 1).val < 256 := (i 1).isLt
  match a with
  | ⟨0, _⟩ => rfl
  | ⟨1, _⟩ => show ((i 0).val * 256 + (i 1).val) / 256 % 8192 = (i 0).val; omega
  | ⟨2, _⟩ => show ((i 0).val * 256 + (i 1).val) % 256 = (i 1).val; omega

/-- The gate's lines are those of the first layer's call. -/
theorem gate_same : val_main_v23 (F := Ideal) x0 x1 x2 = Cert.Reference7Ideal.Read.val_main_v23 (F := Ideal) x0 x1 x2 := rfl

/-- The rows that reach the final norm. -/
theorem carried_eq : val_main_v31 (F := Ideal) x0 x1 x2 x3 x4 = carried x0 x1 x2 (second x3) x4 := funext fun i => by
  obtain ⟨T, k, rfl⟩ : ∃ T k, i = ix2 T k := ⟨i 0, i 1, eq_ix2 i⟩
  have he : val_main_v29 (F := Ideal) x3 x4 (ix2 T k) = embed (second x3) x4 T k := by
    refine Eq.trans ?_ (Cert.Reference7Ideal.Stages.embed_eq (second x3) x4 T k)
    rw [← second_eq x3]
    rfl
  exact congrArg (fun z : EReal => (x0 (ix2 T k) : EReal) + z) (congrArg₂ (fun a b : EReal => a * b)
    ((congrFun (gate_same x0 x1 x2) _).trans (Cert.Reference7Ideal.Stages.gate_eq x0 x1 x2 T k)) he)

/-- The final norm's mean squares are those of the first norm's lines on the rows carried. -/
theorem mean_same : val_main_v39 (F := Ideal) x0 x1 x2 x3 x4 = Cert.Reference7Ideal.Read.val_main_v7 (F := Ideal) (val_main_v31 (F := Ideal) x0 x1 x2 x3 x4) := rfl

/-- So are its normalised rows. -/
theorem norm_same : val_main_v48 (F := Ideal) x0 x1 x2 x3 x4 x5 = Cert.Reference7Ideal.Read.val_main_v16 (F := Ideal) (val_main_v31 (F := Ideal) x0 x1 x2 x3 x4) x5 := rfl

/-- The differences. -/
theorem diff_eq (T : Fin 8192) (k : Fin 1024) : val_main_v49 (F := Ideal) x0 x1 x2 x3 x4 x5 x6 (ix2 T k) = diff x0 x1 x2 (second x3) x4 x5 x6 T k := by
  refine congrArg (fun z : EReal => z - x6 (ix2 T k)) ((congrFun (norm_same x0 x1 x2 x3 x4 x5) _).trans ?_)
  rw [carried_eq]
  exact Cert.Reference7Ideal.Stages.normed_eq (carried x0 x1 x2 (second x3) x4) x5 T k

/-- The gradient of the final norm's rows. -/
theorem out_eq (T : Fin 8192) (k : Fin 1024) : val_main_v63 (F := Ideal) x0 x1 x2 x3 x4 x5 x6 (ix2 T k) = outGrad x0 x1 x2 (second x3) x4 x5 x6 T k := by
  have h62 : val_main_v62 (F := Ideal) (ix2 T k) = Ideal.div (Ideal.ofBits .f32 0x3F000000#32 * Ideal.ofBits .f32 0x3F800000#32) (Ideal.ofBits .f32 0x44800000#32) :=
    (val_main_v62_apply (F := Ideal) _).trans (congrArg₂ Ideal.div (val_main_v59_apply (F := Ideal) _) (val_main_v60_apply (F := Ideal) _))
  have h52 : val_main_v52 (F := Ideal) x0 x1 x2 x3 x4 x5 x6 (ix2 T k) = Ideal.ofBits .f32 0x40000000#32 * diff x0 x1 x2 (second x3) x4 x5 x6 T k :=
    congrArg₂ (fun a b : EReal => a * b) (val_main_v51_apply (F := Ideal) _) (diff_eq x0 x1 x2 x3 x4 x5 x6 T k)
  exact (congrArg₂ (fun a b : EReal => a * b) h62 h52).trans (half_square _)

/-- The unit rows of the final norm. -/
theorem unit_eq (T : Fin 8192) (k : Fin 1024) : val_main_v45 (F := Ideal) x0 x1 x2 x3 x4 (ix2 T k) = unit (carried x0 x1 x2 (second x3) x4) T k := by
  have e : val_main_v45 (F := Ideal) x0 x1 x2 x3 x4 = Cert.Reference7Ideal.Read.val_main_v13 (F := Ideal) (val_main_v31 (F := Ideal) x0 x1 x2 x3 x4) := rfl
  rw [e, carried_eq]
  exact Cert.Reference7Ideal.Stages.unit_eq (carried x0 x1 x2 (second x3) x4) T k

/-- The final gain's gradient. -/
theorem finalGain_eq (k : Fin 1024) : val_main_v84 (F := Ideal) x0 x1 x2 x3 x4 x5 x6 (ix2 (0 : Fin 1) k) = finalGain x0 x1 x2 (second x3) x4 x5 x6 k := by
  have h65 : val_main_v65 (F := Ideal) x0 x1 x2 x3 x4 x5 x6 (ix1 k) = finalGain x0 x1 x2 (second x3) x4 x5 x6 k := by
    refine (val_main_v65_apply x0 x1 x2 x3 x4 x5 x6 _).trans ?_
    refine (congrArg₂ (fun a b : EReal => a + b) ((val_main_cst_18_apply (F := Ideal) _).trans Ideal.ofBits_zero_f32) (Finset.sum_congr rfl fun T _ => ?_)).trans (zero_add _)
    refine (congrArg (val_main_v64 (F := Ideal) x0 x1 x2 x3 x4 x5 x6) (idx2_ext (idx_main_v65 (ix1 k) T) (ix2 T k) rfl rfl)).trans ?_
    exact (congrArg₂ (fun a b : EReal => a * b) (unit_eq x0 x1 x2 x3 x4 T k) (out_eq x0 x1 x2 x3 x4 x5 x6 T k)).trans (mul_comm _ _)
  have h66 : val_main_v66 (F := Ideal) x0 x1 x2 x3 x4 x5 x6 (ix2 (0 : Fin 1) k) = finalGain x0 x1 x2 (second x3) x4 x5 x6 k := by
    refine (val_main_v66_apply x0 x1 x2 x3 x4 x5 x6 _).trans ((congrArg (val_main_v65 (F := Ideal) x0 x1 x2 x3 x4 x5 x6) (funext fun a => Fin.ext ?_)).trans h65)
    match a with
    | ⟨0, _⟩ => show 0 * 1024 + k.val = k.val; omega
  have h69 : val_main_v69 (F := Ideal) x0 x1 x2 x3 x4 x5 x6 (ix1 k) = finalGain x0 x1 x2 (second x3) x4 x5 x6 k := by
    refine (val_main_v69_apply x0 x1 x2 x3 x4 x5 x6 _).trans ?_
    refine (congrArg₂ (fun a b : EReal => a + b) ((val_main_cst_19_apply (F := Ideal) _).trans Ideal.ofBits_zero_f32) (Fin.sum_univ_one _)).trans ((zero_add _).trans ?_)
    exact (congrArg (val_main_v66 (F := Ideal) x0 x1 x2 x3 x4 x5 x6) (idx2_ext (idx_main_v69 (ix1 k) 0) (ix2 (0 : Fin 1) k) rfl rfl)).trans h66
  refine (val_main_v84_apply x0 x1 x2 x3 x4 x5 x6 _).trans ((congrArg (val_main_v69 (F := Ideal) x0 x1 x2 x3 x4 x5 x6) (funext fun a => Fin.ext ?_)).trans h69)
  match a with
  | ⟨0, _⟩ => rfl

/-- The final norm's gradient times the final gain. -/
theorem gained_eq (T : Fin 8192) (k : Fin 1024) : val_main_v68 (F := Ideal) x0 x1 x2 x3 x4 x5 x6 (ix2 T k) = outGrad x0 x1 x2 (second x3) x4 x5 x6 T k * x5 (ix2 (0 : Fin 1) k) := by
  have h67 : val_main_v67 (F := Ideal) x5 (ix2 T k) = x5 (ix2 (0 : Fin 1) k) := Cert.Reference7Ideal.Stages.gain_eq x5 T k
  exact congrArg₂ (fun a b : EReal => a * b) (out_eq x0 x1 x2 x3 x4 x5 x6 T k) h67

/-- What reaches a row's mean square in the final norm, over the row's length. -/
theorem square_eq (c : (Rect2 8192 1024).Idx → EReal) (hc : val_main_v31 (F := Ideal) x0 x1 x2 x3 x4 = c) (T : Fin 8192) (k : Fin 1024) :
    val_main_v79 (F := Ideal) x0 x1 x2 x3 x4 x5 x6 (ix2 T k)
    = Ideal.div ((∑ l : Fin 1024, (c (ix2 T l) : EReal) * (outGrad x0 x1 x2 (second x3) x4 x5 x6 T l * x5 (ix2 (0 : Fin 1) l)))
      * (Ideal.ofBits .f32 0xBF000000#32 * Ideal.div (scale fun l => c (ix2 T l)) (meanSq fun l => c (ix2 T l)))) (Ideal.ofBits .f32 0x44800000#32) := by
  have h71 : val_main_v71 (F := Ideal) x0 x1 x2 x3 x4 x5 x6 (ix1 T) = ∑ l : Fin 1024, (c (ix2 T l) : EReal) * (outGrad x0 x1 x2 (second x3) x4 x5 x6 T l * x5 (ix2 (0 : Fin 1) l)) := by
    refine (val_main_v71_apply x0 x1 x2 x3 x4 x5 x6 _).trans ?_
    refine (congrArg₂ (fun a b : EReal => a + b) ((val_main_cst_20_apply (F := Ideal) _).trans Ideal.ofBits_zero_f32) (Finset.sum_congr rfl fun l _ => ?_)).trans (zero_add _)
    refine (congrArg (val_main_v70 (F := Ideal) x0 x1 x2 x3 x4 x5 x6) (idx2_ext (idx_main_v71 (ix1 T) l) (ix2 T l) rfl rfl)).trans ?_
    exact congrArg₂ (fun a b : EReal => a * b) (congrFun hc _) (gained_eq x0 x1 x2 x3 x4 x5 x6 T l)
  have e72 : idx_main_v72 (ix2 T (0 : Fin 1)) = ix1 T := funext fun a => Fin.ext (by
    match a with
    | ⟨0, _⟩ => show T.val * 1 + 0 = T.val; omega)
  have h72 := (val_main_v72_apply x0 x1 x2 x3 x4 x5 x6 (ix2 T (0 : Fin 1))).trans ((congrArg (val_main_v71 (F := Ideal) x0 x1 x2 x3 x4 x5 x6) e72).trans h71)
  have h39 : val_main_v39 (F := Ideal) x0 x1 x2 x3 x4 (ix2 T (0 : Fin 1)) = meanSq fun l => c (ix2 T l) := by
    rw [mean_same, hc]
    exact Cert.Reference7Ideal.Stages.meanSq_eq c T
  have h43 : val_main_v43 (F := Ideal) x0 x1 x2 x3 x4 (ix2 T (0 : Fin 1)) = Ideal.ofBits .f32 0xBF000000#32 * Ideal.div (scale fun l => c (ix2 T l)) (meanSq fun l => c (ix2 T l)) :=
    congrArg₂ (fun a b : EReal => a * b) (val_main_v42_apply (F := Ideal) _) (congrArg₂ Ideal.div (congrArg Ideal.rsqrt h39) h39)
  have h77 := congrArg₂ Ideal.div (congrArg₂ (fun a b : EReal => a * b) h72 h43) (val_main_v76_apply (F := Ideal) (ix2 T (0 : Fin 1)))
  have e79 : idx_main_v79 (ix2 T k) = ix1 T := funext fun a => Fin.ext (by
    match a with
    | ⟨0, _⟩ => rfl)
  refine (val_main_v79_apply x0 x1 x2 x3 x4 x5 x6 _).trans ((congrArg (val_main_v78 (F := Ideal) x0 x1 x2 x3 x4 x5 x6) e79).trans ((val_main_v78_apply x0 x1 x2 x3 x4 x5 x6 _).trans ?_))
  refine (congrArg₂ (fun a b : EReal => a + b) ((val_main_cst_22_apply (F := Ideal) _).trans Ideal.ofBits_zero_f32) (Fin.sum_univ_one _)).trans ((zero_add _).trans ?_)
  exact (congrArg (val_main_v77 (F := Ideal) x0 x1 x2 x3 x4 x5 x6) (idx2_ext (idx_main_v78 (ix1 T) 0) (ix2 T (0 : Fin 1)) rfl rfl)).trans h77

/-- The loss, where the arguments are real. -/
theorem loss_eq (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i))
    (n : Fin 128) : val_main_v115 (F := Ideal) x0 x1 x2 x3 x4 x5 x6 (ix2 (0 : Fin 1) n) = loss x0 x1 x2 (second x3) x4 x5 x6 := by
  have hd := diff_real (p := second x3) h0 h1 h2 (fun i => h3 _) h4 h5 h6
  have h55 : ∀ T : Fin 8192, val_main_v55 (F := Ideal) x0 x1 x2 x3 x4 x5 x6 (ix1 T)
      = Ideal.div (∑ k, diff x0 x1 x2 (second x3) x4 x5 x6 T k * diff x0 x1 x2 (second x3) x4 x5 x6 T k) (Ideal.ofBits .f32 0x44800000#32) := fun T => by
    refine congrArg₂ Ideal.div ((val_main_v53_apply x0 x1 x2 x3 x4 x5 x6 _).trans ?_) (val_main_v54_apply (F := Ideal) _)
    refine (congrArg₂ (fun a b : EReal => a + b) ((val_main_cst_11_apply (F := Ideal) _).trans Ideal.ofBits_zero_f32) (Finset.sum_congr rfl fun k _ => ?_)).trans (zero_add _)
    refine (congrArg (val_main_v50 (F := Ideal) x0 x1 x2 x3 x4 x5 x6) (idx2_ext (idx_main_v53 (ix1 T) k) (ix2 T k) rfl rfl)).trans ?_
    exact congrArg (fun z : EReal => z * z) (diff_eq x0 x1 x2 x3 x4 x5 x6 T k)
  have e : (∑ j : S8192.Idx, val_main_v55 (F := Ideal) x0 x1 x2 x3 x4 x5 x6 j) = ∑ T : Fin 8192, val_main_v55 (F := Ideal) x0 x1 x2 x3 x4 x5 x6 (ix1 T) :=
    Fintype.sum_equiv ⟨fun j => j 0, fun T => ix1 T, fun j => (eq_ix1 j).symm, fun T => rfl⟩ _ _ fun j => congrArg _ (eq_ix1 j)
  have h56 : val_main_v56 (F := Ideal) x0 x1 x2 x3 x4 x5 x6 (idx_main_v115 (ix2 (0 : Fin 1) n))
      = ∑ T, Ideal.div (∑ k, diff x0 x1 x2 (second x3) x4 x5 x6 T k * diff x0 x1 x2 (second x3) x4 x5 x6 T k) (Ideal.ofBits .f32 0x44800000#32) := by
    refine (val_main_v56_apply x0 x1 x2 x3 x4 x5 x6 _).trans ?_
    refine (congrArg₂ (fun a b : EReal => a + b) ((val_main_cst_13_apply (F := Ideal) _).trans Ideal.ofBits_zero_f32) (e.trans (Finset.sum_congr rfl fun T _ => h55 T))).trans (zero_add _)
  refine (val_main_v115_apply x0 x1 x2 x3 x4 x5 x6 _).trans ((congrArg₂ (fun a b : EReal => a * b) (val_main_cst_14_apply (F := Ideal) _) h56).trans ?_)
  exact half_means _ _ fun T => IsReal.sum _ _ fun k => (hd T k).mul (hd T k)

section Real

variable (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i))

include h0 h1 h2 h3 h4 h5 h6

/-- The gradient of the rows that reach the final norm, where the arguments are real. -/
theorem head_eq : val_main_v83 (F := Ideal) x0 x1 x2 x3 x4 x5 x6 = headRows x0 x1 x2 (second x3) x4 x5 x6 := funext fun i => by
  obtain ⟨T, k, rfl⟩ : ∃ T k, i = ix2 T k := ⟨i 0, i 1, eq_ix2 i⟩
  have hc := carried_eq x0 x1 x2 x3 x4
  have h73 : val_main_v73 (F := Ideal) x0 x1 x2 x3 x4 (ix2 T k) = scale fun l => carried x0 x1 x2 (second x3) x4 (ix2 T l) := by
    have e : val_main_v73 (F := Ideal) x0 x1 x2 x3 x4 = Cert.Reference7Ideal.Read.val_main_v12 (F := Ideal) (val_main_v31 (F := Ideal) x0 x1 x2 x3 x4) := rfl
    rw [e, hc]
    exact Cert.Reference7Ideal.Stages.spread_eq (carried x0 x1 x2 (second x3) x4) T k
  have h74 := congrArg₂ (fun a b : EReal => a * b) (gained_eq x0 x1 x2 x3 x4 x5 x6 T k) h73
  have h79 := square_eq x0 x1 x2 x3 x4 x5 x6 _ hc T k
  have h31 := congrFun hc (ix2 T k)
  have h81 := congrArg₂ (fun a b : EReal => a + b) h74 (congrArg₂ (fun a b : EReal => a * b) h31 h79)
  refine (congrArg₂ (fun a b : EReal => a + b) h81 (congrArg₂ (fun a b : EReal => a * b) h79 h31)).trans ?_
  refine Eq.trans ?_ (through_terms (o := 0) ⟨0, EReal.coe_zero.symm⟩ (fun l => carried_real (p := second x3) h0 h1 h2 (fun i => h3 _) h4 (ix2 T l))
    (fun l => (outGrad_real (p := second x3) h0 h1 h2 (fun i => h3 _) h4 h5 h6 T l).mul (h5 (ix2 (0 : Fin 1) l))) k).symm
  rw [zero_add]

/-- The logits' gradients are those of the first layer's lines, with the head's gradient as the incoming rows. -/
theorem logit_same : val_main_v89 (F := Ideal) x0 x1 x2 x3 x4 x5 x6
    = Cert.Reference7Ideal.Read.val_main_v35 (F := Ideal) (headRows x0 x1 x2 (second x3) x4 x5 x6) x0 x1 x2 (second x3) x4 := by
  have hd := head_eq x0 x1 x2 x3 x4 x5 x6 h0 h1 h2 h3 h4 h5 h6
  have hi : Cert.Reference7Ideal.Read.val_main_v30 (F := Ideal) (headRows x0 x1 x2 (second x3) x4 x5 x6) = headRows x0 x1 x2 (second x3) x4 x5 x6 := shapeCast_self (s := S8192x1024) _ _
  unfold Cert.Reference7Ideal.Read.val_main_v35 Cert.Reference7Ideal.Read.val_main_v32
  rw [hi, ← hd, ← second_eq x3]
  rfl

/-- So are the normalised rows' gradients. -/
theorem back_same : val_main_v92 (F := Ideal) x0 x1 x2 x3 x4 x5 x6
    = Cert.Reference7Ideal.Read.val_main_v38 (F := Ideal) (headRows x0 x1 x2 (second x3) x4 x5 x6) x0 x1 x2 (second x3) x4 := by
  unfold Cert.Reference7Ideal.Read.val_main_v38
  rw [← logit_same x0 x1 x2 x3 x4 x5 x6 h0 h1 h2 h3 h4 h5 h6]
  rfl

/-- The gradient of the gate's weight. -/
theorem weightGrad_eq (k n : Fin 1024) : val_main_v91 (F := Ideal) x0 x1 x2 x3 x4 x5 x6 (ix2 k n) = weightGrad (headRows x0 x1 x2 (second x3) x4 x5 x6) x0 x1 x2 (second x3) x4 k n := by
  refine Eq.trans ?_ (Cert.Reference7Ideal.Stages.weightGrad_eq (headRows x0 x1 x2 (second x3) x4 x5 x6) x0 x1 x2 (second x3) x4 k n)
  unfold Cert.Reference7Ideal.Read.val_main_v37 Cert.Reference7Ideal.Read.val_main_v36
  rw [← logit_same x0 x1 x2 x3 x4 x5 x6 h0 h1 h2 h3 h4 h5 h6]
  rfl

/-- The gradient of the embedding's weight. -/
theorem embedGrad_eq (l : Fin 256) (n : Fin 1024) : val_main_v88 (F := Ideal) x0 x1 x2 x3 x4 x5 x6 (ix2 l n) = embedGrad (headRows x0 x1 x2 (second x3) x4 x5 x6) x0 x1 x2 (second x3) l n := by
  refine Eq.trans ?_ (Cert.Reference7Ideal.Stages.embedGrad_eq (headRows x0 x1 x2 (second x3) x4 x5 x6) x0 x1 x2 (second x3) l n)
  have hd := head_eq x0 x1 x2 x3 x4 x5 x6 h0 h1 h2 h3 h4 h5 h6
  have hi : Cert.Reference7Ideal.Read.val_main_v30 (F := Ideal) (headRows x0 x1 x2 (second x3) x4 x5 x6) = headRows x0 x1 x2 (second x3) x4 x5 x6 := shapeCast_self (s := S8192x1024) _ _
  unfold Cert.Reference7Ideal.Read.val_main_v34 Cert.Reference7Ideal.Read.val_main_v33 Cert.Reference7Ideal.Read.val_main_v31
  rw [hi, ← hd, ← second_eq x3]
  rfl

/-- The gain's gradient. -/
theorem gainGrad_eq (k : Fin 1024) : val_main_v114 (F := Ideal) x0 x1 x2 x3 x4 x5 x6 (ix2 (0 : Fin 1) k) = Cert.Gate.gainGrad (headRows x0 x1 x2 (second x3) x4 x5 x6) x0 x1 x2 (second x3) x4 k := by
  refine Eq.trans ?_ (Cert.Reference7Ideal.Stages.gainGrad_eq (headRows x0 x1 x2 (second x3) x4 x5 x6) x0 x1 x2 (second x3) x4 k)
  unfold Cert.Reference7Ideal.Read.val_main_v60 Cert.Reference7Ideal.Read.val_main_v44 Cert.Reference7Ideal.Read.val_main_v41 Cert.Reference7Ideal.Read.val_main_v40 Cert.Reference7Ideal.Read.val_main_v39
  rw [← back_same x0 x1 x2 x3 x4 x5 x6 h0 h1 h2 h3 h4 h5 h6]
  rfl

/-- The gradient of the residual rows. -/
theorem rowGrad_eq (T : Fin 8192) (k : Fin 1024) : val_main_v113 (F := Ideal) x0 x1 x2 x3 x4 x5 x6 (ix2 T k) = Cert.Gate.rowGrad (headRows x0 x1 x2 (second x3) x4 x5 x6) x0 x1 x2 (second x3) x4 T k := by
  refine Eq.trans ?_ (Cert.Reference7Ideal.Stages.rowGrad_eq (headRows x0 x1 x2 (second x3) x4 x5 x6) x0 x1 x2 (second x3) x4
    (headRows_real (p := second x3) h0 h1 h2 (fun i => h3 _) h4 h5 h6) h0 h1 h2 (fun i => h3 _) h4 T k)
  have h97 : val_main_v97 (F := Ideal) x0 x1 x2 x3 x4 x5 x6 = Cert.Reference7Ideal.Read.val_main_v43 (F := Ideal) (headRows x0 x1 x2 (second x3) x4 x5 x6) x0 x1 x2 (second x3) x4 := by
    unfold Cert.Reference7Ideal.Read.val_main_v43
    rw [← back_same x0 x1 x2 x3 x4 x5 x6 h0 h1 h2 h3 h4 h5 h6]
    rfl
  have h109 : val_main_v109 (F := Ideal) x0 x1 x2 x3 x4 x5 x6 = Cert.Reference7Ideal.Read.val_main_v55 (F := Ideal) (headRows x0 x1 x2 (second x3) x4 x5 x6) x0 x1 x2 (second x3) x4 := by
    unfold Cert.Reference7Ideal.Read.val_main_v55 Cert.Reference7Ideal.Read.val_main_v54 Cert.Reference7Ideal.Read.val_main_v53 Cert.Reference7Ideal.Read.val_main_v51 Cert.Reference7Ideal.Read.val_main_v47 Cert.Reference7Ideal.Read.val_main_v46 Cert.Reference7Ideal.Read.val_main_v45
    rw [← h97]
    rfl
  have h97' := congrFun h97 (ix2 T k)
  have h109' := congrFun h109 (ix2 T k)
  have hd := congrFun (head_eq x0 x1 x2 x3 x4 x5 x6 h0 h1 h2 h3 h4 h5 h6) (ix2 T k)
  have h102 : val_main_v102 (F := Ideal) x0 (ix2 T k) = Cert.Reference7Ideal.Read.val_main_v48 (F := Ideal) x0 (ix2 T k) := rfl
  have h104 := congrArg₂ (fun a b : EReal => a + b) hd (congrArg₂ (fun a b : EReal => a * b) h97' h102)
  have h111 := congrArg₂ (fun a b : EReal => a + b) h104 (congrArg (fun z : EReal => (x0 (ix2 T k) : EReal) * z) h109')
  exact congrArg₂ (fun a b : EReal => a + b) h111 (congrArg (fun z : EReal => z * (x0 (ix2 T k) : EReal)) h109')

end Real

end Cert.Reference8Ideal.Stages

end
-- ==== Proof.HeadWhole.lean ====
/-
  The head's call over whole arrays: what each of its eight result arrays holds, from the arguments.
-/
module

public import proofs.«01_k».proof.Proof.HeadRead
public import proofs.«01_k».proof.Proof.RefHead
public import Idealize.ShloMosaic.Lib.StableHlo.RunRead

@[expose] public section

noncomputable section

open scoped BigOperators

namespace Cert.Kernel8Ideal.Tile

open Idealize.ShloMosaic Idealize.ShloMosaic.TcCoe Idealize.SL.Sem Idealize.ShloMosaic.ValueIdx Idealize.ShloMosaic.StableHlo
open Cert.Kernel8Ideal Cert.Kernel8Ideal.Gen Cert.Mat Cert.Mlp Cert.Gate Cert.Head Cert.Reference8Ideal.Stages

section Lines

variable (V0 : Valuation τ sig (Elt Ideal))

/-- The gate's weight as the call is given it. -/
theorem line_weight : after Gen.hostOps0 V0 (no_index (Proc.devRef .tc main_v0)) = truncf (F := Ideal) (s := S1024x1024) (φ := .f32) .bf16 ((V0 (Proc.devRef .tc main_arg2))) bitsLt_bf16_f32 := by
  simp only [Gen.hostOps0]
  after_results_simp
  all_goals rfl

/-- The embedding's weight as the call is given it. -/
theorem line_down : after Gen.hostOps0 V0 (no_index (Proc.devRef .tc main_v1)) = truncf (F := Ideal) (s := S256x1024) (φ := .f32) .bf16 ((V0 (Proc.devRef .tc main_arg4))) bitsLt_bf16_f32 := by
  simp only [Gen.hostOps0]
  after_results_simp
  all_goals rfl

end Lines

variable (m : (ℓ : Loc nD τ sig) → Buf (Elt Ideal) ℓ) (c : Dev nD)

/-- The residual rows. -/
abbrev argH : main_arg0.ty.shape.Idx → EReal := m ((c.tc : Thread nD τ).loc main_arg0)
/-- The gain. -/
abbrev argG : main_arg1.ty.shape.Idx → EReal := m ((c.tc : Thread nD τ).loc main_arg1)
/-- The gate's weight. -/
abbrev argW : main_arg2.ty.shape.Idx → EReal := m ((c.tc : Thread nD τ).loc main_arg2)
/-- The per-layer embeddings. -/
abbrev argP : main_arg3.ty.shape.Idx → EReal := m ((c.tc : Thread nD τ).loc main_arg3)
/-- The embedding's weight. -/
abbrev argQ : main_arg4.ty.shape.Idx → EReal := m ((c.tc : Thread nD τ).loc main_arg4)
/-- The final gain. -/
abbrev argN : main_arg5.ty.shape.Idx → EReal := m ((c.tc : Thread nD τ).loc main_arg5)
/-- The target. -/
abbrev argY : main_arg6.ty.shape.Idx → EReal := m ((c.tc : Thread nD τ).loc main_arg6)

/-- The array of the gate's weight. -/
theorem weightArr_apply (k n : Fin 1024) : V m c main_v0 (ix2 k n) = argW m c (ix2 k n) := by
  have e : V m c main_v0 = truncf (F := Ideal) (s := S1024x1024) (φ := .f32) .bf16 (argW m c) bitsLt_bf16_f32 := by
    show after (List.flatten [Gen.hostOps0]) (fun b => m (c, b)) (Proc.devRef .tc main_v0) = _
    rw [List.flatten_cons, List.flatten_nil, List.append_nil, line_weight]
  exact congrFun e (ix2 k n)

/-- The array of the embedding's weight. -/
theorem downArr_apply (l : Fin 256) (n : Fin 1024) : V m c main_v1 (ix2 l n) = argQ m c (ix2 l n) := by
  have e : V m c main_v1 = truncf (F := Ideal) (s := S256x1024) (φ := .f32) .bf16 (argQ m c) bitsLt_bf16_f32 := by
    show after (List.flatten [Gen.hostOps0]) (fun b => m (c, b)) (Proc.devRef .tc main_v1) = _
    rw [List.flatten_cons, List.flatten_nil, List.append_nil, line_down]
  exact congrFun e (ix2 l n)

/-- Window 0's block at a point: the tile's rows. -/
theorem read0_apply (X : main_arg0.ty.shape.Idx → EReal) (t : Fin cfg0.N) (i : Fin 512) (k : Fin 1024) :
    ((cfg0.win 0).blk t).view.read (Elt Ideal) X (ix2 i k) = X (ix2 (Cert.Mlp.row t i) k) := by
  have hi : ∀ t : Fin cfg0.N, win0_0.index t 0 = t.val ∧ win0_0.index t 1 = 0 := by decide +kernel
  rw [View.read_apply]
  refine congrArg X (funext fun b => Fin.ext ?_)
  match b with
  | ⟨0, _⟩ => show win0_0.index t 0 * 512 + 1 * i.val = t.val * 512 + i.val; rw [(hi t).1]; omega
  | ⟨1, _⟩ => show win0_0.index t 1 * 1024 + 1 * k.val = k.val; rw [(hi t).2]; omega

/-- Window 1's block at a point is the whole array. -/
theorem read1_apply (X : main_arg1.ty.shape.Idx → EReal) (t : Fin cfg0.N) (i : Fin 1) (k : Fin 1024) :
    ((cfg0.win 1).blk t).view.read (Elt Ideal) X (ix2 i k) = X (ix2 i k) := by
  have hi : ∀ t : Fin cfg0.N, win0_1.index t 0 = 0 ∧ win0_1.index t 1 = 0 := by decide +kernel
  rw [View.read_apply]
  refine congrArg X (funext fun b => Fin.ext ?_)
  match b with
  | ⟨0, _⟩ => show win0_1.index t 0 * 1 + 1 * i.val = i.val; rw [(hi t).1]; omega
  | ⟨1, _⟩ => show win0_1.index t 1 * 1024 + 1 * k.val = k.val; rw [(hi t).2]; omega

/-- Window 2's block at a point is the whole array. -/
theorem read2_apply (X : main_v0.ty.shape.Idx → EReal) (t : Fin cfg0.N) (i : Fin 1024) (k : Fin 1024) :
    ((cfg0.win 2).blk t).view.read (Elt Ideal) X (ix2 i k) = X (ix2 i k) := by
  have hi : ∀ t : Fin cfg0.N, win0_2.index t 0 = 0 ∧ win0_2.index t 1 = 0 := by decide +kernel
  rw [View.read_apply]
  refine congrArg X (funext fun b => Fin.ext ?_)
  match b with
  | ⟨0, _⟩ => show win0_2.index t 0 * 1024 + 1 * i.val = i.val; rw [(hi t).1]; omega
  | ⟨1, _⟩ => show win0_2.index t 1 * 1024 + 1 * k.val = k.val; rw [(hi t).2]; omega

/-- Window 3's block at a point: the tile's rows of the second layer's embeddings. -/
theorem read3_apply (X : main_arg3.ty.shape.Idx → EReal) (t : Fin cfg0.N) (i : Fin 512) (l : Fin 256) :
    ((cfg0.win 3).blk t).view.read (Elt Ideal) X (ix3 (0 : Fin 1) i l) = X (ix3 (1 : Fin 2) (Cert.Mlp.row t i) l) := by
  have hi : ∀ t : Fin cfg0.N, win0_3.index t 0 = 1 ∧ win0_3.index t 1 = t.val ∧ win0_3.index t 2 = 0 := by decide +kernel
  rw [View.read_apply]
  refine congrArg X (funext fun b => Fin.ext ?_)
  match b with
  | ⟨0, _⟩ => show win0_3.index t 0 * 1 + 1 * 0 = 1; rw [(hi t).1]
  | ⟨1, _⟩ => show win0_3.index t 1 * 512 + 1 * i.val = t.val * 512 + i.val; rw [(hi t).2.1]; omega
  | ⟨2, _⟩ => show win0_3.index t 2 * 256 + 1 * l.val = l.val; rw [(hi t).2.2]; omega

/-- Window 4's block at a point is the whole array. -/
theorem read4_apply (X : main_v1.ty.shape.Idx → EReal) (t : Fin cfg0.N) (i : Fin 256) (k : Fin 1024) :
    ((cfg0.win 4).blk t).view.read (Elt Ideal) X (ix2 i k) = X (ix2 i k) := by
  have hi : ∀ t : Fin cfg0.N, win0_4.index t 0 = 0 ∧ win0_4.index t 1 = 0 := by decide +kernel
  rw [View.read_apply]
  refine congrArg X (funext fun b => Fin.ext ?_)
  match b with
  | ⟨0, _⟩ => show win0_4.index t 0 * 256 + 1 * i.val = i.val; rw [(hi t).1]; omega
  | ⟨1, _⟩ => show win0_4.index t 1 * 1024 + 1 * k.val = k.val; rw [(hi t).2]; omega

/-- Window 5's block at a point is the whole array. -/
theorem read5_apply (X : main_arg5.ty.shape.Idx → EReal) (t : Fin cfg0.N) (i : Fin 1) (k : Fin 1024) :
    ((cfg0.win 5).blk t).view.read (Elt Ideal) X (ix2 i k) = X (ix2 i k) := by
  have hi : ∀ t : Fin cfg0.N, win0_5.index t 0 = 0 ∧ win0_5.index t 1 = 0 := by decide +kernel
  rw [View.read_apply]
  refine congrArg X (funext fun b => Fin.ext ?_)
  match b with
  | ⟨0, _⟩ => show win0_5.index t 0 * 1 + 1 * i.val = i.val; rw [(hi t).1]; omega
  | ⟨1, _⟩ => show win0_5.index t 1 * 1024 + 1 * k.val = k.val; rw [(hi t).2]; omega

/-- Window 6's block at a point: the tile's rows. -/
theorem read6_apply (X : main_arg6.ty.shape.Idx → EReal) (t : Fin cfg0.N) (i : Fin 512) (k : Fin 1024) :
    ((cfg0.win 6).blk t).view.read (Elt Ideal) X (ix2 i k) = X (ix2 (Cert.Mlp.row t i) k) := by
  have hi : ∀ t : Fin cfg0.N, win0_6.index t 0 = t.val ∧ win0_6.index t 1 = 0 := by decide +kernel
  rw [View.read_apply]
  refine congrArg X (funext fun b => Fin.ext ?_)
  match b with
  | ⟨0, _⟩ => show win0_6.index t 0 * 512 + 1 * i.val = t.val * 512 + i.val; rw [(hi t).1]; omega
  | ⟨1, _⟩ => show win0_6.index t 1 * 1024 + 1 * k.val = k.val; rw [(hi t).2]; omega

/-- Window 7's block at a point is the whole array. -/
theorem read7_apply (X : main_v2_0.ty.shape.Idx → EReal) (t : Fin cfg0.N) (i : Fin 1) (k : Fin 128) :
    ((cfg0.win 7).blk t).view.read (Elt Ideal) X (ix2 i k) = X (ix2 i k) := by
  have hi : ∀ t : Fin cfg0.N, win0_7.index t 0 = 0 ∧ win0_7.index t 1 = 0 := by decide +kernel
  rw [View.read_apply]
  refine congrArg X (funext fun b => Fin.ext ?_)
  match b with
  | ⟨0, _⟩ => show win0_7.index t 0 * 1 + 1 * i.val = i.val; rw [(hi t).1]; omega
  | ⟨1, _⟩ => show win0_7.index t 1 * 128 + 1 * k.val = k.val; rw [(hi t).2]; omega

/-- Window 8's block at a point is the whole array. -/
theorem read8_apply (X : main_v2_1.ty.shape.Idx → EReal) (t : Fin cfg0.N) (i : Fin 1) (k : Fin 1024) :
    ((cfg0.win 8).blk t).view.read (Elt Ideal) X (ix2 i k) = X (ix2 i k) := by
  have hi : ∀ t : Fin cfg0.N, win0_8.index t 0 = 0 ∧ win0_8.index t 1 = 0 := by decide +kernel
  rw [View.read_apply]
  refine congrArg X (funext fun b => Fin.ext ?_)
  match b with
  | ⟨0, _⟩ => show win0_8.index t 0 * 1 + 1 * i.val = i.val; rw [(hi t).1]; omega
  | ⟨1, _⟩ => show win0_8.index t 1 * 1024 + 1 * k.val = k.val; rw [(hi t).2]; omega

/-- Window 9's block at a point: the tile's rows. -/
theorem read9_apply (X : main_v2_2.ty.shape.Idx → EReal) (t : Fin cfg0.N) (i : Fin 512) (k : Fin 1024) :
    ((cfg0.win 9).blk t).view.read (Elt Ideal) X (ix2 i k) = X (ix2 (Cert.Mlp.row t i) k) := by
  have hi : ∀ t : Fin cfg0.N, win0_9.index t 0 = t.val ∧ win0_9.index t 1 = 0 := by decide +kernel
  rw [View.read_apply]
  refine congrArg X (funext fun b => Fin.ext ?_)
  match b with
  | ⟨0, _⟩ => show win0_9.index t 0 * 512 + 1 * i.val = t.val * 512 + i.val; rw [(hi t).1]; omega
  | ⟨1, _⟩ => show win0_9.index t 1 * 1024 + 1 * k.val = k.val; rw [(hi t).2]; omega

/-- Window 10's block at a point is the whole array. -/
theorem read10_apply (X : main_v2_3.ty.shape.Idx → EReal) (t : Fin cfg0.N) (i : Fin 1) (k : Fin 1024) :
    ((cfg0.win 10).blk t).view.read (Elt Ideal) X (ix2 i k) = X (ix2 i k) := by
  have hi : ∀ t : Fin cfg0.N, win0_10.index t 0 = 0 ∧ win0_10.index t 1 = 0 := by decide +kernel
  rw [View.read_apply]
  refine congrArg X (funext fun b => Fin.ext ?_)
  match b with
  | ⟨0, _⟩ => show win0_10.index t 0 * 1 + 1 * i.val = i.val; rw [(hi t).1]; omega
  | ⟨1, _⟩ => show win0_10.index t 1 * 1024 + 1 * k.val = k.val; rw [(hi t).2]; omega

/-- Window 11's block at a point is the whole array. -/
theorem read11_apply (X : main_v2_4.ty.shape.Idx → EReal) (t : Fin cfg0.N) (i : Fin 1024) (k : Fin 1024) :
    ((cfg0.win 11).blk t).view.read (Elt Ideal) X (ix2 i k) = X (ix2 i k) := by
  have hi : ∀ t : Fin cfg0.N, win0_11.index t 0 = 0 ∧ win0_11.index t 1 = 0 := by decide +kernel
  rw [View.read_apply]
  refine congrArg X (funext fun b => Fin.ext ?_)
  match b with
  | ⟨0, _⟩ => show win0_11.index t 0 * 1024 + 1 * i.val = i.val; rw [(hi t).1]; omega
  | ⟨1, _⟩ => show win0_11.index t 1 * 1024 + 1 * k.val = k.val; rw [(hi t).2]; omega

/-- Window 12's block at a point is the whole array. -/
theorem read12_apply (X : main_v2_5.ty.shape.Idx → EReal) (t : Fin cfg0.N) (i : Fin 1024) (k : Fin 1024) :
    ((cfg0.win 12).blk t).view.read (Elt Ideal) X (ix2 i k) = X (ix2 i k) := by
  have hi : ∀ t : Fin cfg0.N, win0_12.index t 0 = 0 ∧ win0_12.index t 1 = 0 := by decide +kernel
  rw [View.read_apply]
  refine congrArg X (funext fun b => Fin.ext ?_)
  match b with
  | ⟨0, _⟩ => show win0_12.index t 0 * 1024 + 1 * i.val = i.val; rw [(hi t).1]; omega
  | ⟨1, _⟩ => show win0_12.index t 1 * 1024 + 1 * k.val = k.val; rw [(hi t).2]; omega

/-- Window 13's block at a point is the whole array. -/
theorem read13_apply (X : main_v2_6.ty.shape.Idx → EReal) (t : Fin cfg0.N) (i : Fin 256) (k : Fin 1024) :
    ((cfg0.win 13).blk t).view.read (Elt Ideal) X (ix2 i k) = X (ix2 i k) := by
  have hi : ∀ t : Fin cfg0.N, win0_13.index t 0 = 0 ∧ win0_13.index t 1 = 0 := by decide +kernel
  rw [View.read_apply]
  refine congrArg X (funext fun b => Fin.ext ?_)
  match b with
  | ⟨0, _⟩ => show win0_13.index t 0 * 256 + 1 * i.val = i.val; rw [(hi t).1]; omega
  | ⟨1, _⟩ => show win0_13.index t 1 * 1024 + 1 * k.val = k.val; rw [(hi t).2]; omega

/-- Window 14's block at a point is the whole array. -/
theorem read14_apply (X : main_v2_7.ty.shape.Idx → EReal) (t : Fin cfg0.N) (i : Fin 256) (k : Fin 1024) :
    ((cfg0.win 14).blk t).view.read (Elt Ideal) X (ix2 i k) = X (ix2 i k) := by
  have hi : ∀ t : Fin cfg0.N, win0_14.index t 0 = 0 ∧ win0_14.index t 1 = 0 := by decide +kernel
  rw [View.read_apply]
  refine congrArg X (funext fun b => Fin.ext ?_)
  match b with
  | ⟨0, _⟩ => show win0_14.index t 0 * 256 + 1 * i.val = i.val; rw [(hi t).1]; omega
  | ⟨1, _⟩ => show win0_14.index t 1 * 1024 + 1 * k.val = k.val; rw [(hi t).2]; omega

section Tiles

variable (t : Fin cfg0.N)

/-- Window 0's block at a point. -/
abbrev tile0 : Vec Ideal S512x1024 .f32 := iblk m c 0 t
/-- Window 1's block at a point. -/
abbrev tile1 : Vec Ideal S1x1024 .f32 := iblk m c 1 t
/-- Window 2's block at a point. -/
abbrev tile2 : Vec Ideal S1024x1024 .bf16 := iblk m c 2 t
/-- Window 3's block at a point. -/
abbrev tile3 : Vec Ideal S1x512x256 .f32 := iblk m c 3 t
/-- Window 4's block at a point. -/
abbrev tile4 : Vec Ideal S256x1024 .bf16 := iblk m c 4 t
/-- Window 5's block at a point. -/
abbrev tile5 : Vec Ideal S1x1024 .f32 := iblk m c 5 t
/-- Window 6's block at a point. -/
abbrev tile6 : Vec Ideal S512x1024 .f32 := iblk m c 6 t

/-- What window 0 stages. -/
theorem iblk0_apply (i : Fin 512) (k : Fin 1024) : tile0 m c t (ix2 i k) = argH m c (ix2 (Cert.Mlp.row t i) k) :=
  (read0_apply (V m c main_arg0) t i k).trans (congrFun (V_main_arg0 m c) _)

/-- What window 1 stages. -/
theorem iblk1_apply (k : Fin 1024) : tile1 m c t (ix2 (0 : Fin 1) k) = argG m c (ix2 (0 : Fin 1) k) :=
  (read1_apply (V m c main_arg1) t 0 k).trans (congrFun (V_main_arg1 m c) _)

/-- What window 2 stages. -/
theorem iblk2_apply (k n : Fin 1024) : tile2 m c t (ix2 k n) = argW m c (ix2 k n) :=
  (read2_apply (V m c main_v0) t k n).trans (weightArr_apply m c k n)

/-- What window 3 stages. -/
theorem iblk3_apply (i : Fin 512) (l : Fin 256) : tile3 m c t (ix3 (0 : Fin 1) i l) = second (argP m c) (ix2 (Cert.Mlp.row t i) l) :=
  (read3_apply (V m c main_arg3) t i l).trans (congrFun (V_main_arg3 m c) _)

/-- What window 4 stages. -/
theorem iblk4_apply (l : Fin 256) (n : Fin 1024) : tile4 m c t (ix2 l n) = argQ m c (ix2 l n) :=
  (read4_apply (V m c main_v1) t l n).trans (downArr_apply m c l n)

/-- What window 5 stages. -/
theorem iblk5_apply (k : Fin 1024) : tile5 m c t (ix2 (0 : Fin 1) k) = argN m c (ix2 (0 : Fin 1) k) :=
  (read5_apply (V m c main_arg5) t 0 k).trans (congrFun (V_main_arg5 m c) _)

/-- What window 6 stages. -/
theorem iblk6_apply (i : Fin 512) (k : Fin 1024) : tile6 m c t (ix2 i k) = argY m c (ix2 (Cert.Mlp.row t i) k) :=
  (read6_apply (V m c main_arg6) t i k).trans (congrFun (V_main_arg6 m c) _)

/-- What the first point leaves. -/
theorem after_first (h0 : t.val % 16 = 0) : (outsAt0 m c t.val t.isLt).2.2.1 = left9 (tile0 m c t) (tile1 m c t) (tile2 m c t) (tile3 m c t) (tile4 m c t) (tile5 m c t) (tile6 m c t)
    ∧ (outsAt0 m c t.val t.isLt).1 = left7 (tile0 m c t) (tile1 m c t) (tile2 m c t) (tile3 m c t) (tile4 m c t) (tile5 m c t) (tile6 m c t) (k0_pay12 (F := Ideal))
    ∧ (outsAt0 m c t.val t.isLt).2.1 = left8 (tile0 m c t) (tile1 m c t) (tile2 m c t) (tile3 m c t) (tile4 m c t) (tile5 m c t) (tile6 m c t) (k0_pay13 (F := Ideal))
    ∧ (outsAt0 m c t.val t.isLt).2.2.2.1 = left10 (tile0 m c t) (tile1 m c t) (tile2 m c t) (tile3 m c t) (tile4 m c t) (tile5 m c t) (tile6 m c t) (k0_pay14 (F := Ideal))
    ∧ (outsAt0 m c t.val t.isLt).2.2.2.2.1 = left11 (tile0 m c t) (tile1 m c t) (tile2 m c t) (tile3 m c t) (tile4 m c t) (tile5 m c t) (tile6 m c t) (k0_pay15 (F := Ideal))
    ∧ (outsAt0 m c t.val t.isLt).2.2.2.2.2.2.1 = left13 (tile0 m c t) (tile1 m c t) (tile2 m c t) (tile3 m c t) (tile4 m c t) (tile5 m c t) (tile6 m c t) (k0_pay16 (F := Ideal)) := by
  have h1 : ¬t.val % 16 = 15 := by omega
  simp only [outsAt0_A m c t h0 h1]
  exact first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) ((hcond0_0 t).mpr h0) (fun h => h1 ((hcond0_1 t).mp h))

/-- What a later point leaves, from what the point before left. -/
theorem after_later (h0 : ¬t.val % 16 = 0) : (outsAt0 m c t.val t.isLt).2.2.1 = left9 (tile0 m c t) (tile1 m c t) (tile2 m c t) (tile3 m c t) (tile4 m c t) (tile5 m c t) (tile6 m c t)
    ∧ (outsAt0 m c t.val t.isLt).1 = left7 (tile0 m c t) (tile1 m c t) (tile2 m c t) (tile3 m c t) (tile4 m c t) (tile5 m c t) (tile6 m c t) (outsAt0 m c (t.val - 1) (Nat.lt_of_le_of_lt (Nat.sub_le _ _) t.isLt)).1
    ∧ (outsAt0 m c t.val t.isLt).2.1 = left8 (tile0 m c t) (tile1 m c t) (tile2 m c t) (tile3 m c t) (tile4 m c t) (tile5 m c t) (tile6 m c t) (outsAt0 m c (t.val - 1) (Nat.lt_of_le_of_lt (Nat.sub_le _ _) t.isLt)).2.1
    ∧ (outsAt0 m c t.val t.isLt).2.2.2.1 = left10 (tile0 m c t) (tile1 m c t) (tile2 m c t) (tile3 m c t) (tile4 m c t) (tile5 m c t) (tile6 m c t) (outsAt0 m c (t.val - 1) (Nat.lt_of_le_of_lt (Nat.sub_le _ _) t.isLt)).2.2.2.1
    ∧ (outsAt0 m c t.val t.isLt).2.2.2.2.1 = left11 (tile0 m c t) (tile1 m c t) (tile2 m c t) (tile3 m c t) (tile4 m c t) (tile5 m c t) (tile6 m c t) (outsAt0 m c (t.val - 1) (Nat.lt_of_le_of_lt (Nat.sub_le _ _) t.isLt)).2.2.2.2.1
    ∧ (outsAt0 m c t.val t.isLt).2.2.2.2.2.2.1 = left13 (tile0 m c t) (tile1 m c t) (tile2 m c t) (tile3 m c t) (tile4 m c t) (tile5 m c t) (tile6 m c t) (outsAt0 m c (t.val - 1) (Nat.lt_of_le_of_lt (Nat.sub_le _ _) t.isLt)).2.2.2.2.2.2.1 := by
  by_cases h1 : t.val % 16 = 15
  · simp only [outsAt0_C m c t h0 h1]
    have e := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (fun h => h0 ((hcond0_0 t).mp h)) ((hcond0_1 t).mpr h1)
    exact ⟨e.1, e.2.1, e.2.2.1, e.2.2.2.1, e.2.2.2.2.1, e.2.2.2.2.2.1⟩
  · simp only [outsAt0_B m c t h0 h1]
    exact middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (fun h => h0 ((hcond0_0 t).mp h)) (fun h => h1 ((hcond0_1 t).mp h))

/-- The last point leaves the two weights' gradients once more in half precision. -/
theorem halves_last (h1 : t.val % 16 = 15) (i n : Fin 1024) (l : Fin 256) :
    (outsAt0 m c t.val t.isLt).2.2.2.2.2.1 (ix2 i n) = (outsAt0 m c t.val t.isLt).2.2.2.2.1 (ix2 i n)
    ∧ (outsAt0 m c t.val t.isLt).2.2.2.2.2.2.2 (ix2 l n) = (outsAt0 m c t.val t.isLt).2.2.2.2.2.2.1 (ix2 l n) := by
  have h0 : ¬t.val % 16 = 0 := by omega
  simp only [outsAt0_C m c t h0 h1]
  have e := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (fun h => h0 ((hcond0_0 t).mp h)) ((hcond0_1 t).mpr h1)
  refine ⟨(congrFun e.2.2.2.2.2.2.1 _).trans (Eq.trans ?_ (congrFun e.2.2.2.2.1 _).symm), (congrFun e.2.2.2.2.2.2.2 _).trans (Eq.trans ?_ (congrFun e.2.2.2.2.2.1 _).symm)⟩
  · unfold k0_pay3
    rw [shapeCast_self]
    rfl
  · unfold k0_pay4
    rw [shapeCast_self]
    rfl

/-- After any point the residual gradient's buffer holds the tile's. -/
theorem outs9 : (outsAt0 m c t.val t.isLt).2.2.1 = left9 (tile0 m c t) (tile1 m c t) (tile2 m c t) (tile3 m c t) (tile4 m c t) (tile5 m c t) (tile6 m c t) := by
  by_cases h0 : t.val % 16 = 0
  · exact (after_first m c t h0).1
  · exact (after_later m c t h0).1

/-- The residual gradient's array. -/
theorem result9 (i : Fin 512) (k : Fin 1024) : (dats m 0 c).arrAt 9 cfg0.N (ix2 (Cert.Mlp.row t i) k) = Cert.Gate.rowGrad (headRows (argH m c) (argG m c) (argW m c) (second (argP m c)) (argQ m c) (argN m c) (argY m c)) (argH m c) (argG m c) (argW m c) (second (argP m c)) (argQ m c) (Cert.Mlp.row t i) k := by
  refine (read9_apply ((dats m 0 c).arrAt 9 cfg0.N) t i k).symm.trans ?_
  rw [Value.blocks9 m c t (flush0_9 t), Value.flushed9]
  show (outsAt0 m c t.val t.isLt).2.2.1 (ix2 i k) = _
  rw [outs9]
  exact left9_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) i k

end Tiles

/-- A running sum over the points: it starts from nothing and every point adds its part. -/
theorem running (f : (n : ℕ) → n < cfg0.N → EReal) (p : Fin cfg0.N → EReal)
    (first : ∀ t : Fin cfg0.N, t.val % 16 = 0 → f t.val t.isLt = Ideal.ofBits .f32 0x00000000#32 + p t)
    (later : ∀ t : Fin cfg0.N, ¬t.val % 16 = 0 → f t.val t.isLt = f (t.val - 1) (Nat.lt_of_le_of_lt (Nat.sub_le _ _) t.isLt) + p t) :
    ∀ (n : ℕ) (hn : n < cfg0.N), f n hn = ∑ q ∈ Finset.range (n + 1), if h : q < cfg0.N then p ⟨q, h⟩ else (0 : EReal)
  | 0, hn => by
    rw [Finset.sum_range_one, dif_pos hn]
    refine (first ⟨0, hn⟩ rfl).trans ?_
    rw [Ideal.ofBits_zero_f32, zero_add]
  | n + 1, hn => by
    have hN : n + 1 < 16 := Nat.lt_of_lt_of_eq hn N_0
    have h0 : ¬(n + 1) % 16 = 0 := by omega
    rw [Finset.sum_range_succ, dif_pos hn, ← running f p first later n (Nat.lt_of_succ_lt hn)]
    exact later ⟨n + 1, hn⟩ h0

/-- The last point. -/
abbrev end0 : Fin cfg0.N := ⟨15, by rw [show cfg0.N = 16 from N_0]; decide⟩

/-- A running sum over the tiles' rows after the last point: the sum over all rows. -/
theorem running_end (f : (n : ℕ) → n < cfg0.N → EReal) (p : Fin 8192 → EReal)
    (first : ∀ t : Fin cfg0.N, t.val % 16 = 0 → f t.val t.isLt = Ideal.ofBits .f32 0x00000000#32 + ∑ i : Fin 512, p (Cert.Mlp.row t i))
    (later : ∀ t : Fin cfg0.N, ¬t.val % 16 = 0 → f t.val t.isLt = f (t.val - 1) (Nat.lt_of_le_of_lt (Nat.sub_le _ _) t.isLt) + ∑ i : Fin 512, p (Cert.Mlp.row t i)) :
    f end0.val end0.isLt = ∑ T, p T := by
  rw [running f (fun t => ∑ i : Fin 512, p (Cert.Mlp.row t i)) first later end0.val end0.isLt, Finset.sum_range, sum_runs 16 512 8192 rfl]
  exact Finset.sum_congr rfl fun t _ => dif_pos (Nat.lt_of_lt_of_eq t.isLt N_0.symm)

/-- Points written back only at the end are one point. -/
theorem once (t t' : Fin cfg0.N) (a : t.val % 16 = 15) (b : t'.val % 16 = 15) : t = t' := by
  have l : t.val < 16 := Nat.lt_of_lt_of_eq t.isLt N_0
  have l' : t'.val < 16 := Nat.lt_of_lt_of_eq t'.isLt N_0
  exact Fin.ext (by omega)

/-- The loss after the last point. -/
theorem outs7 (hd : ∀ T k, IsReal (diff (argH m c) (argG m c) (argW m c) (second (argP m c)) (argQ m c) (argN m c) (argY m c) T k)) (n : Fin 128) : (outsAt0 m c end0.val end0.isLt).1 (ix2 (0 : Fin 1) n) = loss (argH m c) (argG m c) (argW m c) (second (argP m c)) (argQ m c) (argN m c) (argY m c) := by
  unfold loss
  refine running_end (fun q hn => (outsAt0 m c q hn).1 (ix2 (0 : Fin 1) n)) (fun T => (∑ k, diff (argH m c) (argG m c) (argW m c) (second (argP m c)) (argQ m c) (argN m c) (argY m c) T k * diff (argH m c) (argG m c) (argW m c) (second (argP m c)) (argQ m c) (argN m c) (argY m c) T k) * Ideal.ofBits .f32 0x3A000000#32) (fun t h0 => ?_) (fun t h0 => ?_)
  · exact (congrFun (after_first m c t h0).2.1 _).trans (left7_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) hd (k0_pay12 (F := Ideal)) n)
  · exact (congrFun (after_later m c t h0).2.1 _).trans (left7_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) hd _ n)

/-- The final gain's gradient after the last point. -/
theorem outs8 (k : Fin 1024) : (outsAt0 m c end0.val end0.isLt).2.1 (ix2 (0 : Fin 1) k) = finalGain (argH m c) (argG m c) (argW m c) (second (argP m c)) (argQ m c) (argN m c) (argY m c) k := by
  unfold finalGain
  refine running_end (fun q hn => (outsAt0 m c q hn).2.1 (ix2 (0 : Fin 1) k)) (fun T => outGrad (argH m c) (argG m c) (argW m c) (second (argP m c)) (argQ m c) (argN m c) (argY m c) T k * unit (carried (argH m c) (argG m c) (argW m c) (second (argP m c)) (argQ m c)) T k) (fun t h0 => ?_) (fun t h0 => ?_)
  · exact (congrFun (after_first m c t h0).2.2.1 _).trans (left8_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) (k0_pay13 (F := Ideal)) k)
  · exact (congrFun (after_later m c t h0).2.2.1 _).trans (left8_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) _ k)

/-- The gain's gradient after the last point. -/
theorem outs10 (k : Fin 1024) : (outsAt0 m c end0.val end0.isLt).2.2.2.1 (ix2 (0 : Fin 1) k) = Cert.Gate.gainGrad (headRows (argH m c) (argG m c) (argW m c) (second (argP m c)) (argQ m c) (argN m c) (argY m c)) (argH m c) (argG m c) (argW m c) (second (argP m c)) (argQ m c) k := by
  unfold Cert.Gate.gainGrad
  refine running_end (fun q hn => (outsAt0 m c q hn).2.2.2.1 (ix2 (0 : Fin 1) k)) (fun T => Cert.Gate.normGrad (headRows (argH m c) (argG m c) (argW m c) (second (argP m c)) (argQ m c) (argN m c) (argY m c)) (argH m c) (argG m c) (argW m c) (second (argP m c)) (argQ m c) T k * unit (argH m c) T k) (fun t h0 => ?_) (fun t h0 => ?_)
  · exact (congrFun (after_first m c t h0).2.2.2.1 _).trans (left10_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) (k0_pay14 (F := Ideal)) k)
  · exact (congrFun (after_later m c t h0).2.2.2.1 _).trans (left10_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) _ k)

/-- The gate's weight's gradient after the last point. -/
theorem outs11 (k n : Fin 1024) : (outsAt0 m c end0.val end0.isLt).2.2.2.2.1 (ix2 k n) = weightGrad (headRows (argH m c) (argG m c) (argW m c) (second (argP m c)) (argQ m c) (argN m c) (argY m c)) (argH m c) (argG m c) (argW m c) (second (argP m c)) (argQ m c) k n := by
  unfold weightGrad
  refine running_end (fun q hn => (outsAt0 m c q hn).2.2.2.2.1 (ix2 k n)) (fun T => normed (argH m c) (argG m c) T k * logitGrad (headRows (argH m c) (argG m c) (argW m c) (second (argP m c)) (argQ m c) (argN m c) (argY m c)) (argH m c) (argG m c) (argW m c) (second (argP m c)) (argQ m c) T n) (fun t h0 => ?_) (fun t h0 => ?_)
  · exact (congrFun (after_first m c t h0).2.2.2.2.1 _).trans (left11_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) (k0_pay15 (F := Ideal)) k n)
  · exact (congrFun (after_later m c t h0).2.2.2.2.1 _).trans (left11_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) _ k n)

/-- The embedding's weight's gradient after the last point. -/
theorem outs13 (l : Fin 256) (n : Fin 1024) : (outsAt0 m c end0.val end0.isLt).2.2.2.2.2.2.1 (ix2 l n) = embedGrad (headRows (argH m c) (argG m c) (argW m c) (second (argP m c)) (argQ m c) (argN m c) (argY m c)) (argH m c) (argG m c) (argW m c) (second (argP m c)) l n := by
  unfold embedGrad
  refine running_end (fun q hn => (outsAt0 m c q hn).2.2.2.2.2.2.1 (ix2 l n)) (fun T => second (argP m c) (ix2 T l) * ((headRows (argH m c) (argG m c) (argW m c) (second (argP m c)) (argQ m c) (argN m c) (argY m c)) (ix2 T n) * gate (argH m c) (argG m c) (argW m c) T n)) (fun t h0 => ?_) (fun t h0 => ?_)
  · exact (congrFun (after_first m c t h0).2.2.2.2.2 _).trans (left13_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) (k0_pay16 (F := Ideal)) l n)
  · exact (congrFun (after_later m c t h0).2.2.2.2.2 _).trans (left13_of t (tile0 m c t) (tile1 m c t) (tile2 m c t) (tile3 m c t) (tile4 m c t) (tile5 m c t) (tile6 m c t) (argH m c) (argG m c) (argW m c) (second (argP m c)) (argQ m c) (argN m c) (argY m c) (iblk0_apply m c t) (iblk1_apply m c t) (iblk2_apply m c t) (iblk3_apply m c t) (iblk4_apply m c t) (iblk5_apply m c t) (iblk6_apply m c t) _ l n)

/-- The loss's array. -/
theorem result7 (hd : ∀ T k, IsReal (diff (argH m c) (argG m c) (argW m c) (second (argP m c)) (argQ m c) (argN m c) (argY m c) T k)) (n : Fin 128) : (dats m 0 c).arrAt 7 cfg0.N (ix2 (0 : Fin 1) n) = loss (argH m c) (argG m c) (argW m c) (second (argP m c)) (argQ m c) (argN m c) (argY m c) := by
  refine (read7_apply ((dats m 0 c).arrAt 7 cfg0.N) end0 0 n).symm.trans ?_
  rw [(dats m 0 c).read_blk_arrAt_eq_flushed 7 (fun t t' h h' hne => absurd (once t t' ((flush0_7 t).mp h) ((flush0_7 t').mp h')) hne) cfg0.N end0 end0.isLt ((flush0_7 end0).mpr rfl), Value.flushed7]
  exact outs7 m c hd n

/-- The final gain's gradient's array. -/
theorem result8 (k : Fin 1024) : (dats m 0 c).arrAt 8 cfg0.N (ix2 (0 : Fin 1) k) = finalGain (argH m c) (argG m c) (argW m c) (second (argP m c)) (argQ m c) (argN m c) (argY m c) k := by
  refine (read8_apply ((dats m 0 c).arrAt 8 cfg0.N) end0 0 k).symm.trans ?_
  rw [(dats m 0 c).read_blk_arrAt_eq_flushed 8 (fun t t' h h' hne => absurd (once t t' ((flush0_8 t).mp h) ((flush0_8 t').mp h')) hne) cfg0.N end0 end0.isLt ((flush0_8 end0).mpr rfl), Value.flushed8]
  exact outs8 m c k

/-- The gain's gradient's array. -/
theorem result10 (k : Fin 1024) : (dats m 0 c).arrAt 10 cfg0.N (ix2 (0 : Fin 1) k) = Cert.Gate.gainGrad (headRows (argH m c) (argG m c) (argW m c) (second (argP m c)) (argQ m c) (argN m c) (argY m c)) (argH m c) (argG m c) (argW m c) (second (argP m c)) (argQ m c) k := by
  refine (read10_apply ((dats m 0 c).arrAt 10 cfg0.N) end0 0 k).symm.trans ?_
  rw [(dats m 0 c).read_blk_arrAt_eq_flushed 10 (fun t t' h h' hne => absurd (once t t' ((flush0_10 t).mp h) ((flush0_10 t').mp h')) hne) cfg0.N end0 end0.isLt ((flush0_10 end0).mpr rfl), Value.flushed10]
  exact outs10 m c k

/-- The gate's weight's gradient's array. -/
theorem result11 (k n : Fin 1024) : (dats m 0 c).arrAt 11 cfg0.N (ix2 k n) = weightGrad (headRows (argH m c) (argG m c) (argW m c) (second (argP m c)) (argQ m c) (argN m c) (argY m c)) (argH m c) (argG m c) (argW m c) (second (argP m c)) (argQ m c) k n := by
  refine (read11_apply ((dats m 0 c).arrAt 11 cfg0.N) end0 k n).symm.trans ?_
  rw [(dats m 0 c).read_blk_arrAt_eq_flushed 11 (fun t t' h h' hne => absurd (once t t' ((flush0_11 t).mp h) ((flush0_11 t').mp h')) hne) cfg0.N end0 end0.isLt ((flush0_11 end0).mpr rfl), Value.flushed11]
  exact outs11 m c k n

/-- The embedding's weight's gradient's array. -/
theorem result13 (l : Fin 256) (n : Fin 1024) : (dats m 0 c).arrAt 13 cfg0.N (ix2 l n) = embedGrad (headRows (argH m c) (argG m c) (argW m c) (second (argP m c)) (argQ m c) (argN m c) (argY m c)) (argH m c) (argG m c) (argW m c) (second (argP m c)) l n := by
  refine (read13_apply ((dats m 0 c).arrAt 13 cfg0.N) end0 l n).symm.trans ?_
  rw [(dats m 0 c).read_blk_arrAt_eq_flushed 13 (fun t t' h h' hne => absurd (once t t' ((flush0_13 t).mp h) ((flush0_13 t').mp h')) hne) cfg0.N end0 end0.isLt ((flush0_13 end0).mpr rfl), Value.flushed13]
  exact outs13 m c l n

/-- The gate's weight's gradient in half precision's array. -/
theorem result12 (k n : Fin 1024) : (dats m 0 c).arrAt 12 cfg0.N (ix2 k n) = weightGrad (headRows (argH m c) (argG m c) (argW m c) (second (argP m c)) (argQ m c) (argN m c) (argY m c)) (argH m c) (argG m c) (argW m c) (second (argP m c)) (argQ m c) k n := by
  refine (read12_apply ((dats m 0 c).arrAt 12 cfg0.N) end0 k n).symm.trans ?_
  rw [(dats m 0 c).read_blk_arrAt_eq_flushed 12 (fun t t' h h' hne => absurd (once t t' ((flush0_12 t).mp h) ((flush0_12 t').mp h')) hne) cfg0.N end0 end0.isLt ((flush0_12 end0).mpr rfl), Value.flushed12]
  exact (halves_last m c end0 rfl k n 0).1.trans (outs11 m c k n)

/-- The embedding's weight's gradient in half precision's array. -/
theorem result14 (l : Fin 256) (n : Fin 1024) : (dats m 0 c).arrAt 14 cfg0.N (ix2 l n) = embedGrad (headRows (argH m c) (argG m c) (argW m c) (second (argP m c)) (argQ m c) (argN m c) (argY m c)) (argH m c) (argG m c) (argW m c) (second (argP m c)) l n := by
  refine (read14_apply ((dats m 0 c).arrAt 14 cfg0.N) end0 l n).symm.trans ?_
  rw [(dats m 0 c).read_blk_arrAt_eq_flushed 14 (fun t t' h h' hne => absurd (once t t' ((flush0_14 t).mp h) ((flush0_14 t').mp h')) hne) cfg0.N end0 end0.isLt ((flush0_14 end0).mpr rfl), Value.flushed14]
  exact (halves_last m c end0 rfl 0 n l).2.trans (outs13 m c l n)

end Cert.Kernel8Ideal.Tile

end
-- ==== Proof.Finite8.lean ====
/-
  The head's precondition: where it holds every entry of the seven arguments is a real number.
-/
module

public import proofs.«01_k».proof.Proof.Finite2
public import proofs.«01_k».proof.Proof.Gen.Pre_finite8

@[expose] public section

noncomputable section

namespace Cert.Finite8

open Idealize.ShloMosaic Idealize.ShloMosaic.TcCoe Idealize.SL.Sem Idealize.ShloMosaic.ValueIdx
open Cert.Pre_finite8 Cert.Pre_finite8.Gen Cert.Mlp Cert.Finite

instance : Subsingleton S_.Idx := ⟨fun a b => funext fun i => i.elim0⟩

/-- Where the precondition holds each argument is real. -/
theorem real (x0 : FVec Ideal S8192x1024 .f32) (x1 : FVec Ideal S1x1024 .f32) (x2 : FVec Ideal S1024x1024 .f32) (x3 : FVec Ideal S2x8192x256 .f32)
    (x4 : FVec Ideal S256x1024 .f32) (x5 : FVec Ideal S1x1024 .f32) (x6 : FVec Ideal S8192x1024 .f32) (e : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) := by
  have e0 := congrFun e ix0
  simp only [fn, fn_part1, fn_part2] at e0
  obtain ⟨ha, hb, hc, hd, hf⟩ := Cert.Finite2.five _ _ _ _ _ _ e0
  obtain ⟨hp, hy⟩ := lt_min_iff.1 (hf.trans_eq (SortNet.toInt_minsi _ _))
  obtain ⟨hq, hn⟩ := lt_min_iff.1 (hp.trans_eq (SortNet.toInt_minsi _ _))
  exact ⟨fun i => ⟨_, real_of_lt _ (pos_of_reduce _ _ _ _ _ ha i)⟩, fun i => ⟨_, real_of_lt _ (pos_of_reduce _ _ _ _ _ hb i)⟩,
    fun i => ⟨_, real_of_lt _ (pos_of_reduce _ _ _ _ _ hc i)⟩, fun i => ⟨_, real_of_lt _ (pos_of_reduce _ _ _ _ _ hd i)⟩,
    fun i => ⟨_, real_of_lt _ (pos_of_reduce _ _ _ _ _ hq i)⟩, fun i => ⟨_, real_of_lt _ (pos_of_reduce _ _ _ _ _ hn i)⟩,
    fun i => ⟨_, real_of_lt _ (pos_of_reduce _ _ _ _ _ hy i)⟩⟩

end Cert.Finite8

end
-- ==== Proof.SameHead.lean ====
/-
  The head's call and the reference's lines: the same eight results, where the arguments are finite.
-/
module

public import proofs.«01_k».proof.Defs
public import proofs.«01_k».proof.Proof.HeadWhole
public import proofs.«01_k».proof.Proof.Finite8

@[expose] public section

noncomputable section

namespace Cert.Kernel8Ideal.Same

open Idealize.ShloMosaic Idealize.ShloMosaic.TcCoe Idealize.SL.Sem Idealize.ShloMosaic.ValueIdx
open Cert.Mat Cert.Mlp Cert.Gate Cert.Head Cert.Kernel8Ideal.Tile

/-- The reference runs to its end, leaves its arguments as they were, and has no semaphore to leave raised. -/
theorem reference_runs : Cert.quiescent_Reference8Ideal := fun m ρ _ =>
  (θ_run Cert.Reference8Ideal.defs _ _).mono (fun r h => ⟨fun c => (h c).2.2.2.2.2.2.2.2, sem_eq_zero_of_no_sems (by decide) r.2⟩)
    (Cert.Reference8Ideal.Value.run (F := Ideal) m ρ)

section Results

variable (m : (ℓ : Loc Cert.Kernel8Ideal.nD Cert.Kernel8Ideal.τ Cert.Kernel8Ideal.sig) → Buf (Elt Ideal) ℓ) (c : Dev Cert.Kernel8Ideal.nD)

/-- Every entry of the seven arguments is a real number. -/
abbrev AllReal : Prop := (∀ i, IsReal (argH m c i)) ∧ (∀ i, IsReal (argG m c i)) ∧ (∀ i, IsReal (argW m c i)) ∧ (∀ i, IsReal (argP m c i)) ∧ (∀ i, IsReal (argQ m c i)) ∧ (∀ i, IsReal (argN m c i)) ∧ (∀ i, IsReal (argY m c i))

/-- The losses agree on finite arguments. -/
theorem sameLoss (h : AllReal m c) : Cert.Reference8Ideal.Read.val_main_v115 (F := Ideal) (argH m c) (argG m c) (argW m c) (argP m c) (argQ m c) (argN m c) (argY m c) = (Cert.Kernel8Ideal.Gen.dats m 0 c).arrAt 7 Cert.Kernel8Ideal.cfg0.N := by
  funext i
  obtain ⟨k, rfl⟩ : ∃ k : Fin 128, i = ix2 (0 : Fin 1) k := ⟨i 1, idx2_ext i _ (by have h : (i 0).val < 1 := (i 0).isLt; show (i 0).val = 0; omega) rfl⟩
  exact (Cert.Reference8Ideal.Stages.loss_eq _ _ _ _ _ _ _ h.1 h.2.1 h.2.2.1 h.2.2.2.1 h.2.2.2.2.1 h.2.2.2.2.2.1 h.2.2.2.2.2.2 k).trans (result7 m c (diff_real h.1 h.2.1 h.2.2.1 (fun i => h.2.2.2.1 _) h.2.2.2.2.1 h.2.2.2.2.2.1 h.2.2.2.2.2.2) k).symm

/-- The final gain's gradients agree. -/
theorem sameFinal : Cert.Reference8Ideal.Read.val_main_v84 (F := Ideal) (argH m c) (argG m c) (argW m c) (argP m c) (argQ m c) (argN m c) (argY m c) = (Cert.Kernel8Ideal.Gen.dats m 0 c).arrAt 8 Cert.Kernel8Ideal.cfg0.N := by
  funext i
  obtain ⟨k, rfl⟩ : ∃ k : Fin 1024, i = ix2 (0 : Fin 1) k := ⟨i 1, idx2_ext i _ (by have h : (i 0).val < 1 := (i 0).isLt; show (i 0).val = 0; omega) rfl⟩
  exact (Cert.Reference8Ideal.Stages.finalGain_eq _ _ _ _ _ _ _ k).trans (result8 m c k).symm

/-- The residual gradients agree on finite arguments. -/
theorem sameRow (h : AllReal m c) : Cert.Reference8Ideal.Read.val_main_v113 (F := Ideal) (argH m c) (argG m c) (argW m c) (argP m c) (argQ m c) (argN m c) (argY m c) = (Cert.Kernel8Ideal.Gen.dats m 0 c).arrAt 9 Cert.Kernel8Ideal.cfg0.N := by
  funext i
  obtain ⟨k, n, rfl⟩ : ∃ (k : Fin 8192) (n : Fin 1024), i = ix2 k n := ⟨i 0, i 1, idx2_ext i _ rfl rfl⟩
  obtain ⟨t, i, rfl⟩ := Cert.Mlp.row_eq k
  exact (Cert.Reference8Ideal.Stages.rowGrad_eq _ _ _ _ _ _ _ h.1 h.2.1 h.2.2.1 h.2.2.2.1 h.2.2.2.2.1 h.2.2.2.2.2.1 h.2.2.2.2.2.2 _ n).trans (result9 m c t i n).symm

/-- The gain's gradients agree on finite arguments. -/
theorem sameGain (h : AllReal m c) : Cert.Reference8Ideal.Read.val_main_v114 (F := Ideal) (argH m c) (argG m c) (argW m c) (argP m c) (argQ m c) (argN m c) (argY m c) = (Cert.Kernel8Ideal.Gen.dats m 0 c).arrAt 10 Cert.Kernel8Ideal.cfg0.N := by
  funext i
  obtain ⟨k, rfl⟩ : ∃ k : Fin 1024, i = ix2 (0 : Fin 1) k := ⟨i 1, idx2_ext i _ (by have h : (i 0).val < 1 := (i 0).isLt; show (i 0).val = 0; omega) rfl⟩
  exact (Cert.Reference8Ideal.Stages.gainGrad_eq _ _ _ _ _ _ _ h.1 h.2.1 h.2.2.1 h.2.2.2.1 h.2.2.2.2.1 h.2.2.2.2.2.1 h.2.2.2.2.2.2 k).trans (result10 m c k).symm

/-- The gate's weight's gradients agree on finite arguments. -/
theorem sameWeight (h : AllReal m c) : Cert.Reference8Ideal.Read.val_main_v91 (F := Ideal) (argH m c) (argG m c) (argW m c) (argP m c) (argQ m c) (argN m c) (argY m c) = (Cert.Kernel8Ideal.Gen.dats m 0 c).arrAt 11 Cert.Kernel8Ideal.cfg0.N := by
  funext i
  obtain ⟨k, n, rfl⟩ : ∃ (k : Fin 1024) (n : Fin 1024), i = ix2 k n := ⟨i 0, i 1, idx2_ext i _ rfl rfl⟩
  exact (Cert.Reference8Ideal.Stages.weightGrad_eq _ _ _ _ _ _ _ h.1 h.2.1 h.2.2.1 h.2.2.2.1 h.2.2.2.2.1 h.2.2.2.2.2.1 h.2.2.2.2.2.2 k n).trans (result11 m c k n).symm

/-- The gate's weight's gradients in half precision agree on finite arguments. -/
theorem sameWeightLow (h : AllReal m c) : Cert.Reference8Ideal.Read.val_main_v116 (F := Ideal) (argH m c) (argG m c) (argW m c) (argP m c) (argQ m c) (argN m c) (argY m c) = (Cert.Kernel8Ideal.Gen.dats m 0 c).arrAt 12 Cert.Kernel8Ideal.cfg0.N := by
  funext i
  obtain ⟨k, n, rfl⟩ : ∃ (k : Fin 1024) (n : Fin 1024), i = ix2 k n := ⟨i 0, i 1, idx2_ext i _ rfl rfl⟩
  exact (Cert.Reference8Ideal.Stages.weightGrad_eq _ _ _ _ _ _ _ h.1 h.2.1 h.2.2.1 h.2.2.2.1 h.2.2.2.2.1 h.2.2.2.2.2.1 h.2.2.2.2.2.2 k n).trans (result12 m c k n).symm

/-- The embedding's weight's gradients agree on finite arguments. -/
theorem sameEmbed (h : AllReal m c) : Cert.Reference8Ideal.Read.val_main_v88 (F := Ideal) (argH m c) (argG m c) (argW m c) (argP m c) (argQ m c) (argN m c) (argY m c) = (Cert.Kernel8Ideal.Gen.dats m 0 c).arrAt 13 Cert.Kernel8Ideal.cfg0.N := by
  funext i
  obtain ⟨k, n, rfl⟩ : ∃ (k : Fin 256) (n : Fin 1024), i = ix2 k n := ⟨i 0, i 1, idx2_ext i _ rfl rfl⟩
  exact (Cert.Reference8Ideal.Stages.embedGrad_eq _ _ _ _ _ _ _ h.1 h.2.1 h.2.2.1 h.2.2.2.1 h.2.2.2.2.1 h.2.2.2.2.2.1 h.2.2.2.2.2.2 k n).trans (result13 m c k n).symm

/-- The embedding's weight's gradients in half precision agree on finite arguments. -/
theorem sameEmbedLow (h : AllReal m c) : Cert.Reference8Ideal.Read.val_main_v117 (F := Ideal) (argH m c) (argG m c) (argW m c) (argP m c) (argQ m c) (argN m c) (argY m c) = (Cert.Kernel8Ideal.Gen.dats m 0 c).arrAt 14 Cert.Kernel8Ideal.cfg0.N := by
  funext i
  obtain ⟨k, n, rfl⟩ : ∃ (k : Fin 256) (n : Fin 1024), i = ix2 k n := ⟨i 0, i 1, idx2_ext i _ rfl rfl⟩
  exact (Cert.Reference8Ideal.Stages.embedGrad_eq _ _ _ _ _ _ _ h.1 h.2.1 h.2.2.1 h.2.2.2.1 h.2.2.2.2.1 h.2.2.2.2.2.1 h.2.2.2.2.2.2 k n).trans (result14 m c k n).symm

end Results

/-- On finite arguments the call's eight results and the reference's are equal entry by entry. -/
theorem algebraic : Cert.algebraic_Kernel8Ideal_Reference8Ideal_pre_finite8 := by
  intro m g m' g' hpre hargs
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N,
    fun c => (Cert.Kernel8Ideal.Gen.dats m 0 c).arrAt 11 Cert.Kernel8Ideal.cfg0.N,
    fun c => (Cert.Kernel8Ideal.Gen.dats m 0 c).arrAt 12 Cert.Kernel8Ideal.cfg0.N,
    fun c => (Cert.Kernel8Ideal.Gen.dats m 0 c).arrAt 13 Cert.Kernel8Ideal.cfg0.N,
    fun c => (Cert.Kernel8Ideal.Gen.dats m 0 c).arrAt 14 Cert.Kernel8Ideal.cfg0.N,
    Cert.Kernel8Ideal.Value.run_blocks m g, ?_⟩
  refine (θ_run _ _ _).mono (fun r h c => ?_) (Cert.Reference8Ideal.Value.run m' g')
  have e0 : StableHlo.launchContents m' c (Proc.devRef .tc Cert.Reference8Ideal.main_arg0) = argH m c := (hargs c).1
  have e1 : StableHlo.launchContents m' c (Proc.devRef .tc Cert.Reference8Ideal.main_arg1) = argG m c := (hargs c).2.1
  have e2 : StableHlo.launchContents m' c (Proc.devRef .tc Cert.Reference8Ideal.main_arg2) = argW m c := (hargs c).2.2.1
  have e3 : StableHlo.launchContents m' c (Proc.devRef .tc Cert.Reference8Ideal.main_arg3) = argP m c := (hargs c).2.2.2.1
  have e4 : StableHlo.launchContents m' c (Proc.devRef .tc Cert.Reference8Ideal.main_arg4) = argQ m c := (hargs c).2.2.2.2.1
  have e5 : StableHlo.launchContents m' c (Proc.devRef .tc Cert.Reference8Ideal.main_arg5) = argN m c := (hargs c).2.2.2.2.2.1
  have e6 : StableHlo.launchContents m' c (Proc.devRef .tc Cert.Reference8Ideal.main_arg6) = argY m c := (hargs c).2.2.2.2.2.2
  have hr : AllReal m c := Cert.Finite8.real _ _ _ _ _ _ _ (hpre c)
  exact ⟨((h c).1.trans (Cert.Reference8Ideal.Read.val_main_v115_eq (StableHlo.launchContents m' c))).trans (Eq.trans (by rw [e0, e1, e2, e3, e4, e5, e6]) (sameLoss m c hr)),
    ((h c).2.1.trans (Cert.Reference8Ideal.Read.val_main_v84_eq (StableHlo.launchContents m' c))).trans (Eq.trans (by rw [e0, e1, e2, e3, e4, e5, e6]) (sameFinal m c)),
    ((h c).2.2.1.trans (Cert.Reference8Ideal.Read.val_main_v113_eq (StableHlo.launchContents m' c))).trans (Eq.trans (by rw [e0, e1, e2, e3, e4, e5, e6]) (sameRow m c hr)),
    ((h c).2.2.2.1.trans (Cert.Reference8Ideal.Read.val_main_v114_eq (StableHlo.launchContents m' c))).trans (Eq.trans (by rw [e0, e1, e2, e3, e4, e5, e6]) (sameGain m c hr)),
    ((h c).2.2.2.2.1.trans (Cert.Reference8Ideal.Read.val_main_v91_eq (StableHlo.launchContents m' c))).trans (Eq.trans (by rw [e0, e1, e2, e3, e4, e5, e6]) (sameWeight m c hr)),
    ((h c).2.2.2.2.2.1.trans (Cert.Reference8Ideal.Read.val_main_v116_eq (StableHlo.launchContents m' c))).trans (Eq.trans (by rw [e0, e1, e2, e3, e4, e5, e6]) (sameWeightLow m c hr)),
    ((h c).2.2.2.2.2.2.1.trans (Cert.Reference8Ideal.Read.val_main_v88_eq (StableHlo.launchContents m' c))).trans (Eq.trans (by rw [e0, e1, e2, e3, e4, e5, e6]) (sameEmbed m c hr)),
    ((h c).2.2.2.2.2.2.2.1.trans (Cert.Reference8Ideal.Read.val_main_v117_eq (StableHlo.launchContents m' c))).trans (Eq.trans (by rw [e0, e1, e2, e3, e4, e5, e6]) (sameEmbedLow m c hr)),
    (h c).2.2.2.2.2.2.2.2⟩

end Cert.Kernel8Ideal.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.Pre_finite2
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.KernelIdeal.Value
public import proofs.«01_k».proof.Proof.Gen.ReferenceIdeal.Read
public import proofs.«01_k».proof.Proof.Inputs
public import proofs.«01_k».proof.Proof.RefOut
public import proofs.«01_k».proof.Proof.Finite
public import proofs.«01_k».proof.Proof.SameBwd
public import proofs.«01_k».proof.Proof.SameFwd
public import proofs.«01_k».proof.Proof.SameDown
public import proofs.«01_k».proof.Proof.Gen.Kernel5.Frame
public import proofs.«01_k».proof.Proof.Gen.Kernel6.Frame
public import proofs.«01_k».proof.Proof.SameUp
public import proofs.«01_k».proof.Proof.SameIn
public import proofs.«01_k».proof.Proof.SameGate
public import proofs.«01_k».proof.Proof.SameHead
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Gen.Pre_finite7
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Gen.Pre_finite8
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx
open Cert.Layout Cert.Finite Cert.KernelIdeal.Block

/-- The reference runs to its end, leaves its arguments as they were, and has no semaphore to leave raised. -/
theorem reference_runs : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section Results

variable (m : (ℓ : Loc Cert.KernelIdeal.nD Cert.KernelIdeal.τ Cert.KernelIdeal.sig) → Buf (Elt Ideal) ℓ)
  (hpre : Cert.Pre_KernelIdeal_finite m) (c : Dev Cert.KernelIdeal.nD)
  (W : Valuation Cert.ReferenceIdeal.τ Cert.ReferenceIdeal.sig (Elt Ideal))
  (e0 : W (Proc.devRef .tc Cert.ReferenceIdeal.main_arg0) = m ((c.tc : Thread Cert.KernelIdeal.nD Cert.KernelIdeal.τ).loc Cert.KernelIdeal.main_arg0))
  (e1 : W (Proc.devRef .tc Cert.ReferenceIdeal.main_arg1) = m ((c.tc : Thread Cert.KernelIdeal.nD Cert.KernelIdeal.τ).loc Cert.KernelIdeal.main_arg1))
  (e2 : W (Proc.devRef .tc Cert.ReferenceIdeal.main_arg2) = m ((c.tc : Thread Cert.KernelIdeal.nD Cert.KernelIdeal.τ).loc Cert.KernelIdeal.main_arg2))
  (e3 : W (Proc.devRef .tc Cert.ReferenceIdeal.main_arg3) = m ((c.tc : Thread Cert.KernelIdeal.nD Cert.KernelIdeal.τ).loc Cert.KernelIdeal.main_arg3))
  (e4 : W (Proc.devRef .tc Cert.ReferenceIdeal.main_arg4) = m ((c.tc : Thread Cert.KernelIdeal.nD Cert.KernelIdeal.τ).loc Cert.KernelIdeal.main_arg4))

include hpre e0 e1 e3

/-- The value gradients agree. -/
theorem sameV : Cert.ReferenceIdeal.Read.val_main_v161 (F := Ideal) (W (Proc.devRef .tc Cert.ReferenceIdeal.main_arg0)) (W (Proc.devRef .tc Cert.ReferenceIdeal.main_arg1))
    (W (Proc.devRef .tc Cert.ReferenceIdeal.main_arg3)) = (Cert.KernelIdeal.Gen.dats m 0 c).arrAt 10 Cert.KernelIdeal.cfg0.N := by
  rw [e0, e1, e3]
  funext i
  obtain ⟨ρ, n, h, a, d, rfl⟩ := exists_strided i
  exact (Cert.ReferenceIdeal.Row.refV (reals _ _ _ _ _ (hpre c)) ρ n h a d).trans (resultV (given m c (reals _ _ _ _ _ (hpre c))) ρ h n a d).symm

include e2 e4

/-- The query gradients agree. -/
theorem sameQ : Cert.ReferenceIdeal.Read.val_main_v155 (F := Ideal) (W (Proc.devRef .tc Cert.ReferenceIdeal.main_arg0)) (W (Proc.devRef .tc Cert.ReferenceIdeal.main_arg1))
    (W (Proc.devRef .tc Cert.ReferenceIdeal.main_arg2)) (W (Proc.devRef .tc Cert.ReferenceIdeal.main_arg3)) (W (Proc.devRef .tc Cert.ReferenceIdeal.main_arg4))
      = (Cert.KernelIdeal.Gen.dats m 0 c).arrAt 8 Cert.KernelIdeal.cfg0.N := by
  rw [e0, e1, e2, e3, e4]
  funext i
  obtain ⟨ρ, n, h, a, d, rfl⟩ := exists_strided i
  exact (Cert.ReferenceIdeal.Row.refQ (reals _ _ _ _ _ (hpre c)) ρ n h a d).trans (resultQ (given m c (reals _ _ _ _ _ (hpre c))) ρ h n a d).symm

/-- The key gradients agree. -/
theorem sameK : Cert.ReferenceIdeal.Read.val_main_v158 (F := Ideal) (W (Proc.devRef .tc Cert.ReferenceIdeal.main_arg0)) (W (Proc.devRef .tc Cert.ReferenceIdeal.main_arg1))
    (W (Proc.devRef .tc Cert.ReferenceIdeal.main_arg2)) (W (Proc.devRef .tc Cert.ReferenceIdeal.main_arg3)) (W (Proc.devRef .tc Cert.ReferenceIdeal.main_arg4))
      = (Cert.KernelIdeal.Gen.dats m 0 c).arrAt 9 Cert.KernelIdeal.cfg0.N := by
  rw [e0, e1, e2, e3, e4]
  funext i
  obtain ⟨ρ, n, h, a, d, rfl⟩ := exists_strided i
  exact (Cert.ReferenceIdeal.Row.refK (reals _ _ _ _ _ (hpre c)) ρ n h a d).trans (resultK (given m c (reals _ _ _ _ _ (hpre c))) ρ h n a d).symm

end Results

/-- On finite arguments the kernel's three results and the reference's are equal entry by entry: both are the gradients
    of windowed attention. -/
theorem algebraic : Cert.algebraic_KernelIdeal_ReferenceIdeal_pre_finite := by
  intro m g m' g' hpre hargs
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m g, ?_⟩
  refine (θ_run _ _ _).mono (fun r h c => ?_) (Cert.ReferenceIdeal.Value.run m' g')
  have e := hargs c
  exact ⟨((h c).1.trans (Cert.ReferenceIdeal.Read.val_main_v155_eq (StableHlo.launchContents m' c))).trans
      (sameQ m hpre c (StableHlo.launchContents m' c) e.1 e.2.1 e.2.2.1 e.2.2.2.1 e.2.2.2.2),
    ((h c).2.1.trans (Cert.ReferenceIdeal.Read.val_main_v158_eq (StableHlo.launchContents m' c))).trans
      (sameK m hpre c (StableHlo.launchContents m' c) e.1 e.2.1 e.2.2.1 e.2.2.2.1 e.2.2.2.2),
    ((h c).2.2.1.trans (Cert.ReferenceIdeal.Read.val_main_v161_eq (StableHlo.launchContents m' c))).trans
      (sameV m hpre c (StableHlo.launchContents m' c) e.1 e.2.1 e.2.2.2.1), (h c).2.2.2⟩

/-- Every claim: the frames, the replaced constant, and the equalities with the references. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts, Cert.Pre_finite2.Gen.facts, Cert.Pre_finite7.Gen.facts, Cert.Pre_finite8.Gen.facts,
  fun m ρ _ => Cert.Kernel.Gen.frame m ρ, fun m ρ _ => Cert.KernelIdeal.Gen.frame m ρ, fun m ρ _ => Cert.KernelIdeal.Gen.frame m ρ,
  reference_runs, fun m ρ _ => reference_runs m ρ trivial,
  fun m ρ _ => Cert.Kernel2.Gen.frame m ρ, fun m ρ _ => Cert.Kernel2Ideal.Gen.frame m ρ, fun m ρ _ => Cert.Kernel2Ideal.Gen.frame m ρ,
  Cert.Kernel2Ideal.Same.reference_runs, fun m ρ _ => Cert.Kernel2Ideal.Same.reference_runs m ρ trivial,
  fun m ρ _ => Cert.Kernel3.Gen.frame m ρ, fun m ρ _ => Cert.Kernel3Ideal.Gen.frame m ρ, Cert.Kernel3Ideal.Same.reference_runs,
  fun m ρ _ => Cert.Kernel4.Gen.frame m ρ, fun m ρ _ => Cert.Kernel4Ideal.Gen.frame m ρ, Cert.Kernel4Ideal.Same.reference_runs,
  fun m ρ _ => Cert.Kernel5.Gen.frame m ρ, fun m ρ _ => Cert.Kernel5Ideal.Gen.frame m ρ, Cert.Kernel5Ideal.Same.reference_runs,
  fun m ρ _ => Cert.Kernel6.Gen.frame m ρ, fun m ρ _ => Cert.Kernel6Ideal.Gen.frame m ρ, Cert.Kernel6Ideal.Same.reference_runs,
  fun m ρ _ => Cert.Kernel7.Gen.frame m ρ, fun m ρ _ => Cert.Kernel7Ideal.Gen.frame m ρ, fun m ρ _ => Cert.Kernel7Ideal.Gen.frame m ρ,
  Cert.Kernel7Ideal.Same.reference_runs, fun m ρ _ => Cert.Kernel7Ideal.Same.reference_runs m ρ trivial,
  fun m ρ _ => Cert.Kernel8.Gen.frame m ρ, fun m ρ _ => Cert.Kernel8Ideal.Gen.frame m ρ, fun m ρ _ => Cert.Kernel8Ideal.Gen.frame m ρ,
  Cert.Kernel8Ideal.Same.reference_runs, fun m ρ _ => Cert.Kernel8Ideal.Same.reference_runs m ρ trivial,
  IdealRules.named_const.statement Cert.KernelIdeal.κ "mask" .f32 0xF149F2CA#32 ⊥ rfl, algebraic,
  trivial, Cert.Kernel2Ideal.Same.algebraic, trivial, Cert.Kernel3Ideal.Same.algebraic, trivial, Cert.Kernel4Ideal.Same.algebraic,
  trivial, Cert.Kernel5Ideal.Same.algebraic, trivial, Cert.Kernel6Ideal.Same.algebraic,
  trivial, Cert.Kernel7Ideal.Same.algebraic, trivial, Cert.Kernel8Ideal.Same.algebraic⟩

end Cert.Proof

end
